-- ==== Defs.lean ====
def Pre_AttS (m : (ℓ : Loc Cert.AttS.nD Cert.AttS.τ Cert.AttS.sig) → Buf (Elt Bits) ℓ) : Prop :=
  True

def Pre_AttSIdeal (m : (ℓ : Loc Cert.AttSIdeal.nD Cert.AttSIdeal.τ Cert.AttSIdeal.sig) → Buf (Elt Ideal) ℓ) : Prop :=
  True

def Pre_AttSIdeal_att_finite [hPre_att_finite : Cert.Pre_att_finite.Facts] (m : (ℓ : Loc Cert.AttSIdeal.nD Cert.AttSIdeal.τ Cert.AttSIdeal.sig) → Buf (Elt Ideal) ℓ) : Prop :=
  ∀ c : Dev Cert.AttSIdeal.nD,
    (Cert.Pre_att_finite.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5))) = (fun _ => 1#1)

def Pre_AttSRefIdeal (m : (ℓ : Loc Cert.AttSRefIdeal.nD Cert.AttSRefIdeal.τ Cert.AttSRefIdeal.sig) → Buf (Elt Ideal) ℓ) : Prop :=
  True

def Pre_AttSRefIdeal_att_finite [hPre_att_finite : Cert.Pre_att_finite.Facts] (m : (ℓ : Loc Cert.AttSRefIdeal.nD Cert.AttSRefIdeal.τ Cert.AttSRefIdeal.sig) → Buf (Elt Ideal) ℓ) : Prop :=
  ∀ c : Dev Cert.AttSRefIdeal.nD,
    (Cert.Pre_att_finite.fn (F := Ideal) (m ((c.tc : Thread Cert.AttSRefIdeal.nD Cert.AttSRefIdeal.τ).loc Cert.AttSRefIdeal.main_arg0)) (m ((c.tc : Thread Cert.AttSRefIdeal.nD Cert.AttSRefIdeal.τ).loc Cert.AttSRefIdeal.main_arg1)) (m ((c.tc : Thread Cert.AttSRefIdeal.nD Cert.AttSRefIdeal.τ).loc Cert.AttSRefIdeal.main_arg2)) (m ((c.tc : Thread Cert.AttSRefIdeal.nD Cert.AttSRefIdeal.τ).loc Cert.AttSRefIdeal.main_arg3)) (m ((c.tc : Thread Cert.AttSRefIdeal.nD Cert.AttSRefIdeal.τ).loc Cert.AttSRefIdeal.main_arg4)) (m ((c.tc : Thread Cert.AttSRefIdeal.nD Cert.AttSRefIdeal.τ).loc Cert.AttSRefIdeal.main_arg5))) = (fun _ => 1#1)

def Pre_OutP (m : (ℓ : Loc Cert.OutP.nD Cert.OutP.τ Cert.OutP.sig) → Buf (Elt Bits) ℓ) : Prop :=
  True

def Pre_OutPIdeal (m : (ℓ : Loc Cert.OutPIdeal.nD Cert.OutPIdeal.τ Cert.OutPIdeal.sig) → Buf (Elt Ideal) ℓ) : Prop :=
  True

def Pre_OutPRefIdeal (m : (ℓ : Loc Cert.OutPRefIdeal.nD Cert.OutPRefIdeal.τ Cert.OutPRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPIdeal_in_finite [hPre_in_finite : Cert.Pre_in_finite.Facts] (m : (ℓ : Loc Cert.InPIdeal.nD Cert.InPIdeal.τ Cert.InPIdeal.sig) → Buf (Elt Ideal) ℓ) : Prop :=
  ∀ c : Dev Cert.InPIdeal.nD,
    (Cert.Pre_in_finite.fn (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2)) (m ((c.tc : Thread Cert.InPIdeal.nD Cert.InPIdeal.τ).loc Cert.InPIdeal.main_arg3)) (m ((c.tc : Thread Cert.InPIdeal.nD Cert.InPIdeal.τ).loc Cert.InPIdeal.main_arg4)) (m ((c.tc : Thread Cert.InPIdeal.nD Cert.InPIdeal.τ).loc Cert.InPIdeal.main_arg5)) (m ((c.tc : Thread Cert.InPIdeal.nD Cert.InPIdeal.τ).loc Cert.InPIdeal.main_arg6))) = (fun _ => 1#1)

def Pre_InPRefIdeal (m : (ℓ : Loc Cert.InPRefIdeal.nD Cert.InPRefIdeal.τ Cert.InPRefIdeal.sig) → Buf (Elt Ideal) ℓ) : Prop :=
  True

def Pre_InPRefIdeal_in_finite [hPre_in_finite : Cert.Pre_in_finite.Facts] (m : (ℓ : Loc Cert.InPRefIdeal.nD Cert.InPRefIdeal.τ Cert.InPRefIdeal.sig) → Buf (Elt Ideal) ℓ) : Prop :=
  ∀ c : Dev Cert.InPRefIdeal.nD,
    (Cert.Pre_in_finite.fn (F := Ideal) (m ((c.tc : Thread Cert.InPRefIdeal.nD Cert.InPRefIdeal.τ).loc Cert.InPRefIdeal.main_arg0)) (m ((c.tc : Thread Cert.InPRefIdeal.nD Cert.InPRefIdeal.τ).loc Cert.InPRefIdeal.main_arg1)) (m ((c.tc : Thread Cert.InPRefIdeal.nD Cert.InPRefIdeal.τ).loc Cert.InPRefIdeal.main_arg2)) (m ((c.tc : Thread Cert.InPRefIdeal.nD Cert.InPRefIdeal.τ).loc Cert.InPRefIdeal.main_arg3)) (m ((c.tc : Thread Cert.InPRefIdeal.nD Cert.InPRefIdeal.τ).loc Cert.InPRefIdeal.main_arg4)) (m ((c.tc : Thread Cert.InPRefIdeal.nD Cert.InPRefIdeal.τ).loc Cert.InPRefIdeal.main_arg5)) (m ((c.tc : Thread Cert.InPRefIdeal.nD Cert.InPRefIdeal.τ).loc Cert.InPRefIdeal.main_arg6))) = (fun _ => 1#1)

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_SsdS (m : (ℓ : Loc Cert.SsdS.nD Cert.SsdS.τ Cert.SsdS.sig) → Buf (Elt Bits) ℓ) : Prop :=
  True

def Pre_SsdSIdeal (m : (ℓ : Loc Cert.SsdSIdeal.nD Cert.SsdSIdeal.τ Cert.SsdSIdeal.sig) → Buf (Elt Ideal) ℓ) : Prop :=
  True

def Pre_SsdSIdeal_ssd_finite [hPre_ssd_finite : Cert.Pre_ssd_finite.Facts] (m : (ℓ : Loc Cert.SsdSIdeal.nD Cert.SsdSIdeal.τ Cert.SsdSIdeal.sig) → Buf (Elt Ideal) ℓ) : Prop :=
  ∀ c : Dev Cert.SsdSIdeal.nD,
    (Cert.Pre_ssd_finite.fn (F := Ideal) (m ((c.tc : Thread Cert.SsdSIdeal.nD Cert.SsdSIdeal.τ).loc Cert.SsdSIdeal.main_arg0)) (m ((c.tc : Thread Cert.SsdSIdeal.nD Cert.SsdSIdeal.τ).loc Cert.SsdSIdeal.main_arg1)) (m ((c.tc : Thread Cert.SsdSIdeal.nD Cert.SsdSIdeal.τ).loc Cert.SsdSIdeal.main_arg2)) (m ((c.tc : Thread Cert.SsdSIdeal.nD Cert.SsdSIdeal.τ).loc Cert.SsdSIdeal.main_arg3)) (m ((c.tc : Thread Cert.SsdSIdeal.nD Cert.SsdSIdeal.τ).loc Cert.SsdSIdeal.main_arg4)) (m ((c.tc : Thread Cert.SsdSIdeal.nD Cert.SsdSIdeal.τ).loc Cert.SsdSIdeal.main_arg5)) (m ((c.tc : Thread Cert.SsdSIdeal.nD Cert.SsdSIdeal.τ).loc Cert.SsdSIdeal.main_arg6)) (m ((c.tc : Thread Cert.SsdSIdeal.nD Cert.SsdSIdeal.τ).loc Cert.SsdSIdeal.main_arg7)) (m ((c.tc : Thread Cert.SsdSIdeal.nD Cert.SsdSIdeal.τ).loc Cert.SsdSIdeal.main_arg8)) (m ((c.tc : Thread Cert.SsdSIdeal.nD Cert.SsdSIdeal.τ).loc Cert.SsdSIdeal.main_arg9))) = (fun _ => 1#1)

def Pre_SsdSRefIdeal (m : (ℓ : Loc Cert.SsdSRefIdeal.nD Cert.SsdSRefIdeal.τ Cert.SsdSRefIdeal.sig) → Buf (Elt Ideal) ℓ) : Prop :=
  True

def Pre_SsdSRefIdeal_ssd_finite [hPre_ssd_finite : Cert.Pre_ssd_finite.Facts] (m : (ℓ : Loc Cert.SsdSRefIdeal.nD Cert.SsdSRefIdeal.τ Cert.SsdSRefIdeal.sig) → Buf (Elt Ideal) ℓ) : Prop :=
  ∀ c : Dev Cert.SsdSRefIdeal.nD,
    (Cert.Pre_ssd_finite.fn (F := Ideal) (m ((c.tc : Thread Cert.SsdSRefIdeal.nD Cert.SsdSRefIdeal.τ).loc Cert.SsdSRefIdeal.main_arg0)) (m ((c.tc : Thread Cert.SsdSRefIdeal.nD Cert.SsdSRefIdeal.τ).loc Cert.SsdSRefIdeal.main_arg1)) (m ((c.tc : Thread Cert.SsdSRefIdeal.nD Cert.SsdSRefIdeal.τ).loc Cert.SsdSRefIdeal.main_arg2)) (m ((c.tc : Thread Cert.SsdSRefIdeal.nD Cert.SsdSRefIdeal.τ).loc Cert.SsdSRefIdeal.main_arg3)) (m ((c.tc : Thread Cert.SsdSRefIdeal.nD Cert.SsdSRefIdeal.τ).loc Cert.SsdSRefIdeal.main_arg4)) (m ((c.tc : Thread Cert.SsdSRefIdeal.nD Cert.SsdSRefIdeal.τ).loc Cert.SsdSRefIdeal.main_arg5)) (m ((c.tc : Thread Cert.SsdSRefIdeal.nD Cert.SsdSRefIdeal.τ).loc Cert.SsdSRefIdeal.main_arg6)) (m ((c.tc : Thread Cert.SsdSRefIdeal.nD Cert.SsdSRefIdeal.τ).loc Cert.SsdSRefIdeal.main_arg7)) (m ((c.tc : Thread Cert.SsdSRefIdeal.nD Cert.SsdSRefIdeal.τ).loc Cert.SsdSRefIdeal.main_arg8)) (m ((c.tc : Thread Cert.SsdSRefIdeal.nD Cert.SsdSRefIdeal.τ).loc Cert.SsdSRefIdeal.main_arg9))) = (fun _ => 1#1)

def quiescent_AttS [hAttS : Cert.AttS.Facts] : Prop :=
  ∀ (m : (ℓ : Loc Cert.AttS.nD Cert.AttS.τ Cert.AttS.sig) → Buf (Elt Bits) ℓ) (g : Dev Cert.AttS.nD → PrngReg), Pre_AttS m →
    θ_run (Cert.AttS.defs (F := Bits)) (onTc (τ := Cert.AttS.τ) (Cert.AttS.main (F := Bits))) ⟨m, fun _ => 0, g⟩ (fun r => (∀ c : Dev Cert.AttS.nD,
      r.2.mem ((c.tc : Thread Cert.AttS.nD Cert.AttS.τ).loc Cert.AttS.main_arg0) = m ((c.tc : Thread Cert.AttS.nD Cert.AttS.τ).loc Cert.AttS.main_arg0)
      ∧ r.2.mem ((c.tc : Thread Cert.AttS.nD Cert.AttS.τ).loc Cert.AttS.main_arg1) = m ((c.tc : Thread Cert.AttS.nD Cert.AttS.τ).loc Cert.AttS.main_arg1)
      ∧ r.2.mem ((c.tc : Thread Cert.AttS.nD Cert.AttS.τ).loc Cert.AttS.main_arg2) = m ((c.tc : Thread Cert.AttS.nD Cert.AttS.τ).loc Cert.AttS.main_arg2)
      ∧ r.2.mem ((c.tc : Thread Cert.AttS.nD Cert.AttS.τ).loc Cert.AttS.main_arg3) = m ((c.tc : Thread Cert.AttS.nD Cert.AttS.τ).loc Cert.AttS.main_arg3)
      ∧ r.2.mem ((c.tc : Thread Cert.AttS.nD Cert.AttS.τ).loc Cert.AttS.main_arg4) = m ((c.tc : Thread Cert.AttS.nD Cert.AttS.τ).loc Cert.AttS.main_arg4)
      ∧ r.2.mem ((c.tc : Thread Cert.AttS.nD Cert.AttS.τ).loc Cert.AttS.main_arg5) = m ((c.tc : Thread Cert.AttS.nD Cert.AttS.τ).loc Cert.AttS.main_arg5))
      ∧ r.2.sem = fun _ => 0)

def quiescent_AttSIdeal [hAttSIdeal : Cert.AttSIdeal.Facts] : Prop :=
  ∀ (m : (ℓ : Loc Cert.AttSIdeal.nD Cert.AttSIdeal.τ Cert.AttSIdeal.sig) → Buf (Elt Ideal) ℓ) (g : Dev Cert.AttSIdeal.nD → PrngReg), Pre_AttSIdeal m →
    θ_run (Cert.AttSIdeal.defs (F := Ideal)) (onTc (τ := Cert.AttSIdeal.τ) (Cert.AttSIdeal.main (F := Ideal))) ⟨m, fun _ => 0, g⟩ (fun r => (∀ c : Dev Cert.AttSIdeal.nD,
      r.2.mem ((c.tc : Thread Cert.AttSIdeal.nD Cert.AttSIdeal.τ).loc Cert.AttSIdeal.main_arg0) = m ((c.tc : Thread Cert.AttSIdeal.nD Cert.AttSIdeal.τ).loc Cert.AttSIdeal.main_arg0)
      ∧ r.2.mem ((c.tc : Thread Cert.AttSIdeal.nD Cert.AttSIdeal.τ).loc Cert.AttSIdeal.main_arg1) = m ((c.tc : Thread Cert.AttSIdeal.nD Cert.AttSIdeal.τ).loc Cert.AttSIdeal.main_arg1)
      ∧ r.2.mem ((c.tc : Thread Cert.AttSIdeal.nD Cert.AttSIdeal.τ).loc Cert.AttSIdeal.main_arg2) = m ((c.tc : Thread Cert.AttSIdeal.nD Cert.AttSIdeal.τ).loc Cert.AttSIdeal.main_arg2)
      ∧ r.2.mem ((c.tc : Thread Cert.AttSIdeal.nD Cert.AttSIdeal.τ).loc Cert.AttSIdeal.main_arg3) = m ((c.tc : Thread Cert.AttSIdeal.nD Cert.AttSIdeal.τ).loc Cert.AttSIdeal.main_arg3)
      ∧ r.2.mem ((c.tc : Thread Cert.AttSIdeal.nD Cert.AttSIdeal.τ).loc Cert.AttSIdeal.main_arg4) = m ((c.tc : Thread Cert.AttSIdeal.nD Cert.AttSIdeal.τ).loc Cert.AttSIdeal.main_arg4)
      ∧ r.2.mem ((c.tc : Thread Cert.AttSIdeal.nD Cert.AttSIdeal.τ).loc Cert.AttSIdeal.main_arg5) = m ((c.tc : Thread Cert.AttSIdeal.nD Cert.AttSIdeal.τ).loc Cert.AttSIdeal.main_arg5))
      ∧ r.2.sem = fun _ => 0)

def quiescent_AttSIdeal_pre_att_finite [hAttSIdeal : Cert.AttSIdeal.Facts] [hPre_att_finite : Cert.Pre_att_finite.Facts] : Prop :=
  ∀ (m : (ℓ : Loc Cert.AttSIdeal.nD Cert.AttSIdeal.τ Cert.AttSIdeal.sig) → Buf (Elt Ideal) ℓ) (g : Dev Cert.AttSIdeal.nD → PrngReg), Pre_AttSIdeal_att_finite m →
    θ_run (Cert.AttSIdeal.defs (F := Ideal)) (onTc (τ := Cert.AttSIdeal.τ) (Cert.AttSIdeal.main (F := Ideal))) ⟨m, fun _ => 0, g⟩ (fun r => (∀ c : Dev Cert.AttSIdeal.nD,
      r.2.mem ((c.tc : Thread Cert.AttSIdeal.nD Cert.AttSIdeal.τ).loc Cert.AttSIdeal.main_arg0) = m ((c.tc : Thread Cert.AttSIdeal.nD Cert.AttSIdeal.τ).loc Cert.AttSIdeal.main_arg0)
      ∧ r.2.mem ((c.tc : Thread Cert.AttSIdeal.nD Cert.AttSIdeal.τ).loc Cert.AttSIdeal.main_arg1) = m ((c.tc : Thread Cert.AttSIdeal.nD Cert.AttSIdeal.τ).loc Cert.AttSIdeal.main_arg1)
      ∧ r.2.mem ((c.tc : Thread Cert.AttSIdeal.nD Cert.AttSIdeal.τ).loc Cert.AttSIdeal.main_arg2) = m ((c.tc : Thread Cert.AttSIdeal.nD Cert.AttSIdeal.τ).loc Cert.AttSIdeal.main_arg2)
      ∧ r.2.mem ((c.tc : Thread Cert.AttSIdeal.nD Cert.AttSIdeal.τ).loc Cert.AttSIdeal.main_arg3) = m ((c.tc : Thread Cert.AttSIdeal.nD Cert.AttSIdeal.τ).loc Cert.AttSIdeal.main_arg3)
      ∧ r.2.mem ((c.tc : Thread Cert.AttSIdeal.nD Cert.AttSIdeal.τ).loc Cert.AttSIdeal.main_arg4) = m ((c.tc : Thread Cert.AttSIdeal.nD Cert.AttSIdeal.τ).loc Cert.AttSIdeal.main_arg4)
      ∧ r.2.mem ((c.tc : Thread Cert.AttSIdeal.nD Cert.AttSIdeal.τ).loc Cert.AttSIdeal.main_arg5) = m ((c.tc : Thread Cert.AttSIdeal.nD Cert.AttSIdeal.τ).loc Cert.AttSIdeal.main_arg5))
      ∧ r.2.sem = fun _ => 0)

def quiescent_AttSRefIdeal [hAttSRefIdeal : Cert.AttSRefIdeal.Facts] : Prop :=
  ∀ (m : (ℓ : Loc Cert.AttSRefIdeal.nD Cert.AttSRefIdeal.τ Cert.AttSRefIdeal.sig) → Buf (Elt Ideal) ℓ) (g : Dev Cert.AttSRefIdeal.nD → PrngReg), Pre_AttSRefIdeal m →
    θ_run (Cert.AttSRefIdeal.defs (F := Ideal)) (onTc (τ := Cert.AttSRefIdeal.τ) (Cert.AttSRefIdeal.main (F := Ideal))) ⟨m, fun _ => 0, g⟩ (fun r => (∀ c : Dev Cert.AttSRefIdeal.nD,
      r.2.mem ((c.tc : Thread Cert.AttSRefIdeal.nD Cert.AttSRefIdeal.τ).loc Cert.AttSRefIdeal.main_arg0) = m ((c.tc : Thread Cert.AttSRefIdeal.nD Cert.AttSRefIdeal.τ).loc Cert.AttSRefIdeal.main_arg0)
      ∧ r.2.mem ((c.tc : Thread Cert.AttSRefIdeal.nD Cert.AttSRefIdeal.τ).loc Cert.AttSRefIdeal.main_arg1) = m ((c.tc : Thread Cert.AttSRefIdeal.nD Cert.AttSRefIdeal.τ).loc Cert.AttSRefIdeal.main_arg1)
      ∧ r.2.mem ((c.tc : Thread Cert.AttSRefIdeal.nD Cert.AttSRefIdeal.τ).loc Cert.AttSRefIdeal.main_arg2) = m ((c.tc : Thread Cert.AttSRefIdeal.nD Cert.AttSRefIdeal.τ).loc Cert.AttSRefIdeal.main_arg2)
      ∧ r.2.mem ((c.tc : Thread Cert.AttSRefIdeal.nD Cert.AttSRefIdeal.τ).loc Cert.AttSRefIdeal.main_arg3) = m ((c.tc : Thread Cert.AttSRefIdeal.nD Cert.AttSRefIdeal.τ).loc Cert.AttSRefIdeal.main_arg3)
      ∧ r.2.mem ((c.tc : Thread Cert.AttSRefIdeal.nD Cert.AttSRefIdeal.τ).loc Cert.AttSRefIdeal.main_arg4) = m ((c.tc : Thread Cert.AttSRefIdeal.nD Cert.AttSRefIdeal.τ).loc Cert.AttSRefIdeal.main_arg4)
      ∧ r.2.mem ((c.tc : Thread Cert.AttSRefIdeal.nD Cert.AttSRefIdeal.τ).loc Cert.AttSRefIdeal.main_arg5) = m ((c.tc : Thread Cert.AttSRefIdeal.nD Cert.AttSRefIdeal.τ).loc Cert.AttSRefIdeal.main_arg5))
      ∧ r.2.sem = fun _ => 0)

def quiescent_AttSRefIdeal_pre_att_finite [hAttSRefIdeal : Cert.AttSRefIdeal.Facts] [hPre_att_finite : Cert.Pre_att_finite.Facts] : Prop :=
  ∀ (m : (ℓ : Loc Cert.AttSRefIdeal.nD Cert.AttSRefIdeal.τ Cert.AttSRefIdeal.sig) → Buf (Elt Ideal) ℓ) (g : Dev Cert.AttSRefIdeal.nD → PrngReg), Pre_AttSRefIdeal_att_finite m →
    θ_run (Cert.AttSRefIdeal.defs (F := Ideal)) (onTc (τ := Cert.AttSRefIdeal.τ) (Cert.AttSRefIdeal.main (F := Ideal))) ⟨m, fun _ => 0, g⟩ (fun r => (∀ c : Dev Cert.AttSRefIdeal.nD,
      r.2.mem ((c.tc : Thread Cert.AttSRefIdeal.nD Cert.AttSRefIdeal.τ).loc Cert.AttSRefIdeal.main_arg0) = m ((c.tc : Thread Cert.AttSRefIdeal.nD Cert.AttSRefIdeal.τ).loc Cert.AttSRefIdeal.main_arg0)
      ∧ r.2.mem ((c.tc : Thread Cert.AttSRefIdeal.nD Cert.AttSRefIdeal.τ).loc Cert.AttSRefIdeal.main_arg1) = m ((c.tc : Thread Cert.AttSRefIdeal.nD Cert.AttSRefIdeal.τ).loc Cert.AttSRefIdeal.main_arg1)
      ∧ r.2.mem ((c.tc : Thread Cert.AttSRefIdeal.nD Cert.AttSRefIdeal.τ).loc Cert.AttSRefIdeal.main_arg2) = m ((c.tc : Thread Cert.AttSRefIdeal.nD Cert.AttSRefIdeal.τ).loc Cert.AttSRefIdeal.main_arg2)
      ∧ r.2.mem ((c.tc : Thread Cert.AttSRefIdeal.nD Cert.AttSRefIdeal.τ).loc Cert.AttSRefIdeal.main_arg3) = m ((c.tc : Thread Cert.AttSRefIdeal.nD Cert.AttSRefIdeal.τ).loc Cert.AttSRefIdeal.main_arg3)
      ∧ r.2.mem ((c.tc : Thread Cert.AttSRefIdeal.nD Cert.AttSRefIdeal.τ).loc Cert.AttSRefIdeal.main_arg4) = m ((c.tc : Thread Cert.AttSRefIdeal.nD Cert.AttSRefIdeal.τ).loc Cert.AttSRefIdeal.main_arg4)
      ∧ r.2.mem ((c.tc : Thread Cert.AttSRefIdeal.nD Cert.AttSRefIdeal.τ).loc Cert.AttSRefIdeal.main_arg5) = m ((c.tc : Thread Cert.AttSRefIdeal.nD Cert.AttSRefIdeal.τ).loc Cert.AttSRefIdeal.main_arg5))
      ∧ r.2.sem = fun _ => 0)

def quiescent_OutP [hOutP : Cert.OutP.Facts] : Prop :=
  ∀ (m : (ℓ : Loc Cert.OutP.nD Cert.OutP.τ Cert.OutP.sig) → Buf (Elt Bits) ℓ) (g : Dev Cert.OutP.nD → PrngReg), Pre_OutP m →
    θ_run (Cert.OutP.defs (F := Bits)) (onTc (τ := Cert.OutP.τ) (Cert.OutP.main (F := Bits))) ⟨m, fun _ => 0, g⟩ (fun r => (∀ c : Dev Cert.OutP.nD,
      r.2.mem ((c.tc : Thread Cert.OutP.nD Cert.OutP.τ).loc Cert.OutP.main_arg0) = m ((c.tc : Thread Cert.OutP.nD Cert.OutP.τ).loc Cert.OutP.main_arg0)
      ∧ r.2.mem ((c.tc : Thread Cert.OutP.nD Cert.OutP.τ).loc Cert.OutP.main_arg1) = m ((c.tc : Thread Cert.OutP.nD Cert.OutP.τ).loc Cert.OutP.main_arg1)
      ∧ r.2.mem ((c.tc : Thread Cert.OutP.nD Cert.OutP.τ).loc Cert.OutP.main_arg2) = m ((c.tc : Thread Cert.OutP.nD Cert.OutP.τ).loc Cert.OutP.main_arg2)
      ∧ r.2.mem ((c.tc : Thread Cert.OutP.nD Cert.OutP.τ).loc Cert.OutP.main_arg3) = m ((c.tc : Thread Cert.OutP.nD Cert.OutP.τ).loc Cert.OutP.main_arg3)
      ∧ r.2.mem ((c.tc : Thread Cert.OutP.nD Cert.OutP.τ).loc Cert.OutP.main_arg4) = m ((c.tc : Thread Cert.OutP.nD Cert.OutP.τ).loc Cert.OutP.main_arg4))
      ∧ r.2.sem = fun _ => 0)

def quiescent_OutPIdeal [hOutPIdeal : Cert.OutPIdeal.Facts] : Prop :=
  ∀ (m : (ℓ : Loc Cert.OutPIdeal.nD Cert.OutPIdeal.τ Cert.OutPIdeal.sig) → Buf (Elt Ideal) ℓ) (g : Dev Cert.OutPIdeal.nD → PrngReg), Pre_OutPIdeal m →
    θ_run (Cert.OutPIdeal.defs (F := Ideal)) (onTc (τ := Cert.OutPIdeal.τ) (Cert.OutPIdeal.main (F := Ideal))) ⟨m, fun _ => 0, g⟩ (fun r => (∀ c : Dev Cert.OutPIdeal.nD,
      r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
      ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
      ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
      ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3)
      ∧ r.2.mem ((c.tc : Thread Cert.OutPIdeal.nD Cert.OutPIdeal.τ).loc Cert.OutPIdeal.main_arg4) = m ((c.tc : Thread Cert.OutPIdeal.nD Cert.OutPIdeal.τ).loc Cert.OutPIdeal.main_arg4))
      ∧ r.2.sem = fun _ => 0)

def quiescent_OutPRefIdeal [hOutPRefIdeal : Cert.OutPRefIdeal.Facts] : Prop :=
  ∀ (m : (ℓ : Loc Cert.OutPRefIdeal.nD Cert.OutPRefIdeal.τ Cert.OutPRefIdeal.sig) → Buf (Elt Ideal) ℓ) (g : Dev Cert.OutPRefIdeal.nD → PrngReg), Pre_OutPRefIdeal m →
    θ_run (Cert.OutPRefIdeal.defs (F := Ideal)) (onTc (τ := Cert.OutPRefIdeal.τ) (Cert.OutPRefIdeal.main (F := Ideal))) ⟨m, fun _ => 0, g⟩ (fun r => (∀ c : Dev Cert.OutPRefIdeal.nD,
      r.2.mem ((c.tc : Thread Cert.OutPRefIdeal.nD Cert.OutPRefIdeal.τ).loc Cert.OutPRefIdeal.main_arg0) = m ((c.tc : Thread Cert.OutPRefIdeal.nD Cert.OutPRefIdeal.τ).loc Cert.OutPRefIdeal.main_arg0)
      ∧ r.2.mem ((c.tc : Thread Cert.OutPRefIdeal.nD Cert.OutPRefIdeal.τ).loc Cert.OutPRefIdeal.main_arg1) = m ((c.tc : Thread Cert.OutPRefIdeal.nD Cert.OutPRefIdeal.τ).loc Cert.OutPRefIdeal.main_arg1)
      ∧ r.2.mem ((c.tc : Thread Cert.OutPRefIdeal.nD Cert.OutPRefIdeal.τ).loc Cert.OutPRefIdeal.main_arg2) = m ((c.tc : Thread Cert.OutPRefIdeal.nD Cert.OutPRefIdeal.τ).loc Cert.OutPRefIdeal.main_arg2)
      ∧ r.2.mem ((c.tc : Thread Cert.OutPRefIdeal.nD Cert.OutPRefIdeal.τ).loc Cert.OutPRefIdeal.main_arg3) = m ((c.tc : Thread Cert.OutPRefIdeal.nD Cert.OutPRefIdeal.τ).loc Cert.OutPRefIdeal.main_arg3)
      ∧ r.2.mem ((c.tc : Thread Cert.OutPRefIdeal.nD Cert.OutPRefIdeal.τ).loc Cert.OutPRefIdeal.main_arg4) = m ((c.tc : Thread Cert.OutPRefIdeal.nD Cert.OutPRefIdeal.τ).loc Cert.OutPRefIdeal.main_arg4))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4)
      ∧ r.2.mem ((c.tc : Thread Cert.InP.nD Cert.InP.τ).loc Cert.InP.main_arg5) = m ((c.tc : Thread Cert.InP.nD Cert.InP.τ).loc Cert.InP.main_arg5)
      ∧ r.2.mem ((c.tc : Thread Cert.InP.nD Cert.InP.τ).loc Cert.InP.main_arg6) = m ((c.tc : Thread Cert.InP.nD Cert.InP.τ).loc Cert.InP.main_arg6))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
      ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
      ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ r.2.sem = fun _ => 0)

def quiescent_InPIdeal_pre_in_finite [hInPIdeal : Cert.InPIdeal.Facts] [hPre_in_finite : Cert.Pre_in_finite.Facts] : Prop :=
  ∀ (m : (ℓ : Loc Cert.InPIdeal.nD Cert.InPIdeal.τ Cert.InPIdeal.sig) → Buf (Elt Ideal) ℓ) (g : Dev Cert.InPIdeal.nD → PrngReg), Pre_InPIdeal_in_finite m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
      ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
      ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2)
      ∧ r.2.mem ((c.tc : Thread Cert.InPRefIdeal.nD Cert.InPRefIdeal.τ).loc Cert.InPRefIdeal.main_arg3) = m ((c.tc : Thread Cert.InPRefIdeal.nD Cert.InPRefIdeal.τ).loc Cert.InPRefIdeal.main_arg3)
      ∧ r.2.mem ((c.tc : Thread Cert.InPRefIdeal.nD Cert.InPRefIdeal.τ).loc Cert.InPRefIdeal.main_arg4) = m ((c.tc : Thread Cert.InPRefIdeal.nD Cert.InPRefIdeal.τ).loc Cert.InPRefIdeal.main_arg4)
      ∧ r.2.mem ((c.tc : Thread Cert.InPRefIdeal.nD Cert.InPRefIdeal.τ).loc Cert.InPRefIdeal.main_arg5) = m ((c.tc : Thread Cert.InPRefIdeal.nD Cert.InPRefIdeal.τ).loc Cert.InPRefIdeal.main_arg5)
      ∧ r.2.mem ((c.tc : Thread Cert.InPRefIdeal.nD Cert.InPRefIdeal.τ).loc Cert.InPRefIdeal.main_arg6) = m ((c.tc : Thread Cert.InPRefIdeal.nD Cert.InPRefIdeal.τ).loc Cert.InPRefIdeal.main_arg6))
      ∧ r.2.sem = fun _ => 0)

def quiescent_InPRefIdeal_pre_in_finite [hInPRefIdeal : Cert.InPRefIdeal.Facts] [hPre_in_finite : Cert.Pre_in_finite.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal_in_finite m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2)
      ∧ r.2.mem ((c.tc : Thread Cert.InPRefIdeal.nD Cert.InPRefIdeal.τ).loc Cert.InPRefIdeal.main_arg3) = m ((c.tc : Thread Cert.InPRefIdeal.nD Cert.InPRefIdeal.τ).loc Cert.InPRefIdeal.main_arg3)
      ∧ r.2.mem ((c.tc : Thread Cert.InPRefIdeal.nD Cert.InPRefIdeal.τ).loc Cert.InPRefIdeal.main_arg4) = m ((c.tc : Thread Cert.InPRefIdeal.nD Cert.InPRefIdeal.τ).loc Cert.InPRefIdeal.main_arg4)
      ∧ r.2.mem ((c.tc : Thread Cert.InPRefIdeal.nD Cert.InPRefIdeal.τ).loc Cert.InPRefIdeal.main_arg5) = m ((c.tc : Thread Cert.InPRefIdeal.nD Cert.InPRefIdeal.τ).loc Cert.InPRefIdeal.main_arg5)
      ∧ r.2.mem ((c.tc : Thread Cert.InPRefIdeal.nD Cert.InPRefIdeal.τ).loc Cert.InPRefIdeal.main_arg6) = m ((c.tc : Thread Cert.InPRefIdeal.nD Cert.InPRefIdeal.τ).loc Cert.InPRefIdeal.main_arg6))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3)
      ∧ r.2.mem ((c.tc : Thread Cert.OutS.nD Cert.OutS.τ).loc Cert.OutS.main_arg4) = m ((c.tc : Thread Cert.OutS.nD Cert.OutS.τ).loc Cert.OutS.main_arg4))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
      ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3)
      ∧ r.2.mem ((c.tc : Thread Cert.OutSRefIdeal.nD Cert.OutSRefIdeal.τ).loc Cert.OutSRefIdeal.main_arg4) = m ((c.tc : Thread Cert.OutSRefIdeal.nD Cert.OutSRefIdeal.τ).loc Cert.OutSRefIdeal.main_arg4))
      ∧ r.2.sem = fun _ => 0)

def quiescent_SsdS [hSsdS : Cert.SsdS.Facts] : Prop :=
  ∀ (m : (ℓ : Loc Cert.SsdS.nD Cert.SsdS.τ Cert.SsdS.sig) → Buf (Elt Bits) ℓ) (g : Dev Cert.SsdS.nD → PrngReg), Pre_SsdS m →
    θ_run (Cert.SsdS.defs (F := Bits)) (onTc (τ := Cert.SsdS.τ) (Cert.SsdS.main (F := Bits))) ⟨m, fun _ => 0, g⟩ (fun r => (∀ c : Dev Cert.SsdS.nD,
      r.2.mem ((c.tc : Thread Cert.SsdS.nD Cert.SsdS.τ).loc Cert.SsdS.main_arg0) = m ((c.tc : Thread Cert.SsdS.nD Cert.SsdS.τ).loc Cert.SsdS.main_arg0)
      ∧ r.2.mem ((c.tc : Thread Cert.SsdS.nD Cert.SsdS.τ).loc Cert.SsdS.main_arg1) = m ((c.tc : Thread Cert.SsdS.nD Cert.SsdS.τ).loc Cert.SsdS.main_arg1)
      ∧ r.2.mem ((c.tc : Thread Cert.SsdS.nD Cert.SsdS.τ).loc Cert.SsdS.main_arg2) = m ((c.tc : Thread Cert.SsdS.nD Cert.SsdS.τ).loc Cert.SsdS.main_arg2)
      ∧ r.2.mem ((c.tc : Thread Cert.SsdS.nD Cert.SsdS.τ).loc Cert.SsdS.main_arg3) = m ((c.tc : Thread Cert.SsdS.nD Cert.SsdS.τ).loc Cert.SsdS.main_arg3)
      ∧ r.2.mem ((c.tc : Thread Cert.SsdS.nD Cert.SsdS.τ).loc Cert.SsdS.main_arg4) = m ((c.tc : Thread Cert.SsdS.nD Cert.SsdS.τ).loc Cert.SsdS.main_arg4)
      ∧ r.2.mem ((c.tc : Thread Cert.SsdS.nD Cert.SsdS.τ).loc Cert.SsdS.main_arg5) = m ((c.tc : Thread Cert.SsdS.nD Cert.SsdS.τ).loc Cert.SsdS.main_arg5)
      ∧ r.2.mem ((c.tc : Thread Cert.SsdS.nD Cert.SsdS.τ).loc Cert.SsdS.main_arg6) = m ((c.tc : Thread Cert.SsdS.nD Cert.SsdS.τ).loc Cert.SsdS.main_arg6)
      ∧ r.2.mem ((c.tc : Thread Cert.SsdS.nD Cert.SsdS.τ).loc Cert.SsdS.main_arg7) = m ((c.tc : Thread Cert.SsdS.nD Cert.SsdS.τ).loc Cert.SsdS.main_arg7)
      ∧ r.2.mem ((c.tc : Thread Cert.SsdS.nD Cert.SsdS.τ).loc Cert.SsdS.main_arg8) = m ((c.tc : Thread Cert.SsdS.nD Cert.SsdS.τ).loc Cert.SsdS.main_arg8)
      ∧ r.2.mem ((c.tc : Thread Cert.SsdS.nD Cert.SsdS.τ).loc Cert.SsdS.main_arg9) = m ((c.tc : Thread Cert.SsdS.nD Cert.SsdS.τ).loc Cert.SsdS.main_arg9))
      ∧ r.2.sem = fun _ => 0)

def quiescent_SsdSIdeal [hSsdSIdeal : Cert.SsdSIdeal.Facts] : Prop :=
  ∀ (m : (ℓ : Loc Cert.SsdSIdeal.nD Cert.SsdSIdeal.τ Cert.SsdSIdeal.sig) → Buf (Elt Ideal) ℓ) (g : Dev Cert.SsdSIdeal.nD → PrngReg), Pre_SsdSIdeal m →
    θ_run (Cert.SsdSIdeal.defs (F := Ideal)) (onTc (τ := Cert.SsdSIdeal.τ) (Cert.SsdSIdeal.main (F := Ideal))) ⟨m, fun _ => 0, g⟩ (fun r => (∀ c : Dev Cert.SsdSIdeal.nD,
      r.2.mem ((c.tc : Thread Cert.SsdSIdeal.nD Cert.SsdSIdeal.τ).loc Cert.SsdSIdeal.main_arg0) = m ((c.tc : Thread Cert.SsdSIdeal.nD Cert.SsdSIdeal.τ).loc Cert.SsdSIdeal.main_arg0)
      ∧ r.2.mem ((c.tc : Thread Cert.SsdSIdeal.nD Cert.SsdSIdeal.τ).loc Cert.SsdSIdeal.main_arg1) = m ((c.tc : Thread Cert.SsdSIdeal.nD Cert.SsdSIdeal.τ).loc Cert.SsdSIdeal.main_arg1)
      ∧ r.2.mem ((c.tc : Thread Cert.SsdSIdeal.nD Cert.SsdSIdeal.τ).loc Cert.SsdSIdeal.main_arg2) = m ((c.tc : Thread Cert.SsdSIdeal.nD Cert.SsdSIdeal.τ).loc Cert.SsdSIdeal.main_arg2)
      ∧ r.2.mem ((c.tc : Thread Cert.SsdSIdeal.nD Cert.SsdSIdeal.τ).loc Cert.SsdSIdeal.main_arg3) = m ((c.tc : Thread Cert.SsdSIdeal.nD Cert.SsdSIdeal.τ).loc Cert.SsdSIdeal.main_arg3)
      ∧ r.2.mem ((c.tc : Thread Cert.SsdSIdeal.nD Cert.SsdSIdeal.τ).loc Cert.SsdSIdeal.main_arg4) = m ((c.tc : Thread Cert.SsdSIdeal.nD Cert.SsdSIdeal.τ).loc Cert.SsdSIdeal.main_arg4)
      ∧ r.2.mem ((c.tc : Thread Cert.SsdSIdeal.nD Cert.SsdSIdeal.τ).loc Cert.SsdSIdeal.main_arg5) = m ((c.tc : Thread Cert.SsdSIdeal.nD Cert.SsdSIdeal.τ).loc Cert.SsdSIdeal.main_arg5)
      ∧ r.2.mem ((c.tc : Thread Cert.SsdSIdeal.nD Cert.SsdSIdeal.τ).loc Cert.SsdSIdeal.main_arg6) = m ((c.tc : Thread Cert.SsdSIdeal.nD Cert.SsdSIdeal.τ).loc Cert.SsdSIdeal.main_arg6)
      ∧ r.2.mem ((c.tc : Thread Cert.SsdSIdeal.nD Cert.SsdSIdeal.τ).loc Cert.SsdSIdeal.main_arg7) = m ((c.tc : Thread Cert.SsdSIdeal.nD Cert.SsdSIdeal.τ).loc Cert.SsdSIdeal.main_arg7)
      ∧ r.2.mem ((c.tc : Thread Cert.SsdSIdeal.nD Cert.SsdSIdeal.τ).loc Cert.SsdSIdeal.main_arg8) = m ((c.tc : Thread Cert.SsdSIdeal.nD Cert.SsdSIdeal.τ).loc Cert.SsdSIdeal.main_arg8)
      ∧ r.2.mem ((c.tc : Thread Cert.SsdSIdeal.nD Cert.SsdSIdeal.τ).loc Cert.SsdSIdeal.main_arg9) = m ((c.tc : Thread Cert.SsdSIdeal.nD Cert.SsdSIdeal.τ).loc Cert.SsdSIdeal.main_arg9))
      ∧ r.2.sem = fun _ => 0)

def quiescent_SsdSIdeal_pre_ssd_finite [hSsdSIdeal : Cert.SsdSIdeal.Facts] [hPre_ssd_finite : Cert.Pre_ssd_finite.Facts] : Prop :=
  ∀ (m : (ℓ : Loc Cert.SsdSIdeal.nD Cert.SsdSIdeal.τ Cert.SsdSIdeal.sig) → Buf (Elt Ideal) ℓ) (g : Dev Cert.SsdSIdeal.nD → PrngReg), Pre_SsdSIdeal_ssd_finite m →
    θ_run (Cert.SsdSIdeal.defs (F := Ideal)) (onTc (τ := Cert.SsdSIdeal.τ) (Cert.SsdSIdeal.main (F := Ideal))) ⟨m, fun _ => 0, g⟩ (fun r => (∀ c : Dev Cert.SsdSIdeal.nD,
      r.2.mem ((c.tc : Thread Cert.SsdSIdeal.nD Cert.SsdSIdeal.τ).loc Cert.SsdSIdeal.main_arg0) = m ((c.tc : Thread Cert.SsdSIdeal.nD Cert.SsdSIdeal.τ).loc Cert.SsdSIdeal.main_arg0)
      ∧ r.2.mem ((c.tc : Thread Cert.SsdSIdeal.nD Cert.SsdSIdeal.τ).loc Cert.SsdSIdeal.main_arg1) = m ((c.tc : Thread Cert.SsdSIdeal.nD Cert.SsdSIdeal.τ).loc Cert.SsdSIdeal.main_arg1)
      ∧ r.2.mem ((c.tc : Thread Cert.SsdSIdeal.nD Cert.SsdSIdeal.τ).loc Cert.SsdSIdeal.main_arg2) = m ((c.tc : Thread Cert.SsdSIdeal.nD Cert.SsdSIdeal.τ).loc Cert.SsdSIdeal.main_arg2)
      ∧ r.2.mem ((c.tc : Thread Cert.SsdSIdeal.nD Cert.SsdSIdeal.τ).loc Cert.SsdSIdeal.main_arg3) = m ((c.tc : Thread Cert.SsdSIdeal.nD Cert.SsdSIdeal.τ).loc Cert.SsdSIdeal.main_arg3)
      ∧ r.2.mem ((c.tc : Thread Cert.SsdSIdeal.nD Cert.SsdSIdeal.τ).loc Cert.SsdSIdeal.main_arg4) = m ((c.tc : Thread Cert.SsdSIdeal.nD Cert.SsdSIdeal.τ).loc Cert.SsdSIdeal.main_arg4)
      ∧ r.2.mem ((c.tc : Thread Cert.SsdSIdeal.nD Cert.SsdSIdeal.τ).loc Cert.SsdSIdeal.main_arg5) = m ((c.tc : Thread Cert.SsdSIdeal.nD Cert.SsdSIdeal.τ).loc Cert.SsdSIdeal.main_arg5)
      ∧ r.2.mem ((c.tc : Thread Cert.SsdSIdeal.nD Cert.SsdSIdeal.τ).loc Cert.SsdSIdeal.main_arg6) = m ((c.tc : Thread Cert.SsdSIdeal.nD Cert.SsdSIdeal.τ).loc Cert.SsdSIdeal.main_arg6)
      ∧ r.2.mem ((c.tc : Thread Cert.SsdSIdeal.nD Cert.SsdSIdeal.τ).loc Cert.SsdSIdeal.main_arg7) = m ((c.tc : Thread Cert.SsdSIdeal.nD Cert.SsdSIdeal.τ).loc Cert.SsdSIdeal.main_arg7)
      ∧ r.2.mem ((c.tc : Thread Cert.SsdSIdeal.nD Cert.SsdSIdeal.τ).loc Cert.SsdSIdeal.main_arg8) = m ((c.tc : Thread Cert.SsdSIdeal.nD Cert.SsdSIdeal.τ).loc Cert.SsdSIdeal.main_arg8)
      ∧ r.2.mem ((c.tc : Thread Cert.SsdSIdeal.nD Cert.SsdSIdeal.τ).loc Cert.SsdSIdeal.main_arg9) = m ((c.tc : Thread Cert.SsdSIdeal.nD Cert.SsdSIdeal.τ).loc Cert.SsdSIdeal.main_arg9))
      ∧ r.2.sem = fun _ => 0)

def quiescent_SsdSRefIdeal [hSsdSRefIdeal : Cert.SsdSRefIdeal.Facts] : Prop :=
  ∀ (m : (ℓ : Loc Cert.SsdSRefIdeal.nD Cert.SsdSRefIdeal.τ Cert.SsdSRefIdeal.sig) → Buf (Elt Ideal) ℓ) (g : Dev Cert.SsdSRefIdeal.nD → PrngReg), Pre_SsdSRefIdeal m →
    θ_run (Cert.SsdSRefIdeal.defs (F := Ideal)) (onTc (τ := Cert.SsdSRefIdeal.τ) (Cert.SsdSRefIdeal.main (F := Ideal))) ⟨m, fun _ => 0, g⟩ (fun r => (∀ c : Dev Cert.SsdSRefIdeal.nD,
      r.2.mem ((c.tc : Thread Cert.SsdSRefIdeal.nD Cert.SsdSRefIdeal.τ).loc Cert.SsdSRefIdeal.main_arg0) = m ((c.tc : Thread Cert.SsdSRefIdeal.nD Cert.SsdSRefIdeal.τ).loc Cert.SsdSRefIdeal.main_arg0)
      ∧ r.2.mem ((c.tc : Thread Cert.SsdSRefIdeal.nD Cert.SsdSRefIdeal.τ).loc Cert.SsdSRefIdeal.main_arg1) = m ((c.tc : Thread Cert.SsdSRefIdeal.nD Cert.SsdSRefIdeal.τ).loc Cert.SsdSRefIdeal.main_arg1)
      ∧ r.2.mem ((c.tc : Thread Cert.SsdSRefIdeal.nD Cert.SsdSRefIdeal.τ).loc Cert.SsdSRefIdeal.main_arg2) = m ((c.tc : Thread Cert.SsdSRefIdeal.nD Cert.SsdSRefIdeal.τ).loc Cert.SsdSRefIdeal.main_arg2)
      ∧ r.2.mem ((c.tc : Thread Cert.SsdSRefIdeal.nD Cert.SsdSRefIdeal.τ).loc Cert.SsdSRefIdeal.main_arg3) = m ((c.tc : Thread Cert.SsdSRefIdeal.nD Cert.SsdSRefIdeal.τ).loc Cert.SsdSRefIdeal.main_arg3)
      ∧ r.2.mem ((c.tc : Thread Cert.SsdSRefIdeal.nD Cert.SsdSRefIdeal.τ).loc Cert.SsdSRefIdeal.main_arg4) = m ((c.tc : Thread Cert.SsdSRefIdeal.nD Cert.SsdSRefIdeal.τ).loc Cert.SsdSRefIdeal.main_arg4)
      ∧ r.2.mem ((c.tc : Thread Cert.SsdSRefIdeal.nD Cert.SsdSRefIdeal.τ).loc Cert.SsdSRefIdeal.main_arg5) = m ((c.tc : Thread Cert.SsdSRefIdeal.nD Cert.SsdSRefIdeal.τ).loc Cert.SsdSRefIdeal.main_arg5)
      ∧ r.2.mem ((c.tc : Thread Cert.SsdSRefIdeal.nD Cert.SsdSRefIdeal.τ).loc Cert.SsdSRefIdeal.main_arg6) = m ((c.tc : Thread Cert.SsdSRefIdeal.nD Cert.SsdSRefIdeal.τ).loc Cert.SsdSRefIdeal.main_arg6)
      ∧ r.2.mem ((c.tc : Thread Cert.SsdSRefIdeal.nD Cert.SsdSRefIdeal.τ).loc Cert.SsdSRefIdeal.main_arg7) = m ((c.tc : Thread Cert.SsdSRefIdeal.nD Cert.SsdSRefIdeal.τ).loc Cert.SsdSRefIdeal.main_arg7)
      ∧ r.2.mem ((c.tc : Thread Cert.SsdSRefIdeal.nD Cert.SsdSRefIdeal.τ).loc Cert.SsdSRefIdeal.main_arg8) = m ((c.tc : Thread Cert.SsdSRefIdeal.nD Cert.SsdSRefIdeal.τ).loc Cert.SsdSRefIdeal.main_arg8)
      ∧ r.2.mem ((c.tc : Thread Cert.SsdSRefIdeal.nD Cert.SsdSRefIdeal.τ).loc Cert.SsdSRefIdeal.main_arg9) = m ((c.tc : Thread Cert.SsdSRefIdeal.nD Cert.SsdSRefIdeal.τ).loc Cert.SsdSRefIdeal.main_arg9))
      ∧ r.2.sem = fun _ => 0)

def quiescent_SsdSRefIdeal_pre_ssd_finite [hSsdSRefIdeal : Cert.SsdSRefIdeal.Facts] [hPre_ssd_finite : Cert.Pre_ssd_finite.Facts] : Prop :=
  ∀ (m : (ℓ : Loc Cert.SsdSRefIdeal.nD Cert.SsdSRefIdeal.τ Cert.SsdSRefIdeal.sig) → Buf (Elt Ideal) ℓ) (g : Dev Cert.SsdSRefIdeal.nD → PrngReg), Pre_SsdSRefIdeal_ssd_finite m →
    θ_run (Cert.SsdSRefIdeal.defs (F := Ideal)) (onTc (τ := Cert.SsdSRefIdeal.τ) (Cert.SsdSRefIdeal.main (F := Ideal))) ⟨m, fun _ => 0, g⟩ (fun r => (∀ c : Dev Cert.SsdSRefIdeal.nD,
      r.2.mem ((c.tc : Thread Cert.SsdSRefIdeal.nD Cert.SsdSRefIdeal.τ).loc Cert.SsdSRefIdeal.main_arg0) = m ((c.tc : Thread Cert.SsdSRefIdeal.nD Cert.SsdSRefIdeal.τ).loc Cert.SsdSRefIdeal.main_arg0)
      ∧ r.2.mem ((c.tc : Thread Cert.SsdSRefIdeal.nD Cert.SsdSRefIdeal.τ).loc Cert.SsdSRefIdeal.main_arg1) = m ((c.tc : Thread Cert.SsdSRefIdeal.nD Cert.SsdSRefIdeal.τ).loc Cert.SsdSRefIdeal.main_arg1)
      ∧ r.2.mem ((c.tc : Thread Cert.SsdSRefIdeal.nD Cert.SsdSRefIdeal.τ).loc Cert.SsdSRefIdeal.main_arg2) = m ((c.tc : Thread Cert.SsdSRefIdeal.nD Cert.SsdSRefIdeal.τ).loc Cert.SsdSRefIdeal.main_arg2)
      ∧ r.2.mem ((c.tc : Thread Cert.SsdSRefIdeal.nD Cert.SsdSRefIdeal.τ).loc Cert.SsdSRefIdeal.main_arg3) = m ((c.tc : Thread Cert.SsdSRefIdeal.nD Cert.SsdSRefIdeal.τ).loc Cert.SsdSRefIdeal.main_arg3)
      ∧ r.2.mem ((c.tc : Thread Cert.SsdSRefIdeal.nD Cert.SsdSRefIdeal.τ).loc Cert.SsdSRefIdeal.main_arg4) = m ((c.tc : Thread Cert.SsdSRefIdeal.nD Cert.SsdSRefIdeal.τ).loc Cert.SsdSRefIdeal.main_arg4)
      ∧ r.2.mem ((c.tc : Thread Cert.SsdSRefIdeal.nD Cert.SsdSRefIdeal.τ).loc Cert.SsdSRefIdeal.main_arg5) = m ((c.tc : Thread Cert.SsdSRefIdeal.nD Cert.SsdSRefIdeal.τ).loc Cert.SsdSRefIdeal.main_arg5)
      ∧ r.2.mem ((c.tc : Thread Cert.SsdSRefIdeal.nD Cert.SsdSRefIdeal.τ).loc Cert.SsdSRefIdeal.main_arg6) = m ((c.tc : Thread Cert.SsdSRefIdeal.nD Cert.SsdSRefIdeal.τ).loc Cert.SsdSRefIdeal.main_arg6)
      ∧ r.2.mem ((c.tc : Thread Cert.SsdSRefIdeal.nD Cert.SsdSRefIdeal.τ).loc Cert.SsdSRefIdeal.main_arg7) = m ((c.tc : Thread Cert.SsdSRefIdeal.nD Cert.SsdSRefIdeal.τ).loc Cert.SsdSRefIdeal.main_arg7)
      ∧ r.2.mem ((c.tc : Thread Cert.SsdSRefIdeal.nD Cert.SsdSRefIdeal.τ).loc Cert.SsdSRefIdeal.main_arg8) = m ((c.tc : Thread Cert.SsdSRefIdeal.nD Cert.SsdSRefIdeal.τ).loc Cert.SsdSRefIdeal.main_arg8)
      ∧ r.2.mem ((c.tc : Thread Cert.SsdSRefIdeal.nD Cert.SsdSRefIdeal.τ).loc Cert.SsdSRefIdeal.main_arg9) = m ((c.tc : Thread Cert.SsdSRefIdeal.nD Cert.SsdSRefIdeal.τ).loc Cert.SsdSRefIdeal.main_arg9))
      ∧ r.2.sem = fun _ => 0)

def preserves_AttS_AttSIdeal : Prop :=
  True

def algebraic_AttSIdeal_AttSRefIdeal_on_real_rows_pre_att_finite [hAttSIdeal : Cert.AttSIdeal.Facts] [hAttSRefIdeal : Cert.AttSRefIdeal.Facts] [hPre_att_finite : Cert.Pre_att_finite.Facts] [hOn_real_rows : Cert.On_real_rows.Facts] : Prop :=
  ∀ (m : (ℓ : Loc Cert.AttSIdeal.nD Cert.AttSIdeal.τ Cert.AttSIdeal.sig) → Buf (Elt Ideal) ℓ) (g : Dev Cert.AttSIdeal.nD → PrngReg)
    (m' : (ℓ : Loc Cert.AttSRefIdeal.nD Cert.AttSRefIdeal.τ Cert.AttSRefIdeal.sig) → Buf (Elt Ideal) ℓ) (g' : Dev Cert.AttSRefIdeal.nD → PrngReg), Pre_AttSIdeal_att_finite m →
    (∀ c : Dev Cert.AttSIdeal.nD,
      m' ((c.tc : Thread Cert.AttSRefIdeal.nD Cert.AttSRefIdeal.τ).loc Cert.AttSRefIdeal.main_arg0) = m ((c.tc : Thread Cert.AttSIdeal.nD Cert.AttSIdeal.τ).loc Cert.AttSIdeal.main_arg0)
      ∧ m' ((c.tc : Thread Cert.AttSRefIdeal.nD Cert.AttSRefIdeal.τ).loc Cert.AttSRefIdeal.main_arg1) = m ((c.tc : Thread Cert.AttSIdeal.nD Cert.AttSIdeal.τ).loc Cert.AttSIdeal.main_arg1)
      ∧ m' ((c.tc : Thread Cert.AttSRefIdeal.nD Cert.AttSRefIdeal.τ).loc Cert.AttSRefIdeal.main_arg2) = m ((c.tc : Thread Cert.AttSIdeal.nD Cert.AttSIdeal.τ).loc Cert.AttSIdeal.main_arg2)
      ∧ m' ((c.tc : Thread Cert.AttSRefIdeal.nD Cert.AttSRefIdeal.τ).loc Cert.AttSRefIdeal.main_arg3) = m ((c.tc : Thread Cert.AttSIdeal.nD Cert.AttSIdeal.τ).loc Cert.AttSIdeal.main_arg3)
      ∧ m' ((c.tc : Thread Cert.AttSRefIdeal.nD Cert.AttSRefIdeal.τ).loc Cert.AttSRefIdeal.main_arg4) = m ((c.tc : Thread Cert.AttSIdeal.nD Cert.AttSIdeal.τ).loc Cert.AttSIdeal.main_arg4)
      ∧ m' ((c.tc : Thread Cert.AttSRefIdeal.nD Cert.AttSRefIdeal.τ).loc Cert.AttSRefIdeal.main_arg5) = m ((c.tc : Thread Cert.AttSIdeal.nD Cert.AttSIdeal.τ).loc Cert.AttSIdeal.main_arg5)) →
    ∃ (v0 : (c : Dev Cert.AttSIdeal.nD) → Buf (Elt Ideal) ((c.tc : Thread Cert.AttSIdeal.nD Cert.AttSIdeal.τ).loc Cert.AttSIdeal.main_v6_0)) (v1 : (c : Dev Cert.AttSIdeal.nD) → Buf (Elt Ideal) ((c.tc : Thread Cert.AttSIdeal.nD Cert.AttSIdeal.τ).loc Cert.AttSIdeal.main_v6_1)) (v2 : (c : Dev Cert.AttSIdeal.nD) → Buf (Elt Ideal) ((c.tc : Thread Cert.AttSIdeal.nD Cert.AttSIdeal.τ).loc Cert.AttSIdeal.main_v6_2)),
      θ_run (Cert.AttSIdeal.defs (F := Ideal)) (onTc (τ := Cert.AttSIdeal.τ) (Cert.AttSIdeal.main (F := Ideal))) ⟨m, fun _ => 0, g⟩ (fun r => ∀ c : Dev Cert.AttSIdeal.nD,
          (∀ i : (⟨2, ![128, 1024]⟩ : Shape).Idx, (Cert.On_real_rows.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5))).1 i = 1#1 → r.2.mem ((c.tc : Thread Cert.AttSIdeal.nD Cert.AttSIdeal.τ).loc Cert.AttSIdeal.main_v6_0) i = v0 c i)
          ∧ (∀ i : (⟨3, ![8, 256, 2048]⟩ : Shape).Idx, (Cert.On_real_rows.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5))).2.1 i = 1#1 → r.2.mem ((c.tc : Thread Cert.AttSIdeal.nD Cert.AttSIdeal.τ).loc Cert.AttSIdeal.main_v6_1) i = v1 c i)
          ∧ (∀ i : (⟨3, ![8, 256, 2048]⟩ : Shape).Idx, (Cert.On_real_rows.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5))).2.2 i = 1#1 → r.2.mem ((c.tc : Thread Cert.AttSIdeal.nD Cert.AttSIdeal.τ).loc Cert.AttSIdeal.main_v6_2) i = v2 c i)
          ∧ r.2.mem ((c.tc : Thread Cert.AttSIdeal.nD Cert.AttSIdeal.τ).loc Cert.AttSIdeal.main_arg0) = m ((c.tc : Thread Cert.AttSIdeal.nD Cert.AttSIdeal.τ).loc Cert.AttSIdeal.main_arg0)
          ∧ r.2.mem ((c.tc : Thread Cert.AttSIdeal.nD Cert.AttSIdeal.τ).loc Cert.AttSIdeal.main_arg1) = m ((c.tc : Thread Cert.AttSIdeal.nD Cert.AttSIdeal.τ).loc Cert.AttSIdeal.main_arg1)
          ∧ r.2.mem ((c.tc : Thread Cert.AttSIdeal.nD Cert.AttSIdeal.τ).loc Cert.AttSIdeal.main_arg2) = m ((c.tc : Thread Cert.AttSIdeal.nD Cert.AttSIdeal.τ).loc Cert.AttSIdeal.main_arg2)
          ∧ r.2.mem ((c.tc : Thread Cert.AttSIdeal.nD Cert.AttSIdeal.τ).loc Cert.AttSIdeal.main_arg3) = m ((c.tc : Thread Cert.AttSIdeal.nD Cert.AttSIdeal.τ).loc Cert.AttSIdeal.main_arg3)
          ∧ r.2.mem ((c.tc : Thread Cert.AttSIdeal.nD Cert.AttSIdeal.τ).loc Cert.AttSIdeal.main_arg4) = m ((c.tc : Thread Cert.AttSIdeal.nD Cert.AttSIdeal.τ).loc Cert.AttSIdeal.main_arg4)
          ∧ r.2.mem ((c.tc : Thread Cert.AttSIdeal.nD Cert.AttSIdeal.τ).loc Cert.AttSIdeal.main_arg5) = m ((c.tc : Thread Cert.AttSIdeal.nD Cert.AttSIdeal.τ).loc Cert.AttSIdeal.main_arg5))
      ∧ θ_run (Cert.AttSRefIdeal.defs (F := Ideal)) (onTc (τ := Cert.AttSRefIdeal.τ) (Cert.AttSRefIdeal.main (F := Ideal))) ⟨m', fun _ => 0, g'⟩ (fun r => ∀ c : Dev Cert.AttSRefIdeal.nD,
          (∀ i : (⟨2, ![128, 1024]⟩ : Shape).Idx, (Cert.On_real_rows.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5))).1 i = 1#1 → r.2.mem ((c.tc : Thread Cert.AttSRefIdeal.nD Cert.AttSRefIdeal.τ).loc Cert.AttSRefIdeal.main_v141) i = v0 c i)
          ∧ (∀ i : (⟨3, ![8, 256, 2048]⟩ : Shape).Idx, (Cert.On_real_rows.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5))).2.1 i = 1#1 → r.2.mem ((c.tc : Thread Cert.AttSRefIdeal.nD Cert.AttSRefIdeal.τ).loc Cert.AttSRefIdeal.main_v144) i = v1 c i)
          ∧ (∀ i : (⟨3, ![8, 256, 2048]⟩ : Shape).Idx, (Cert.On_real_rows.fn (F := Ideal) (m ((c.tc : Thread Cert.AttSIdeal.nD Cert.AttSIdeal.τ).loc Cert.AttSIdeal.main_arg0)) (m ((c.tc : Thread Cert.AttSIdeal.nD Cert.AttSIdeal.τ).loc Cert.AttSIdeal.main_arg1)) (m ((c.tc : Thread Cert.AttSIdeal.nD Cert.AttSIdeal.τ).loc Cert.AttSIdeal.main_arg2)) (m ((c.tc : Thread Cert.AttSIdeal.nD Cert.AttSIdeal.τ).loc Cert.AttSIdeal.main_arg3)) (m ((c.tc : Thread Cert.AttSIdeal.nD Cert.AttSIdeal.τ).loc Cert.AttSIdeal.main_arg4)) (m ((c.tc : Thread Cert.AttSIdeal.nD Cert.AttSIdeal.τ).loc Cert.AttSIdeal.main_arg5))).2.2 i = 1#1 → r.2.mem ((c.tc : Thread Cert.AttSRefIdeal.nD Cert.AttSRefIdeal.τ).loc Cert.AttSRefIdeal.main_v147) i = v2 c i)
          ∧ r.2.mem ((c.tc : Thread Cert.AttSRefIdeal.nD Cert.AttSRefIdeal.τ).loc Cert.AttSRefIdeal.main_arg0) = m' ((c.tc : Thread Cert.AttSRefIdeal.nD Cert.AttSRefIdeal.τ).loc Cert.AttSRefIdeal.main_arg0)
          ∧ r.2.mem ((c.tc : Thread Cert.AttSRefIdeal.nD Cert.AttSRefIdeal.τ).loc Cert.AttSRefIdeal.main_arg1) = m' ((c.tc : Thread Cert.AttSRefIdeal.nD Cert.AttSRefIdeal.τ).loc Cert.AttSRefIdeal.main_arg1)
          ∧ r.2.mem ((c.tc : Thread Cert.AttSRefIdeal.nD Cert.AttSRefIdeal.τ).loc Cert.AttSRefIdeal.main_arg2) = m' ((c.tc : Thread Cert.AttSRefIdeal.nD Cert.AttSRefIdeal.τ).loc Cert.AttSRefIdeal.main_arg2)
          ∧ r.2.mem ((c.tc : Thread Cert.AttSRefIdeal.nD Cert.AttSRefIdeal.τ).loc Cert.AttSRefIdeal.main_arg3) = m' ((c.tc : Thread Cert.AttSRefIdeal.nD Cert.AttSRefIdeal.τ).loc Cert.AttSRefIdeal.main_arg3)
          ∧ r.2.mem ((c.tc : Thread Cert.AttSRefIdeal.nD Cert.AttSRefIdeal.τ).loc Cert.AttSRefIdeal.main_arg4) = m' ((c.tc : Thread Cert.AttSRefIdeal.nD Cert.AttSRefIdeal.τ).loc Cert.AttSRefIdeal.main_arg4)
          ∧ r.2.mem ((c.tc : Thread Cert.AttSRefIdeal.nD Cert.AttSRefIdeal.τ).loc Cert.AttSRefIdeal.main_arg5) = m' ((c.tc : Thread Cert.AttSRefIdeal.nD Cert.AttSRefIdeal.τ).loc Cert.AttSRefIdeal.main_arg5))

def preserves_OutP_OutPIdeal : Prop :=
  True

def algebraic_OutPIdeal_OutPRefIdeal [hOutPIdeal : Cert.OutPIdeal.Facts] [hOutPRefIdeal : Cert.OutPRefIdeal.Facts] : Prop :=
  ∀ (m : (ℓ : Loc Cert.OutPIdeal.nD Cert.OutPIdeal.τ Cert.OutPIdeal.sig) → Buf (Elt Ideal) ℓ) (g : Dev Cert.OutPIdeal.nD → PrngReg)
    (m' : (ℓ : Loc Cert.OutPRefIdeal.nD Cert.OutPRefIdeal.τ Cert.OutPRefIdeal.sig) → Buf (Elt Ideal) ℓ) (g' : Dev Cert.OutPRefIdeal.nD → PrngReg), Pre_OutPIdeal m →
    (∀ c : Dev Cert.OutPIdeal.nD,
      m' ((c.tc : Thread Cert.OutPRefIdeal.nD Cert.OutPRefIdeal.τ).loc Cert.OutPRefIdeal.main_arg0) = m ((c.tc : Thread Cert.OutPIdeal.nD Cert.OutPIdeal.τ).loc Cert.OutPIdeal.main_arg0)
      ∧ m' ((c.tc : Thread Cert.OutPRefIdeal.nD Cert.OutPRefIdeal.τ).loc Cert.OutPRefIdeal.main_arg1) = m ((c.tc : Thread Cert.OutPIdeal.nD Cert.OutPIdeal.τ).loc Cert.OutPIdeal.main_arg1)
      ∧ m' ((c.tc : Thread Cert.OutPRefIdeal.nD Cert.OutPRefIdeal.τ).loc Cert.OutPRefIdeal.main_arg2) = m ((c.tc : Thread Cert.OutPIdeal.nD Cert.OutPIdeal.τ).loc Cert.OutPIdeal.main_arg2)
      ∧ m' ((c.tc : Thread Cert.OutPRefIdeal.nD Cert.OutPRefIdeal.τ).loc Cert.OutPRefIdeal.main_arg3) = m ((c.tc : Thread Cert.OutPIdeal.nD Cert.OutPIdeal.τ).loc Cert.OutPIdeal.main_arg3)
      ∧ m' ((c.tc : Thread Cert.OutPRefIdeal.nD Cert.OutPRefIdeal.τ).loc Cert.OutPRefIdeal.main_arg4) = m ((c.tc : Thread Cert.OutPIdeal.nD Cert.OutPIdeal.τ).loc Cert.OutPIdeal.main_arg4)) →
    ∃ (v0 : (c : Dev Cert.OutPIdeal.nD) → Buf (Elt Ideal) ((c.tc : Thread Cert.OutPIdeal.nD Cert.OutPIdeal.τ).loc Cert.OutPIdeal.main_v1)),
      θ_run (Cert.OutPIdeal.defs (F := Ideal)) (onTc (τ := Cert.OutPIdeal.τ) (Cert.OutPIdeal.main (F := Ideal))) ⟨m, fun _ => 0, g⟩ (fun r => ∀ c : Dev Cert.OutPIdeal.nD,
          r.2.mem ((c.tc : Thread Cert.OutPIdeal.nD Cert.OutPIdeal.τ).loc Cert.OutPIdeal.main_v1) = v0 c
          ∧ r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
          ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
          ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
          ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3)
          ∧ r.2.mem ((c.tc : Thread Cert.OutPIdeal.nD Cert.OutPIdeal.τ).loc Cert.OutPIdeal.main_arg4) = m ((c.tc : Thread Cert.OutPIdeal.nD Cert.OutPIdeal.τ).loc Cert.OutPIdeal.main_arg4))
      ∧ θ_run (Cert.OutPRefIdeal.defs (F := Ideal)) (onTc (τ := Cert.OutPRefIdeal.τ) (Cert.OutPRefIdeal.main (F := Ideal))) ⟨m', fun _ => 0, g'⟩ (fun r => ∀ c : Dev Cert.OutPRefIdeal.nD,
          r.2.mem ((c.tc : Thread Cert.OutPRefIdeal.nD Cert.OutPRefIdeal.τ).loc Cert.OutPRefIdeal.main_v22) = v0 c
          ∧ r.2.mem ((c.tc : Thread Cert.OutPRefIdeal.nD Cert.OutPRefIdeal.τ).loc Cert.OutPRefIdeal.main_arg0) = m' ((c.tc : Thread Cert.OutPRefIdeal.nD Cert.OutPRefIdeal.τ).loc Cert.OutPRefIdeal.main_arg0)
          ∧ r.2.mem ((c.tc : Thread Cert.OutPRefIdeal.nD Cert.OutPRefIdeal.τ).loc Cert.OutPRefIdeal.main_arg1) = m' ((c.tc : Thread Cert.OutPRefIdeal.nD Cert.OutPRefIdeal.τ).loc Cert.OutPRefIdeal.main_arg1)
          ∧ r.2.mem ((c.tc : Thread Cert.OutPRefIdeal.nD Cert.OutPRefIdeal.τ).loc Cert.OutPRefIdeal.main_arg2) = m' ((c.tc : Thread Cert.OutPRefIdeal.nD Cert.OutPRefIdeal.τ).loc Cert.OutPRefIdeal.main_arg2)
          ∧ r.2.mem ((c.tc : Thread Cert.OutPRefIdeal.nD Cert.OutPRefIdeal.τ).loc Cert.OutPRefIdeal.main_arg3) = m' ((c.tc : Thread Cert.OutPRefIdeal.nD Cert.OutPRefIdeal.τ).loc Cert.OutPRefIdeal.main_arg3)
          ∧ r.2.mem ((c.tc : Thread Cert.OutPRefIdeal.nD Cert.OutPRefIdeal.τ).loc Cert.OutPRefIdeal.main_arg4) = m' ((c.tc : Thread Cert.OutPRefIdeal.nD Cert.OutPRefIdeal.τ).loc Cert.OutPRefIdeal.main_arg4))

def preserves_InP_InPIdeal : Prop :=
  True

def algebraic_InPIdeal_InPRefIdeal_pre_in_finite [hInPIdeal : Cert.InPIdeal.Facts] [hInPRefIdeal : Cert.InPRefIdeal.Facts] [hPre_in_finite : Cert.Pre_in_finite.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal_in_finite m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
      ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)
      ∧ m' ((c.tc : Thread Cert.InPRefIdeal.nD Cert.InPRefIdeal.τ).loc Cert.InPRefIdeal.main_arg3) = m ((c.tc : Thread Cert.InPIdeal.nD Cert.InPIdeal.τ).loc Cert.InPIdeal.main_arg3)
      ∧ m' ((c.tc : Thread Cert.InPRefIdeal.nD Cert.InPRefIdeal.τ).loc Cert.InPRefIdeal.main_arg4) = m ((c.tc : Thread Cert.InPIdeal.nD Cert.InPIdeal.τ).loc Cert.InPIdeal.main_arg4)
      ∧ m' ((c.tc : Thread Cert.InPRefIdeal.nD Cert.InPRefIdeal.τ).loc Cert.InPRefIdeal.main_arg5) = m ((c.tc : Thread Cert.InPIdeal.nD Cert.InPIdeal.τ).loc Cert.InPIdeal.main_arg5)
      ∧ m' ((c.tc : Thread Cert.InPRefIdeal.nD Cert.InPRefIdeal.τ).loc Cert.InPRefIdeal.main_arg6) = m ((c.tc : Thread Cert.InPIdeal.nD Cert.InPIdeal.τ).loc Cert.InPIdeal.main_arg6)) →
    ∃ (v0 : (c : Dev Cert.InPIdeal.nD) → Buf (Elt Ideal) ((c.tc : Thread Cert.InPIdeal.nD Cert.InPIdeal.τ).loc Cert.InPIdeal.main_v14_0)) (v1 : (c : Dev Cert.InPIdeal.nD) → Buf (Elt Ideal) ((c.tc : Thread Cert.InPIdeal.nD Cert.InPIdeal.τ).loc Cert.InPIdeal.main_v14_1)) (v2 : (c : Dev Cert.InPIdeal.nD) → Buf (Elt Ideal) ((c.tc : Thread Cert.InPIdeal.nD Cert.InPIdeal.τ).loc Cert.InPIdeal.main_v14_2)) (v3 : (c : Dev Cert.InPIdeal.nD) → Buf (Elt Ideal) ((c.tc : Thread Cert.InPIdeal.nD Cert.InPIdeal.τ).loc Cert.InPIdeal.main_v14_3)) (v4 : (c : Dev Cert.InPIdeal.nD) → Buf (Elt Ideal) ((c.tc : Thread Cert.InPIdeal.nD Cert.InPIdeal.τ).loc Cert.InPIdeal.main_v14_4)) (v5 : (c : Dev Cert.InPIdeal.nD) → Buf (Elt Ideal) ((c.tc : Thread Cert.InPIdeal.nD Cert.InPIdeal.τ).loc Cert.InPIdeal.main_v14_5)) (v6 : (c : Dev Cert.InPIdeal.nD) → Buf (Elt Ideal) ((c.tc : Thread Cert.InPIdeal.nD Cert.InPIdeal.τ).loc Cert.InPIdeal.main_v14_6)) (v7 : (c : Dev Cert.InPIdeal.nD) → Buf (Elt Ideal) ((c.tc : Thread Cert.InPIdeal.nD Cert.InPIdeal.τ).loc Cert.InPIdeal.main_v14_7)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v14_0) = v0 c
          ∧ r.2.mem ((c.tc : Thread Cert.InPIdeal.nD Cert.InPIdeal.τ).loc Cert.InPIdeal.main_v14_1) = v1 c
          ∧ r.2.mem ((c.tc : Thread Cert.InPIdeal.nD Cert.InPIdeal.τ).loc Cert.InPIdeal.main_v14_2) = v2 c
          ∧ r.2.mem ((c.tc : Thread Cert.InPIdeal.nD Cert.InPIdeal.τ).loc Cert.InPIdeal.main_v14_3) = v3 c
          ∧ r.2.mem ((c.tc : Thread Cert.InPIdeal.nD Cert.InPIdeal.τ).loc Cert.InPIdeal.main_v14_4) = v4 c
          ∧ r.2.mem ((c.tc : Thread Cert.InPIdeal.nD Cert.InPIdeal.τ).loc Cert.InPIdeal.main_v14_5) = v5 c
          ∧ r.2.mem ((c.tc : Thread Cert.InPIdeal.nD Cert.InPIdeal.τ).loc Cert.InPIdeal.main_v14_6) = v6 c
          ∧ r.2.mem ((c.tc : Thread Cert.InPIdeal.nD Cert.InPIdeal.τ).loc Cert.InPIdeal.main_v14_7) = v7 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
          ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
          ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
          ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
          ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v88) = v0 c
          ∧ r.2.mem ((c.tc : Thread Cert.InPRefIdeal.nD Cert.InPRefIdeal.τ).loc Cert.InPRefIdeal.main_v89) = v1 c
          ∧ r.2.mem ((c.tc : Thread Cert.InPRefIdeal.nD Cert.InPRefIdeal.τ).loc Cert.InPRefIdeal.main_v91) = v2 c
          ∧ r.2.mem ((c.tc : Thread Cert.InPRefIdeal.nD Cert.InPRefIdeal.τ).loc Cert.InPRefIdeal.main_v96) = v3 c
          ∧ r.2.mem ((c.tc : Thread Cert.InPRefIdeal.nD Cert.InPRefIdeal.τ).loc Cert.InPRefIdeal.main_v98) = v4 c
          ∧ r.2.mem ((c.tc : Thread Cert.InPRefIdeal.nD Cert.InPRefIdeal.τ).loc Cert.InPRefIdeal.main_v99) = v5 c
          ∧ r.2.mem ((c.tc : Thread Cert.InPRefIdeal.nD Cert.InPRefIdeal.τ).loc Cert.InPRefIdeal.main_v101) = v6 c
          ∧ r.2.mem ((c.tc : Thread Cert.InPRefIdeal.nD Cert.InPRefIdeal.τ).loc Cert.InPRefIdeal.main_v102) = v7 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
          ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2)
          ∧ r.2.mem ((c.tc : Thread Cert.InPRefIdeal.nD Cert.InPRefIdeal.τ).loc Cert.InPRefIdeal.main_arg3) = m' ((c.tc : Thread Cert.InPRefIdeal.nD Cert.InPRefIdeal.τ).loc Cert.InPRefIdeal.main_arg3)
          ∧ r.2.mem ((c.tc : Thread Cert.InPRefIdeal.nD Cert.InPRefIdeal.τ).loc Cert.InPRefIdeal.main_arg4) = m' ((c.tc : Thread Cert.InPRefIdeal.nD Cert.InPRefIdeal.τ).loc Cert.InPRefIdeal.main_arg4)
          ∧ r.2.mem ((c.tc : Thread Cert.InPRefIdeal.nD Cert.InPRefIdeal.τ).loc Cert.InPRefIdeal.main_arg5) = m' ((c.tc : Thread Cert.InPRefIdeal.nD Cert.InPRefIdeal.τ).loc Cert.InPRefIdeal.main_arg5)
          ∧ r.2.mem ((c.tc : Thread Cert.InPRefIdeal.nD Cert.InPRefIdeal.τ).loc Cert.InPRefIdeal.main_arg6) = m' ((c.tc : Thread Cert.InPRefIdeal.nD Cert.InPRefIdeal.τ).loc Cert.InPRefIdeal.main_arg6))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)
      ∧ m' ((c.tc : Thread Cert.OutSRefIdeal.nD Cert.OutSRefIdeal.τ).loc Cert.OutSRefIdeal.main_arg4) = m ((c.tc : Thread Cert.OutSIdeal.nD Cert.OutSIdeal.τ).loc Cert.OutSIdeal.main_arg4)) →
    ∃ (v0 : (c : Dev Cert.OutSIdeal.nD) → Buf (Elt Ideal) ((c.tc : Thread Cert.OutSIdeal.nD Cert.OutSIdeal.τ).loc Cert.OutSIdeal.main_v0_0)) (v1 : (c : Dev Cert.OutSIdeal.nD) → Buf (Elt Ideal) ((c.tc : Thread Cert.OutSIdeal.nD Cert.OutSIdeal.τ).loc Cert.OutSIdeal.main_v0_1)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v0_0) = v0 c
          ∧ r.2.mem ((c.tc : Thread Cert.OutSIdeal.nD Cert.OutSIdeal.τ).loc Cert.OutSIdeal.main_v0_1) = v1 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
          ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v23) = v0 c
          ∧ r.2.mem ((c.tc : Thread Cert.OutSRefIdeal.nD Cert.OutSRefIdeal.τ).loc Cert.OutSRefIdeal.main_v24) = v1 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3)
          ∧ r.2.mem ((c.tc : Thread Cert.OutSRefIdeal.nD Cert.OutSRefIdeal.τ).loc Cert.OutSRefIdeal.main_arg4) = m' ((c.tc : Thread Cert.OutSRefIdeal.nD Cert.OutSRefIdeal.τ).loc Cert.OutSRefIdeal.main_arg4))

def preserves_SsdS_SsdSIdeal : Prop :=
  True

def algebraic_SsdSIdeal_SsdSRefIdeal_pre_ssd_finite [hSsdSIdeal : Cert.SsdSIdeal.Facts] [hSsdSRefIdeal : Cert.SsdSRefIdeal.Facts] [hPre_ssd_finite : Cert.Pre_ssd_finite.Facts] : Prop :=
  ∀ (m : (ℓ : Loc Cert.SsdSIdeal.nD Cert.SsdSIdeal.τ Cert.SsdSIdeal.sig) → Buf (Elt Ideal) ℓ) (g : Dev Cert.SsdSIdeal.nD → PrngReg)
    (m' : (ℓ : Loc Cert.SsdSRefIdeal.nD Cert.SsdSRefIdeal.τ Cert.SsdSRefIdeal.sig) → Buf (Elt Ideal) ℓ) (g' : Dev Cert.SsdSRefIdeal.nD → PrngReg), Pre_SsdSIdeal_ssd_finite m →
    (∀ c : Dev Cert.SsdSIdeal.nD,
      m' ((c.tc : Thread Cert.SsdSRefIdeal.nD Cert.SsdSRefIdeal.τ).loc Cert.SsdSRefIdeal.main_arg0) = m ((c.tc : Thread Cert.SsdSIdeal.nD Cert.SsdSIdeal.τ).loc Cert.SsdSIdeal.main_arg0)
      ∧ m' ((c.tc : Thread Cert.SsdSRefIdeal.nD Cert.SsdSRefIdeal.τ).loc Cert.SsdSRefIdeal.main_arg1) = m ((c.tc : Thread Cert.SsdSIdeal.nD Cert.SsdSIdeal.τ).loc Cert.SsdSIdeal.main_arg1)
      ∧ m' ((c.tc : Thread Cert.SsdSRefIdeal.nD Cert.SsdSRefIdeal.τ).loc Cert.SsdSRefIdeal.main_arg2) = m ((c.tc : Thread Cert.SsdSIdeal.nD Cert.SsdSIdeal.τ).loc Cert.SsdSIdeal.main_arg2)
      ∧ m' ((c.tc : Thread Cert.SsdSRefIdeal.nD Cert.SsdSRefIdeal.τ).loc Cert.SsdSRefIdeal.main_arg3) = m ((c.tc : Thread Cert.SsdSIdeal.nD Cert.SsdSIdeal.τ).loc Cert.SsdSIdeal.main_arg3)
      ∧ m' ((c.tc : Thread Cert.SsdSRefIdeal.nD Cert.SsdSRefIdeal.τ).loc Cert.SsdSRefIdeal.main_arg4) = m ((c.tc : Thread Cert.SsdSIdeal.nD Cert.SsdSIdeal.τ).loc Cert.SsdSIdeal.main_arg4)
      ∧ m' ((c.tc : Thread Cert.SsdSRefIdeal.nD Cert.SsdSRefIdeal.τ).loc Cert.SsdSRefIdeal.main_arg5) = m ((c.tc : Thread Cert.SsdSIdeal.nD Cert.SsdSIdeal.τ).loc Cert.SsdSIdeal.main_arg5)
      ∧ m' ((c.tc : Thread Cert.SsdSRefIdeal.nD Cert.SsdSRefIdeal.τ).loc Cert.SsdSRefIdeal.main_arg6) = m ((c.tc : Thread Cert.SsdSIdeal.nD Cert.SsdSIdeal.τ).loc Cert.SsdSIdeal.main_arg6)
      ∧ m' ((c.tc : Thread Cert.SsdSRefIdeal.nD Cert.SsdSRefIdeal.τ).loc Cert.SsdSRefIdeal.main_arg7) = m ((c.tc : Thread Cert.SsdSIdeal.nD Cert.SsdSIdeal.τ).loc Cert.SsdSIdeal.main_arg7)
      ∧ m' ((c.tc : Thread Cert.SsdSRefIdeal.nD Cert.SsdSRefIdeal.τ).loc Cert.SsdSRefIdeal.main_arg8) = m ((c.tc : Thread Cert.SsdSIdeal.nD Cert.SsdSIdeal.τ).loc Cert.SsdSIdeal.main_arg8)
      ∧ m' ((c.tc : Thread Cert.SsdSRefIdeal.nD Cert.SsdSRefIdeal.τ).loc Cert.SsdSRefIdeal.main_arg9) = m ((c.tc : Thread Cert.SsdSIdeal.nD Cert.SsdSIdeal.τ).loc Cert.SsdSIdeal.main_arg9)) →
    ∃ (v0 : (c : Dev Cert.SsdSIdeal.nD) → Buf (Elt Ideal) ((c.tc : Thread Cert.SsdSIdeal.nD Cert.SsdSIdeal.τ).loc Cert.SsdSIdeal.main_v3_1)),
      θ_run (Cert.SsdSIdeal.defs (F := Ideal)) (onTc (τ := Cert.SsdSIdeal.τ) (Cert.SsdSIdeal.main (F := Ideal))) ⟨m, fun _ => 0, g⟩ (fun r => ∀ c : Dev Cert.SsdSIdeal.nD,
          r.2.mem ((c.tc : Thread Cert.SsdSIdeal.nD Cert.SsdSIdeal.τ).loc Cert.SsdSIdeal.main_v3_1) = v0 c
          ∧ r.2.mem ((c.tc : Thread Cert.SsdSIdeal.nD Cert.SsdSIdeal.τ).loc Cert.SsdSIdeal.main_arg0) = m ((c.tc : Thread Cert.SsdSIdeal.nD Cert.SsdSIdeal.τ).loc Cert.SsdSIdeal.main_arg0)
          ∧ r.2.mem ((c.tc : Thread Cert.SsdSIdeal.nD Cert.SsdSIdeal.τ).loc Cert.SsdSIdeal.main_arg1) = m ((c.tc : Thread Cert.SsdSIdeal.nD Cert.SsdSIdeal.τ).loc Cert.SsdSIdeal.main_arg1)
          ∧ r.2.mem ((c.tc : Thread Cert.SsdSIdeal.nD Cert.SsdSIdeal.τ).loc Cert.SsdSIdeal.main_arg2) = m ((c.tc : Thread Cert.SsdSIdeal.nD Cert.SsdSIdeal.τ).loc Cert.SsdSIdeal.main_arg2)
          ∧ r.2.mem ((c.tc : Thread Cert.SsdSIdeal.nD Cert.SsdSIdeal.τ).loc Cert.SsdSIdeal.main_arg3) = m ((c.tc : Thread Cert.SsdSIdeal.nD Cert.SsdSIdeal.τ).loc Cert.SsdSIdeal.main_arg3)
          ∧ r.2.mem ((c.tc : Thread Cert.SsdSIdeal.nD Cert.SsdSIdeal.τ).loc Cert.SsdSIdeal.main_arg4) = m ((c.tc : Thread Cert.SsdSIdeal.nD Cert.SsdSIdeal.τ).loc Cert.SsdSIdeal.main_arg4)
          ∧ r.2.mem ((c.tc : Thread Cert.SsdSIdeal.nD Cert.SsdSIdeal.τ).loc Cert.SsdSIdeal.main_arg5) = m ((c.tc : Thread Cert.SsdSIdeal.nD Cert.SsdSIdeal.τ).loc Cert.SsdSIdeal.main_arg5)
          ∧ r.2.mem ((c.tc : Thread Cert.SsdSIdeal.nD Cert.SsdSIdeal.τ).loc Cert.SsdSIdeal.main_arg6) = m ((c.tc : Thread Cert.SsdSIdeal.nD Cert.SsdSIdeal.τ).loc Cert.SsdSIdeal.main_arg6)
          ∧ r.2.mem ((c.tc : Thread Cert.SsdSIdeal.nD Cert.SsdSIdeal.τ).loc Cert.SsdSIdeal.main_arg7) = m ((c.tc : Thread Cert.SsdSIdeal.nD Cert.SsdSIdeal.τ).loc Cert.SsdSIdeal.main_arg7)
          ∧ r.2.mem ((c.tc : Thread Cert.SsdSIdeal.nD Cert.SsdSIdeal.τ).loc Cert.SsdSIdeal.main_arg8) = m ((c.tc : Thread Cert.SsdSIdeal.nD Cert.SsdSIdeal.τ).loc Cert.SsdSIdeal.main_arg8)
          ∧ r.2.mem ((c.tc : Thread Cert.SsdSIdeal.nD Cert.SsdSIdeal.τ).loc Cert.SsdSIdeal.main_arg9) = m ((c.tc : Thread Cert.SsdSIdeal.nD Cert.SsdSIdeal.τ).loc Cert.SsdSIdeal.main_arg9))
      ∧ θ_run (Cert.SsdSRefIdeal.defs (F := Ideal)) (onTc (τ := Cert.SsdSRefIdeal.τ) (Cert.SsdSRefIdeal.main (F := Ideal))) ⟨m', fun _ => 0, g'⟩ (fun r => ∀ c : Dev Cert.SsdSRefIdeal.nD,
          r.2.mem ((c.tc : Thread Cert.SsdSRefIdeal.nD Cert.SsdSRefIdeal.τ).loc Cert.SsdSRefIdeal.main_v84) = v0 c
          ∧ r.2.mem ((c.tc : Thread Cert.SsdSRefIdeal.nD Cert.SsdSRefIdeal.τ).loc Cert.SsdSRefIdeal.main_arg0) = m' ((c.tc : Thread Cert.SsdSRefIdeal.nD Cert.SsdSRefIdeal.τ).loc Cert.SsdSRefIdeal.main_arg0)
          ∧ r.2.mem ((c.tc : Thread Cert.SsdSRefIdeal.nD Cert.SsdSRefIdeal.τ).loc Cert.SsdSRefIdeal.main_arg1) = m' ((c.tc : Thread Cert.SsdSRefIdeal.nD Cert.SsdSRefIdeal.τ).loc Cert.SsdSRefIdeal.main_arg1)
          ∧ r.2.mem ((c.tc : Thread Cert.SsdSRefIdeal.nD Cert.SsdSRefIdeal.τ).loc Cert.SsdSRefIdeal.main_arg2) = m' ((c.tc : Thread Cert.SsdSRefIdeal.nD Cert.SsdSRefIdeal.τ).loc Cert.SsdSRefIdeal.main_arg2)
          ∧ r.2.mem ((c.tc : Thread Cert.SsdSRefIdeal.nD Cert.SsdSRefIdeal.τ).loc Cert.SsdSRefIdeal.main_arg3) = m' ((c.tc : Thread Cert.SsdSRefIdeal.nD Cert.SsdSRefIdeal.τ).loc Cert.SsdSRefIdeal.main_arg3)
          ∧ r.2.mem ((c.tc : Thread Cert.SsdSRefIdeal.nD Cert.SsdSRefIdeal.τ).loc Cert.SsdSRefIdeal.main_arg4) = m' ((c.tc : Thread Cert.SsdSRefIdeal.nD Cert.SsdSRefIdeal.τ).loc Cert.SsdSRefIdeal.main_arg4)
          ∧ r.2.mem ((c.tc : Thread Cert.SsdSRefIdeal.nD Cert.SsdSRefIdeal.τ).loc Cert.SsdSRefIdeal.main_arg5) = m' ((c.tc : Thread Cert.SsdSRefIdeal.nD Cert.SsdSRefIdeal.τ).loc Cert.SsdSRefIdeal.main_arg5)
          ∧ r.2.mem ((c.tc : Thread Cert.SsdSRefIdeal.nD Cert.SsdSRefIdeal.τ).loc Cert.SsdSRefIdeal.main_arg6) = m' ((c.tc : Thread Cert.SsdSRefIdeal.nD Cert.SsdSRefIdeal.τ).loc Cert.SsdSRefIdeal.main_arg6)
          ∧ r.2.mem ((c.tc : Thread Cert.SsdSRefIdeal.nD Cert.SsdSRefIdeal.τ).loc Cert.SsdSRefIdeal.main_arg7) = m' ((c.tc : Thread Cert.SsdSRefIdeal.nD Cert.SsdSRefIdeal.τ).loc Cert.SsdSRefIdeal.main_arg7)
          ∧ r.2.mem ((c.tc : Thread Cert.SsdSRefIdeal.nD Cert.SsdSRefIdeal.τ).loc Cert.SsdSRefIdeal.main_arg8) = m' ((c.tc : Thread Cert.SsdSRefIdeal.nD Cert.SsdSRefIdeal.τ).loc Cert.SsdSRefIdeal.main_arg8)
          ∧ r.2.mem ((c.tc : Thread Cert.SsdSRefIdeal.nD Cert.SsdSRefIdeal.τ).loc Cert.SsdSRefIdeal.main_arg9) = m' ((c.tc : Thread Cert.SsdSRefIdeal.nD Cert.SsdSRefIdeal.τ).loc Cert.SsdSRefIdeal.main_arg9))

def Claim : Prop :=
  ∃ (hAttS : Cert.AttS.Facts) (hAttSIdeal : Cert.AttSIdeal.Facts) (hAttSRefIdeal : Cert.AttSRefIdeal.Facts) (hOutP : Cert.OutP.Facts) (hOutPIdeal : Cert.OutPIdeal.Facts) (hOutPRefIdeal : Cert.OutPRefIdeal.Facts) (hInP : Cert.InP.Facts) (hInPIdeal : Cert.InPIdeal.Facts) (hInPRefIdeal : Cert.InPRefIdeal.Facts) (hOutS : Cert.OutS.Facts) (hOutSIdeal : Cert.OutSIdeal.Facts) (hOutSRefIdeal : Cert.OutSRefIdeal.Facts) (hSsdS : Cert.SsdS.Facts) (hSsdSIdeal : Cert.SsdSIdeal.Facts) (hSsdSRefIdeal : Cert.SsdSRefIdeal.Facts) (hPre_att_finite : Cert.Pre_att_finite.Facts) (hPre_in_finite : Cert.Pre_in_finite.Facts) (hPre_ssd_finite : Cert.Pre_ssd_finite.Facts) (hOn_real_rows : Cert.On_real_rows.Facts),
    quiescent_AttS (hAttS := hAttS)
    ∧ quiescent_AttSIdeal (hAttSIdeal := hAttSIdeal)
    ∧ quiescent_AttSIdeal_pre_att_finite (hAttSIdeal := hAttSIdeal) (hPre_att_finite := hPre_att_finite)
    ∧ quiescent_AttSRefIdeal (hAttSRefIdeal := hAttSRefIdeal)
    ∧ quiescent_AttSRefIdeal_pre_att_finite (hAttSRefIdeal := hAttSRefIdeal) (hPre_att_finite := hPre_att_finite)
    ∧ quiescent_OutP (hOutP := hOutP)
    ∧ quiescent_OutPIdeal (hOutPIdeal := hOutPIdeal)
    ∧ quiescent_OutPRefIdeal (hOutPRefIdeal := hOutPRefIdeal)
    ∧ quiescent_InP (hInP := hInP)
    ∧ quiescent_InPIdeal (hInPIdeal := hInPIdeal)
    ∧ quiescent_InPIdeal_pre_in_finite (hInPIdeal := hInPIdeal) (hPre_in_finite := hPre_in_finite)
    ∧ quiescent_InPRefIdeal (hInPRefIdeal := hInPRefIdeal)
    ∧ quiescent_InPRefIdeal_pre_in_finite (hInPRefIdeal := hInPRefIdeal) (hPre_in_finite := hPre_in_finite)
    ∧ quiescent_OutS (hOutS := hOutS)
    ∧ quiescent_OutSIdeal (hOutSIdeal := hOutSIdeal)
    ∧ quiescent_OutSRefIdeal (hOutSRefIdeal := hOutSRefIdeal)
    ∧ quiescent_SsdS (hSsdS := hSsdS)
    ∧ quiescent_SsdSIdeal (hSsdSIdeal := hSsdSIdeal)
    ∧ quiescent_SsdSIdeal_pre_ssd_finite (hSsdSIdeal := hSsdSIdeal) (hPre_ssd_finite := hPre_ssd_finite)
    ∧ quiescent_SsdSRefIdeal (hSsdSRefIdeal := hSsdSRefIdeal)
    ∧ quiescent_SsdSRefIdeal_pre_ssd_finite (hSsdSRefIdeal := hSsdSRefIdeal) (hPre_ssd_finite := hPre_ssd_finite)
    ∧ preserves_AttS_AttSIdeal
    ∧ algebraic_AttSIdeal_AttSRefIdeal_on_real_rows_pre_att_finite (hAttSIdeal := hAttSIdeal) (hAttSRefIdeal := hAttSRefIdeal) (hPre_att_finite := hPre_att_finite) (hOn_real_rows := hOn_real_rows)
    ∧ preserves_OutP_OutPIdeal
    ∧ algebraic_OutPIdeal_OutPRefIdeal (hOutPIdeal := hOutPIdeal) (hOutPRefIdeal := hOutPRefIdeal)
    ∧ preserves_InP_InPIdeal
    ∧ algebraic_InPIdeal_InPRefIdeal_pre_in_finite (hInPIdeal := hInPIdeal) (hInPRefIdeal := hInPRefIdeal) (hPre_in_finite := hPre_in_finite)
    ∧ preserves_OutS_OutSIdeal
    ∧ algebraic_OutSIdeal_OutSRefIdeal (hOutSIdeal := hOutSIdeal) (hOutSRefIdeal := hOutSRefIdeal)
    ∧ preserves_SsdS_SsdSIdeal
    ∧ algebraic_SsdSIdeal_SsdSRefIdeal_pre_ssd_finite (hSsdSIdeal := hSsdSIdeal) (hSsdSRefIdeal := hSsdSRefIdeal) (hPre_ssd_finite := hPre_ssd_finite)
-- ==== On_real_rows.lean ====
abbrev S128x1024 : Shape := ⟨2, ![128, 1024]⟩
abbrev S8x256x16 : Shape := ⟨3, ![8, 256, 16]⟩
abbrev S1x8x2048x4x64 : Shape := ⟨5, ![1, 8, 2048, 4, 64]⟩
abbrev S_ : Shape := ⟨0, ![]⟩
abbrev S8x256x2048 : Shape := ⟨3, ![8, 256, 2048]⟩

class Facts : Prop where
  bcast_S_S8x256x2048 : S_.BroadcastsInDim S8x256x2048 (![] : Fin 0 → Fin S8x256x2048.rank)
  bcast_S_S128x1024 : S_.BroadcastsInDim S128x1024 (![] : Fin 0 → Fin S128x1024.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S128x1024 32) (arg1 : IVec S_ 32) : IVec S128x1024 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S128x1024 32 := broadcastInDim S128x1024 ![] bcast_S_S128x1024 v2
  let v4 : IVec S128x1024 32 := Host.remsi arg0 v3
  let c_1 : IVec S_ 32 := constantI S_ 32 0#32
  let v5 : IVec S128x1024 32 := broadcastInDim S128x1024 ![] bcast_S_S128x1024 c_1
  let v6 : IVec S128x1024 1 := cmpi .ne v4 v5
  let c_2 : IVec S_ 32 := constantI S_ 32 0#32
  let v7 : IVec S128x1024 32 := broadcastInDim S128x1024 ![] bcast_S_S128x1024 c_2
  let v8 : IVec S128x1024 1 := cmpi .slt v4 v7
  let c_3 : IVec S_ 32 := constantI S_ 32 0#32
  let v9 : IVec S_ 1 := cmpi .slt v2 c_3
  let v10 : IVec S128x1024 1 := broadcastInDim S128x1024 ![] bcast_S_S128x1024 v9
  let v11 : IVec S128x1024 1 := cmpi .ne v8 v10
  let v12 : IVec S128x1024 1 := andi v11 v6
  let v13 : IVec S128x1024 32 := broadcastInDim S128x1024 ![] bcast_S_S128x1024 v2
  let v14 : IVec S128x1024 32 := addi v4 v13
  let v15 : IVec S128x1024 32 := select v12 v14 v4
  v15

def fn {F : FTy → Type} [FloatOps F] (main_arg0 : FVec F S128x1024 .bf16) (main_arg1 : FVec F S8x256x16 .f32) (main_arg2 : FVec F S8x256x16 .f32) (main_arg3 : FVec F S128x1024 .f32) (main_arg4 : FVec F S1x8x2048x4x64 .f32) (main_arg5 : FVec F S1x8x2048x4x64 .f32) : IVec S128x1024 1 × IVec S8x256x2048 1 × IVec S8x256x2048 1 :=
  let main_v0 : IVec S128x1024 32 := iotaInDim S128x1024 32 0
  let main_c : IVec S_ 1 := constantI S_ 1 1#1
  let main_v1 : IVec S8x256x2048 1 := broadcastInDim S8x256x2048 ![] bcast_S_S8x256x2048 main_c
  let main_c_0 : IVec S_ 32 := constantI S_ 32 16#32
  let main_v2 : IVec S128x1024 32 := fn_remainder (F := F) main_v0 main_c_0
  let main_c_1 : IVec S_ 32 := constantI S_ 32 4#32
  let main_v3 : IVec S128x1024 32 := broadcastInDim S128x1024 ![] bcast_S_S128x1024 main_c_1
  let main_v4 : IVec S128x1024 1 := cmpi .slt main_v2 main_v3
  (main_v4, main_v1, main_v1)
-- ==== Pre_att_finite.lean ====
abbrev S128x1024 : Shape := ⟨2, ![128, 1024]⟩
abbrev S8x256x16 : Shape := ⟨3, ![8, 256, 16]⟩
abbrev S1x8x2048x4x64 : Shape := ⟨5, ![1, 8, 2048, 4, 64]⟩
abbrev S_ : Shape := ⟨0, ![]⟩

class Facts : Prop where
  bitsLt_bf16_f32 : FTy.bits .bf16 < FTy.bits .f32
  bcast_S_S128x1024 : S_.BroadcastsInDim S128x1024 (![] : Fin 0 → Fin S128x1024.rank)
  reducesTo_S128x1024_S_d0_1 : S128x1024.ReducesTo [0, 1] S_
  h_S_ : 0 < S_.numel
  bcast_S_S8x256x16 : S_.BroadcastsInDim S8x256x16 (![] : Fin 0 → Fin S8x256x16.rank)
  reducesTo_S8x256x16_S_d0_1_2 : S8x256x16.ReducesTo [0, 1, 2] S_
  bcast_S_S1x8x2048x4x64 : S_.BroadcastsInDim S1x8x2048x4x64 (![] : Fin 0 → Fin S1x8x2048x4x64.rank)
  reducesTo_S1x8x2048x4x64_S_d0_1_2_3_4 : S1x8x2048x4x64.ReducesTo [0, 1, 2, 3, 4] S_

variable [Facts]

def fn {F : FTy → Type} [FloatOps F] (main_arg0 : FVec F S128x1024 .bf16) (main_arg1 : FVec F S8x256x16 .f32) (main_arg2 : FVec F S8x256x16 .f32) (main_arg3 : FVec F S128x1024 .f32) (main_arg4 : FVec F S1x8x2048x4x64 .f32) (main_arg5 : FVec F S1x8x2048x4x64 .f32) : IVec S_ 1 :=
  let main_v0 : FVec F S128x1024 .f32 := (extf .f32 · bitsLt_bf16_f32) main_arg0
  let main_v1 : FVec F S128x1024 .f32 := Host.absf main_v0
  let main_cst : FVec F S_ .f32 := constant S_ .f32 0x7F800000#32
  let main_v2 : FVec F S128x1024 .f32 := broadcastInDim S128x1024 ![] bcast_S_S128x1024 main_cst
  let main_v3 : IVec S128x1024 1 := cmpf .olt main_v1 main_v2
  let main_c : IVec S_ 1 := constantI S_ 1 1#1
  let main_v4 : IVec S_ 1 := (fun x v => Host.reduce IntOp.andi x v reducesTo_S128x1024_S_d0_1 h_S_) main_v3 main_c
  let main_v5 : FVec F S8x256x16 .f32 := Host.absf main_arg1
  let main_cst_0 : FVec F S_ .f32 := constant S_ .f32 0x7F800000#32
  let main_v6 : FVec F S8x256x16 .f32 := broadcastInDim S8x256x16 ![] bcast_S_S8x256x16 main_cst_0
  let main_v7 : IVec S8x256x16 1 := cmpf .olt main_v5 main_v6
  let main_c_1 : IVec S_ 1 := constantI S_ 1 1#1
  let main_v8 : IVec S_ 1 := (fun x v => Host.reduce IntOp.andi x v reducesTo_S8x256x16_S_d0_1_2 h_S_) main_v7 main_c_1
  let main_v9 : IVec S_ 1 := andi main_v4 main_v8
  let main_v10 : FVec F S1x8x2048x4x64 .f32 := Host.absf main_arg4
  let main_cst_2 : FVec F S_ .f32 := constant S_ .f32 0x7F800000#32
  let main_v11 : FVec F S1x8x2048x4x64 .f32 := broadcastInDim S1x8x2048x4x64 ![] bcast_S_S1x8x2048x4x64 main_cst_2
  let main_v12 : IVec S1x8x2048x4x64 1 := cmpf .olt main_v10 main_v11
  let main_c_3 : IVec S_ 1 := constantI S_ 1 1#1
  let main_v13 : IVec S_ 1 := (fun x v => Host.reduce IntOp.andi x v reducesTo_S1x8x2048x4x64_S_d0_1_2_3_4 h_S_) main_v12 main_c_3
  let main_v14 : IVec S_ 1 := andi main_v9 main_v13
  main_v14
-- ==== Pre_in_finite.lean ====
abbrev S4x2048x2048 : Shape := ⟨3, ![4, 2048, 2048]⟩
abbrev S1x2048 : Shape := ⟨2, ![1, 2048]⟩
abbrev S5136x2048 : Shape := ⟨2, ![5136, 2048]⟩
abbrev S1x64 : Shape := ⟨2, ![1, 64]⟩
abbrev S2048x8 : Shape := ⟨2, ![2048, 8]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bitsLt_bf16_f32 : FTy.bits .bf16 < FTy.bits .f32
  bcast_S_S5136x2048 : S_.BroadcastsInDim S5136x2048 (![] : Fin 0 → Fin S5136x2048.rank)
  reducesTo_S5136x2048_S_d0_1 : S5136x2048.ReducesTo [0, 1] S_

variable [Facts]

def fn {F : FTy → Type} [FloatOps F] (main_arg0 : FVec F S4x2048x2048 .f32) (main_arg1 : FVec F S1x2048 .f32) (main_arg2 : FVec F S5136x2048 .bf16) (main_arg3 : FVec F S1x64 .f32) (main_arg4 : FVec F S1x64 .f32) (main_arg5 : FVec F S2048x8 .f32) (main_arg6 : FVec F S2048x8 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S5136x2048 .f32 := (extf .f32 · bitsLt_bf16_f32) main_arg2
  let main_v10 : FVec F S5136x2048 .f32 := Host.absf main_v9
  let main_cst_2 : FVec F S_ .f32 := constant S_ .f32 0x7F800000#32
  let main_v11 : FVec F S5136x2048 .f32 := broadcastInDim S5136x2048 ![] bcast_S_S5136x2048 main_cst_2
  let main_v12 : IVec S5136x2048 1 := cmpf .olt main_v10 main_v11
  let main_c_3 : IVec S_ 1 := constantI S_ 1 1#1
  let main_v13 : IVec S_ 1 := (fun x v => Host.reduce IntOp.andi x v reducesTo_S5136x2048_S_d0_1 h_S_) main_v12 main_c_3
  let main_v14 : IVec S_ 1 := andi main_v8 main_v13
  main_v14
-- ==== Pre_ssd_finite.lean ====
abbrev S128x1536 : Shape := ⟨2, ![128, 1536]⟩
abbrev S128x128 : Shape := ⟨2, ![128, 128]⟩
abbrev S128x1024 : Shape := ⟨2, ![128, 1024]⟩
abbrev S8x8x1536 : Shape := ⟨3, ![8, 8, 1536]⟩
abbrev S8x1024x128 : Shape := ⟨3, ![8, 1024, 128]⟩
abbrev S8x1536 : Shape := ⟨2, ![8, 1536]⟩
abbrev S1x1536 : Shape := ⟨2, ![1, 1536]⟩
abbrev S1x128 : Shape := ⟨2, ![1, 128]⟩
abbrev S1x1024 : Shape := ⟨2, ![1, 1024]⟩
abbrev S_ : Shape := ⟨0, ![]⟩

class Facts : Prop where
  bcast_S_S128x1536 : S_.BroadcastsInDim S128x1536 (![] : Fin 0 → Fin S128x1536.rank)
  reducesTo_S128x1536_S_d0_1 : S128x1536.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S8x8x1536 : S_.BroadcastsInDim S8x8x1536 (![] : Fin 0 → Fin S8x8x1536.rank)
  reducesTo_S8x8x1536_S_d0_1_2 : S8x8x1536.ReducesTo [0, 1, 2] S_
  bcast_S_S8x1536 : S_.BroadcastsInDim S8x1536 (![] : Fin 0 → Fin S8x1536.rank)
  reducesTo_S8x1536_S_d0_1 : S8x1536.ReducesTo [0, 1] S_
  bcast_S_S1x1536 : S_.BroadcastsInDim S1x1536 (![] : Fin 0 → Fin S1x1536.rank)
  reducesTo_S1x1536_S_d0_1 : S1x1536.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg6 : FVec F S1x1536 .f32) (main_arg7 : FVec F S1x128 .f32) (main_arg8 : FVec F S1x128 .f32) (main_v13 : IVec S_ 1) (main_v16 : IVec S8x1536 1) : IVec S_ 1 :=
  let main_c_5 : IVec S_ 1 := constantI S_ 1 1#1
  let main_v17 : IVec S_ 1 := (fun x v => Host.reduce IntOp.andi x v reducesTo_S8x1536_S_d0_1 h_S_) main_v16 main_c_5
  let main_v18 : IVec S_ 1 := andi main_v13 main_v17
  let main_v19 : FVec F S1x1536 .f32 := Host.absf main_arg6
  let main_cst_6 : FVec F S_ .f32 := constant S_ .f32 0x7F800000#32
  let main_v20 : FVec F S1x1536 .f32 := broadcastInDim S1x1536 ![] bcast_S_S1x1536 main_cst_6
  let main_v21 : IVec S1x1536 1 := cmpf .olt main_v19 main_v20
  let main_c_7 : IVec S_ 1 := constantI S_ 1 1#1
  let main_v22 : IVec S_ 1 := (fun x v => Host.reduce IntOp.andi x v reducesTo_S1x1536_S_d0_1 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1x128 .f32 := Host.absf main_arg8
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S128x1536 .f32) (main_arg1 : FVec F S128x128 .f32) (main_arg2 : FVec F S128x1024 .f32) (main_arg3 : FVec F S8x8x1536 .f32) (main_arg4 : FVec F S8x1024x128 .f32) (main_arg5 : FVec F S8x1536 .f32) (main_arg6 : FVec F S1x1536 .f32) (main_arg7 : FVec F S1x128 .f32) (main_arg8 : FVec F S1x128 .f32) (main_arg9 : FVec F S1x1024 .f32) : IVec S_ 1 :=
  let main_v0 : FVec F S128x1536 .f32 := Host.absf main_arg0
  let main_cst : FVec F S_ .f32 := constant S_ .f32 0x7F800000#32
  let main_v1 : FVec F S128x1536 .f32 := broadcastInDim S128x1536 ![] bcast_S_S128x1536 main_cst
  let main_v2 : IVec S128x1536 1 := cmpf .olt main_v0 main_v1
  let main_c : IVec S_ 1 := constantI S_ 1 1#1
  let main_v3 : IVec S_ 1 := (fun x v => Host.reduce IntOp.andi x v reducesTo_S128x1536_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S8x8x1536 .f32 := Host.absf main_arg3
  let main_cst_2 : FVec F S_ .f32 := constant S_ .f32 0x7F800000#32
  let main_v10 : FVec F S8x8x1536 .f32 := broadcastInDim S8x8x1536 ![] bcast_S_S8x8x1536 main_cst_2
  let main_v11 : IVec S8x8x1536 1 := cmpf .olt main_v9 main_v10
  let main_c_3 : IVec S_ 1 := constantI S_ 1 1#1
  let main_v12 : IVec S_ 1 := (fun x v => Host.reduce IntOp.andi x v reducesTo_S8x8x1536_S_d0_1_2 h_S_) main_v11 main_c_3
  let main_v13 : IVec S_ 1 := andi main_v8 main_v12
  let main_v14 : FVec F S8x1536 .f32 := Host.absf main_arg5
  let main_cst_4 : FVec F S_ .f32 := constant S_ .f32 0x7F800000#32
  let main_v15 : FVec F S8x1536 .f32 := broadcastInDim S8x1536 ![] bcast_S_S8x1536 main_cst_4
  let main_v16 : IVec S8x1536 1 := cmpf .olt main_v14 main_v15
  fn_part1 (F := F) main_arg6 main_arg7 main_arg8 main_v13 main_v16
-- ==== AttS.lean ====
abbrev S128x1024 : Shape := ⟨2, ![128, 1024]⟩
abbrev S8x256x16 : Shape := ⟨3, ![8, 256, 16]⟩
abbrev S1x8x2048x4x64 : Shape := ⟨5, ![1, 8, 2048, 4, 64]⟩
abbrev S8x2048x4x64 : Shape := ⟨4, ![8, 2048, 4, 64]⟩
abbrev S8x4x64x2048 : Shape := ⟨4, ![8, 4, 64, 2048]⟩
abbrev S8x256x2048 : Shape := ⟨3, ![8, 256, 2048]⟩
abbrev S16x1024 : Shape := ⟨2, ![16, 1024]⟩
abbrev S1x256x16 : Shape := ⟨3, ![1, 256, 16]⟩
abbrev S1x256x2048 : Shape := ⟨3, ![1, 256, 2048]⟩
abbrev S64x2048 : Shape := ⟨2, ![64, 2048]⟩
abbrev S64x16 : Shape := ⟨2, ![64, 16]⟩
abbrev S16x64 : Shape := ⟨2, ![16, 64]⟩
abbrev S64x64 : Shape := ⟨2, ![64, 64]⟩
abbrev S1x64x2048 : Shape := ⟨3, ![1, 64, 2048]⟩
abbrev S1x64x16 : Shape := ⟨3, ![1, 64, 16]⟩
abbrev S64 : Shape := ⟨1, ![64]⟩
abbrev S64x1 : Shape := ⟨2, ![64, 1]⟩
abbrev S16x256 : Shape := ⟨2, ![16, 256]⟩
abbrev S1x256x2044 : Shape := ⟨3, ![1, 256, 2044]⟩
abbrev S256x2044 : Shape := ⟨2, ![256, 2044]⟩
abbrev S1x256x4 : Shape := ⟨3, ![1, 256, 4]⟩
abbrev S256x4 : Shape := ⟨2, ![256, 4]⟩

abbrev nBuf : Space → Nat
  | .hbm => 15
  | .vmem => 18
  | .smem => 0
  | _ => 0

abbrev bufTy : (tb : Table) → Fin (tcTables nBuf tb) → BufTy
  | .hbm, ⟨0, _⟩ => ⟨S128x1024, .bf16⟩
  | .hbm, ⟨1, _⟩ => ⟨S8x256x16, .f32⟩
  | .hbm, ⟨2, _⟩ => ⟨S8x256x16, .f32⟩
  | .hbm, ⟨3, _⟩ => ⟨S128x1024, .f32⟩
  | .hbm, ⟨4, _⟩ => ⟨S1x8x2048x4x64, .f32⟩
  | .hbm, ⟨5, _⟩ => ⟨S1x8x2048x4x64, .f32⟩
  | .hbm, ⟨6, _⟩ => ⟨S8x2048x4x64, .f32⟩
  | .hbm, ⟨7, _⟩ => ⟨S8x4x64x2048, .f32⟩
  | .hbm, ⟨8, _⟩ => ⟨S8x256x2048, .f32⟩
  | .hbm, ⟨9, _⟩ => ⟨S8x2048x4x64, .f32⟩
  | .hbm, ⟨10, _⟩ => ⟨S8x4x64x2048, .f32⟩
  | .hbm, ⟨11, _⟩ => ⟨S8x256x2048, .f32⟩
  | .hbm, ⟨12, _⟩ => ⟨S128x1024, .bf16⟩
  | .hbm, ⟨13, _⟩ => ⟨S8x256x2048, .f32⟩
  | .hbm, ⟨14, _⟩ => ⟨S8x256x2048, .f32⟩
  | .local _ .vmem, ⟨0, _⟩ => ⟨S16x1024, .bf16⟩
  | .local _ .vmem, ⟨1, _⟩ => ⟨S16x1024, .bf16⟩
  | .local _ .vmem, ⟨2, _⟩ => ⟨S1x256x16, .f32⟩
  | .local _ .vmem, ⟨3, _⟩ => ⟨S1x256x16, .f32⟩
  | .local _ .vmem, ⟨4, _⟩ => ⟨S1x256x16, .f32⟩
  | .local _ .vmem, ⟨5, _⟩ => ⟨S1x256x16, .f32⟩
  | .local _ .vmem, ⟨6, _⟩ => ⟨S16x1024, .f32⟩
  | .local _ .vmem, ⟨7, _⟩ => ⟨S16x1024, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S16x1024, .bf16⟩
  | .local _ .vmem, ⟨13, _⟩ => ⟨S16x1024, .bf16⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttSRefIdeal.lean ====
abbrev S128x1024 : Shape := ⟨2, ![128, 1024]⟩
abbrev S8x256x16 : Shape := ⟨3, ![8, 256, 16]⟩
abbrev S1x8x2048x4x64 : Shape := ⟨5, ![1, 8, 2048, 4, 64]⟩
abbrev S8x2048x4x64 : Shape := ⟨4, ![8, 2048, 4, 64]⟩
abbrev S8x16x256 : Shape := ⟨3, ![8, 16, 256]⟩
abbrev S8x16x4x64 : Shape := ⟨4, ![8, 16, 4, 64]⟩
abbrev S8x4x4x64 : Shape := ⟨4, ![8, 4, 4, 64]⟩
abbrev S8x2052x4x64 : Shape := ⟨4, ![8, 2052, 4, 64]⟩
abbrev S4 : Shape := ⟨1, ![4]⟩
abbrev S_ : Shape := ⟨0, ![]⟩
abbrev S8x16x1024 : Shape := ⟨3, ![8, 16, 1024]⟩
abbrev S8x4x1024 : Shape := ⟨3, ![8, 4, 1024]⟩
abbrev S8x4x4x4x64 : Shape := ⟨5, ![8, 4, 4, 4, 64]⟩
abbrev S129 : Shape := ⟨1, ![129]⟩
abbrev S4x1 : Shape := ⟨2, ![4, 1]⟩
abbrev S1x129 : Shape := ⟨2, ![1, 129]⟩
abbrev S4x129 : Shape := ⟨2, ![4, 129]⟩
abbrev S4x129x1 : Shape := ⟨3, ![4, 129, 1]⟩
abbrev S1 : Shape := ⟨1, ![1]⟩
abbrev S1x1x1 : Shape := ⟨3, ![1, 1, 1]⟩
abbrev S8x4x129x4x64 : Shape := ⟨5, ![8, 4, 129, 4, 64]⟩
abbrev S8x4x4x4x129 : Shape := ⟨5, ![8, 4, 4, 4, 129]⟩
abbrev S1x4x1x1x129 : Shape := ⟨5, ![1, 4, 1, 1, 129]⟩
abbrev S8x4x4x4 : Shape := ⟨4, ![8, 4, 4, 4]⟩
abbrev S8x4x4x4x1 : Shape := ⟨5, ![8, 4, 4, 4, 1]⟩
abbrev S1x8x4x4x4 : Shape := ⟨5, ![1, 8, 4, 4, 4]⟩
abbrev S3x8x4x4x4 : Shape := ⟨5, ![3, 8, 4, 4, 4]⟩
abbrev S8x2048x256 : Shape := ⟨3, ![8, 2048, 256]⟩
abbrev S8x256x2048 : Shape := ⟨3, ![8, 256, 2048]⟩

abbrev nBuf : Space → Nat
  | .hbm => 322
  | .vmem => 0
  | .smem => 0
  | _ => 0

abbrev hbmTy0_0 (i : Nat) : BufTy := match i % 128 with
  | 0 => ⟨S128x1024, .bf16⟩
  | 1 => ⟨S8x256x16, .f32⟩
  | 2 => ⟨S8x256x16, .f32⟩
  | 3 => ⟨S128x1024, .f32⟩
  | 4 => ⟨S1x8x2048x4x64, .f32⟩
  | 5 => ⟨S1x8x2048x4x64, .f32⟩
  | 6 => ⟨S8x2048x4x64, .f32⟩
  | 7 => ⟨S8x16x256, .f32⟩
  | 8 => ⟨S8x16x4x64, .f32⟩
  | 9 => ⟨S8x4x4x64, .f32⟩
  | 10 => ⟨S8x2052x4x64, .f32⟩
  | 11 => ⟨S8x2048x4x64, .f32⟩
  | 12 => ⟨S8x16x256, .f32⟩
  | 13 => ⟨S8x16x4x64, .f32⟩
  | 14 => ⟨S8x4x4x64, .f32⟩
  | 15 => ⟨S8x2052x4x64, .f32⟩
  | 16 => ⟨S4, .i32⟩
  | 17 => ⟨S_, .i32⟩
  | 18 => ⟨S4, .i32⟩
  | 19 => ⟨S4, .i32⟩
  | 20 => ⟨S128x1024, .f32⟩
  | 21 => ⟨S8x16x1024, .f32⟩
  | 22 => ⟨S8x4x1024, .f32⟩
  | 23 => ⟨S8x4x4x4x64, .f32⟩
  | 24 => ⟨S129, .i32⟩
  | 25 => ⟨S_, .i32⟩
  | 26 => ⟨S129, .i32⟩
  | 27 => ⟨S129, .i32⟩
  | 28 => ⟨S4x1, .i32⟩
  | 29 => ⟨S1x129, .i32⟩
  | 30 => ⟨S4x129, .i32⟩
  | 31 => ⟨S4x129, .i32⟩
  | 32 => ⟨S4x129, .i32⟩
  | 33 => ⟨S_, .i32⟩
  | 34 => ⟨S4x129, .i32⟩
  | 35 => ⟨S4x129, .i1⟩
  | 36 => ⟨S_, .i32⟩
  | 37 => ⟨S4x129, .i32⟩
  | 38 => ⟨S4x129, .i32⟩
  | 39 => ⟨S_, .i32⟩
  | 40 => ⟨S4x129, .i32⟩
  | 41 => ⟨S4x129, .i1⟩
  | 42 => ⟨S_, .i32⟩
  | 43 => ⟨S4x129, .i32⟩
  | 44 => ⟨S4x129, .i32⟩
  | 45 => ⟨S4x129, .i32⟩
  | 46 => ⟨S4x129x1, .i32⟩
  | 47 => ⟨S1, .i32⟩
  | 48 => ⟨S_, .i32⟩
  | 49 => ⟨S4x129x1, .i32⟩
  | 50 => ⟨S4x129x1, .i1⟩
  | 51 => ⟨S1x1x1, .i32⟩
  | 52 => ⟨S4x129x1, .i32⟩
  | 53 => ⟨S4x129x1, .i1⟩
  | 54 => ⟨S4x129x1, .i1⟩
  | 55 => ⟨S_, .i1⟩
  | 56 => ⟨S4x129, .i1⟩
  | 57 => ⟨S8x4x129x4x64, .f32⟩
  | 58 => ⟨S8x4x129x4x64, .i1⟩
  | 59 => ⟨S_, .f32⟩
  | 60 => ⟨S8x4x129x4x64, .f32⟩
  | 61 => ⟨S8x4x129x4x64, .f32⟩
  | 62 => ⟨S_, .i32⟩
  | 63 => ⟨S4x129, .i32⟩
  | 64 => ⟨S4x129, .i1⟩
  | 65 => ⟨S_, .i32⟩
  | 66 => ⟨S4x129, .i32⟩
  | 67 => ⟨S4x129, .i32⟩
  | 68 => ⟨S4x129, .i32⟩
  | 69 => ⟨S4x129x1, .i32⟩
  | 70 => ⟨S1, .i32⟩
  | 71 => ⟨S_, .i32⟩
  | 72 => ⟨S4x129x1, .i32⟩
  | 73 => ⟨S4x129x1, .i1⟩
  | 74 => ⟨S1x1x1, .i32⟩
  | 75 => ⟨S4x129x1, .i32⟩
  | 76 => ⟨S4x129x1, .i1⟩
  | 77 => ⟨S4x129x1, .i1⟩
  | 78 => ⟨S_, .i1⟩
  | 79 => ⟨S4x129, .i1⟩
  | 80 => ⟨S8x4x129x4x64, .f32⟩
  | 81 => ⟨S8x4x129x4x64, .i1⟩
  | 82 => ⟨S_, .f32⟩
  | 83 => ⟨S8x4x129x4x64, .f32⟩
  | 84 => ⟨S8x4x129x4x64, .f32⟩
  | 85 => ⟨S8x4x4x4x129, .f32⟩
  | 86 => ⟨S_, .f32⟩
  | 87 => ⟨S_, .f32⟩
  | 88 => ⟨S_, .f32⟩
  | 89 => ⟨S8x4x4x4x129, .f32⟩
  | 90 => ⟨S8x4x4x4x129, .f32⟩
  | 91 => ⟨S1x4x1x1x129, .i1⟩
  | 92 => ⟨S_, .f32⟩
  | 93 => ⟨S_, .f32⟩
  | 94 => ⟨S8x4x4x4x129, .i1⟩
  | 95 => ⟨S8x4x4x4x129, .f32⟩
  | 96 => ⟨S8x4x4x4x129, .f32⟩
  | 97 => ⟨S_, .f32⟩
  | 98 => ⟨S8x4x4x4, .f32⟩
  | 99 => ⟨S8x4x4x4x1, .f32⟩
  | 100 => ⟨S8x4x4x4x129, .f32⟩
  | 101 => ⟨S8x4x4x4x129, .f32⟩
  | 102 => ⟨S8x4x4x4x129, .f32⟩
  | 103 => ⟨S_, .f32⟩
  | 104 => ⟨S8x4x4x4, .f32⟩
  | 105 => ⟨S8x4x4x4x64, .f32⟩
  | 106 => ⟨S129, .i32⟩
  | 107 => ⟨S_, .i32⟩
  | 108 => ⟨S129, .i32⟩
  | 109 => ⟨S129, .i32⟩
  | 110 => ⟨S4x1, .i32⟩
  | 111 => ⟨S1x129, .i32⟩
  | 112 => ⟨S4x129, .i32⟩
  | 113 => ⟨S4x129, .i32⟩
  | 114 => ⟨S4x129, .i32⟩
  | 115 => ⟨S_, .i32⟩
  | 116 => ⟨S4x129, .i32⟩
  | 117 => ⟨S4x129, .i1⟩
  | 118 => ⟨S_, .i32⟩
  | 119 => ⟨S4x129, .i32⟩
  | 120 => ⟨S4x129, .i32⟩
  | 121 => ⟨S_, .i32⟩
  | 122 => ⟨S4x129, .i32⟩
  | 123 => ⟨S4x129, .i1⟩
  | 124 => ⟨S_, .i32⟩
  | 125 => ⟨S4x129, .i32⟩
  | 126 => ⟨S4x129, .i32⟩
  | 127 => ⟨S4x129, .i32⟩
  | _ => ⟨S128x1024, .bf16⟩

abbrev hbmTy0_1 (i : Nat) : BufTy := match i % 128 with
  | 0 => ⟨S4x129x1, .i32⟩
  | 1 => ⟨S1, .i32⟩
  | 2 => ⟨S_, .i32⟩
  | 3 => ⟨S4x129x1, .i32⟩
  | 4 => ⟨S4x129x1, .i1⟩
  | 5 => ⟨S1x1x1, .i32⟩
  | 6 => ⟨S4x129x1, .i32⟩
  | 7 => ⟨S4x129x1, .i1⟩
  | 8 => ⟨S4x129x1, .i1⟩
  | 9 => ⟨S_, .i1⟩
  | 10 => ⟨S4x129, .i1⟩
  | 11 => ⟨S8x4x129x4x64, .f32⟩
  | 12 => ⟨S8x4x129x4x64, .i1⟩
  | 13 => ⟨S_, .f32⟩
  | 14 => ⟨S8x4x129x4x64, .f32⟩
  | 15 => ⟨S8x4x129x4x64, .f32⟩
  | 16 => ⟨S_, .i32⟩
  | 17 => ⟨S4x129, .i32⟩
  | 18 => ⟨S4x129, .i1⟩
  | 19 => ⟨S_, .i32⟩
  | 20 => ⟨S4x129, .i32⟩
  | 21 => ⟨S4x129, .i32⟩
  | 22 => ⟨S4x129, .i32⟩
  | 23 => ⟨S4x129x1, .i32⟩
  | 24 => ⟨S1, .i32⟩
  | 25 => ⟨S_, .i32⟩
  | 26 => ⟨S4x129x1, .i32⟩
  | 27 => ⟨S4x129x1, .i1⟩
  | 28 => ⟨S1x1x1, .i32⟩
  | 29 => ⟨S4x129x1, .i32⟩
  | 30 => ⟨S4x129x1, .i1⟩
  | 31 => ⟨S4x129x1, .i1⟩
  | 32 => ⟨S_, .i1⟩
  | 33 => ⟨S4x129, .i1⟩
  | 34 => ⟨S8x4x129x4x64, .f32⟩
  | 35 => ⟨S8x4x129x4x64, .i1⟩
  | 36 => ⟨S_, .f32⟩
  | 37 => ⟨S8x4x129x4x64, .f32⟩
  | 38 => ⟨S8x4x129x4x64, .f32⟩
  | 39 => ⟨S8x4x4x4x129, .f32⟩
  | 40 => ⟨S_, .f32⟩
  | 41 => ⟨S_, .f32⟩
  | 42 => ⟨S_, .f32⟩
  | 43 => ⟨S8x4x4x4x129, .f32⟩
  | 44 => ⟨S8x4x4x4x129, .f32⟩
  | 45 => ⟨S1x4x1x1x129, .i1⟩
  | 46 => ⟨S_, .f32⟩
  | 47 => ⟨S_, .f32⟩
  | 48 => ⟨S8x4x4x4x129, .i1⟩
  | 49 => ⟨S8x4x4x4x129, .f32⟩
  | 50 => ⟨S8x4x4x4x129, .f32⟩
  | 51 => ⟨S_, .f32⟩
  | 52 => ⟨S8x4x4x4, .f32⟩
  | 53 => ⟨S8x4x4x4x1, .f32⟩
  | 54 => ⟨S8x4x4x4x129, .f32⟩
  | 55 => ⟨S8x4x4x4x129, .f32⟩
  | 56 => ⟨S8x4x4x4x129, .f32⟩
  | 57 => ⟨S_, .f32⟩
  | 58 => ⟨S8x4x4x4, .f32⟩
  | 59 => ⟨S8x4x4x4x64, .f32⟩
  | 60 => ⟨S129, .i32⟩
  | 61 => ⟨S_, .i32⟩
  | 62 => ⟨S129, .i32⟩
  | 63 => ⟨S129, .i32⟩
  | 64 => ⟨S4x1, .i32⟩
  | 65 => ⟨S1x129, .i32⟩
  | 66 => ⟨S4x129, .i32⟩
  | 67 => ⟨S4x129, .i32⟩
  | 68 => ⟨S4x129, .i32⟩
  | 69 => ⟨S_, .i32⟩
  | 70 => ⟨S4x129, .i32⟩
  | 71 => ⟨S4x129, .i1⟩
  | 72 => ⟨S_, .i32⟩
  | 73 => ⟨S4x129, .i32⟩
  | 74 => ⟨S4x129, .i32⟩
  | 75 => ⟨S_, .i32⟩
  | 76 => ⟨S4x129, .i32⟩
  | 77 => ⟨S4x129, .i1⟩
  | 78 => ⟨S_, .i32⟩
  | 79 => ⟨S4x129, .i32⟩
  | 80 => ⟨S4x129, .i32⟩
  | 81 => ⟨S4x129, .i32⟩
  | 82 => ⟨S4x129x1, .i32⟩
  | 83 => ⟨S1, .i32⟩
  | 84 => ⟨S_, .i32⟩
  | 85 => ⟨S4x129x1, .i32⟩
  | 86 => ⟨S4x129x1, .i1⟩
  | 87 => ⟨S1x1x1, .i32⟩
  | 88 => ⟨S4x129x1, .i32⟩
  | 89 => ⟨S4x129x1, .i1⟩
  | 90 => ⟨S4x129x1, .i1⟩
  | 91 => ⟨S_, .i1⟩
  | 92 => ⟨S4x129, .i1⟩
  | 93 => ⟨S8x4x129x4x64, .f32⟩
  | 94 => ⟨S8x4x129x4x64, .i1⟩
  | 95 => ⟨S_, .f32⟩
  | 96 => ⟨S8x4x129x4x64, .f32⟩
  | 97 => ⟨S8x4x129x4x64, .f32⟩
  | 98 => ⟨S_, .i32⟩
  | 99 => ⟨S4x129, .i32⟩
  | 100 => ⟨S4x129, .i1⟩
  | 101 => ⟨S_, .i32⟩
  | 102 => ⟨S4x129, .i32⟩
  | 103 => ⟨S4x129, .i32⟩
  | 104 => ⟨S4x129, .i32⟩
  | 105 => ⟨S4x129x1, .i32⟩
  | 106 => ⟨S1, .i32⟩
  | 107 => ⟨S_, .i32⟩
  | 108 => ⟨S4x129x1, .i32⟩
  | 109 => ⟨S4x129x1, .i1⟩
  | 110 => ⟨S1x1x1, .i32⟩
  | 111 => ⟨S4x129x1, .i32⟩
  | 112 => ⟨S4x129x1, .i1⟩
  | 113 => ⟨S4x129x1, .i1⟩
  | 114 => ⟨S_, .i1⟩
  | 115 => ⟨S4x129, .i1⟩
  | 116 => ⟨S8x4x129x4x64, .f32⟩
  | 117 => ⟨S8x4x129x4x64, .i1⟩
  | 118 => ⟨S_, .f32⟩
  | 119 => ⟨S8x4x129x4x64, .f32⟩
  | 120 => ⟨S8x4x129x4x64, .f32⟩
  | 121 => ⟨S8x4x4x4x129, .f32⟩
  | 122 => ⟨S_, .f32⟩
  | 123 => ⟨S_, .f32⟩
  | 124 => ⟨S_, .f32⟩
  | 125 => ⟨S8x4x4x4x129, .f32⟩
  | 126 => ⟨S8x4x4x4x129, .f32⟩
  | 127 => ⟨S1x4x1x1x129, .i1⟩
  | _ => ⟨S128x1024, .bf16⟩

abbrev hbmTy0_2 (i : Nat) : BufTy := match i % 128 with
  | 0 => ⟨S_, .f32⟩
  | 1 => ⟨S_, .f32⟩
  | 2 => ⟨S8x4x4x4x129, .i1⟩
  | 3 => ⟨S8x4x4x4x129, .f32⟩
  | 4 => ⟨S8x4x4x4x129, .f32⟩
  | 5 => ⟨S_, .f32⟩
  | 6 => ⟨S8x4x4x4, .f32⟩
  | 7 => ⟨S8x4x4x4x1, .f32⟩
  | 8 => ⟨S8x4x4x4x129, .f32⟩
  | 9 => ⟨S8x4x4x4x129, .f32⟩
  | 10 => ⟨S8x4x4x4x129, .f32⟩
  | 11 => ⟨S_, .f32⟩
  | 12 => ⟨S8x4x4x4, .f32⟩
  | 13 => ⟨S8x4x4x4x64, .f32⟩
  | 14 => ⟨S1x8x4x4x4, .f32⟩
  | 15 => ⟨S1x8x4x4x4, .f32⟩
  | 16 => ⟨S1x8x4x4x4, .f32⟩
  | 17 => ⟨S3x8x4x4x4, .f32⟩
  | 18 => ⟨S_, .f32⟩
  | 19 => ⟨S8x4x4x4, .f32⟩
  | 20 => ⟨S8x4x4x4, .f32⟩
  | 21 => ⟨S8x4x4x4, .f32⟩
  | 22 => ⟨S8x4x4x4, .f32⟩
  | 23 => ⟨S8x4x4x4, .f32⟩
  | 24 => ⟨S8x4x4x4, .f32⟩
  | 25 => ⟨S8x4x4x4, .f32⟩
  | 26 => ⟨S8x4x4x4x1, .f32⟩
  | 27 => ⟨S8x4x4x4x64, .f32⟩
  | 28 => ⟨S8x4x4x4x64, .f32⟩
  | 29 => ⟨S_, .f32⟩
  | 30 => ⟨S8x4x4x4x64, .f32⟩
  | 31 => ⟨S8x4x4x4x64, .f32⟩
  | 32 => ⟨S8x4x4x4x1, .f32⟩
  | 33 => ⟨S8x4x4x4x64, .f32⟩
  | 34 => ⟨S8x4x4x4x64, .f32⟩
  | 35 => ⟨S8x4x4x4x64, .f32⟩
  | 36 => ⟨S8x4x4x4x1, .f32⟩
  | 37 => ⟨S8x4x4x4x64, .f32⟩
  | 38 => ⟨S8x4x4x4x64, .f32⟩
  | 39 => ⟨S8x4x4x4x64, .f32⟩
  | 40 => ⟨S8x4x4x4, .f32⟩
  | 41 => ⟨S_, .f32⟩
  | 42 => ⟨S8x4x4x4, .f32⟩
  | 43 => ⟨S8x4x4x4, .f32⟩
  | 44 => ⟨S8x4x4x4, .f32⟩
  | 45 => ⟨S8x4x4x4, .f32⟩
  | 46 => ⟨S8x4x4x4, .f32⟩
  | 47 => ⟨S8x4x4x4, .f32⟩
  | 48 => ⟨S8x4x4x4x1, .f32⟩
  | 49 => ⟨S8x4x4x4x64, .f32⟩
  | 50 => ⟨S8x4x4x4x64, .f32⟩
  | 51 => ⟨S8x4x1024, .f32⟩
  | 52 => ⟨S8x16x1024, .f32⟩
  | 53 => ⟨S8x4x1024, .f32⟩
  | 54 => ⟨S8x4x1024, .f32⟩
  | 55 => ⟨S_, .i32⟩
  | 56 => ⟨S_, .f32⟩
  | 57 => ⟨S8x16x1024, .f32⟩
  | 58 => ⟨S128x1024, .f32⟩
  | 59 => ⟨S128x1024, .bf16⟩
  | 60 => ⟨S8x2048x4x64, .f32⟩
  | 61 => ⟨S8x2048x256, .f32⟩
  | 62 => ⟨S8x256x2048, .f32⟩
  | 63 => ⟨S8x2048x4x64, .f32⟩
  | 64 => ⟨S8x2048x256, .f32⟩
  | 65 => ⟨S8x256x2048, .f32⟩
  | _ => ⟨S128x1024, .bf16⟩

abbrev hbmTy (i : Nat) : BufTy := match i / 128 with
  | 0 => hbmTy0_0 i
  | 1 => hbmTy0_1 i
  | 2 => hbmTy0_2 i
  | _ => ⟨S128x1024, .bf16⟩

abbrev bufTy : (tb : Table) → Fin (tcTables nBuf tb) → BufTy
  | .hbm, ⟨i, _⟩ => hbmTy i
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v29 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v30 : Ref sig .tc := ⟨.hbm, 84, rfl⟩
abbrev main_v31 : Ref sig .tc := ⟨.hbm, 85, rfl⟩
abbrev main_cst : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_cst_3 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v37 : Ref sig .tc := ⟨.hbm, 96, rfl⟩
abbrev main_cst_4 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_5 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_c_6 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_c_7 : Ref sig .tc := ⟨.hbm, 115, rfl⟩
abbrev main_v53 : Ref sig .tc := ⟨.hbm, 116, rfl⟩
abbrev main_v54 : Ref sig .tc := ⟨.hbm, 117, rfl⟩
abbrev main_c_8 : Ref sig .tc := ⟨.hbm, 118, rfl⟩
abbrev main_v55 : Ref sig .tc := ⟨.hbm, 119, rfl⟩
abbrev main_v56 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v57 : Ref sig .tc := ⟨.hbm, 143, rfl⟩
abbrev main_call4_c : Ref sig .tc := ⟨.hbm, 144, rfl⟩
abbrev main_call4_v0 : Ref sig .tc := ⟨.hbm, 145, rfl⟩
abbrev main_call4_v1 : Ref sig .tc := ⟨.hbm, 146, rfl⟩
abbrev main_call4_c_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_call4_c_1 : Ref sig .tc := ⟨.hbm, 152, rfl⟩
abbrev main_call4_c_2 : Ref sig .tc := ⟨.hbm, 153, rfl⟩
abbrev main_call4_v6 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_c_3 : Ref sig .tc := ⟨.hbm, 160, rfl⟩
abbrev main_call4_v12 : Ref sig .tc := ⟨.hbm, 161, rfl⟩
abbrev main_call4_v13 : Ref sig .tc := ⟨.hbm, 162, rfl⟩
abbrev main_call4_v14 : Ref sig .tc := ⟨.hbm, 163, rfl⟩
abbrev main_call4_cst : Ref sig .tc := ⟨.hbm, 164, rfl⟩
abbrev main_call4_v15 : Ref sig .tc := ⟨.hbm, 165, rfl⟩
abbrev main_v58 : Ref sig .tc := ⟨.hbm, 166, rfl⟩
abbrev main_v59 : Ref sig .tc := ⟨.hbm, 167, rfl⟩
abbrev main_cst_9 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_v63 : Ref sig .tc := ⟨.hbm, 172, rfl⟩
abbrev main_v64 : Ref sig .tc := ⟨.hbm, 173, rfl⟩
abbrev main_cst_10 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_v65 : Ref sig .tc := ⟨.hbm, 178, rfl⟩
abbrev main_cst_11 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_cst_12 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_c_13 : Ref sig .tc := ⟨.hbm, 189, rfl⟩
abbrev main_v74 : Ref sig .tc := ⟨.hbm, 190, rfl⟩
abbrev main_v75 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_c_14 : Ref sig .tc := ⟨.hbm, 197, rfl⟩
abbrev main_v81 : Ref sig .tc := ⟨.hbm, 198, rfl⟩
abbrev main_v82 : Ref sig .tc := ⟨.hbm, 199, rfl⟩
abbrev main_c_15 : Ref sig .tc := ⟨.hbm, 200, rfl⟩
abbrev main_v83 : Ref sig .tc := ⟨.hbm, 201, rfl⟩
abbrev main_v84 : Ref sig .tc := ⟨.hbm, 202, rfl⟩
abbrev main_call6_c : Ref sig .tc := ⟨.hbm, 203, rfl⟩
abbrev main_call6_v0 : Ref sig .tc := ⟨.hbm, 204, rfl⟩
abbrev main_call6_v1 : Ref sig .tc := ⟨.hbm, 205, rfl⟩
abbrev main_call6_c_0 : Ref sig .tc := ⟨.hbm, 206, rfl⟩
abbrev main_call6_v2 : Ref sig .tc := ⟨.hbm, 207, rfl⟩
abbrev main_call6_v3 : Ref sig .tc := ⟨.hbm, 208, rfl⟩
abbrev main_call6_v4 : Ref sig .tc := ⟨.hbm, 209, rfl⟩
abbrev main_call6_v5 : Ref sig .tc := ⟨.hbm, 210, rfl⟩
abbrev main_call6_c_1 : Ref sig .tc := ⟨.hbm, 211, rfl⟩
abbrev main_call6_c_2 : Ref sig .tc := ⟨.hbm, 212, rfl⟩
abbrev main_call6_v6 : Ref sig .tc := ⟨.hbm, 213, rfl⟩
abbrev main_call6_v7 : Ref sig .tc := ⟨.hbm, 214, rfl⟩
abbrev main_call6_v8 : Ref sig .tc := ⟨.hbm, 215, rfl⟩
abbrev main_call6_v9 : Ref sig .tc := ⟨.hbm, 216, rfl⟩
abbrev main_call6_v10 : Ref sig .tc := ⟨.hbm, 217, rfl⟩
abbrev main_call6_v11 : Ref sig .tc := ⟨.hbm, 218, rfl⟩
abbrev main_call6_c_3 : Ref sig .tc := ⟨.hbm, 219, rfl⟩
abbrev main_call6_v12 : Ref sig .tc := ⟨.hbm, 220, rfl⟩
abbrev main_call6_v13 : Ref sig .tc := ⟨.hbm, 221, rfl⟩
abbrev main_call6_v14 : Ref sig .tc := ⟨.hbm, 222, rfl⟩
abbrev main_call6_cst : Ref sig .tc := ⟨.hbm, 223, rfl⟩
abbrev main_call6_v15 : Ref sig .tc := ⟨.hbm, 224, rfl⟩
abbrev main_v85 : Ref sig .tc := ⟨.hbm, 225, rfl⟩
abbrev main_call7_c : Ref sig .tc := ⟨.hbm, 226, rfl⟩
abbrev main_call7_v0 : Ref sig .tc := ⟨.hbm, 227, rfl⟩
abbrev main_call7_v1 : Ref sig .tc := ⟨.hbm, 228, rfl⟩
abbrev main_call7_c_0 : Ref sig .tc := ⟨.hbm, 229, rfl⟩
abbrev main_call7_v2 : Ref sig .tc := ⟨.hbm, 230, rfl⟩
abbrev main_call7_v3 : Ref sig .tc := ⟨.hbm, 231, rfl⟩
abbrev main_call7_v4 : Ref sig .tc := ⟨.hbm, 232, rfl⟩
abbrev main_call7_v5 : Ref sig .tc := ⟨.hbm, 233, rfl⟩
abbrev main_call7_c_1 : Ref sig .tc := ⟨.hbm, 234, rfl⟩
abbrev main_call7_c_2 : Ref sig .tc := ⟨.hbm, 235, rfl⟩
abbrev main_call7_v6 : Ref sig .tc := ⟨.hbm, 236, rfl⟩
abbrev main_call7_v7 : Ref sig .tc := ⟨.hbm, 237, rfl⟩
abbrev main_call7_v8 : Ref sig .tc := ⟨.hbm, 238, rfl⟩
abbrev main_call7_v9 : Ref sig .tc := ⟨.hbm, 239, rfl⟩
abbrev main_call7_v10 : Ref sig .tc := ⟨.hbm, 240, rfl⟩
abbrev main_call7_v11 : Ref sig .tc := ⟨.hbm, 241, rfl⟩
abbrev main_call7_c_3 : Ref sig .tc := ⟨.hbm, 242, rfl⟩
abbrev main_call7_v12 : Ref sig .tc := ⟨.hbm, 243, rfl⟩
abbrev main_call7_v13 : Ref sig .tc := ⟨.hbm, 244, rfl⟩
abbrev main_call7_v14 : Ref sig .tc := ⟨.hbm, 245, rfl⟩
abbrev main_call7_cst : Ref sig .tc := ⟨.hbm, 246, rfl⟩
abbrev main_call7_v15 : Ref sig .tc := ⟨.hbm, 247, rfl⟩
abbrev main_v86 : Ref sig .tc := ⟨.hbm, 248, rfl⟩
abbrev main_v87 : Ref sig .tc := ⟨.hbm, 249, rfl⟩
abbrev main_cst_16 : Ref sig .tc := ⟨.hbm, 250, rfl⟩
abbrev main_v88 : Ref sig .tc := ⟨.hbm, 251, rfl⟩
abbrev main_v89 : Ref sig .tc := ⟨.hbm, 252, rfl⟩
abbrev main_v90 : Ref sig .tc := ⟨.hbm, 253, rfl⟩
abbrev main_v91 : Ref sig .tc := ⟨.hbm, 254, rfl⟩
abbrev main_v92 : Ref sig .tc := ⟨.hbm, 255, rfl⟩
abbrev main_cst_17 : Ref sig .tc := ⟨.hbm, 256, rfl⟩
abbrev main_call8_v0 : Ref sig .tc := ⟨.hbm, 257, rfl⟩
abbrev main_call8_v1 : Ref sig .tc := ⟨.hbm, 258, rfl⟩
abbrev main_call8_v2 : Ref sig .tc := ⟨.hbm, 259, rfl⟩
abbrev main_v93 : Ref sig .tc := ⟨.hbm, 260, rfl⟩
abbrev main_cst_18 : Ref sig .tc := ⟨.hbm, 261, rfl⟩
abbrev main_v94 : Ref sig .tc := ⟨.hbm, 262, rfl⟩
abbrev main_v95 : Ref sig .tc := ⟨.hbm, 263, rfl⟩
abbrev main_v96 : Ref sig .tc := ⟨.hbm, 264, rfl⟩
abbrev main_v97 : Ref sig .tc := ⟨.hbm, 265, rfl⟩
abbrev main_v98 : Ref sig .tc := ⟨.hbm, 266, rfl⟩
abbrev main_cst_19 : Ref sig .tc := ⟨.hbm, 267, rfl⟩
abbrev main_v99 : Ref sig .tc := ⟨.hbm, 268, rfl⟩
abbrev main_v100 : Ref sig .tc := ⟨.hbm, 269, rfl⟩
abbrev main_v101 : Ref sig .tc := ⟨.hbm, 270, rfl⟩
abbrev main_v102 : Ref sig .tc := ⟨.hbm, 271, rfl⟩
abbrev main_v103 : Ref sig .tc := ⟨.hbm, 272, rfl⟩
abbrev main_v104 : Ref sig .tc := ⟨.hbm, 273, rfl⟩
abbrev main_cst_20 : Ref sig .tc := ⟨.hbm, 274, rfl⟩
abbrev main_v105 : Ref sig .tc := ⟨.hbm, 275, rfl⟩
abbrev main_v106 : Ref sig .tc := ⟨.hbm, 276, rfl⟩
abbrev main_v107 : Ref sig .tc := ⟨.hbm, 277, rfl⟩
abbrev main_v108 : Ref sig .tc := ⟨.hbm, 278, rfl⟩
abbrev main_v109 : Ref sig .tc := ⟨.hbm, 279, rfl⟩
abbrev main_v110 : Ref sig .tc := ⟨.hbm, 280, rfl⟩
abbrev main_v111 : Ref sig .tc := ⟨.hbm, 281, rfl⟩
abbrev main_v112 : Ref sig .tc := ⟨.hbm, 282, rfl⟩
abbrev main_v113 : Ref sig .tc := ⟨.hbm, 283, rfl⟩
abbrev main_v114 : Ref sig .tc := ⟨.hbm, 284, rfl⟩
abbrev main_cst_21 : Ref sig .tc := ⟨.hbm, 285, rfl⟩
abbrev main_v115 : Ref sig .tc := ⟨.hbm, 286, rfl⟩
abbrev main_v116 : Ref sig .tc := ⟨.hbm, 287, rfl⟩
abbrev main_v117 : Ref sig .tc := ⟨.hbm, 288, rfl⟩
abbrev main_v118 : Ref sig .tc := ⟨.hbm, 289, rfl⟩
abbrev main_v119 : Ref sig .tc := ⟨.hbm, 290, rfl⟩
abbrev main_v120 : Ref sig .tc := ⟨.hbm, 291, rfl⟩
abbrev main_v121 : Ref sig .tc := ⟨.hbm, 292, rfl⟩
abbrev main_v122 : Ref sig .tc := ⟨.hbm, 293, rfl⟩
abbrev main_v123 : Ref sig .tc := ⟨.hbm, 294, rfl⟩
abbrev main_v124 : Ref sig .tc := ⟨.hbm, 295, rfl⟩
abbrev main_v125 : Ref sig .tc := ⟨.hbm, 296, rfl⟩
abbrev main_cst_22 : Ref sig .tc := ⟨.hbm, 297, rfl⟩
abbrev main_v126 : Ref sig .tc := ⟨.hbm, 298, rfl⟩
abbrev main_v127 : Ref sig .tc := ⟨.hbm, 299, rfl⟩
abbrev main_v128 : Ref sig .tc := ⟨.hbm, 300, rfl⟩
abbrev main_v129 : Ref sig .tc := ⟨.hbm, 301, rfl⟩
abbrev main_v130 : Ref sig .tc := ⟨.hbm, 302, rfl⟩
abbrev main_v131 : Ref sig .tc := ⟨.hbm, 303, rfl⟩
abbrev main_v132 : Ref sig .tc := ⟨.hbm, 304, rfl⟩
abbrev main_v133 : Ref sig .tc := ⟨.hbm, 305, rfl⟩
abbrev main_v134 : Ref sig .tc := ⟨.hbm, 306, rfl⟩
abbrev main_v135 : Ref sig .tc := ⟨.hbm, 307, rfl⟩
abbrev main_v136 : Ref sig .tc := ⟨.hbm, 308, rfl⟩
abbrev main_v137 : Ref sig .tc := ⟨.hbm, 309, rfl⟩
abbrev main_v138 : Ref sig .tc := ⟨.hbm, 310, rfl⟩
abbrev main_c_23 : Ref sig .tc := ⟨.hbm, 311, rfl⟩
abbrev main_call9_v0 : Ref sig .tc := ⟨.hbm, 312, rfl⟩
abbrev main_v139 : Ref sig .tc := ⟨.hbm, 313, rfl⟩
abbrev main_v140 : Ref sig .tc := ⟨.hbm, 314, rfl⟩
abbrev main_v141 : Ref sig .tc := ⟨.hbm, 315, rfl⟩
abbrev main_v142 : Ref sig .tc := ⟨.hbm, 316, rfl⟩
abbrev main_v143 : Ref sig .tc := ⟨.hbm, 317, rfl⟩
abbrev main_v144 : Ref sig .tc := ⟨.hbm, 318, rfl⟩
abbrev main_v145 : Ref sig .tc := ⟨.hbm, 319, rfl⟩
abbrev main_v146 : Ref sig .tc := ⟨.hbm, 320, rfl⟩
abbrev main_v147 : Ref sig .tc := ⟨.hbm, 321, rfl⟩

abbrev nD : Nat := 1
abbrev τ : Topo := Topo.v7x

variable {F : FTy → Type} [FloatOps F]
-- ==== OutP.lean ====
abbrev S4x2048x2048 : Shape := ⟨3, ![4, 2048, 2048]⟩
abbrev S8192x1024 : Shape := ⟨2, ![8192, 1024]⟩
abbrev S4x1024x2048 : Shape := ⟨3, ![4, 1024, 2048]⟩
abbrev S1x1024 : Shape := ⟨2, ![1, 1024]⟩
abbrev S2048x2048 : Shape := ⟨2, ![2048, 2048]⟩
abbrev S8192x2048 : Shape := ⟨2, ![8192, 2048]⟩
abbrev S512x2048 : Shape := ⟨2, ![512, 2048]⟩
abbrev S512x1024 : Shape := ⟨2, ![512, 1024]⟩
abbrev S1x1024x512 : Shape := ⟨3, ![1, 1024, 512]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1024x512 : Shape := ⟨2, ![1024, 512]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S8192x1024, .f32⟩
  | .hbm, ⟨2, _⟩ => ⟨S4x1024x2048, .bf16⟩
  | .hbm, ⟨3, _⟩ => ⟨S1x1024, .f32⟩
  | .hbm, ⟨4, _⟩ => ⟨S2048x2048, .bf16⟩
  | .hbm, ⟨5, _⟩ => ⟨S8192x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutPRefIdeal.lean ====
abbrev S4x2048x2048 : Shape := ⟨3, ![4, 2048, 2048]⟩
abbrev S8192x1024 : Shape := ⟨2, ![8192, 1024]⟩
abbrev S4x1024x2048 : Shape := ⟨3, ![4, 1024, 2048]⟩
abbrev S1x1024 : Shape := ⟨2, ![1, 1024]⟩
abbrev S2048x2048 : Shape := ⟨2, ![2048, 2048]⟩
abbrev S4x2048x2x512 : Shape := ⟨4, ![4, 2048, 2, 512]⟩
abbrev S2x512 : Shape := ⟨2, ![2, 512]⟩
abbrev S_ : Shape := ⟨0, ![]⟩
abbrev S4x2048x2 : Shape := ⟨3, ![4, 2048, 2]⟩
abbrev S4x2048x2x1 : Shape := ⟨4, ![4, 2048, 2, 1]⟩
abbrev S1x1x2x512 : Shape := ⟨4, ![1, 1, 2, 512]⟩
abbrev S4x2048x1024 : Shape := ⟨3, ![4, 2048, 1024]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x1024, .f32⟩
  | .hbm, ⟨2, _⟩ => ⟨S4x1024x2048, .bf16⟩
  | .hbm, ⟨3, _⟩ => ⟨S1x1024, .f32⟩
  | .hbm, ⟨4, _⟩ => ⟨S2048x2048, .bf16⟩
  | .hbm, ⟨5, _⟩ => ⟨S4x2048x2x512, .f32⟩
  | .hbm, ⟨6, _⟩ => ⟨S2x512, .f32⟩
  | .hbm, ⟨7, _⟩ => ⟨S4x2048x2x512, .f32⟩
  | .hbm, ⟨8, _⟩ => ⟨S_, .f32⟩
  | .hbm, ⟨9, _⟩ => ⟨S4x2048x2, .f32⟩
  | .hbm, ⟨10, _⟩ => ⟨S4x2048x2x1, .f32⟩
  | .hbm, ⟨11, _⟩ => ⟨S_, .f32⟩
  | .hbm, ⟨12, _⟩ => ⟨S4x2048x2x1, .f32⟩
  | .hbm, ⟨13, _⟩ => ⟨S4x2048x2x1, .f32⟩
  | .hbm, ⟨14, _⟩ => ⟨S_, .f32⟩
  | .hbm, ⟨15, _⟩ => ⟨S4x2048x2x1, .f32⟩
  | .hbm, ⟨16, _⟩ => ⟨S4x2048x2x1, .f32⟩
  | .hbm, ⟨17, _⟩ => ⟨S4x2048x2x1, .f32⟩
  | .hbm, ⟨18, _⟩ => ⟨S4x2048x2x512, .f32⟩
  | .hbm, ⟨19, _⟩ => ⟨S4x2048x2x512, .f32⟩
  | .hbm, ⟨20, _⟩ => ⟨S1x1x2x512, .f32⟩
  | .hbm, ⟨21, _⟩ => ⟨S4x2048x2x512, .f32⟩
  | .hbm, ⟨22, _⟩ => ⟨S4x2048x2x512, .f32⟩
  | .hbm, ⟨23, _⟩ => ⟨S4x2048x1024, .f32⟩
  | .hbm, ⟨24, _⟩ => ⟨S4x1024x2048, .f32⟩
  | .hbm, ⟨25, _⟩ => ⟨S4x2048x1024, .f32⟩
  | .hbm, ⟨26, _⟩ => ⟨S4x2048x2048, .f32⟩
  | .hbm, ⟨27, _⟩ => ⟨S2048x2048, .f32⟩
  | .hbm, ⟨28, _⟩ => ⟨S4x2048x2048, .f32⟩
  | .hbm, ⟨29, _⟩ => ⟨S4x2048x2048, .f32⟩
  | .hbm, ⟨30, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== InP.lean ====
abbrev S4x2048x2048 : Shape := ⟨3, ![4, 2048, 2048]⟩
abbrev S1x2048 : Shape := ⟨2, ![1, 2048]⟩
abbrev S5136x2048 : Shape := ⟨2, ![5136, 2048]⟩
abbrev S1x64 : Shape := ⟨2, ![1, 64]⟩
abbrev S2048x8 : Shape := ⟨2, ![2048, 8]⟩
abbrev S_ : Shape := ⟨0, ![]⟩
abbrev S2048x48 : Shape := ⟨2, ![2048, 48]⟩
abbrev S2048x64 : Shape := ⟨2, ![2048, 64]⟩
abbrev S2048x128 : Shape := ⟨2, ![2048, 128]⟩
abbrev S1x128 : Shape := ⟨2, ![1, 128]⟩
abbrev S8192x2048 : Shape := ⟨2, ![8192, 2048]⟩
abbrev S8192x1024 : Shape := ⟨2, ![8192, 1024]⟩
abbrev S8192x1536 : Shape := ⟨2, ![8192, 1536]⟩
abbrev S8192x128 : Shape := ⟨2, ![8192, 128]⟩
abbrev S4x1024x2048 : Shape := ⟨3, ![4, 1024, 2048]⟩
abbrev S4x256x2048 : Shape := ⟨3, ![4, 256, 2048]⟩
abbrev S4x8x1536 : Shape := ⟨3, ![4, 8, 1536]⟩
abbrev S512x2048 : Shape := ⟨2, ![512, 2048]⟩
abbrev S512x128 : Shape := ⟨2, ![512, 128]⟩
abbrev S512x1024 : Shape := ⟨2, ![512, 1024]⟩
abbrev S512x1536 : Shape := ⟨2, ![512, 1536]⟩
abbrev S1x1024x512 : Shape := ⟨3, ![1, 1024, 512]⟩
abbrev S1x256x512 : Shape := ⟨3, ![1, 256, 512]⟩
abbrev S1x8x1536 : Shape := ⟨3, ![1, 8, 1536]⟩
abbrev S512 : Shape := ⟨1, ![512]⟩
abbrev S512x1 : Shape := ⟨2, ![512, 1]⟩
abbrev S1024x2048 : Shape := ⟨2, ![1024, 2048]⟩
abbrev S128x512 : Shape := ⟨2, ![128, 512]⟩
abbrev S1x128x512 : Shape := ⟨3, ![1, 128, 512]⟩
abbrev S256x2048 : Shape := ⟨2, ![256, 2048]⟩
abbrev S512x256 : Shape := ⟨2, ![512, 256]⟩
abbrev S256x512 : Shape := ⟨2, ![256, 512]⟩
abbrev S1536x2048 : Shape := ⟨2, ![1536, 2048]⟩
abbrev S8x1536 : Shape := ⟨2, ![8, 1536]⟩
abbrev S1024x512 : Shape := ⟨2, ![1024, 512]⟩
abbrev S128x2048 : Shape := ⟨2, ![128, 2048]⟩

abbrev nBuf : Space → Nat
  | .hbm => 32
  | .vmem => 28
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S5136x2048, .bf16⟩
  | .hbm, ⟨3, _⟩ => ⟨S1x64, .f32⟩
  | .hbm, ⟨4, _⟩ => ⟨S1x64, .f32⟩
  | .hbm, ⟨5, _⟩ => ⟨S2048x8, .f32⟩
  | .hbm, ⟨6, _⟩ => ⟨S2048x8, .f32⟩
  | .hbm, ⟨7, _⟩ => ⟨S_, .f32⟩
  | .hbm, ⟨8, _⟩ => ⟨S2048x48, .f32⟩
  | .hbm, ⟨9, _⟩ => ⟨S_, .f32⟩
  | .hbm, ⟨10, _⟩ => ⟨S2048x8, .f32⟩
  | .hbm, ⟨11, _⟩ => ⟨S_, .f32⟩
  | .hbm, ⟨12, _⟩ => ⟨S2048x48, .f32⟩
  | .hbm, ⟨13, _⟩ => ⟨S2048x48, .f32⟩
  | .hbm, ⟨14, _⟩ => ⟨S2048x64, .f32⟩
  | .hbm, ⟨15, _⟩ => ⟨S2048x64, .f32⟩
  | .hbm, ⟨16, _⟩ => ⟨S2048x8, .f32⟩
  | .hbm, ⟨17, _⟩ => ⟨S2048x64, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S1x128, .f32⟩
  | .hbm, ⟨22, _⟩ => ⟨S1x128, .f32⟩
  | .hbm, ⟨23, _⟩ => ⟨S8192x2048, .f32⟩
  | .hbm, ⟨24, _⟩ => ⟨S8192x1024, .f32⟩
  | .hbm, ⟨25, _⟩ => ⟨S8192x1536, .f32⟩
  | .hbm, ⟨26, _⟩ => ⟨S8192x128, .f32⟩
  | .hbm, ⟨27, _⟩ => ⟨S4x1024x2048, .bf16⟩
  | .hbm, ⟨28, _⟩ => ⟨S4x256x2048, .f32⟩
  | .hbm, ⟨29, _⟩ => ⟨S4x256x2048, .f32⟩
  | .hbm, ⟨30, _⟩ => ⟨S4x1024x2048, .f32⟩
  | .hbm, ⟨31, _⟩ => ⟨S4x8x1536, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S5136x2048, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1536, .f32⟩
  | .local _ .vmem, ⟨15, _⟩ => ⟨S512x1536, .f32⟩
  | .local _ .vmem, ⟨16, _⟩ => ⟨S512x128, .f32⟩
  | .local _ .vmem, ⟨17, _⟩ => ⟨S512x128, .f32⟩
  | .local _ .vmem, ⟨18, _⟩ => ⟨S1x1024x512, .bf16⟩
  | .local _ .vmem, ⟨19, _⟩ => ⟨S1x1024x512, .bf16⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x1024x512, .f32⟩
  | .local _ .vmem, ⟨25, _⟩ => ⟨S1x1024x512, .f32⟩
  | .local _ .vmem, ⟨26, _⟩ => ⟨S1x8x1536, .f32⟩
  | .local _ .vmem, ⟨27, _⟩ => ⟨S1x8x1536, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_v14_6 : Ref sig .tc := ⟨.hbm, 30, rfl⟩
abbrev main_v14_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5136x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InPRefIdeal.lean ====
abbrev S4x2048x2048 : Shape := ⟨3, ![4, 2048, 2048]⟩
abbrev S1x2048 : Shape := ⟨2, ![1, 2048]⟩
abbrev S5136x2048 : Shape := ⟨2, ![5136, 2048]⟩
abbrev S1x64 : Shape := ⟨2, ![1, 64]⟩
abbrev S2048x8 : Shape := ⟨2, ![2048, 8]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x5136 : Shape := ⟨2, ![2048, 5136]⟩
abbrev S4x2048x5136 : Shape := ⟨3, ![4, 2048, 5136]⟩
abbrev S4x2048x1024 : Shape := ⟨3, ![4, 2048, 1024]⟩
abbrev S4x2048x1536 : Shape := ⟨3, ![4, 2048, 1536]⟩
abbrev S4x2048x256 : Shape := ⟨3, ![4, 2048, 256]⟩
abbrev S4x2048x16x64 : Shape := ⟨4, ![4, 2048, 16, 64]⟩
abbrev S64 : Shape := ⟨1, ![64]⟩
abbrev S4x2048x16 : Shape := ⟨3, ![4, 2048, 16]⟩
abbrev S4x2048x16x1 : Shape := ⟨4, ![4, 2048, 16, 1]⟩
abbrev S1x1x1x64 : Shape := ⟨4, ![1, 1, 1, 64]⟩
abbrev S1x2048x1x8 : Shape := ⟨4, ![1, 2048, 1, 8]⟩
abbrev S4x2048x16x8 : Shape := ⟨4, ![4, 2048, 16, 8]⟩
abbrev S4x2048x16x48 : Shape := ⟨4, ![4, 2048, 16, 48]⟩
abbrev S4x2048x4x64 : Shape := ⟨4, ![4, 2048, 4, 64]⟩
abbrev S4x2048x4 : Shape := ⟨3, ![4, 2048, 4]⟩
abbrev S4x2048x4x1 : Shape := ⟨4, ![4, 2048, 4, 1]⟩
abbrev S4x2048x4x8 : Shape := ⟨4, ![4, 2048, 4, 8]⟩
abbrev S4x2048x4x48 : Shape := ⟨4, ![4, 2048, 4, 48]⟩
abbrev S8192x1024 : Shape := ⟨2, ![8192, 1024]⟩
abbrev S8192x1536 : Shape := ⟨2, ![8192, 1536]⟩
abbrev S4x2048x128 : Shape := ⟨3, ![4, 2048, 128]⟩
abbrev S8192x128 : Shape := ⟨2, ![8192, 128]⟩
abbrev S4x1024x2048 : Shape := ⟨3, ![4, 1024, 2048]⟩
abbrev S4x256x2048 : Shape := ⟨3, ![4, 256, 2048]⟩
abbrev S4x8x1536 : Shape := ⟨3, ![4, 8, 1536]⟩

abbrev nBuf : Space → Nat
  | .hbm => 137
  | .vmem => 0
  | .smem => 0
  | _ => 0

abbrev hbmTy0_0 (i : Nat) : BufTy := match i % 128 with
  | 0 => ⟨S4x2048x2048, .f32⟩
  | 1 => ⟨S1x2048, .f32⟩
  | 2 => ⟨S5136x2048, .bf16⟩
  | 3 => ⟨S1x64, .f32⟩
  | 4 => ⟨S1x64, .f32⟩
  | 5 => ⟨S2048x8, .f32⟩
  | 6 => ⟨S2048x8, .f32⟩
  | 7 => ⟨S2048, .f32⟩
  | 8 => ⟨S4x2048x2048, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048x1, .f32⟩
  | 17 => ⟨S4x2048x1, .f32⟩
  | 18 => ⟨S4x2048x1, .f32⟩
  | 19 => ⟨S4x2048x2048, .f32⟩
  | 20 => ⟨S4x2048x2048, .f32⟩
  | 21 => ⟨S1x1x2048, .f32⟩
  | 22 => ⟨S4x2048x2048, .f32⟩
  | 23 => ⟨S4x2048x2048, .f32⟩
  | 24 => ⟨S5136x2048, .f32⟩
  | 25 => ⟨S2048x5136, .f32⟩
  | 26 => ⟨S4x2048x5136, .f32⟩
  | 27 => ⟨S4x2048x1024, .f32⟩
  | 28 => ⟨S4x2048x1536, .f32⟩
  | 29 => ⟨S4x2048x1024, .f32⟩
  | 30 => ⟨S4x2048x256, .f32⟩
  | 31 => ⟨S4x2048x256, .f32⟩
  | 32 => ⟨S4x2048x1024, .f32⟩
  | 33 => ⟨S4x2048x16x64, .f32⟩
  | 34 => ⟨S64, .f32⟩
  | 35 => ⟨S4x2048x16x64, .f32⟩
  | 36 => ⟨S_, .f32⟩
  | 37 => ⟨S4x2048x16, .f32⟩
  | 38 => ⟨S4x2048x16x1, .f32⟩
  | 39 => ⟨S_, .f32⟩
  | 40 => ⟨S4x2048x16x1, .f32⟩
  | 41 => ⟨S4x2048x16x1, .f32⟩
  | 42 => ⟨S_, .f32⟩
  | 43 => ⟨S4x2048x16x1, .f32⟩
  | 44 => ⟨S4x2048x16x1, .f32⟩
  | 45 => ⟨S4x2048x16x1, .f32⟩
  | 46 => ⟨S4x2048x16x64, .f32⟩
  | 47 => ⟨S4x2048x16x64, .f32⟩
  | 48 => ⟨S1x1x1x64, .f32⟩
  | 49 => ⟨S4x2048x16x64, .f32⟩
  | 50 => ⟨S4x2048x16x64, .f32⟩
  | 51 => ⟨S1x2048x1x8, .f32⟩
  | 52 => ⟨S1x2048x1x8, .f32⟩
  | 53 => ⟨S4x2048x16x8, .f32⟩
  | 54 => ⟨S4x2048x16x8, .f32⟩
  | 55 => ⟨S4x2048x16x8, .f32⟩
  | 56 => ⟨S4x2048x16x8, .f32⟩
  | 57 => ⟨S4x2048x16x8, .f32⟩
  | 58 => ⟨S4x2048x16x8, .f32⟩
  | 59 => ⟨S4x2048x16x8, .f32⟩
  | 60 => ⟨S4x2048x16x8, .f32⟩
  | 61 => ⟨S4x2048x16x8, .f32⟩
  | 62 => ⟨S4x2048x16x8, .f32⟩
  | 63 => ⟨S4x2048x16x8, .f32⟩
  | 64 => ⟨S4x2048x16x8, .f32⟩
  | 65 => ⟨S4x2048x16x48, .f32⟩
  | 66 => ⟨S4x2048x16x64, .f32⟩
  | 67 => ⟨S_, .f32⟩
  | 68 => ⟨S4x2048x16x64, .f32⟩
  | 69 => ⟨S4x2048x16x64, .f32⟩
  | 70 => ⟨S4x2048x4x64, .f32⟩
  | 71 => ⟨S64, .f32⟩
  | 72 => ⟨S4x2048x4x64, .f32⟩
  | 73 => ⟨S_, .f32⟩
  | 74 => ⟨S4x2048x4, .f32⟩
  | 75 => ⟨S4x2048x4x1, .f32⟩
  | 76 => ⟨S_, .f32⟩
  | 77 => ⟨S4x2048x4x1, .f32⟩
  | 78 => ⟨S4x2048x4x1, .f32⟩
  | 79 => ⟨S_, .f32⟩
  | 80 => ⟨S4x2048x4x1, .f32⟩
  | 81 => ⟨S4x2048x4x1, .f32⟩
  | 82 => ⟨S4x2048x4x1, .f32⟩
  | 83 => ⟨S4x2048x4x64, .f32⟩
  | 84 => ⟨S4x2048x4x64, .f32⟩
  | 85 => ⟨S1x1x1x64, .f32⟩
  | 86 => ⟨S4x2048x4x64, .f32⟩
  | 87 => ⟨S4x2048x4x64, .f32⟩
  | 88 => ⟨S1x2048x1x8, .f32⟩
  | 89 => ⟨S1x2048x1x8, .f32⟩
  | 90 => ⟨S4x2048x4x8, .f32⟩
  | 91 => ⟨S4x2048x4x8, .f32⟩
  | 92 => ⟨S4x2048x4x8, .f32⟩
  | 93 => ⟨S4x2048x4x8, .f32⟩
  | 94 => ⟨S4x2048x4x8, .f32⟩
  | 95 => ⟨S4x2048x4x8, .f32⟩
  | 96 => ⟨S4x2048x4x8, .f32⟩
  | 97 => ⟨S4x2048x4x8, .f32⟩
  | 98 => ⟨S4x2048x4x8, .f32⟩
  | 99 => ⟨S4x2048x4x8, .f32⟩
  | 100 => ⟨S4x2048x4x8, .f32⟩
  | 101 => ⟨S4x2048x4x8, .f32⟩
  | 102 => ⟨S4x2048x4x48, .f32⟩
  | 103 => ⟨S4x2048x4x64, .f32⟩
  | 104 => ⟨S4x2048x1024, .f32⟩
  | 105 => ⟨S4x2048x1024, .f32⟩
  | 106 => ⟨S_, .f32⟩
  | 107 => ⟨S4x2048x1024, .f32⟩
  | 108 => ⟨S4x2048x1024, .f32⟩
  | 109 => ⟨S_, .f32⟩
  | 110 => ⟨S4x2048x1024, .f32⟩
  | 111 => ⟨S4x2048x1024, .f32⟩
  | 112 => ⟨S4x2048x1024, .f32⟩
  | 113 => ⟨S8192x1024, .f32⟩
  | 114 => ⟨S8192x1536, .f32⟩
  | 115 => ⟨S4x2048x128, .f32⟩
  | 116 => ⟨S8192x128, .f32⟩
  | 117 => ⟨S_, .f32⟩
  | 118 => ⟨S4x2048x16x64, .f32⟩
  | 119 => ⟨S4x2048x16x64, .f32⟩
  | 120 => ⟨S4x2048x1024, .f32⟩
  | 121 => ⟨S4x1024x2048, .f32⟩
  | 122 => ⟨S4x1024x2048, .bf16⟩
  | 123 => ⟨S4x2048x256, .f32⟩
  | 124 => ⟨S4x256x2048, .f32⟩
  | 125 => ⟨S4x256x2048, .f32⟩
  | 126 => ⟨S4x2048x1024, .f32⟩
  | 127 => ⟨S4x2048x1024, .f32⟩
  | _ => ⟨S4x2048x2048, .f32⟩

abbrev hbmTy0_1 (i : Nat) : BufTy := match i % 128 with
  | 0 => ⟨S_, .f32⟩
  | 1 => ⟨S4x2048x1024, .f32⟩
  | 2 => ⟨S4x2048x1024, .f32⟩
  | 3 => ⟨S_, .f32⟩
  | 4 => ⟨S4x2048x1024, .f32⟩
  | 5 => ⟨S4x2048x1024, .f32⟩
  | 6 => ⟨S4x2048x1024, .f32⟩
  | 7 => ⟨S4x1024x2048, .f32⟩
  | 8 => ⟨S4x8x1536, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_9 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_call1_v0 : Ref sig .tc := ⟨.hbm, 126, rfl⟩
abbrev main_call1_v1 : Ref sig .tc := ⟨.hbm, 127, rfl⟩
abbrev main_call1_cst : Ref sig .tc := ⟨.hbm, 128, rfl⟩
abbrev main_call1_v2 : Ref sig .tc := ⟨.hbm, 129, rfl⟩
abbrev main_call1_v3 : Ref sig .tc := ⟨.hbm, 130, rfl⟩
abbrev main_call1_cst_0 : Ref sig .tc := ⟨.hbm, 131, rfl⟩
abbrev main_call1_v4 : Ref sig .tc := ⟨.hbm, 132, rfl⟩
abbrev main_call1_v5 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]
-- ==== OutS.lean ====
abbrev S8x4x2048 : Shape := ⟨3, ![8, 4, 2048]⟩
abbrev S128x1024 : Shape := ⟨2, ![128, 1024]⟩
abbrev S1x1024 : Shape := ⟨2, ![1, 1024]⟩
abbrev S2048x2048 : Shape := ⟨2, ![2048, 2048]⟩
abbrev S128x512 : Shape := ⟨2, ![128, 512]⟩
abbrev S1x512 : Shape := ⟨2, ![1, 512]⟩
abbrev S512x2048 : Shape := ⟨2, ![512, 2048]⟩
abbrev S128 : Shape := ⟨1, ![128]⟩
abbrev S128x1 : Shape := ⟨2, ![128, 1]⟩
abbrev S128x2048 : Shape := ⟨2, ![128, 2048]⟩
abbrev S1x4x2048 : Shape := ⟨3, ![1, 4, 2048]⟩
abbrev S4x2048 : Shape := ⟨2, ![4, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8x4x2048, .f32⟩
  | .hbm, ⟨1, _⟩ => ⟨S128x1024, .f32⟩
  | .hbm, ⟨2, _⟩ => ⟨S128x1024, .bf16⟩
  | .hbm, ⟨3, _⟩ => ⟨S1x1024, .f32⟩
  | .hbm, ⟨4, _⟩ => ⟨S2048x2048, .f32⟩
  | .hbm, ⟨5, _⟩ => ⟨S2048x2048, .bf16⟩
  | .hbm, ⟨6, _⟩ => ⟨S8x4x2048, .f32⟩
  | .local _ .vmem, ⟨0, _⟩ => ⟨S8x4x2048, .f32⟩
  | .local _ .vmem, ⟨1, _⟩ => ⟨S128x512, .f32⟩
  | .local _ .vmem, ⟨2, _⟩ => ⟨S128x512, .f32⟩
  | .local _ .vmem, ⟨3, _⟩ => ⟨S128x512, .bf16⟩
  | .local _ .vmem, ⟨4, _⟩ => ⟨S128x512, .bf16⟩
  | .local _ .vmem, ⟨5, _⟩ => ⟨S1x512, .f32⟩
  | .local _ .vmem, ⟨6, _⟩ => ⟨S1x512, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S8x4x2048, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_12 : BitVec 32 := 0#32
  let v24 : BitVec 1 := Scalar.cmpi .ne v23 c0_i32_12
  v24

def k0_cond2 (i : grid0.Coords) : BitVec 1 :=
  let arg0 : BitVec 32 := BitVec.ofNat 32 (i 0).val
  let c0_i32_13 : BitVec 32 := 0#32
  let v25 : BitVec 1 := Scalar.cmpi .sgt arg0 c0_i32_13
  let v26 : BitVec 32 := Scalar.extui v25
  let c0_i32_14 : BitVec 32 := 0#32
  let v27 : BitVec 1 := Scalar.cmpi .ne v26 c0_i32_14
  v27

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutSRefIdeal.lean ====
abbrev S8x4x2048 : Shape := ⟨3, ![8, 4, 2048]⟩
abbrev S128x1024 : Shape := ⟨2, ![128, 1024]⟩
abbrev S1x1024 : Shape := ⟨2, ![1, 1024]⟩
abbrev S2048x2048 : Shape := ⟨2, ![2048, 2048]⟩
abbrev S8x16x1024 : Shape := ⟨3, ![8, 16, 1024]⟩
abbrev S8x4x1024 : Shape := ⟨3, ![8, 4, 1024]⟩
abbrev S8x4x2x512 : Shape := ⟨4, ![8, 4, 2, 512]⟩
abbrev S2x512 : Shape := ⟨2, ![2, 512]⟩
abbrev S_ : Shape := ⟨0, ![]⟩
abbrev S8x4x2 : Shape := ⟨3, ![8, 4, 2]⟩
abbrev S8x4x2x1 : Shape := ⟨4, ![8, 4, 2, 1]⟩
abbrev S1x1x2x512 : Shape := ⟨4, ![1, 1, 2, 512]⟩

abbrev nBuf : Space → Nat
  | .hbm => 33
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S128x1024, .f32⟩
  | .hbm, ⟨2, _⟩ => ⟨S128x1024, .bf16⟩
  | .hbm, ⟨3, _⟩ => ⟨S1x1024, .f32⟩
  | .hbm, ⟨4, _⟩ => ⟨S2048x2048, .f32⟩
  | .hbm, ⟨5, _⟩ => ⟨S8x16x1024, .f32⟩
  | .hbm, ⟨6, _⟩ => ⟨S8x4x1024, .f32⟩
  | .hbm, ⟨7, _⟩ => ⟨S128x1024, .f32⟩
  | .hbm, ⟨8, _⟩ => ⟨S8x16x1024, .f32⟩
  | .hbm, ⟨9, _⟩ => ⟨S8x4x1024, .f32⟩
  | .hbm, ⟨10, _⟩ => ⟨S8x4x2x512, .f32⟩
  | .hbm, ⟨11, _⟩ => ⟨S2x512, .f32⟩
  | .hbm, ⟨12, _⟩ => ⟨S8x4x2x512, .f32⟩
  | .hbm, ⟨13, _⟩ => ⟨S_, .f32⟩
  | .hbm, ⟨14, _⟩ => ⟨S8x4x2, .f32⟩
  | .hbm, ⟨15, _⟩ => ⟨S8x4x2x1, .f32⟩
  | .hbm, ⟨16, _⟩ => ⟨S_, .f32⟩
  | .hbm, ⟨17, _⟩ => ⟨S8x4x2x1, .f32⟩
  | .hbm, ⟨18, _⟩ => ⟨S8x4x2x1, .f32⟩
  | .hbm, ⟨19, _⟩ => ⟨S_, .f32⟩
  | .hbm, ⟨20, _⟩ => ⟨S8x4x2x1, .f32⟩
  | .hbm, ⟨21, _⟩ => ⟨S8x4x2x1, .f32⟩
  | .hbm, ⟨22, _⟩ => ⟨S8x4x2x1, .f32⟩
  | .hbm, ⟨23, _⟩ => ⟨S8x4x2x512, .f32⟩
  | .hbm, ⟨24, _⟩ => ⟨S8x4x2x512, .f32⟩
  | .hbm, ⟨25, _⟩ => ⟨S1x1x2x512, .f32⟩
  | .hbm, ⟨26, _⟩ => ⟨S8x4x2x512, .f32⟩
  | .hbm, ⟨27, _⟩ => ⟨S8x4x2x512, .f32⟩
  | .hbm, ⟨28, _⟩ => ⟨S8x4x1024, .f32⟩
  | .hbm, ⟨29, _⟩ => ⟨S8x4x2048, .f32⟩
  | .hbm, ⟨30, _⟩ => ⟨S8x4x2048, .f32⟩
  | .hbm, ⟨31, _⟩ => ⟨S2048x2048, .bf16⟩
  | .hbm, ⟨32, _⟩ => ⟨S8x4x2048, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== SsdS.lean ====
abbrev S128x1536 : Shape := ⟨2, ![128, 1536]⟩
abbrev S128x128 : Shape := ⟨2, ![128, 128]⟩
abbrev S128x1024 : Shape := ⟨2, ![128, 1024]⟩
abbrev S8x8x1536 : Shape := ⟨3, ![8, 8, 1536]⟩
abbrev S8x1024x128 : Shape := ⟨3, ![8, 1024, 128]⟩
abbrev S8x1536 : Shape := ⟨2, ![8, 1536]⟩
abbrev S1x1536 : Shape := ⟨2, ![1, 1536]⟩
abbrev S1x128 : Shape := ⟨2, ![1, 128]⟩
abbrev S1x1024 : Shape := ⟨2, ![1, 1024]⟩
abbrev S8x16x1536 : Shape := ⟨3, ![8, 16, 1536]⟩
abbrev S8x16x128 : Shape := ⟨3, ![8, 16, 128]⟩
abbrev S8x16x1024 : Shape := ⟨3, ![8, 16, 1024]⟩
abbrev S4x16x1536 : Shape := ⟨3, ![4, 16, 1536]⟩
abbrev S4x16x128 : Shape := ⟨3, ![4, 16, 128]⟩
abbrev S4x16x1024 : Shape := ⟨3, ![4, 16, 1024]⟩
abbrev S4x8x1536 : Shape := ⟨3, ![4, 8, 1536]⟩
abbrev S4x1024x128 : Shape := ⟨3, ![4, 1024, 128]⟩
abbrev S4x32x1536 : Shape := ⟨3, ![4, 32, 1536]⟩
abbrev S4x2x128x512 : Shape := ⟨4, ![4, 2, 128, 512]⟩
abbrev S1x8x1536 : Shape := ⟨3, ![1, 8, 1536]⟩
abbrev S1x512x128 : Shape := ⟨3, ![1, 512, 128]⟩
abbrev S512x128 : Shape := ⟨2, ![512, 128]⟩
abbrev S128x512 : Shape := ⟨2, ![128, 512]⟩
abbrev S1x1x128x512 : Shape := ⟨4, ![1, 1, 128, 512]⟩
abbrev S16x1 : Shape := ⟨2, ![16, 1]⟩
abbrev S1x16x128 : Shape := ⟨3, ![1, 16, 128]⟩
abbrev S16x128 : Shape := ⟨2, ![16, 128]⟩
abbrev S16x16 : Shape := ⟨2, ![16, 16]⟩
abbrev S16x1024 : Shape := ⟨2, ![16, 1024]⟩
abbrev S8x128 : Shape := ⟨2, ![8, 128]⟩
abbrev S8x1024 : Shape := ⟨2, ![8, 1024]⟩
abbrev S128x16 : Shape := ⟨2, ![128, 16]⟩
abbrev S1x16x1536 : Shape := ⟨3, ![1, 16, 1536]⟩
abbrev S16x1536 : Shape := ⟨2, ![16, 1536]⟩
abbrev S1x24x256 : Shape := ⟨3, ![1, 24, 256]⟩
abbrev S24x256 : Shape := ⟨2, ![24, 256]⟩
abbrev S1x256 : Shape := ⟨2, ![1, 256]⟩
abbrev S16x256 : Shape := ⟨2, ![16, 256]⟩
abbrev S1x16x256 : Shape := ⟨3, ![1, 16, 256]⟩
abbrev S16x512 : Shape := ⟨2, ![16, 512]⟩
abbrev S1x16 : Shape := ⟨2, ![1, 16]⟩
abbrev S1x512 : Shape := ⟨2, ![1, 512]⟩
abbrev S1x16x1024 : Shape := ⟨3, ![1, 16, 1024]⟩

abbrev nBuf : Space → Nat
  | .hbm => 15
  | .vmem => 22
  | .smem => 0
  | _ => 0

abbrev bufTy : (tb : Table) → Fin (tcTables nBuf tb) → BufTy
  | .hbm, ⟨0, _⟩ => ⟨S128x1536, .f32⟩
  | .hbm, ⟨1, _⟩ => ⟨S128x128, .f32⟩
  | .hbm, ⟨2, _⟩ => ⟨S128x1024, .f32⟩
  | .hbm, ⟨3, _⟩ => ⟨S8x8x1536, .f32⟩
  | .hbm, ⟨4, _⟩ => ⟨S8x1024x128, .f32⟩
  | .hbm, ⟨5, _⟩ => ⟨S8x1536, .f32⟩
  | .hbm, ⟨6, _⟩ => ⟨S1x1536, .f32⟩
  | .hbm, ⟨7, _⟩ => ⟨S1x128, .f32⟩
  | .hbm, ⟨8, _⟩ => ⟨S1x128, .f32⟩
  | .hbm, ⟨9, _⟩ => ⟨S1x1024, .f32⟩
  | .hbm, ⟨10, _⟩ => ⟨S8x16x1536, .f32⟩
  | .hbm, ⟨11, _⟩ => ⟨S8x16x128, .f32⟩
  | .hbm, ⟨12, _⟩ => ⟨S8x16x1024, .f32⟩
  | .hbm, ⟨13, _⟩ => ⟨S8x16x1024, .f32⟩
  | .hbm, ⟨14, _⟩ => ⟨S8x1024x128, .f32⟩
  | .local _ .vmem, ⟨0, _⟩ => ⟨S4x16x1536, .f32⟩
  | .local _ .vmem, ⟨1, _⟩ => ⟨S4x16x1536, .f32⟩
  | .local _ .vmem, ⟨2, _⟩ => ⟨S4x16x128, .f32⟩
  | .local _ .vmem, ⟨3, _⟩ => ⟨S4x16x128, .f32⟩
  | .local _ .vmem, ⟨4, _⟩ => ⟨S4x16x1024, .f32⟩
  | .local _ .vmem, ⟨5, _⟩ => ⟨S4x16x1024, .f32⟩
  | .local _ .vmem, ⟨6, _⟩ => ⟨S4x8x1536, .f32⟩
  | .local _ .vmem, ⟨7, _⟩ => ⟨S4x8x1536, .f32⟩
  | .local _ .vmem, ⟨8, _⟩ => ⟨S4x1024x128, .f32⟩
  | .local _ .vmem, ⟨9, _⟩ => ⟨S4x1024x128, .f32⟩
  | .local _ .vmem, ⟨10, _⟩ => ⟨S8x1536, .f32⟩
  | .local _ .vmem, ⟨11, _⟩ => ⟨S1x1536, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S4x16x1024, .f32⟩
  | .local _ .vmem, ⟨16, _⟩ => ⟨S4x16x1024, .f32⟩
  | .local _ .vmem, ⟨17, _⟩ => ⟨S4x1024x128, .f32⟩
  | .local _ .vmem, ⟨18, _⟩ => ⟨S4x1024x128, .f32⟩
  | .local _ .vmem, ⟨19, _⟩ => ⟨S4x32x1536, .f32⟩
  | .local _ .vmem, ⟨20, _⟩ => ⟨S4x2x128x512, .f32⟩
  | .local _ .vmem, ⟨21, _⟩ => ⟨S4x16x1536, .f32⟩
  | _, _ => ⟨S128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_1155 : BitVec 32 := 0#32
  let v3083 : BitVec 1 := Scalar.cmpi .eq arg1 c0_i32_1155
  let v3084 : BitVec 32 := Scalar.extui v3083
  let c0_i32_1156 : BitVec 32 := 0#32
  let v3085 : BitVec 1 := Scalar.cmpi .ne v3084 c0_i32_1156
  v3085

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== SsdSRefIdeal.lean ====
abbrev S128x1536 : Shape := ⟨2, ![128, 1536]⟩
abbrev S128x128 : Shape := ⟨2, ![128, 128]⟩
abbrev S128x1024 : Shape := ⟨2, ![128, 1024]⟩
abbrev S8x8x1536 : Shape := ⟨3, ![8, 8, 1536]⟩
abbrev S8x1024x128 : Shape := ⟨3, ![8, 1024, 128]⟩
abbrev S8x1536 : Shape := ⟨2, ![8, 1536]⟩
abbrev S1x1536 : Shape := ⟨2, ![1, 1536]⟩
abbrev S1x128 : Shape := ⟨2, ![1, 128]⟩
abbrev S1x1024 : Shape := ⟨2, ![1, 1024]⟩
abbrev S8x16x1536 : Shape := ⟨3, ![8, 16, 1536]⟩
abbrev S8x4x1536 : Shape := ⟨3, ![8, 4, 1536]⟩
abbrev S8x16x128 : Shape := ⟨3, ![8, 16, 128]⟩
abbrev S8x4x128 : Shape := ⟨3, ![8, 4, 128]⟩
abbrev S8x3x1536 : Shape := ⟨3, ![8, 3, 1536]⟩
abbrev S8x7x1536 : Shape := ⟨3, ![8, 7, 1536]⟩
abbrev S1536 : Shape := ⟨1, ![1536]⟩
abbrev S1x1x1536 : Shape := ⟨3, ![1, 1, 1536]⟩
abbrev S_ : Shape := ⟨0, ![]⟩
abbrev S8x4x1024 : Shape := ⟨3, ![8, 4, 1024]⟩
abbrev S8x4x2x8x64 : Shape := ⟨5, ![8, 4, 2, 8, 64]⟩
abbrev S8x4x256 : Shape := ⟨3, ![8, 4, 256]⟩
abbrev S8x4x2x128 : Shape := ⟨4, ![8, 4, 2, 128]⟩
abbrev S8x4x16 : Shape := ⟨3, ![8, 4, 16]⟩
abbrev S1x16 : Shape := ⟨2, ![1, 16]⟩
abbrev S16 : Shape := ⟨1, ![16]⟩
abbrev S1x1x16 : Shape := ⟨3, ![1, 1, 16]⟩
abbrev S8x1x16 : Shape := ⟨3, ![8, 1, 16]⟩
abbrev S8x4x2x8 : Shape := ⟨4, ![8, 4, 2, 8]⟩
abbrev S8x4x2x8x1 : Shape := ⟨5, ![8, 4, 2, 8, 1]⟩
abbrev S8x2x8x64x128 : Shape := ⟨5, ![8, 2, 8, 64, 128]⟩
abbrev S8x16x64x128 : Shape := ⟨4, ![8, 16, 64, 128]⟩
abbrev S8x16 : Shape := ⟨2, ![8, 16]⟩
abbrev S8x16x1x1 : Shape := ⟨4, ![8, 16, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S128x1536, .f32⟩
  | .hbm, ⟨1, _⟩ => ⟨S128x128, .f32⟩
  | .hbm, ⟨2, _⟩ => ⟨S128x1024, .f32⟩
  | .hbm, ⟨3, _⟩ => ⟨S8x8x1536, .f32⟩
  | .hbm, ⟨4, _⟩ => ⟨S8x1024x128, .f32⟩
  | .hbm, ⟨5, _⟩ => ⟨S8x1536, .f32⟩
  | .hbm, ⟨6, _⟩ => ⟨S1x1536, .f32⟩
  | .hbm, ⟨7, _⟩ => ⟨S1x128, .f32⟩
  | .hbm, ⟨8, _⟩ => ⟨S1x128, .f32⟩
  | .hbm, ⟨9, _⟩ => ⟨S1x1024, .f32⟩
  | .hbm, ⟨10, _⟩ => ⟨S8x16x1536, .f32⟩
  | .hbm, ⟨11, _⟩ => ⟨S8x4x1536, .f32⟩
  | .hbm, ⟨12, _⟩ => ⟨S8x16x128, .f32⟩
  | .hbm, ⟨13, _⟩ => ⟨S8x4x128, .f32⟩
  | .hbm, ⟨14, _⟩ => ⟨S8x3x1536, .f32⟩
  | .hbm, ⟨15, _⟩ => ⟨S8x7x1536, .f32⟩
  | .hbm, ⟨16, _⟩ => ⟨S1x1536, .f32⟩
  | .hbm, ⟨17, _⟩ => ⟨S1536, .f32⟩
  | .hbm, ⟨18, _⟩ => ⟨S8x4x1536, .f32⟩
  | .hbm, ⟨19, _⟩ => ⟨S1x1x1536, .f32⟩
  | .hbm, ⟨20, _⟩ => ⟨S8x4x1536, .f32⟩
  | .hbm, ⟨21, _⟩ => ⟨S8x4x1536, .f32⟩
  | .hbm, ⟨22, _⟩ => ⟨S_, .f32⟩
  | .hbm, ⟨23, _⟩ => ⟨S8x4x1536, .f32⟩
  | .hbm, ⟨24, _⟩ => ⟨S8x4x1536, .f32⟩
  | .hbm, ⟨25, _⟩ => ⟨S1x1536, .f32⟩
  | .hbm, ⟨26, _⟩ => ⟨S1536, .f32⟩
  | .hbm, ⟨27, _⟩ => ⟨S8x4x1536, .f32⟩
  | .hbm, ⟨28, _⟩ => ⟨S1x1x1536, .f32⟩
  | .hbm, ⟨29, _⟩ => ⟨S8x4x1536, .f32⟩
  | .hbm, ⟨30, _⟩ => ⟨S8x4x1536, .f32⟩
  | .hbm, ⟨31, _⟩ => ⟨S8x4x1536, .f32⟩
  | .hbm, ⟨32, _⟩ => ⟨S1x1536, .f32⟩
  | .hbm, ⟨33, _⟩ => ⟨S1536, .f32⟩
  | .hbm, ⟨34, _⟩ => ⟨S8x4x1536, .f32⟩
  | .hbm, ⟨35, _⟩ => ⟨S1x1x1536, .f32⟩
  | .hbm, ⟨36, _⟩ => ⟨S8x4x1536, .f32⟩
  | .hbm, ⟨37, _⟩ => ⟨S8x4x1536, .f32⟩
  | .hbm, ⟨38, _⟩ => ⟨S8x4x1536, .f32⟩
  | .hbm, ⟨39, _⟩ => ⟨S1x1536, .f32⟩
  | .hbm, ⟨40, _⟩ => ⟨S1536, .f32⟩
  | .hbm, ⟨41, _⟩ => ⟨S8x4x1536, .f32⟩
  | .hbm, ⟨42, _⟩ => ⟨S1x1x1536, .f32⟩
  | .hbm, ⟨43, _⟩ => ⟨S8x4x1536, .f32⟩
  | .hbm, ⟨44, _⟩ => ⟨S8x4x1536, .f32⟩
  | .hbm, ⟨45, _⟩ => ⟨S8x4x1536, .f32⟩
  | .hbm, ⟨46, _⟩ => ⟨S1536, .f32⟩
  | .hbm, ⟨47, _⟩ => ⟨S1x1x1536, .f32⟩
  | .hbm, ⟨48, _⟩ => ⟨S8x4x1536, .f32⟩
  | .hbm, ⟨49, _⟩ => ⟨S8x4x1536, .f32⟩
  | .hbm, ⟨50, _⟩ => ⟨S8x4x1536, .f32⟩
  | .hbm, ⟨51, _⟩ => ⟨S8x4x1536, .f32⟩
  | .hbm, ⟨52, _⟩ => ⟨S_, .f32⟩
  | .hbm, ⟨53, _⟩ => ⟨S8x4x1536, .f32⟩
  | .hbm, ⟨54, _⟩ => ⟨S8x4x1536, .f32⟩
  | .hbm, ⟨55, _⟩ => ⟨S_, .f32⟩
  | .hbm, ⟨56, _⟩ => ⟨S8x4x1536, .f32⟩
  | .hbm, ⟨57, _⟩ => ⟨S8x4x1536, .f32⟩
  | .hbm, ⟨58, _⟩ => ⟨S8x4x1536, .f32⟩
  | .hbm, ⟨59, _⟩ => ⟨S8x4x1024, .f32⟩
  | .hbm, ⟨60, _⟩ => ⟨S8x4x2x8x64, .f32⟩
  | .hbm, ⟨61, _⟩ => ⟨S8x4x256, .f32⟩
  | .hbm, ⟨62, _⟩ => ⟨S8x4x2x128, .f32⟩
  | .hbm, ⟨63, _⟩ => ⟨S8x4x16, .f32⟩
  | .hbm, ⟨64, _⟩ => ⟨S1x16, .f32⟩
  | .hbm, ⟨65, _⟩ => ⟨S16, .f32⟩
  | .hbm, ⟨66, _⟩ => ⟨S1x1x16, .f32⟩
  | .hbm, ⟨67, _⟩ => ⟨S8x4x16, .f32⟩
  | .hbm, ⟨68, _⟩ => ⟨S8x4x16, .f32⟩
  | .hbm, ⟨69, _⟩ => ⟨S_, .f32⟩
  | .hbm, ⟨70, _⟩ => ⟨S8x4x16, .f32⟩
  | .hbm, ⟨71, _⟩ => ⟨S8x4x16, .f32⟩
  | .hbm, ⟨72, _⟩ => ⟨S8x4x16, .f32⟩
  | .hbm, ⟨73, _⟩ => ⟨S8x4x16, .f32⟩
  | .hbm, ⟨74, _⟩ => ⟨S8x4x16, .i1⟩
  | .hbm, ⟨75, _⟩ => ⟨S8x4x16, .f32⟩
  | .hbm, ⟨76, _⟩ => ⟨S8x4x16, .f32⟩
  | .hbm, ⟨77, _⟩ => ⟨S8x4x16, .f32⟩
  | .hbm, ⟨78, _⟩ => ⟨S8x4x16, .f32⟩
  | .hbm, ⟨79, _⟩ => ⟨S8x4x16, .f32⟩
  | .hbm, ⟨80, _⟩ => ⟨S8x4x16, .f32⟩
  | .hbm, ⟨81, _⟩ => ⟨S8x4x16, .f32⟩
  | .hbm, ⟨82, _⟩ => ⟨S8x4x16, .f32⟩
  | .hbm, ⟨83, _⟩ => ⟨S1x16, .f32⟩
  | .hbm, ⟨84, _⟩ => ⟨S16, .f32⟩
  | .hbm, ⟨85, _⟩ => ⟨S16, .f32⟩
  | .hbm, ⟨86, _⟩ => ⟨S16, .f32⟩
  | .hbm, ⟨87, _⟩ => ⟨S_, .f32⟩
  | .hbm, ⟨88, _⟩ => ⟨S16, .f32⟩
  | .hbm, ⟨89, _⟩ => ⟨S16, .f32⟩
  | .hbm, ⟨90, _⟩ => ⟨S1x1x16, .f32⟩
  | .hbm, ⟨91, _⟩ => ⟨S8x4x16, .f32⟩
  | .hbm, ⟨92, _⟩ => ⟨S8x4x16, .f32⟩
  | .hbm, ⟨93, _⟩ => ⟨S_, .f32⟩
  | .hbm, ⟨94, _⟩ => ⟨S_, .f32⟩
  | .hbm, ⟨95, _⟩ => ⟨S8x4x16, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S8x4x16, .f32⟩
  | .hbm, ⟨100, _⟩ => ⟨S8x4x16, .f32⟩
  | .hbm, ⟨101, _⟩ => ⟨S8x1x16, .f32⟩
  | .hbm, ⟨102, _⟩ => ⟨S8x4x16, .f32⟩
  | .hbm, ⟨103, _⟩ => ⟨S8x4x16, .f32⟩
  | .hbm, ⟨104, _⟩ => ⟨S8x4x16, .f32⟩
  | .hbm, ⟨105, _⟩ => ⟨S8x4x16, .f32⟩
  | .hbm, ⟨106, _⟩ => ⟨S8x4x2x8, .f32⟩
  | .hbm, ⟨107, _⟩ => ⟨S8x4x2x8x1, .f32⟩
  | .hbm, ⟨108, _⟩ => ⟨S8x4x2x8x64, .f32⟩
  | .hbm, ⟨109, _⟩ => ⟨S8x4x2x8x64, .f32⟩
  | .hbm, ⟨110, _⟩ => ⟨S8x2x8x64x128, .f32⟩
  | .hbm, ⟨111, _⟩ => ⟨S8x16x64x128, .f32⟩
  | .hbm, ⟨112, _⟩ => ⟨S8x1x16, .f32⟩
  | .hbm, ⟨113, _⟩ => ⟨S8x16, .f32⟩
  | .hbm, ⟨114, _⟩ => ⟨S8x16, .f32⟩
  | .hbm, ⟨115, _⟩ => ⟨S8x16x1x1, .f32⟩
  | .hbm, ⟨116, _⟩ => ⟨S8x16x64x128, .f32⟩
  | .hbm, ⟨117, _⟩ => ⟨S8x16x64x128, .f32⟩
  | .hbm, ⟨118, _⟩ => ⟨S8x1024x128, .f32⟩
  | .hbm, ⟨119, _⟩ => ⟨S8x1024x128, .f32⟩
  | .hbm, ⟨120, _⟩ => ⟨S8x1024x128, .f32⟩
  | _, _ => ⟨S128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_0 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call2_call0_cst : Ref sig .tc := ⟨.hbm, 93, rfl⟩
abbrev main_call2_call0_v0 : Ref sig .tc := ⟨.hbm, 94, rfl⟩
abbrev main_v60 : Ref sig .tc := ⟨.hbm, 95, rfl⟩
abbrev main_cst_1 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]
-- ==== Proof.OutPVal.lean ====
module

public import proofs.«01_k».proof.Proof.Gen.OutPIdeal.Value
public import proofs.«01_k».proof.Proof.Gen.OutPRefIdeal.Run
public import proofs.«01_k».proof.Proof.Gen.OutPRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutPIdeal.Val

open Cert.OutPIdeal Cert.OutPIdeal.Gen

variable (m : (ℓ : Loc nD τ sig) → Buf (Elt Ideal) ℓ)

theorem idx : ∀ t : Fin cfg0.N, win0_0.index t = ![t.val, 0] ∧ win0_1.index t = ![t.val, 0]
    ∧ win0_2.index t = ![t.val / 4, 0, t.val % 4] ∧ win0_3.index t = ![0, 0] ∧ win0_4.index t = ![0, 0]
    ∧ win0_5.index t = ![t.val, 0] :=
  (by decide +kernel : ∀ t : Fin grid0.N, _)

theorem ht (t : Fin cfg0.N) : t.val < 16 := t.isLt

/-- What the first window holds: 512 rows of the layer's input. -/
theorem b0 (c : Dev nD) (t : Fin cfg0.N) (x : S512x2048.Idx) : iblk m c 0 t x
    = m ((c : Thread nD τ).loc main_arg0) (ix3 ⟨(t.val * 512 + (x 0).val) / 2048, by have := (x 0).isLt; have := ht t; simp at *; omega⟩ ⟨(t.val * 512 + (x 0).val) % 2048, by omega⟩ (x 1)) := by
  blk_simp [iblk]
  entry_read
  pointwise []
  blk_ext [idx t]

/-- The rows of the recurrence's output. -/
theorem b1 (c : Dev nD) (t : Fin cfg0.N) (x : S512x1024.Idx) : iblk m c 1 t x
    = m ((c : Thread nD τ).loc main_arg1) (ix2 ⟨t.val * 512 + (x 0).val, by have := (x 0).isLt; have := ht t; simp at *; omega⟩ (x 1)) := by
  blk_simp [iblk]
  rw [V_main_arg1]
  blk_ext [idx t]

/-- The columns of the attention's output. -/
theorem b2 (c : Dev nD) (t : Fin cfg0.N) (x : S1x1024x512.Idx) : iblk m c 2 t x
    = m ((c : Thread nD τ).loc main_arg2) (ix3 ⟨t.val / 4, by have := ht t; simp at *; omega⟩ (x 1) ⟨t.val % 4 * 512 + (x 2).val, by have := (x 2).isLt; have := ht t; simp at *; omega⟩) := by
  blk_simp [iblk]
  rw [V_main_arg2]
  blk_ext [idx t]

theorem b3 (c : Dev nD) (t : Fin cfg0.N) (x : S1x1024.Idx) : iblk m c 3 t x = m ((c : Thread nD τ).loc main_arg3) x := by
  blk_simp [iblk]
  rw [V_main_arg3]
  blk_ext [idx t]

theorem b4 (c : Dev nD) (t : Fin cfg0.N) (x : S2048x2048.Idx) : iblk m c 4 t x = m ((c : Thread nD τ).loc main_arg4) x := by
  blk_simp [iblk]
  rw [V_main_arg4]
  blk_ext [idx t]

/-- A sum over 1024 lanes is the sum over the lanes of the two norm groups. -/
theorem sum_groups (f : Fin 1024 → EReal) :
    ∑ i, f i = (∑ i : Fin 512, f ⟨i, by omega⟩) + ∑ i : Fin 512, f ⟨512 + i, by omega⟩ :=
  Fin.sum_univ_add (a := 512) (b := 512) f

/-- The call adds the input, the two norm groups and the attention in turn; the reference adds one sum over both mixers. -/
theorem regroup (a b c d x C : EReal) (f : Fin 1024 → EReal) (h1 : a = x) (h2 : b = ∑ i : Fin 512, f ⟨i, by omega⟩)
    (h3 : c = ∑ i : Fin 512, f ⟨512 + i, by omega⟩) (h4 : d = C) : a + b + c + d = x + ((∑ i, f i) + C) := by
  rw [sum_groups, h1, h2, h3, h4, add_assoc, add_assoc, add_assoc]

open Cert.OutPRefIdeal.Read in
/-- What one grid point stores is the reference's result at the block's place. -/
theorem point (c : Dev nD) (t : Fin cfg0.N) (y : S512x2048.Idx) :
    out0_5 (F := Ideal) (iblk m c 0 t) (iblk m c 1 t) (iblk m c 2 t) (iblk m c 3 t) (iblk m c 4 t) y
      = val_main_v22 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 5).blk t).view.emb y) := by
  unfold out0_5
  frame_out
  pointwise [k0_pay1, k0_pay2, k0_pay3, val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  refine regroup _ _ _ _ _ _ _ ?_ ?_ ?_ ?_
  · rw [b0]
    blk_point [idx t]
  · simp only [b1, b3, b4]
    blk_point [idx t]
  · simp only [b1, b3, b4]
    blk_point [idx t]
  · simp only [b2, b4]
    blk_point [idx t]

open Cert.OutPRefIdeal.Read in
/-- The call's result array is the reference's. -/
theorem final (c : Dev nD) : (dats m 0 c).arrAt 5 (cfgs 0).N
      = val_main_v22 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.OutPIdeal.Val

end
-- ==== Proof.AttMath.lean ====
module

public import proofs.«01_k».proof.Proof.Gen.AttSIdeal.Value
public import Idealize.ShloMosaic.Lib.Pipeline.ValueKit

@[expose] public section

set_option maxRecDepth 16384

noncomputable section

open Idealize.ShloMosaic

namespace Cert.Att

/-! The mathematics of the dilated window attention of one query row, apart from any program. -/

/-- The number of windows that contain a key at distance `d`, as a real. -/
def pick (L dil d : ℕ) : ℝ := if d ≤ L * dil ∧ dil ∣ d then 1 else 0

def wt (d : ℕ) : ℝ := pick 128 1 d + pick 128 4 d + pick 128 16 d

theorem pick_nonneg (L dil d : ℕ) : 0 ≤ pick L dil d := by
  unfold pick; split_ifs <;> norm_num

theorem wt_nonneg (d : ℕ) : 0 ≤ wt d :=
  add_nonneg (add_nonneg (pick_nonneg _ _ _) (pick_nonneg _ _ _)) (pick_nonneg _ _ _)

theorem wt_zero : wt 0 = 3 := by
  simp [wt, pick]; norm_num

theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top
      (by exact_mod_cast hc) (EReal.coe_ne_top _), ih]

theorem coe_add_mul (a b : ℝ) (ha : 0 ≤ a) (hb : 0 ≤ b) (x : EReal) :
    ((a + b : ℝ) : EReal) * x = (a : EReal) * x + (b : EReal) * x := by
  rw [EReal.coe_add]
  exact EReal.right_distrib_of_nonneg (by exact_mod_cast ha) (by exact_mod_cast hb)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_scale (c D : ℝ) (hc : 0 < c) (hD : 0 < D) (N : EReal) :
    Ideal.div ((c : EReal) * N) ((c : EReal) * (D : EReal)) = Ideal.div N (D : EReal) := by
  unfold Ideal.div
  rw [← EReal.coe_mul, if_neg (by exact_mod_cast (mul_pos hc hD).ne'), if_neg (by exact_mod_cast hD.ne'),
    ← EReal.coe_inv, ← EReal.coe_inv, mul_comm (c : EReal) N, mul_assoc, ← EReal.coe_mul]
  congr 2
  field_simp

/-- A maximum of finitely many reals, at least one of them, from `⊥`. -/
theorem fold_max_real {ι : Type} (s : Finset ι) (hs : s.Nonempty) (f : ι → EReal) (hf : ∀ i, ∃ r : ℝ, f i = r) :
    ∃ r : ℝ, s.fold max ⊥ f = r := by
  classical
  induction hs using Finset.Nonempty.cons_induction with
  | singleton a =>
    obtain ⟨r, hr⟩ := hf a
    exact ⟨r, by simp [hr]⟩
  | cons a s ha hs ih =>
    obtain ⟨r, hr⟩ := hf a
    obtain ⟨q, hq⟩ := ih
    refine ⟨max r q, ?_⟩
    rw [Finset.fold_cons, hr, hq]
    exact (EReal.coe_strictMono.monotone.map_max).symm

/-- The distances a window reaches, from the positions it reaches. -/
theorem window_sum (L dil n : ℕ) (hd : 0 < dil) (hn : L * dil ≤ n) (F : ℕ → EReal) :
    ∑ i : Fin (L + 1), F (n - dil * i.val) = ∑ j ∈ Finset.range (n + 1), (pick L dil (n - j) : EReal) * F j := by
  have e : ∀ j, (pick L dil (n - j) : EReal) * F j = if n - j ≤ L * dil ∧ dil ∣ n - j then F j else 0 := by
    intro j; unfold pick; split_ifs <;> simp
  rw [Finset.sum_congr rfl fun j _ => e j, ← Finset.sum_filter,
    Fin.sum_univ_eq_sum_range (fun i => F (n - dil * i)) (L + 1)]
  have hle : ∀ i, i < L + 1 → dil * i ≤ n := fun i hi =>
    (Nat.mul_le_mul_left dil (Nat.lt_succ_iff.mp hi)).trans (by rw [mul_comm]; exact hn)
  refine Finset.sum_nbij' (fun i => n - dil * i) (fun j => (n - j) / dil) ?_ ?_ ?_ ?_ ?_
  · intro i hi
    have hi' := Finset.mem_range.mp hi
    have h1 := hle i hi'
    have h2 : n - (n - dil * i) = dil * i := by omega
    refine Finset.mem_filter.mpr ⟨Finset.mem_range.mpr (by omega), ?_⟩
    rw [h2]
    exact ⟨by rw [mul_comm]; exact Nat.mul_le_mul_right dil (Nat.lt_succ_iff.mp hi'), Nat.dvd_mul_right _ _⟩
  · intro j hj
    obtain ⟨h1, h2, h3⟩ := Finset.mem_filter.mp hj
    exact Finset.mem_range.mpr (Nat.lt_succ_of_le (Nat.div_le_of_le_mul (by rw [mul_comm]; exact h2)))
  · intro i hi
    have h1 := hle i (Finset.mem_range.mp hi)
    have h2 : n - (n - dil * i) = dil * i := by omega
    show (n - (n - dil * i)) / dil = i
    rw [h2, Nat.mul_div_cancel_left _ hd]
  · intro j hj
    obtain ⟨h1, h2, h3⟩ := Finset.mem_filter.mp hj
    have := Finset.mem_range.mp h1
    show n - dil * ((n - j) / dil) = j
    rw [Nat.mul_div_cancel' h3]; omega
  · intro i hi; rfl

/-- The sum over every position up to `n`, each as often as windows reach it. -/
def tot (n : ℕ) (F : ℕ → EReal) : EReal := ∑ j ∈ Finset.range (n + 1), (wt (n - j) : EReal) * F j

theorem tot_windows (n : ℕ) (hn : 2048 ≤ n) (F : ℕ → EReal) :
    (∑ i : Fin 129, F (n - 1 * i.val)) + (∑ i : Fin 129, F (n - 4 * i.val)) + (∑ i : Fin 129, F (n - 16 * i.val)) = tot n F := by
  rw [window_sum 128 1 n (by norm_num) (by omega), window_sum 128 4 n (by norm_num) (by omega),
    window_sum 128 16 n (by norm_num) (by omega), ← Finset.sum_add_distrib, ← Finset.sum_add_distrib]
  refine Finset.sum_congr rfl fun j _ => ?_
  unfold wt
  rw [coe_add_mul _ _ (add_nonneg (pick_nonneg _ _ _) (pick_nonneg _ _ _)) (pick_nonneg _ _ _),
    coe_add_mul _ _ (pick_nonneg _ _ _) (pick_nonneg _ _ _)]

theorem tot_real (n : ℕ) (e : ℕ → ℝ) (he : ∀ j, 0 < e j) : ∃ D : ℝ, 0 < D ∧ tot n (fun j => (e j : EReal)) = D := by
  refine ⟨∑ j ∈ Finset.range (n + 1), wt (n - j) * e j, ?_, ?_⟩
  · refine Finset.sum_pos' (fun j _ => mul_nonneg (wt_nonneg _) (he j).le) ⟨n, Finset.mem_range.mpr (Nat.lt_succ_self n), ?_⟩
    rw [Nat.sub_self, wt_zero]
    exact mul_pos (by norm_num) (he n)
  · rw [coe_sum]; rfl

/-- The weight of a new key: none when it lies after the query. -/
def wtn (t j : ℕ) : ℝ := if j ≤ t then wt (t - j) else 0

theorem tot_split (t : ℕ) (ht : t < 16) (F : ℕ → EReal) :
    tot (2048 + t) F = (∑ j : Fin 2048, (wt (2048 + t - j.val) : EReal) * F j.val)
      + ∑ j : Fin 16, (wtn t j.val : EReal) * F (2048 + j.val) := by
  unfold tot
  rw [Fin.sum_univ_eq_sum_range (fun j => (wt (2048 + t - j) : EReal) * F j) 2048,
    Fin.sum_univ_eq_sum_range (fun j => (wtn t j : EReal) * F (2048 + j)) 16,
    show 2048 + t + 1 = 2048 + (t + 1) by omega, Finset.sum_range_add]
  congr 1
  have h : Finset.range (t + 1) ⊆ Finset.range 16 := Finset.range_subset_range.mpr (by omega)
  rw [← Finset.sum_subset h]
  · refine Finset.sum_congr rfl fun j hj => ?_
    have := Finset.mem_range.mp hj
    unfold wtn
    rw [if_pos (by omega), show 2048 + t - (2048 + j) = t - j by omega]
  · intro j _ hj
    have : ¬ j < t + 1 := fun h => hj (Finset.mem_range.mpr h)
    unfold wtn
    rw [if_neg (by omega)]; simp

/-- The exponential weight of a position of score `x`. -/
def ex (x : ℝ) : ℝ := Real.rpow 2 x

theorem ex_pos (x : ℝ) : 0 < ex x := Real.rpow_pos_of_pos (by norm_num) x

theorem ex_sub (x y : ℝ) : ex (x - y) = ex (-y) * ex x := by
  unfold ex
  show (2:ℝ) ^ (x - y) = 2 ^ (-y) * 2 ^ x
  rw [← Real.rpow_add (by norm_num)]; congr 1; ring

theorem exp_log2 (x : ℝ) : Real.exp (x * Real.log 2) = ex x := by
  unfold ex
  show _ = (2:ℝ) ^ x
  rw [Real.rpow_def_of_pos (by norm_num), mul_comm]

/-- The attention of one query at position `n`, of scores `s` and values `V`. -/
def att (n : ℕ) (s : ℕ → ℝ) (V : ℕ → EReal) : EReal :=
  Ideal.div (tot n fun j => (ex (s j) : EReal) * V j) (tot n fun j => (ex (s j) : EReal))

theorem att_of (n : ℕ) (s : ℕ → ℝ) (V : ℕ → EReal) (c : ℝ) (hc : 0 < c) :
    Ideal.div ((c : EReal) * tot n fun j => (ex (s j) : EReal) * V j) ((c : EReal) * tot n fun j => (ex (s j) : EReal))
      = att n s V := by
  obtain ⟨D, hD, e⟩ := tot_real n (fun j => ex (s j)) (fun j => ex_pos _)
  unfold att
  rw [e, div_scale c D hc hD]

/-! The kernel's order. -/

/-- A masked score. -/
def msc (NEG w s : ℝ) : EReal := if 0 < (w : EReal) then (s : EReal) else (NEG : EReal)

theorem msc_real (NEG w s : ℝ) : ∃ r : ℝ, msc NEG w s = r := by
  unfold msc; split_ifs <;> exact ⟨_, rfl⟩

theorem exp2_msc (NEG w s M : ℝ) (hw : 0 ≤ w) :
    Ideal.exp2 (msc NEG w s - (M : EReal)) * (w : EReal) = (ex (-M) : EReal) * ((w : EReal) * (ex s : EReal)) := by
  unfold msc
  split_ifs with h
  · rw [← EReal.coe_sub]
    show ((ex (s - M) : ℝ) : EReal) * _ = _
    rw [ex_sub, EReal.coe_mul, mul_assoc, mul_comm (ex s : EReal)]
  · have : w = 0 := le_antisymm (not_lt.mp fun h' => h (by exact_mod_cast h')) hw
    rw [this]; simp

theorem kernel_att (t : ℕ) (ht : t < 16) (NEG : ℝ) (s : ℕ → ℝ) (V : ℕ → EReal)
    (SC : Fin 2048 → EReal) (SN : Fin 16 → EReal) (PC : Fin 2048 → EReal) (PN : Fin 16 → EReal)
    (hSC : ∀ j, SC j = msc NEG (wt (2048 + t - j.val)) (s j.val))
    (hSN : ∀ j, SN j = msc NEG (wtn t j.val) (s (2048 + j.val)))
    (hPC : ∀ j, PC j = Ideal.exp2 (SC j - max (Finset.univ.fold max ⊥ SC) (Finset.univ.fold max ⊥ SN)) * (wt (2048 + t - j.val) : EReal))
    (hPN : ∀ j, PN j = Ideal.exp2 (SN j - max (Finset.univ.fold max ⊥ SC) (Finset.univ.fold max ⊥ SN)) * (wtn t j.val : EReal)) :
    Ideal.div ((∑ j, PC j * V j.val) + ∑ j, PN j * V (2048 + j.val)) ((∑ j, PC j) + ∑ j, PN j) = att (2048 + t) s V := by
  have hwn : ∀ j, 0 ≤ wtn t j := fun j => by unfold wtn; split_ifs; exacts [wt_nonneg _, le_rfl]
  obtain ⟨a, ha⟩ := fold_max_real Finset.univ ⟨0, Finset.mem_univ _⟩ SC (fun j => by rw [hSC]; exact msc_real _ _ _)
  obtain ⟨b, hb⟩ := fold_max_real Finset.univ ⟨0, Finset.mem_univ _⟩ SN (fun j => by rw [hSN]; exact msc_real _ _ _)
  have hM : max (Finset.univ.fold max ⊥ SC) (Finset.univ.fold max ⊥ SN) = ((max a b : ℝ) : EReal) := by
    rw [ha, hb]; exact (EReal.coe_strictMono.monotone.map_max).symm
  have hc := ex_pos (-(max a b))
  have e1 : ∀ j, PC j = (ex (-(max a b)) : EReal) * ((wt (2048 + t - j.val) : EReal) * (ex (s j.val) : EReal)) := fun j => by
    rw [hPC, hM, hSC, exp2_msc _ _ _ _ (wt_nonneg _)]
  have e2 : ∀ j, PN j = (ex (-(max a b)) : EReal) * ((wtn t j.val : EReal) * (ex (s (2048 + j.val)) : EReal)) := fun j => by
    rw [hPN, hM, hSN, exp2_msc _ _ _ _ (hwn _)]
  rw [← att_of (2048 + t) s V _ hc, tot_split t ht, tot_split t ht,
    EReal.left_distrib_of_nonneg_of_ne_top (by exact_mod_cast hc.le) (EReal.coe_ne_top _),
    EReal.left_distrib_of_nonneg_of_ne_top (by exact_mod_cast hc.le) (EReal.coe_ne_top _),
    coe_mul_sum _ _ hc.le, coe_mul_sum _ _ hc.le, coe_mul_sum _ _ hc.le, coe_mul_sum _ _ hc.le]
  refine congrArg₂ Ideal.div (congrArg₂ (· + ·) ?_ ?_) (congrArg₂ (· + ·) ?_ ?_)
  · exact Finset.sum_congr rfl fun j _ => by rw [e1]; simp only [mul_assoc]
  · exact Finset.sum_congr rfl fun j _ => by rw [e2]; simp only [mul_assoc]
  · exact Finset.sum_congr rfl fun j _ => e1 j
  · exact Finset.sum_congr rfl fun j _ => e2 j

/-! The reference's order. -/

/-- A window's part, scaled from its own maximum `m` to the common one `M`. -/
theorem window_scale (dil n : ℕ) (s : ℕ → ℝ) (V : ℕ → EReal) (m M : ℝ) :
    (∑ i : Fin 129, Ideal.exp (((s (n - dil * i.val) * Real.log 2 : ℝ) : EReal) - (m : EReal)) * V (n - dil * i.val))
        * Ideal.exp ((m : EReal) - (M : EReal))
      = (Real.exp (-M) : EReal) * ∑ i : Fin 129, (ex (s (n - dil * i.val)) : EReal) * V (n - dil * i.val) := by
  have h : Ideal.exp ((m : EReal) - (M : EReal)) = (Real.exp (m - M) : EReal) := by rw [← EReal.coe_sub]; rfl
  rw [h, mul_comm, coe_mul_sum _ _ (Real.exp_pos _).le, coe_mul_sum _ _ (Real.exp_pos _).le]
  refine Finset.sum_congr rfl fun i _ => ?_
  have h' : Ideal.exp (((s (n - dil * i.val) * Real.log 2 : ℝ) : EReal) - (m : EReal))
      = (Real.exp (s (n - dil * i.val) * Real.log 2 - m) : EReal) := by rw [← EReal.coe_sub]; rfl
  rw [h', ← mul_assoc, ← mul_assoc, ← EReal.coe_mul, ← EReal.coe_mul, ← exp_log2, ← Real.exp_add, ← Real.exp_add]
  congr 3; ring_nf

theorem ref_att (n : ℕ) (hn : 2048 ≤ n) (s : ℕ → ℝ) (V : ℕ → EReal) (A1 A4 A16 : Fin 129 → EReal)
    (h1 : ∀ i, A1 i = ((s (n - 1 * i.val) * Real.log 2 : ℝ) : EReal))
    (h4 : ∀ i, A4 i = ((s (n - 4 * i.val) * Real.log 2 : ℝ) : EReal))
    (h16 : ∀ i, A16 i = ((s (n - 16 * i.val) * Real.log 2 : ℝ) : EReal)) (M : EReal) (M1 M4 M16 : EReal)
    (e1 : M1 = Finset.univ.fold max ⊥ A1) (e4 : M4 = Finset.univ.fold max ⊥ A4) (e16 : M16 = Finset.univ.fold max ⊥ A16)
    (hM : M = max (max M1 M4) M16) :
    Ideal.div
      ((∑ i, Ideal.exp (A1 i - M1) * V (n - 1 * i.val)) * Ideal.exp (M1 - M)
        + (∑ i, Ideal.exp (A4 i - M4) * V (n - 4 * i.val)) * Ideal.exp (M4 - M)
        + (∑ i, Ideal.exp (A16 i - M16) * V (n - 16 * i.val)) * Ideal.exp (M16 - M))
      ((∑ i, Ideal.exp (A1 i - M1)) * Ideal.exp (M1 - M)
        + (∑ i, Ideal.exp (A4 i - M4)) * Ideal.exp (M4 - M)
        + (∑ i, Ideal.exp (A16 i - M16)) * Ideal.exp (M16 - M)) = att n s V := by
  obtain ⟨a, ha⟩ := fold_max_real Finset.univ ⟨0, Finset.mem_univ _⟩ A1 (fun i => ⟨_, h1 i⟩)
  obtain ⟨b, hb⟩ := fold_max_real Finset.univ ⟨0, Finset.mem_univ _⟩ A4 (fun i => ⟨_, h4 i⟩)
  obtain ⟨d, hd⟩ := fold_max_real Finset.univ ⟨0, Finset.mem_univ _⟩ A16 (fun i => ⟨_, h16 i⟩)
  have hM' : M = ((max (max a b) d : ℝ) : EReal) := by
    rw [hM, e1, e4, e16, ha, hb, hd]
    rw [EReal.coe_strictMono.monotone.map_max, EReal.coe_strictMono.monotone.map_max]
  have hc := Real.exp_pos (-(max (max a b) d))
  have k : ∀ V : ℕ → EReal, (∑ i, Ideal.exp (A1 i - M1) * V (n - 1 * i.val)) * Ideal.exp (M1 - M)
        + (∑ i, Ideal.exp (A4 i - M4) * V (n - 4 * i.val)) * Ideal.exp (M4 - M)
        + (∑ i, Ideal.exp (A16 i - M16) * V (n - 16 * i.val)) * Ideal.exp (M16 - M)
      = (Real.exp (-(max (max a b) d)) : EReal) * tot n fun j => (ex (s j) : EReal) * V j := by
    intro V
    simp only [h1, h4, h16]
    rw [e1, e4, e16, ha, hb, hd, hM', window_scale 1, window_scale 4, window_scale 16,
      ← EReal.left_distrib_of_nonneg_of_ne_top (by exact_mod_cast hc.le) (EReal.coe_ne_top _),
      ← EReal.left_distrib_of_nonneg_of_ne_top (by exact_mod_cast hc.le) (EReal.coe_ne_top _),
      tot_windows n hn fun j => (ex (s j) : EReal) * V j]
  have k1 := k (fun _ => 1)
  simp only [mul_one] at k1
  rw [k V, k1, att_of n s V _ hc]

/-! The rows, keys and values of the call's arguments. -/

/-- Entry `d` of head `h` of the key (or value) at position `j` of sequence `b`: the cache's first, then the new tokens'. -/
def key (x : (⟨3, ![8, 256, 16]⟩ : Shape).Idx → EReal) (c : (⟨5, ![1, 8, 2048, 4, 64]⟩ : Shape).Idx → EReal)
    (b : Fin 8) (h : Fin 4) (d : Fin 64) (j : ℕ) : EReal :=
  if h1 : j < 2048 then c (ix5 (0 : Fin 1) b (⟨j, h1⟩ : Fin 2048) h d)
  else if h2 : j - 2048 < 16 then
    x (ix3 b (⟨h.val * 64 + d.val, by omega⟩ : Fin 256) (⟨j - 2048, h2⟩ : Fin 16))
  else 0

theorem key_real {x : (⟨3, ![8, 256, 16]⟩ : Shape).Idx → EReal} {c : (⟨5, ![1, 8, 2048, 4, 64]⟩ : Shape).Idx → EReal}
    (hx : ∀ i, ∃ r : ℝ, x i = r) (hc : ∀ i, ∃ r : ℝ, c i = r) (b : Fin 8) (h : Fin 4) (d : Fin 64) (j : ℕ) :
    ∃ r : ℝ, key x c b h d j = r := by
  unfold key; split_ifs
  exacts [hc _, hx _, ⟨0, rfl⟩]

/-- The score of the key at position `j` for head `g` of group `h` of row `r` of sequence `b`. -/
def sco (q : (⟨2, ![128, 1024]⟩ : Shape).Idx → EReal) (x : (⟨3, ![8, 256, 16]⟩ : Shape).Idx → EReal)
    (c : (⟨5, ![1, 8, 2048, 4, 64]⟩ : Shape).Idx → EReal) (b : Fin 8) (r : Fin 128) (h g : Fin 4) (j : ℕ) : ℝ :=
  ∑ d : Fin 64, (q (ix2 r (⟨h.val * 256 + g.val * 64 + d.val, by omega⟩ : Fin 1024))).toReal * (key x c b h d j).toReal

theorem sco_eq {q : (⟨2, ![128, 1024]⟩ : Shape).Idx → EReal} {x : (⟨3, ![8, 256, 16]⟩ : Shape).Idx → EReal}
    {c : (⟨5, ![1, 8, 2048, 4, 64]⟩ : Shape).Idx → EReal} (hq : ∀ i, ∃ r : ℝ, q i = r)
    (hx : ∀ i, ∃ r : ℝ, x i = r) (hc : ∀ i, ∃ r : ℝ, c i = r) (b : Fin 8) (r : Fin 128) (h g : Fin 4) (j : ℕ) :
    ∑ d : Fin 64, q (ix2 r (⟨h.val * 256 + g.val * 64 + d.val, by omega⟩ : Fin 1024)) * key x c b h d j
      = (sco q x c b r h g j : EReal) := by
  unfold sco
  rw [coe_sum]
  refine Finset.sum_congr rfl fun d _ => ?_
  obtain ⟨u, hu⟩ := hq (ix2 r (⟨h.val * 256 + g.val * 64 + d.val, by omega⟩ : Fin 1024))
  obtain ⟨v, hv⟩ := key_real hx hc b h d j
  rw [hu, hv, EReal.toReal_coe, EReal.toReal_coe, EReal.coe_mul]

theorem ofBits_bot : Ideal.ofBits .f32 4286578688#32 = ⊥ := by simp [Ideal.ofBits, Ideal.ieee]

theorem log_two : Ideal.log (Ideal.ofBits .f32 1073741824#32) = (Real.log 2 : EReal) := by
  have h : Ideal.ofBits .f32 1073741824#32 = ((2 : ℝ) : EReal) := by
    simp [Ideal.ofBits, Ideal.ieee, -EReal.coe_mul]; norm_num
  rw [h]
  show (if (2:ℝ) ≤ 0 then (⊥ : EReal) else (Real.log 2 : EReal)) = _
  rw [if_neg (by norm_num)]

theorem fold_three (f : Fin 3 → EReal) : (Finset.univ : Finset (Fin 3)).fold max ⊥ f = max (max (f 0) (f 1)) (f 2) := by
  have h : (Finset.univ : Finset (Fin 3)) = {0, 1, 2} := by decide
  rw [h, Finset.fold_insert (by decide), Finset.fold_insert (by decide), Finset.fold_singleton, max_bot_right, max_assoc]

theorem fold_stack (a b c : EReal) : (Finset.univ : Finset (Fin 3)).fold max ⊥
    (fun x : Fin 3 => if h : x.val < 1 then a else if h : x.val - 1 < 1 then b else c) = max (max a b) c := by
  rw [fold_three]; rfl

end Cert.Att

end
-- ==== Proof.AttHead.lean ====
module

public import proofs.«01_k».proof.Proof.Gen.AttSIdeal.Value
public import proofs.«01_k».proof.Proof.AttMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttSIdeal.Val

open Cert.AttSIdeal Cert.AttSIdeal.Gen Cert.Att

theorem sub_nat (e : BitVec 32) (n j : ℕ) (he : e = BitVec.ofNat 32 n) (hj : j ≤ n) (hn : n < 2 ^ 31) :
    IntOp.subi e (BitVec.ofNat 32 j) = BitVec.ofNat 32 (n - j) := by
  subst he
  show BitVec.ofNat 32 n - BitVec.ofNat 32 j = _
  apply BitVec.eq_of_toNat_eq
  simp only [BitVec.toNat_sub, BitVec.toNat_ofNat]
  omega

/-- The distance of a cached key. -/
theorem pay3 (r : Fin 64) (j : Fin 2048) : k0_pay3 (ix2 r j) = BitVec.ofNat 32 (2048 + r.val % 16 - j.val) := by
  pointwise [k0_pay3]
  refine sub_nat _ (2048 + r.val % 16) j.val ?_ (by omega) (by omega)
  revert r; decide +kernel

def pb (L dil n : ℕ) : BitVec 1 := if n ≤ L * dil ∧ dil ∣ n then 1#1 else 0#1

theorem sel_pb (L dil n : ℕ) : Scalar.select (pb L dil n) (1 : EReal) 0 = (pick L dil n : EReal) := by
  unfold pb pick
  split_ifs
  · exact EReal.coe_one.symm
  · exact EReal.coe_zero.symm

theorem sum_pb (a b c : BitVec 1) (n : ℕ) (ha : a = pb 128 1 n) (hb : b = pb 128 4 n) (hc : c = pb 128 16 n) :
    Scalar.select a (1 : EReal) 0 + Scalar.select b (1 : EReal) 0 + Scalar.select c (1 : EReal) 0 = (wt n : EReal) := by
  subst ha hb hc
  rw [sel_pb, sel_pb, sel_pb]
  unfold wt
  rw [EReal.coe_add, EReal.coe_add]

/-- The weight of a cached key. -/
theorem W_eq (r : Fin 64) (j : Fin 2048) :
    k0_pay7 (F := Ideal) k0_pay3 k0_pay4 k0_pay5 k0_pay6 (ix2 r j) = (wt (2048 + r.val % 16 - j.val) : EReal) := by
  pointwise [k0_pay7, k0_pay4, k0_pay5, k0_pay6]
  rw [pay3]
  have hn : 2048 + r.val % 16 - j.val < 2064 := by omega
  generalize 2048 + r.val % 16 - j.val = n at hn
  refine sum_pb _ _ _ n ?_ ?_ ?_
  · have h : ∀ n : Fin 2064, IntOp.andi (IntOp.andi (IntOp.cmpi .sge (BitVec.ofNat 32 n.val) 0#32)
        (IntOp.cmpi .sle (BitVec.ofNat 32 n.val) 128#32))
        (IntOp.cmpi .eq (IntOp.remsi .vector (BitVec.ofNat 32 n.val) 1#32) 0#32) = pb 128 1 n.val := by decide +kernel
    exact h ⟨n, hn⟩
  · have h : ∀ n : Fin 2064, IntOp.andi (IntOp.andi (IntOp.cmpi .sge (BitVec.ofNat 32 n.val) 0#32)
        (IntOp.cmpi .sle (BitVec.ofNat 32 n.val) 512#32))
        (IntOp.cmpi .eq (IntOp.remsi .vector (BitVec.ofNat 32 n.val) 4#32) 0#32) = pb 128 4 n.val := by decide +kernel
    exact h ⟨n, hn⟩
  · have h : ∀ n : Fin 2064, IntOp.andi (IntOp.andi (IntOp.cmpi .sge (BitVec.ofNat 32 n.val) 0#32)
        (IntOp.cmpi .sle (BitVec.ofNat 32 n.val) 2048#32))
        (IntOp.cmpi .eq (IntOp.remsi .vector (BitVec.ofNat 32 n.val) 16#32) 0#32) = pb 128 16 n.val := by decide +kernel
    exact h ⟨n, hn⟩

/-- The weight of a new key, for a row of one of the four tokens. -/
theorem Wn_eq (r : Fin 64) (hr : r.val % 16 < 4) (j : Fin 16) :
    k0_pay12 (F := Ideal) k0_pay8 (k0_pay10 k0_pay9 (FloatOps.ofBits .f32 0#32)) (k0_pay11 k0_pay9) (ix2 r j)
      = (wtn (r.val % 16) j.val : EReal) := by
  pointwise [k0_pay12, k0_pay10, k0_pay11]
  unfold wtn
  by_cases hj : j.val ≤ r.val % 16
  · have h8 : k0_pay8 (ix2 r j) = 1#1 := by
      pointwise [k0_pay8]
      revert r j; decide +kernel
    rw [if_pos hj, h8]
    have h9 : k0_pay9 (ix2 r j) = BitVec.ofNat 32 (r.val % 16 - j.val) := by
      pointwise [k0_pay9]
      refine sub_nat _ (r.val % 16) j.val ?_ hj (by omega)
      clear hj h8 hr
      revert r; decide +kernel
    rw [h9]
    have hn : r.val % 16 - j.val < 16 := by omega
    generalize r.val % 16 - j.val = n at hn
    refine sum_pb _ _ _ n ?_ ?_ ?_
    · have h : ∀ n : Fin 16, IntOp.andi (IntOp.andi (IntOp.cmpi .sge (BitVec.ofNat 32 n.val) 0#32)
          (IntOp.cmpi .sle (BitVec.ofNat 32 n.val) 128#32))
          (IntOp.cmpi .eq (IntOp.remsi .vector (BitVec.ofNat 32 n.val) 1#32) 0#32) = pb 128 1 n.val := by decide +kernel
      exact h ⟨n, hn⟩
    · have h : ∀ n : Fin 16, IntOp.andi (IntOp.andi (IntOp.cmpi .sge (BitVec.ofNat 32 n.val) 0#32)
          (IntOp.cmpi .sle (BitVec.ofNat 32 n.val) 512#32))
          (IntOp.cmpi .eq (IntOp.remsi .vector (BitVec.ofNat 32 n.val) 4#32) 0#32) = pb 128 4 n.val := by decide +kernel
      exact h ⟨n, hn⟩
    · have h : ∀ n : Fin 16, IntOp.andi (IntOp.andi (IntOp.cmpi .sge (BitVec.ofNat 32 n.val) 0#32)
          (IntOp.cmpi .sle (BitVec.ofNat 32 n.val) 2048#32))
          (IntOp.cmpi .eq (IntOp.remsi .vector (BitVec.ofNat 32 n.val) 16#32) 0#32) = pb 128 16 n.val := by decide +kernel
      exact h ⟨n, hn⟩
  · rw [if_neg hj]
    have h9 : IntOp.cmpi .sge (k0_pay9 (ix2 r j)) 0#32 = 0#1 := by
      pointwise [k0_pay9]
      clear hr
      revert r j; decide +kernel
    have z : ∀ a b : BitVec 1, IntOp.andi (IntOp.andi 0#1 a) b = 0#1 := by decide
    have s0 : Scalar.select 0#1 (1 : EReal) 0 = 0 := rfl
    rw [h9, z, z, z, s0]
    rcases (by decide +revert : ∀ b : BitVec 1, b = 1#1 ∨ b = 0#1) (k0_pay8 (ix2 r j)) with h | h <;> rw [h]
    · show (0 : EReal) + 0 + 0 = _; simp
    · show (0 : EReal) = _; simp

/-- Row `r` of the four heads' queries, stacked. -/
def qs (q0 q1 q2 q3 : S16x64.Idx → EReal) (r x : Fin 64) : EReal :=
  if h : r.val < 16 then q0 (ix2 ⟨r.val, h⟩ x)
  else if h1 : r.val - 16 < 16 then q1 (ix2 ⟨r.val - 16, h1⟩ x)
  else if h2 : r.val - 16 - 16 < 16 then q2 (ix2 ⟨r.val - 16 - 16, h2⟩ x)
  else q3 (ix2 ⟨r.val - 16 - 16 - 16, by omega⟩ x)

theorem qs_of (q0 q1 q2 q3 : S16x64.Idx → EReal) (f : Fin 4 → Fin 16 → Fin 64 → EReal)
    (h0 : ∀ t x, q0 (ix2 t x) = f 0 t x) (h1 : ∀ t x, q1 (ix2 t x) = f 1 t x) (h2 : ∀ t x, q2 (ix2 t x) = f 2 t x)
    (h3 : ∀ t x, q3 (ix2 t x) = f 3 t x) (r : Fin 64) (x : Fin 64) :
    qs q0 q1 q2 q3 r x = f ⟨r.val / 16, by omega⟩ ⟨r.val % 16, by omega⟩ x := by
  unfold qs
  split_ifs with a b c
  · rw [h0]; congr 1
    · exact Fin.ext (by show 0 = r.val / 16; omega)
    · exact Fin.ext (by show r.val = r.val % 16; omega)
  · rw [h1]; congr 1
    · exact Fin.ext (by show 1 = r.val / 16; omega)
    · exact Fin.ext (by show r.val - 16 = r.val % 16; omega)
  · rw [h2]; congr 1
    · exact Fin.ext (by show 2 = r.val / 16; omega)
    · exact Fin.ext (by show r.val - 16 - 16 = r.val % 16; omega)
  · rw [h3]; congr 1
    · exact Fin.ext (by show 3 = r.val / 16; omega)
    · exact Fin.ext (by show r.val - 16 - 16 - 16 = r.val % 16; omega)

theorem neg_real : ∃ r : ℝ, Ideal.ofBits .f32 4048155338#32 = r := by
  simp only [Ideal.ofBits, Ideal.ieee]
  norm_num
  exact ⟨_, rfl⟩

section
variable (W : FVec Ideal S64x2048 .f32) (b83 : IVec S64x16 1) (w113 w126 : FVec Ideal S64x16 .f32)
  (q0 q1 q2 q3 : FVec Ideal S16x64 .bf16) (kc : FVec Ideal S1x64x2048 .f32) (kn : FVec Ideal S1x64x16 .f32)
  (vc : FVec Ideal S1x64x2048 .f32) (vn : FVec Ideal S1x64x16 .f32) (gt : FVec Ideal S16x256 .f32)

theorem row (r : Fin 64) (t : ℕ) (ht : t < 16) (s : ℕ → ℝ) (V : ℕ → EReal)
    (hW : ∀ j : Fin 2048, W (ix2 r j) = (wt (2048 + t - j.val) : EReal))
    (hWn : ∀ j : Fin 16, k0_pay12 (F := Ideal) b83 w113 w126 (ix2 r j) = (wtn t j.val : EReal))
    (hs : ∀ j : Fin 2048, ∑ x : Fin 64, qs q0 q1 q2 q3 r x * kc (ix3 (0 : Fin 1) x j) = (s j.val : EReal))
    (hn : ∀ j : Fin 16, ∑ x : Fin 64, qs q0 q1 q2 q3 r x * kn (ix3 (0 : Fin 1) x j) = (s (2048 + j.val) : EReal))
    (d : Fin 64) (hv : ∀ j : Fin 2048, vc (ix3 (0 : Fin 1) d j) = V j.val)
    (hvn : ∀ j : Fin 16, vn (ix3 (0 : Fin 1) d j) = V (2048 + j.val)) :
    Ideal.div ((∑ x : Fin 2048, k0_pay17 (F := Ideal) W b83 w113 w126 q0 q1 q2 q3 kc kn (ix2 r x) * vc (ix3 (0 : Fin 1) d x))
        + ∑ x : Fin 16, k0_pay18 (F := Ideal) W b83 w113 w126 q0 q1 q2 q3 kc kn (ix2 r x) * vn (ix3 (0 : Fin 1) d x))
      ((∑ x : Fin 2048, k0_pay17 (F := Ideal) W b83 w113 w126 q0 q1 q2 q3 kc kn (ix2 r x))
        + ∑ x : Fin 16, k0_pay18 (F := Ideal) W b83 w113 w126 q0 q1 q2 q3 kc kn (ix2 r x)) = att (2048 + t) s V := by
  obtain ⟨N, hN⟩ := neg_real
  simp only [hv, hvn]
  refine kernel_att t ht N s V (fun j => k0_pay14 (F := Ideal) W q0 q1 q2 q3 kc (ix2 r j))
    (fun j => k0_pay15 (F := Ideal) b83 w113 w126 q0 q1 q2 q3 kn (ix2 r j)) _ _ (fun j => ?_) (fun j => ?_) (fun j => ?_) (fun j => ?_)
  · show k0_pay14 (F := Ideal) W q0 q1 q2 q3 kc (ix2 r j) = _
    pointwise [k0_pay14, k0_pay13]
    rw [hW, hN]
    show (if 0 < (wt (2048 + t - j.val) : EReal) then ∑ x : Fin 64, qs q0 q1 q2 q3 r x * kc (ix3 (0 : Fin 1) x j) else (N : EReal)) = _
    rw [hs]; rfl
  · show k0_pay15 (F := Ideal) b83 w113 w126 q0 q1 q2 q3 kn (ix2 r j) = _
    pointwise [k0_pay15, k0_pay13]
    rw [hWn, hN]
    show (if 0 < (wtn t j.val : EReal) then ∑ x : Fin 64, qs q0 q1 q2 q3 r x * kn (ix3 (0 : Fin 1) x j) else (N : EReal)) = _
    rw [hn]; rfl
  · show k0_pay17 (F := Ideal) W b83 w113 w126 q0 q1 q2 q3 kc kn (ix2 r j) = _
    pointwise [k0_pay17, k0_pay16]
    rw [hW, ofBits_bot]; rfl
  · show k0_pay18 (F := Ideal) W b83 w113 w126 q0 q1 q2 q3 kc kn (ix2 r j) = _
    pointwise [k0_pay18, k0_pay16]
    rw [hWn, ofBits_bot]; rfl

theorem head0 (P : FVec Ideal S64x2048 .f32) (Q : FVec Ideal S64x16 .f32) (t : Fin 16) (l : Fin 256) (A : EReal)
    (key : ∀ r d : Fin 64, r.val = l.val / 64 * 16 + t.val → d.val = l.val % 64 → Ideal.div
      ((∑ x : Fin 2048, P (ix2 r x) * vc (ix3 (0 : Fin 1) d x)) + ∑ x : Fin 16, Q (ix2 r x) * vn (ix3 (0 : Fin 1) d x))
      ((∑ x : Fin 2048, P (ix2 r x)) + ∑ x : Fin 16, Q (ix2 r x)) = A) :
    k0_pay19 (F := Ideal) P Q vc vn gt (ix2 t l) = A * gt (ix2 t l) := by
  pointwise [k0_pay19]
  congr 1
  by_cases h0 : l.val < 64
  · rw [dif_pos h0]
    exact key ⟨t.val, by omega⟩ ⟨l.val, by omega⟩ (by show t.val = l.val / 64 * 16 + t.val; omega) (by show l.val = l.val % 64; omega)
  rw [dif_neg h0]
  by_cases h1 : l.val - 64 < 64
  · rw [dif_pos h1]
    exact key ⟨16 + t.val, by omega⟩ ⟨l.val - 64, by omega⟩ (by show 16 + t.val = l.val / 64 * 16 + t.val; omega) (by show l.val - 64 = l.val % 64; omega)
  rw [dif_neg h1]
  by_cases h2 : l.val - 64 - 64 < 64
  · rw [dif_pos h2]
    exact key ⟨32 + t.val, by omega⟩ ⟨l.val - 64 - 64, by omega⟩ (by show 32 + t.val = l.val / 64 * 16 + t.val; omega) (by show l.val - 64 - 64 = l.val % 64; omega)
  rw [dif_neg h2]
  exact key ⟨48 + t.val, by omega⟩ ⟨l.val - 64 - 64 - 64, by omega⟩ (by show 48 + t.val = l.val / 64 * 16 + t.val; omega) (by show l.val - 64 - 64 - 64 = l.val % 64; omega)

/-- One kv head's piece of the result, at one of the four tokens. -/
theorem head (t : Fin 16) (l : Fin 256) (s : ℕ → ℝ) (V : ℕ → EReal)
    (hW : ∀ r : Fin 64, r.val % 16 = t.val → ∀ j : Fin 2048, W (ix2 r j) = (wt (2048 + t.val - j.val) : EReal))
    (hWn : ∀ r : Fin 64, r.val % 16 = t.val → ∀ j : Fin 16, k0_pay12 (F := Ideal) b83 w113 w126 (ix2 r j) = (wtn t.val j.val : EReal))
    (hs : ∀ r : Fin 64, r.val = l.val / 64 * 16 + t.val → ∀ j : Fin 2048,
      ∑ x : Fin 64, qs q0 q1 q2 q3 r x * kc (ix3 (0 : Fin 1) x j) = (s j.val : EReal))
    (hn : ∀ r : Fin 64, r.val = l.val / 64 * 16 + t.val → ∀ j : Fin 16,
      ∑ x : Fin 64, qs q0 q1 q2 q3 r x * kn (ix3 (0 : Fin 1) x j) = (s (2048 + j.val) : EReal))
    (hv : ∀ d : Fin 64, d.val = l.val % 64 → ∀ j : Fin 2048, vc (ix3 (0 : Fin 1) d j) = V j.val)
    (hvn : ∀ d : Fin 64, d.val = l.val % 64 → ∀ j : Fin 16, vn (ix3 (0 : Fin 1) d j) = V (2048 + j.val)) :
    k0_pay19 (F := Ideal) (k0_pay17 W b83 w113 w126 q0 q1 q2 q3 kc kn)
      (k0_pay18 W b83 w113 w126 q0 q1 q2 q3 kc kn) vc vn gt (ix2 t l) = att (2048 + t.val) s V * gt (ix2 t l) := by
  refine head0 vc vn gt _ _ t l _ fun r d hr hd => ?_
  have h16 : r.val % 16 = t.val := by omega
  exact row W b83 w113 w126 q0 q1 q2 q3 kc kn vc vn r t.val t.isLt s V (hW r h16) (hWn r h16) (hs r hr) (hn r hr) d
    (hv d hd) (hvn d hd)
end

theorem head1 (W : FVec Ideal S64x2048 .f32) (b83 : IVec S64x16 1) (w113 w126 : FVec Ideal S64x16 .f32)
  (q0 q1 q2 q3 : FVec Ideal S16x64 .bf16) (kc : FVec Ideal S1x64x2048 .f32) (kn : FVec Ideal S1x64x16 .f32)
  (vc : FVec Ideal S1x64x2048 .f32) (vn : FVec Ideal S1x64x16 .f32) (gt : FVec Ideal S16x256 .f32) :
    k0_pay31 (k0_pay27 W (k0_pay12 b83 w113 w126) (k0_pay20 q0 q1 q2 q3) (k0_pay21 W) kc kn)
      (k0_pay28 W (k0_pay12 b83 w113 w126) (k0_pay20 q0 q1 q2 q3) (k0_pay21 W) kc kn vc)
      (k0_pay29 (k0_pay12 b83 w113 w126) (k0_pay20 q0 q1 q2 q3) (k0_pay21 W) kc kn) (k0_pay30 vn) gt
    = k0_pay19 (F := Ideal) (k0_pay17 W b83 w113 w126 q0 q1 q2 q3 kc kn) (k0_pay18 W b83 w113 w126 q0 q1 q2 q3 kc kn) vc vn gt := rfl

theorem head2 (W : FVec Ideal S64x2048 .f32) (b83 : IVec S64x16 1) (w113 w126 : FVec Ideal S64x16 .f32)
  (q0 q1 q2 q3 : FVec Ideal S16x64 .bf16) (kc : FVec Ideal S1x64x2048 .f32) (kn : FVec Ideal S1x64x16 .f32)
  (vc : FVec Ideal S1x64x2048 .f32) (vn : FVec Ideal S1x64x16 .f32) (gt : FVec Ideal S16x256 .f32) :
    k0_pay37 W (k0_pay12 b83 w113 w126) (k0_pay33 W q0 q1 q2 q3 kc) (k0_pay34 (k0_pay12 b83 w113 w126))
      (k0_pay35 q0 q1 q2 q3 kn) k0_pay36 vc vn gt
    = k0_pay19 (F := Ideal) (k0_pay17 W b83 w113 w126 q0 q1 q2 q3 kc kn) (k0_pay18 W b83 w113 w126 q0 q1 q2 q3 kc kn) vc vn gt := rfl

theorem head3 (W : FVec Ideal S64x2048 .f32) (b83 : IVec S64x16 1) (w113 w126 : FVec Ideal S64x16 .f32)
  (q0 q1 q2 q3 : FVec Ideal S16x64 .bf16) (kc : FVec Ideal S1x64x2048 .f32) (kn : FVec Ideal S1x64x16 .f32)
  (vc : FVec Ideal S1x64x2048 .f32) (vn : FVec Ideal S1x64x16 .f32) (gt : FVec Ideal S16x256 .f32) :
    k0_pay46 (k0_pay42 W (k0_pay12 b83 w113 w126) q0 q1 q2 q3 kc kn) (k0_pay43 W (k0_pay12 b83 w113 w126) q0 q1 q2 q3 kc kn)
      (k0_pay44 W (k0_pay12 b83 w113 w126) q0 q1 q2 q3 kc kn) (k0_pay45 W (k0_pay12 b83 w113 w126) q0 q1 q2 q3 kc kn) vc vn gt
    = k0_pay19 (F := Ideal) (k0_pay17 W b83 w113 w126 q0 q1 q2 q3 kc kn) (k0_pay18 W b83 w113 w126 q0 q1 q2 q3 kc kn) vc vn gt := rfl

end Cert.AttSIdeal.Val

end
-- ==== Proof.AttRef.lean ====
module

public import proofs.«01_k».proof.Proof.Gen.AttSRefIdeal.Read
public import proofs.«01_k».proof.Proof.AttMath
public import Idealize.ShloMosaic.Lib.Pipeline.ValueKit

@[expose] public section

set_option maxRecDepth 16384

noncomputable section

open Idealize.ShloMosaic Idealize.ShloMosaic.TcCoe Idealize.SL.Sem

namespace Cert.AttSRefIdeal.Val

open Cert.AttSRefIdeal Cert.AttSRefIdeal.Read Cert.Att

/-- The gather of whole rows by position, read at an index. -/
theorem gat {α : Type} (x : S8x2052x4x64.Idx → α) (idx : IVec S4x129x1 32) (b : Fin 8) (t : Fin 4) (i : Fin 129)
    (h : Fin 4) (d : Fin 64) (k : ℕ) (hk : k < 2052) (e : (idx (ix3 t i (0 : Fin 1))).toInt.toNat = k) :
    Host.gather gather_S8x2052x4x64_S4x129x1_S8x4x129x4x64_034_1_n_n_1_2_81464 x idx (ix5 b t i h d) = x (ix4 b ⟨k, hk⟩ h d) := by
  unfold Host.gather
  congr 1
  funext a
  refine Fin.ext ?_
  match a with
  | ⟨0, _⟩ =>
    have hk : (0 : Fin 4) ∈ gather_S8x2052x4x64_S4x129x1_S8x4x129x4x64_034_1_n_n_1_2_81464.sKept :=
      (GatherDims.mem_sKept _ _).2 ⟨show (0 : Fin 4) ∉ ([1] : List (Fin 4)) by decide, List.not_mem_nil⟩
    show gather_S8x2052x4x64_S4x129x1_S8x4x129x4x64_034_1_n_n_1_2_81464.start (ix5 b t i h d) idx 0 + gather_S8x2052x4x64_S4x129x1_S8x4x129x4x64_034_1_n_n_1_2_81464.batchCoord (ix5 b t i h d) 0 + gather_S8x2052x4x64_S4x129x1_S8x4x129x4x64_034_1_n_n_1_2_81464.offCoord (ix5 b t i h d) 0 = _
    rw [GatherDims.batchCoord_eq_zero _ _ _ List.not_mem_nil]
    unfold GatherDims.start GatherDims.offCoord
    have hm : (0 : Fin 4) ∉ gather_S8x2052x4x64_S4x129x1_S8x4x129x4x64_034_1_n_n_1_2_81464.startIndexMap := show (0 : Fin 4) ∉ ([1] : List (Fin 4)) by decide
    rw [dif_neg hm, dif_pos hk]
    simp only [Nat.zero_add]
    rfl
  | ⟨1, _⟩ =>
    have hm : (1 : Fin 4) ∈ gather_S8x2052x4x64_S4x129x1_S8x4x129x4x64_034_1_n_n_1_2_81464.startIndexMap := List.mem_singleton.mpr rfl
    show gather_S8x2052x4x64_S4x129x1_S8x4x129x4x64_034_1_n_n_1_2_81464.start (ix5 b t i h d) idx 1 + gather_S8x2052x4x64_S4x129x1_S8x4x129x4x64_034_1_n_n_1_2_81464.batchCoord (ix5 b t i h d) 1 + gather_S8x2052x4x64_S4x129x1_S8x4x129x4x64_034_1_n_n_1_2_81464.offCoord (ix5 b t i h d) 1 = k
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm]
    have hsi : gather_S8x2052x4x64_S4x129x1_S8x4x129x4x64_034_1_n_n_1_2_81464.siIdx (ix5 b t i h d) ⟨List.idxOf (1 : Fin 4) gather_S8x2052x4x64_S4x129x1_S8x4x129x4x64_034_1_n_n_1_2_81464.startIndexMap,
        List.idxOf_lt_length_iff.2 (List.mem_singleton.mpr rfl)⟩ = ix3 t i (0 : Fin 1) := by
      funext b; refine Fin.ext ?_
      match b with
      | ⟨0, _⟩ => rfl
      | ⟨1, _⟩ => rfl
      | ⟨2, _⟩ => rfl
    rw [hsi, e]
    show min k (2052 - 1) = k
    omega
  | ⟨2, _⟩ =>
    have hk : (2 : Fin 4) ∈ gather_S8x2052x4x64_S4x129x1_S8x4x129x4x64_034_1_n_n_1_2_81464.sKept :=
      (GatherDims.mem_sKept _ _).2 ⟨show (2 : Fin 4) ∉ ([1] : List (Fin 4)) by decide, List.not_mem_nil⟩
    show gather_S8x2052x4x64_S4x129x1_S8x4x129x4x64_034_1_n_n_1_2_81464.start (ix5 b t i h d) idx 2 + gather_S8x2052x4x64_S4x129x1_S8x4x129x4x64_034_1_n_n_1_2_81464.batchCoord (ix5 b t i h d) 2 + gather_S8x2052x4x64_S4x129x1_S8x4x129x4x64_034_1_n_n_1_2_81464.offCoord (ix5 b t i h d) 2 = _
    rw [GatherDims.batchCoord_eq_zero _ _ _ List.not_mem_nil]
    unfold GatherDims.start GatherDims.offCoord
    have hm : (2 : Fin 4) ∉ gather_S8x2052x4x64_S4x129x1_S8x4x129x4x64_034_1_n_n_1_2_81464.startIndexMap := show (2 : Fin 4) ∉ ([1] : List (Fin 4)) by decide
    rw [dif_neg hm, dif_pos hk]
    simp only [Nat.zero_add]
    rfl
  | ⟨3, _⟩ =>
    have hk : (3 : Fin 4) ∈ gather_S8x2052x4x64_S4x129x1_S8x4x129x4x64_034_1_n_n_1_2_81464.sKept :=
      (GatherDims.mem_sKept _ _).2 ⟨show (3 : Fin 4) ∉ ([1] : List (Fin 4)) by decide, List.not_mem_nil⟩
    show gather_S8x2052x4x64_S4x129x1_S8x4x129x4x64_034_1_n_n_1_2_81464.start (ix5 b t i h d) idx 3 + gather_S8x2052x4x64_S4x129x1_S8x4x129x4x64_034_1_n_n_1_2_81464.batchCoord (ix5 b t i h d) 3 + gather_S8x2052x4x64_S4x129x1_S8x4x129x4x64_034_1_n_n_1_2_81464.offCoord (ix5 b t i h d) 3 = _
    rw [GatherDims.batchCoord_eq_zero _ _ _ List.not_mem_nil]
    unfold GatherDims.start GatherDims.offCoord
    have hm : (3 : Fin 4) ∉ gather_S8x2052x4x64_S4x129x1_S8x4x129x4x64_034_1_n_n_1_2_81464.startIndexMap := show (3 : Fin 4) ∉ ([1] : List (Fin 4)) by decide
    rw [dif_neg hm, dif_pos hk]
    simp only [Nat.zero_add]
    rfl

theorem i_call0 (t : Fin 4) (i : Fin 129) :
    (val_main_call0_v5 (F := Ideal) (ix3 t i (0 : Fin 1))).toInt.toNat = 2048 + t.val - 1 * i.val := by
  pointwise [val_main_call0_v5, val_main_call0_v4, val_main_call0_v1, val_main_v28, val_main_v24, val_main_v22, val_main_v20, val_main_v12, val_main_v11, val_main_c, val_main_v10, val_main_v23, val_main_v21, val_main_v19, val_main_v17, val_main_v18, val_main_c_0, val_main_v27, val_main_c_2, val_main_call0_v0, val_main_call0_c, val_main_call0_v3, val_main_call0_v2, val_main_call0_c_0]
  revert t i; decide +kernel

theorem w_call0 (t : Fin 4) (i : Fin 129) : val_main_call0_v12 (F := Ideal) (ix2 t i) = 1#1 := by
  pointwise [val_main_call0_v12, val_main_call0_v11, val_main_call0_v7, val_main_call0_v5, val_main_call0_v4, val_main_call0_v1, val_main_v28, val_main_v24, val_main_v22, val_main_v20, val_main_v12, val_main_v11, val_main_c, val_main_v10, val_main_v23, val_main_v21, val_main_v19, val_main_v17, val_main_v18, val_main_c_0, val_main_v27, val_main_c_2, val_main_call0_v0, val_main_call0_c, val_main_call0_v3, val_main_call0_v2, val_main_call0_c_0, val_main_call0_v6, val_main_call0_c_2, val_main_call0_v10, val_main_call0_v9, val_main_call0_v8, val_main_call0_c_1, val_main_call0_c_3]
  revert t i; decide +kernel

theorem i_call1 (t : Fin 4) (i : Fin 129) :
    (val_main_call1_v5 (F := Ideal) (ix3 t i (0 : Fin 1))).toInt.toNat = 2048 + t.val - 1 * i.val := by
  pointwise [val_main_call1_v5, val_main_call1_v4, val_main_call1_v1, val_main_v28, val_main_v24, val_main_v22, val_main_v20, val_main_v12, val_main_v11, val_main_c, val_main_v10, val_main_v23, val_main_v21, val_main_v19, val_main_v17, val_main_v18, val_main_c_0, val_main_v27, val_main_c_2, val_main_call1_v0, val_main_call1_c, val_main_call1_v3, val_main_call1_v2, val_main_call1_c_0]
  revert t i; decide +kernel

theorem w_call1 (t : Fin 4) (i : Fin 129) : val_main_call1_v12 (F := Ideal) (ix2 t i) = 1#1 := by
  pointwise [val_main_call1_v12, val_main_call1_v11, val_main_call1_v7, val_main_call1_v5, val_main_call1_v4, val_main_call1_v1, val_main_v28, val_main_v24, val_main_v22, val_main_v20, val_main_v12, val_main_v11, val_main_c, val_main_v10, val_main_v23, val_main_v21, val_main_v19, val_main_v17, val_main_v18, val_main_c_0, val_main_v27, val_main_c_2, val_main_call1_v0, val_main_call1_c, val_main_call1_v3, val_main_call1_v2, val_main_call1_c_0, val_main_call1_v6, val_main_call1_c_2, val_main_call1_v10, val_main_call1_v9, val_main_call1_v8, val_main_call1_c_1, val_main_call1_c_3]
  revert t i; decide +kernel

theorem w_v37 (b : Fin 8) (t : Fin 4) (h g : Fin 4) (i : Fin 129) : val_main_call2_v1 (F := Ideal) (ix5 b t h g i) = 1#1 := by
  pointwise [val_main_call2_v1, val_main_v36, val_main_v26, val_main_v24, val_main_v22, val_main_v20, val_main_v12, val_main_v11, val_main_c, val_main_v10, val_main_v23, val_main_v21, val_main_v19, val_main_v17, val_main_v18, val_main_c_0, val_main_v25, val_main_c_1]
  revert t i; decide +kernel

theorem i_call3 (t : Fin 4) (i : Fin 129) :
    (val_main_call3_v5 (F := Ideal) (ix3 t i (0 : Fin 1))).toInt.toNat = 2048 + t.val - 4 * i.val := by
  pointwise [val_main_call3_v5, val_main_call3_v4, val_main_call3_v1, val_main_v56, val_main_v52, val_main_v50, val_main_v48, val_main_v12, val_main_v11, val_main_c, val_main_v10, val_main_v51, val_main_v49, val_main_v47, val_main_v45, val_main_v46, val_main_c_6, val_main_v55, val_main_c_8, val_main_call3_v0, val_main_call3_c, val_main_call3_v3, val_main_call3_v2, val_main_call3_c_0]
  revert t i; decide +kernel

theorem w_call3 (t : Fin 4) (i : Fin 129) : val_main_call3_v12 (F := Ideal) (ix2 t i) = 1#1 := by
  pointwise [val_main_call3_v12, val_main_call3_v11, val_main_call3_v7, val_main_call3_v5, val_main_call3_v4, val_main_call3_v1, val_main_v56, val_main_v52, val_main_v50, val_main_v48, val_main_v12, val_main_v11, val_main_c, val_main_v10, val_main_v51, val_main_v49, val_main_v47, val_main_v45, val_main_v46, val_main_c_6, val_main_v55, val_main_c_8, val_main_call3_v0, val_main_call3_c, val_main_call3_v3, val_main_call3_v2, val_main_call3_c_0, val_main_call3_v6, val_main_call3_c_2, val_main_call3_v10, val_main_call3_v9, val_main_call3_v8, val_main_call3_c_1, val_main_call3_c_3]
  revert t i; decide +kernel

theorem i_call4 (t : Fin 4) (i : Fin 129) :
    (val_main_call4_v5 (F := Ideal) (ix3 t i (0 : Fin 1))).toInt.toNat = 2048 + t.val - 4 * i.val := by
  pointwise [val_main_call4_v5, val_main_call4_v4, val_main_call4_v1, val_main_v56, val_main_v52, val_main_v50, val_main_v48, val_main_v12, val_main_v11, val_main_c, val_main_v10, val_main_v51, val_main_v49, val_main_v47, val_main_v45, val_main_v46, val_main_c_6, val_main_v55, val_main_c_8, val_main_call4_v0, val_main_call4_c, val_main_call4_v3, val_main_call4_v2, val_main_call4_c_0]
  revert t i; decide +kernel

theorem w_call4 (t : Fin 4) (i : Fin 129) : val_main_call4_v12 (F := Ideal) (ix2 t i) = 1#1 := by
  pointwise [val_main_call4_v12, val_main_call4_v11, val_main_call4_v7, val_main_call4_v5, val_main_call4_v4, val_main_call4_v1, val_main_v56, val_main_v52, val_main_v50, val_main_v48, val_main_v12, val_main_v11, val_main_c, val_main_v10, val_main_v51, val_main_v49, val_main_v47, val_main_v45, val_main_v46, val_main_c_6, val_main_v55, val_main_c_8, val_main_call4_v0, val_main_call4_c, val_main_call4_v3, val_main_call4_v2, val_main_call4_c_0, val_main_call4_v6, val_main_call4_c_2, val_main_call4_v10, val_main_call4_v9, val_main_call4_v8, val_main_call4_c_1, val_main_call4_c_3]
  revert t i; decide +kernel

theorem w_v65 (b : Fin 8) (t : Fin 4) (h g : Fin 4) (i : Fin 129) : val_main_call5_v1 (F := Ideal) (ix5 b t h g i) = 1#1 := by
  pointwise [val_main_call5_v1, val_main_v64, val_main_v54, val_main_v52, val_main_v50, val_main_v48, val_main_v12, val_main_v11, val_main_c, val_main_v10, val_main_v51, val_main_v49, val_main_v47, val_main_v45, val_main_v46, val_main_c_6, val_main_v53, val_main_c_7]
  revert t i; decide +kernel

theorem i_call6 (t : Fin 4) (i : Fin 129) :
    (val_main_call6_v5 (F := Ideal) (ix3 t i (0 : Fin 1))).toInt.toNat = 2048 + t.val - 16 * i.val := by
  pointwise [val_main_call6_v5, val_main_call6_v4, val_main_call6_v1, val_main_v84, val_main_v80, val_main_v78, val_main_v76, val_main_v12, val_main_v11, val_main_c, val_main_v10, val_main_v79, val_main_v77, val_main_v75, val_main_v73, val_main_v74, val_main_c_13, val_main_v83, val_main_c_15, val_main_call6_v0, val_main_call6_c, val_main_call6_v3, val_main_call6_v2, val_main_call6_c_0]
  revert t i; decide +kernel

theorem w_call6 (t : Fin 4) (i : Fin 129) : val_main_call6_v12 (F := Ideal) (ix2 t i) = 1#1 := by
  pointwise [val_main_call6_v12, val_main_call6_v11, val_main_call6_v7, val_main_call6_v5, val_main_call6_v4, val_main_call6_v1, val_main_v84, val_main_v80, val_main_v78, val_main_v76, val_main_v12, val_main_v11, val_main_c, val_main_v10, val_main_v79, val_main_v77, val_main_v75, val_main_v73, val_main_v74, val_main_c_13, val_main_v83, val_main_c_15, val_main_call6_v0, val_main_call6_c, val_main_call6_v3, val_main_call6_v2, val_main_call6_c_0, val_main_call6_v6, val_main_call6_c_2, val_main_call6_v10, val_main_call6_v9, val_main_call6_v8, val_main_call6_c_1, val_main_call6_c_3]
  revert t i; decide +kernel

theorem i_call7 (t : Fin 4) (i : Fin 129) :
    (val_main_call7_v5 (F := Ideal) (ix3 t i (0 : Fin 1))).toInt.toNat = 2048 + t.val - 16 * i.val := by
  pointwise [val_main_call7_v5, val_main_call7_v4, val_main_call7_v1, val_main_v84, val_main_v80, val_main_v78, val_main_v76, val_main_v12, val_main_v11, val_main_c, val_main_v10, val_main_v79, val_main_v77, val_main_v75, val_main_v73, val_main_v74, val_main_c_13, val_main_v83, val_main_c_15, val_main_call7_v0, val_main_call7_c, val_main_call7_v3, val_main_call7_v2, val_main_call7_c_0]
  revert t i; decide +kernel

theorem w_call7 (t : Fin 4) (i : Fin 129) : val_main_call7_v12 (F := Ideal) (ix2 t i) = 1#1 := by
  pointwise [val_main_call7_v12, val_main_call7_v11, val_main_call7_v7, val_main_call7_v5, val_main_call7_v4, val_main_call7_v1, val_main_v84, val_main_v80, val_main_v78, val_main_v76, val_main_v12, val_main_v11, val_main_c, val_main_v10, val_main_v79, val_main_v77, val_main_v75, val_main_v73, val_main_v74, val_main_c_13, val_main_v83, val_main_c_15, val_main_call7_v0, val_main_call7_c, val_main_call7_v3, val_main_call7_v2, val_main_call7_c_0, val_main_call7_v6, val_main_call7_c_2, val_main_call7_v10, val_main_call7_v9, val_main_call7_v8, val_main_call7_c_1, val_main_call7_c_3]
  revert t i; decide +kernel

theorem w_v93 (b : Fin 8) (t : Fin 4) (h g : Fin 4) (i : Fin 129) : val_main_call8_v1 (F := Ideal) (ix5 b t h g i) = 1#1 := by
  pointwise [val_main_call8_v1, val_main_v92, val_main_v82, val_main_v80, val_main_v78, val_main_v76, val_main_v12, val_main_v11, val_main_c, val_main_v10, val_main_v79, val_main_v77, val_main_v75, val_main_v73, val_main_v74, val_main_c_13, val_main_v81, val_main_c_14]
  revert t i; decide +kernel

theorem sel_one {α : Type} (a b : α) : Scalar.select 1#1 a b = a := rfl

theorem v4 (x : S8x256x16.Idx → EReal) (c : S1x8x2048x4x64.Idx → EReal) (b : Fin 8) (j : Fin 2052) (h : Fin 4) (d : Fin 64) :
    val_main_v4 (F := Ideal) x c (ix4 b j h d) = key x c b h d j.val := by
  pointwise [val_main_v4, val_main_v0, val_main_v3, val_main_v2, val_main_v1]
  unfold key
  by_cases h1 : j.val < 2048
  · rw [dif_pos h1, dif_pos h1]
  · rw [dif_neg h1, dif_neg h1, dif_pos (by omega)]

theorem v9 (x : S8x256x16.Idx → EReal) (c : S1x8x2048x4x64.Idx → EReal) (b : Fin 8) (j : Fin 2052) (h : Fin 4) (d : Fin 64) :
    val_main_v9 (F := Ideal) x c (ix4 b j h d) = key x c b h d j.val := by
  pointwise [val_main_v9, val_main_v5, val_main_v8, val_main_v7, val_main_v6]
  unfold key
  by_cases h1 : j.val < 2048
  · rw [dif_pos h1, dif_pos h1]
  · rw [dif_neg h1, dif_neg h1, dif_pos (by omega)]

theorem v29 (x : S8x256x16.Idx → EReal) (c : S1x8x2048x4x64.Idx → EReal) (b : Fin 8) (t : Fin 4) (i : Fin 129) (h : Fin 4) (d : Fin 64) :
    val_main_v29 (F := Ideal) x c (ix5 b t i h d) = key x c b h d (2048 + t.val - 1 * i.val) := by
  pointwise [val_main_v29, val_main_call0_v14]
  rw [w_call0]
  rw [sel_one]
  unfold val_main_call0_v13
  rw [gat _ _ b t i h d _ (by omega) (i_call0 t i), v4]
  simp only [one_mul]

theorem v30 (x : S8x256x16.Idx → EReal) (c : S1x8x2048x4x64.Idx → EReal) (b : Fin 8) (t : Fin 4) (i : Fin 129) (h : Fin 4) (d : Fin 64) :
    val_main_v30 (F := Ideal) x c (ix5 b t i h d) = key x c b h d (2048 + t.val - 1 * i.val) := by
  pointwise [val_main_v30, val_main_call1_v14]
  rw [w_call1]
  rw [sel_one]
  unfold val_main_call1_v13
  rw [gat _ _ b t i h d _ (by omega) (i_call1 t i), v9]
  simp only [one_mul]

theorem v37 {x0 : S128x1024.Idx → EReal} {x1 : S8x256x16.Idx → EReal} {x4 : S1x8x2048x4x64.Idx → EReal} (hq : ∀ i, ∃ r : ℝ, x0 i = r) (hx : ∀ i, ∃ r : ℝ, x1 i = r) (hc : ∀ i, ∃ r : ℝ, x4 i = r)
    (b : Fin 8) (t : Fin 4) (h g : Fin 4) (i : Fin 129) : val_main_v37 (F := Ideal) x0 x1 x4 (ix5 b t h g i)
      = ((sco x0 x1 x4 b ⟨b.val * 16 + t.val, by omega⟩ h g (2048 + t.val - 1 * i.val) * Real.log 2 : ℝ) : EReal) := by
  pointwise [val_main_v37, val_main_v35, val_main_v31, val_main_v16, val_main_v15, val_main_v14, val_main_v13, val_main_v34, val_main_v33, val_main_v32, val_main_cst, val_main_call2_v2, val_main_call2_v0, val_main_cst_3]
  rw [w_v37]
  show _ * Ideal.log (Ideal.ofBits .f32 1073741824#32) = _
  rw [log_two]
  simp only [v29]
  rw [sco_eq hq hx hc b ⟨b.val * 16 + t.val, by omega⟩ h g, EReal.coe_mul]
  simp only [one_mul]

theorem v38 (x0 : S128x1024.Idx → EReal) (x1 : S8x256x16.Idx → EReal) (x4 : S1x8x2048x4x64.Idx → EReal)
    (b : Fin 8) (t : Fin 4) (h g : Fin 4) : val_main_v38 (F := Ideal) x0 x1 x4 (ix4 b t h g)
      = Finset.univ.fold max ⊥ fun i : Fin 129 => val_main_v37 (F := Ideal) x0 x1 x4 (ix5 b t h g i) := by
  pointwise [val_main_v38, val_main_cst_4]
  rw [ofBits_bot]

theorem v42 (x0 : S128x1024.Idx → EReal) (x1 : S8x256x16.Idx → EReal) (x4 : S1x8x2048x4x64.Idx → EReal)
    (b : Fin 8) (t : Fin 4) (h g : Fin 4) (i : Fin 129) : val_main_v42 (F := Ideal) x0 x1 x4 (ix5 b t h g i)
      = Ideal.exp (val_main_v37 (F := Ideal) x0 x1 x4 (ix5 b t h g i) - val_main_v38 (F := Ideal) x0 x1 x4 (ix4 b t h g)) := by
  pointwise [val_main_v42, val_main_v41, val_main_v40, val_main_v39]

theorem v43 (x0 : S128x1024.Idx → EReal) (x1 : S8x256x16.Idx → EReal) (x4 : S1x8x2048x4x64.Idx → EReal)
    (b : Fin 8) (t : Fin 4) (h g : Fin 4) : val_main_v43 (F := Ideal) x0 x1 x4 (ix4 b t h g)
      = ∑ i : Fin 129, Ideal.exp (val_main_v37 (F := Ideal) x0 x1 x4 (ix5 b t h g i) - val_main_v38 (F := Ideal) x0 x1 x4 (ix4 b t h g)) := by
  pointwise [val_main_v43, val_main_cst_5]
  simp only [v42]

theorem v44 (x0 : S128x1024.Idx → EReal) (x1 x2 : S8x256x16.Idx → EReal) (x4 x5 : S1x8x2048x4x64.Idx → EReal)
    (b : Fin 8) (t : Fin 4) (h g : Fin 4) (d : Fin 64) : val_main_v44 (F := Ideal) x0 x1 x2 x4 x5 (ix5 b t h g d)
      = ∑ i : Fin 129, Ideal.exp (val_main_v37 (F := Ideal) x0 x1 x4 (ix5 b t h g i) - val_main_v38 (F := Ideal) x0 x1 x4 (ix4 b t h g))
          * key x2 x5 b h d (2048 + t.val - 1 * i.val) := by
  pointwise [val_main_v44]
  simp only [v42, v30, one_mul]

theorem v57 (x : S8x256x16.Idx → EReal) (c : S1x8x2048x4x64.Idx → EReal) (b : Fin 8) (t : Fin 4) (i : Fin 129) (h : Fin 4) (d : Fin 64) :
    val_main_v57 (F := Ideal) x c (ix5 b t i h d) = key x c b h d (2048 + t.val - 4 * i.val) := by
  pointwise [val_main_v57, val_main_call3_v14]
  rw [w_call3]
  rw [sel_one]
  unfold val_main_call3_v13
  rw [gat _ _ b t i h d _ (by omega) (i_call3 t i), v4]

theorem v58 (x : S8x256x16.Idx → EReal) (c : S1x8x2048x4x64.Idx → EReal) (b : Fin 8) (t : Fin 4) (i : Fin 129) (h : Fin 4) (d : Fin 64) :
    val_main_v58 (F := Ideal) x c (ix5 b t i h d) = key x c b h d (2048 + t.val - 4 * i.val) := by
  pointwise [val_main_v58, val_main_call4_v14]
  rw [w_call4]
  rw [sel_one]
  unfold val_main_call4_v13
  rw [gat _ _ b t i h d _ (by omega) (i_call4 t i), v9]

theorem v65 {x0 : S128x1024.Idx → EReal} {x1 : S8x256x16.Idx → EReal} {x4 : S1x8x2048x4x64.Idx → EReal} (hq : ∀ i, ∃ r : ℝ, x0 i = r) (hx : ∀ i, ∃ r : ℝ, x1 i = r) (hc : ∀ i, ∃ r : ℝ, x4 i = r)
    (b : Fin 8) (t : Fin 4) (h g : Fin 4) (i : Fin 129) : val_main_v65 (F := Ideal) x0 x1 x4 (ix5 b t h g i)
      = ((sco x0 x1 x4 b ⟨b.val * 16 + t.val, by omega⟩ h g (2048 + t.val - 4 * i.val) * Real.log 2 : ℝ) : EReal) := by
  pointwise [val_main_v65, val_main_v63, val_main_v59, val_main_v16, val_main_v15, val_main_v14, val_main_v13, val_main_v62, val_main_v61, val_main_v60, val_main_cst_9, val_main_call5_v2, val_main_call5_v0, val_main_cst_10]
  rw [w_v65]
  show _ * Ideal.log (Ideal.ofBits .f32 1073741824#32) = _
  rw [log_two]
  simp only [v57]
  rw [sco_eq hq hx hc b ⟨b.val * 16 + t.val, by omega⟩ h g, EReal.coe_mul]

theorem v66 (x0 : S128x1024.Idx → EReal) (x1 : S8x256x16.Idx → EReal) (x4 : S1x8x2048x4x64.Idx → EReal)
    (b : Fin 8) (t : Fin 4) (h g : Fin 4) : val_main_v66 (F := Ideal) x0 x1 x4 (ix4 b t h g)
      = Finset.univ.fold max ⊥ fun i : Fin 129 => val_main_v65 (F := Ideal) x0 x1 x4 (ix5 b t h g i) := by
  pointwise [val_main_v66, val_main_cst_11]
  rw [ofBits_bot]

theorem v70 (x0 : S128x1024.Idx → EReal) (x1 : S8x256x16.Idx → EReal) (x4 : S1x8x2048x4x64.Idx → EReal)
    (b : Fin 8) (t : Fin 4) (h g : Fin 4) (i : Fin 129) : val_main_v70 (F := Ideal) x0 x1 x4 (ix5 b t h g i)
      = Ideal.exp (val_main_v65 (F := Ideal) x0 x1 x4 (ix5 b t h g i) - val_main_v66 (F := Ideal) x0 x1 x4 (ix4 b t h g)) := by
  pointwise [val_main_v70, val_main_v69, val_main_v68, val_main_v67]

theorem v71 (x0 : S128x1024.Idx → EReal) (x1 : S8x256x16.Idx → EReal) (x4 : S1x8x2048x4x64.Idx → EReal)
    (b : Fin 8) (t : Fin 4) (h g : Fin 4) : val_main_v71 (F := Ideal) x0 x1 x4 (ix4 b t h g)
      = ∑ i : Fin 129, Ideal.exp (val_main_v65 (F := Ideal) x0 x1 x4 (ix5 b t h g i) - val_main_v66 (F := Ideal) x0 x1 x4 (ix4 b t h g)) := by
  pointwise [val_main_v71, val_main_cst_12]
  simp only [v70]

theorem v72 (x0 : S128x1024.Idx → EReal) (x1 x2 : S8x256x16.Idx → EReal) (x4 x5 : S1x8x2048x4x64.Idx → EReal)
    (b : Fin 8) (t : Fin 4) (h g : Fin 4) (d : Fin 64) : val_main_v72 (F := Ideal) x0 x1 x2 x4 x5 (ix5 b t h g d)
      = ∑ i : Fin 129, Ideal.exp (val_main_v65 (F := Ideal) x0 x1 x4 (ix5 b t h g i) - val_main_v66 (F := Ideal) x0 x1 x4 (ix4 b t h g))
          * key x2 x5 b h d (2048 + t.val - 4 * i.val) := by
  pointwise [val_main_v72]
  simp only [v70, v58]

theorem v85 (x : S8x256x16.Idx → EReal) (c : S1x8x2048x4x64.Idx → EReal) (b : Fin 8) (t : Fin 4) (i : Fin 129) (h : Fin 4) (d : Fin 64) :
    val_main_v85 (F := Ideal) x c (ix5 b t i h d) = key x c b h d (2048 + t.val - 16 * i.val) := by
  pointwise [val_main_v85, val_main_call6_v14]
  rw [w_call6]
  rw [sel_one]
  unfold val_main_call6_v13
  rw [gat _ _ b t i h d _ (by omega) (i_call6 t i), v4]

theorem v86 (x : S8x256x16.Idx → EReal) (c : S1x8x2048x4x64.Idx → EReal) (b : Fin 8) (t : Fin 4) (i : Fin 129) (h : Fin 4) (d : Fin 64) :
    val_main_v86 (F := Ideal) x c (ix5 b t i h d) = key x c b h d (2048 + t.val - 16 * i.val) := by
  pointwise [val_main_v86, val_main_call7_v14]
  rw [w_call7]
  rw [sel_one]
  unfold val_main_call7_v13
  rw [gat _ _ b t i h d _ (by omega) (i_call7 t i), v9]

theorem v93 {x0 : S128x1024.Idx → EReal} {x1 : S8x256x16.Idx → EReal} {x4 : S1x8x2048x4x64.Idx → EReal} (hq : ∀ i, ∃ r : ℝ, x0 i = r) (hx : ∀ i, ∃ r : ℝ, x1 i = r) (hc : ∀ i, ∃ r : ℝ, x4 i = r)
    (b : Fin 8) (t : Fin 4) (h g : Fin 4) (i : Fin 129) : val_main_v93 (F := Ideal) x0 x1 x4 (ix5 b t h g i)
      = ((sco x0 x1 x4 b ⟨b.val * 16 + t.val, by omega⟩ h g (2048 + t.val - 16 * i.val) * Real.log 2 : ℝ) : EReal) := by
  pointwise [val_main_v93, val_main_v91, val_main_v87, val_main_v16, val_main_v15, val_main_v14, val_main_v13, val_main_v90, val_main_v89, val_main_v88, val_main_cst_16, val_main_call8_v2, val_main_call8_v0, val_main_cst_17]
  rw [w_v93]
  show _ * Ideal.log (Ideal.ofBits .f32 1073741824#32) = _
  rw [log_two]
  simp only [v85]
  rw [sco_eq hq hx hc b ⟨b.val * 16 + t.val, by omega⟩ h g, EReal.coe_mul]

theorem v94 (x0 : S128x1024.Idx → EReal) (x1 : S8x256x16.Idx → EReal) (x4 : S1x8x2048x4x64.Idx → EReal)
    (b : Fin 8) (t : Fin 4) (h g : Fin 4) : val_main_v94 (F := Ideal) x0 x1 x4 (ix4 b t h g)
      = Finset.univ.fold max ⊥ fun i : Fin 129 => val_main_v93 (F := Ideal) x0 x1 x4 (ix5 b t h g i) := by
  pointwise [val_main_v94, val_main_cst_18]
  rw [ofBits_bot]

theorem v98 (x0 : S128x1024.Idx → EReal) (x1 : S8x256x16.Idx → EReal) (x4 : S1x8x2048x4x64.Idx → EReal)
    (b : Fin 8) (t : Fin 4) (h g : Fin 4) (i : Fin 129) : val_main_v98 (F := Ideal) x0 x1 x4 (ix5 b t h g i)
      = Ideal.exp (val_main_v93 (F := Ideal) x0 x1 x4 (ix5 b t h g i) - val_main_v94 (F := Ideal) x0 x1 x4 (ix4 b t h g)) := by
  pointwise [val_main_v98, val_main_v97, val_main_v96, val_main_v95]

theorem v99 (x0 : S128x1024.Idx → EReal) (x1 : S8x256x16.Idx → EReal) (x4 : S1x8x2048x4x64.Idx → EReal)
    (b : Fin 8) (t : Fin 4) (h g : Fin 4) : val_main_v99 (F := Ideal) x0 x1 x4 (ix4 b t h g)
      = ∑ i : Fin 129, Ideal.exp (val_main_v93 (F := Ideal) x0 x1 x4 (ix5 b t h g i) - val_main_v94 (F := Ideal) x0 x1 x4 (ix4 b t h g)) := by
  pointwise [val_main_v99, val_main_cst_19]
  simp only [v98]

theorem v100 (x0 : S128x1024.Idx → EReal) (x1 x2 : S8x256x16.Idx → EReal) (x4 x5 : S1x8x2048x4x64.Idx → EReal)
    (b : Fin 8) (t : Fin 4) (h g : Fin 4) (d : Fin 64) : val_main_v100 (F := Ideal) x0 x1 x2 x4 x5 (ix5 b t h g d)
      = ∑ i : Fin 129, Ideal.exp (val_main_v93 (F := Ideal) x0 x1 x4 (ix5 b t h g i) - val_main_v94 (F := Ideal) x0 x1 x4 (ix4 b t h g))
          * key x2 x5 b h d (2048 + t.val - 16 * i.val) := by
  pointwise [val_main_v100]
  simp only [v98, v86]

/-- The reference's attention of the four tokens of a sequence, read at a lane. -/
theorem out {x0 : S128x1024.Idx → EReal} {x1 x2 : S8x256x16.Idx → EReal} {x4 x5 : S1x8x2048x4x64.Idx → EReal} (hq : ∀ i, ∃ r : ℝ, x0 i = r) (hx : ∀ i, ∃ r : ℝ, x1 i = r) (hc : ∀ i, ∃ r : ℝ, x4 i = r)
    (b : Fin 8) (t : Fin 4) (l : Fin 1024) : val_main_v135 (F := Ideal) x0 x1 x2 x4 x5 (ix3 b t l)
      = att (2048 + t.val) (sco x0 x1 x4 b ⟨b.val * 16 + t.val, by omega⟩ ⟨l.val / 256, by omega⟩ ⟨l.val / 64 % 4, by omega⟩)
          (key x2 x5 b ⟨l.val / 256, by omega⟩ ⟨l.val % 64, by omega⟩) := by
  pointwise [val_main_v135, val_main_v134, val_main_v124, val_main_v120, val_main_v116, val_main_v115, val_main_cst_21, val_main_v114, val_main_v113, val_main_v112, val_main_v107, val_main_v106, val_main_v105, val_main_v104, val_main_v101, val_main_v102, val_main_v103, val_main_cst_20, val_main_v119, val_main_v118, val_main_v117, val_main_v109, val_main_v108, val_main_v123, val_main_v122, val_main_v121, val_main_v111, val_main_v110, val_main_v133, val_main_v132, val_main_v131, val_main_v129, val_main_v127, val_main_v126, val_main_cst_22, val_main_v125, val_main_v128, val_main_v130]
  simp only [ofBits_bot, fold_stack]
  simp only [v44, v72, v100, v43, v71, v99]
  generalize hh : (⟨l.val / 256, by omega⟩ : Fin 4) = h
  generalize hg : (⟨l.val / 64 % 4, by omega⟩ : Fin 4) = g
  generalize hd : (⟨l.val % 64, by omega⟩ : Fin 64) = d
  exact ref_att (2048 + t.val) (by omega) (sco x0 x1 x4 b ⟨b.val * 16 + t.val, by omega⟩ h g) (key x2 x5 b h d)
    (fun i : Fin 129 => val_main_v37 (F := Ideal) x0 x1 x4 (ix5 b t h g i))
    (fun i : Fin 129 => val_main_v65 (F := Ideal) x0 x1 x4 (ix5 b t h g i))
    (fun i : Fin 129 => val_main_v93 (F := Ideal) x0 x1 x4 (ix5 b t h g i))
    (fun i => v37 hq hx hc _ _ _ _ i) (fun i => v65 hq hx hc _ _ _ _ i) (fun i => v93 hq hx hc _ _ _ _ i) _
    (val_main_v38 (F := Ideal) x0 x1 x4 (ix4 b t h g))
    (val_main_v66 (F := Ideal) x0 x1 x4 (ix4 b t h g))
    (val_main_v94 (F := Ideal) x0 x1 x4 (ix4 b t h g))
    (v38 _ _ _ _ _ _ _) (v66 _ _ _ _ _ _ _) (v94 _ _ _ _ _ _ _) rfl

/-- The reference's first result at a row of one of the four tokens. -/
theorem res0 {x0 : S128x1024.Idx → EReal} {x1 x2 : S8x256x16.Idx → EReal} {x4 x5 : S1x8x2048x4x64.Idx → EReal} (x3 : S128x1024.Idx → EReal) (hq : ∀ i, ∃ r : ℝ, x0 i = r) (hx : ∀ i, ∃ r : ℝ, x1 i = r) (hc : ∀ i, ∃ r : ℝ, x4 i = r)
    (r : Fin 128) (hr : r.val % 16 < 4) (l : Fin 1024) : val_main_v141 (F := Ideal) x0 x1 x2 x3 x4 x5 (ix2 r l)
      = att (2048 + r.val % 16) (sco x0 x1 x4 ⟨r.val / 16, by omega⟩ r ⟨l.val / 256, by omega⟩ ⟨l.val / 64 % 4, by omega⟩)
          (key x2 x5 ⟨r.val / 16, by omega⟩ ⟨l.val / 256, by omega⟩ ⟨l.val % 64, by omega⟩) * x3 (ix2 r l) := by
  pointwise [val_main_v141, val_main_v138, val_main_v140, val_main_v139, val_main_v137, val_main_v136]
  rw [dif_pos ⟨by omega, hr⟩, out hq hx hc ⟨r.val / 16, by omega⟩ ⟨r.val % 16, hr⟩ l]
  have e : ∀ h : r.val / 16 * 16 + r.val % 16 < 128, (⟨r.val / 16 * 16 + r.val % 16, h⟩ : Fin 128) = r :=
    fun h => Fin.ext (by show r.val / 16 * 16 + r.val % 16 = r.val; omega)
  simp only [e]

theorem res1 (x : S8x256x16.Idx → EReal) (c : S1x8x2048x4x64.Idx → EReal) (b : Fin 8) (k : Fin 256) (j : Fin 2048) :
    val_main_v144 (F := Ideal) x c (ix3 b k j) = key x c b ⟨k.val / 64, by omega⟩ ⟨k.val % 64, by omega⟩ (4 + j.val) := by
  pointwise [val_main_v144, val_main_v143, val_main_v142]
  rw [v4]

theorem res2 (x : S8x256x16.Idx → EReal) (c : S1x8x2048x4x64.Idx → EReal) (b : Fin 8) (k : Fin 256) (j : Fin 2048) :
    val_main_v147 (F := Ideal) x c (ix3 b k j) = key x c b ⟨k.val / 64, by omega⟩ ⟨k.val % 64, by omega⟩ (4 + j.val) := by
  pointwise [val_main_v147, val_main_v146, val_main_v145]
  rw [v9]

end Cert.AttSRefIdeal.Val

end
-- ==== Proof.AttSVal.lean ====
module

public import proofs.«01_k».proof.Proof.Gen.AttSIdeal.Value
public import proofs.«01_k».proof.Proof.Gen.AttSRefIdeal.Run
public import proofs.«01_k».proof.Proof.Gen.AttSRefIdeal.Read
public import proofs.«01_k».proof.Proof.AttHead
public import proofs.«01_k».proof.Proof.AttRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttSIdeal.Val

open Cert.AttSIdeal Cert.AttSIdeal.Gen Cert.Att

variable (m : (ℓ : Loc nD τ sig) → Buf (Elt Ideal) ℓ)

theorem idx : ∀ t : Fin cfg0.N, win0_0.index t = ![t.val, 0] ∧ win0_1.index t = ![t.val, 0, 0]
    ∧ win0_2.index t = ![t.val, 0, 0] ∧ win0_3.index t = ![t.val, 0] ∧ win0_4.index t = ![t.val, 0, 0]
    ∧ win0_5.index t = ![t.val, 0, 0] ∧ win0_6.index t = ![t.val, 0] ∧ win0_7.index t = ![t.val, 0, 0]
    ∧ win0_8.index t = ![t.val, 0, 0] :=
  (by decide +kernel : ∀ t : Fin grid0.N, _)

theorem ht (t : Fin cfg0.N) : t.val < 8 := t.isLt

/-- The queries of one sequence. -/
theorem b0 (c : Dev nD) (t : Fin cfg0.N) (x : S16x1024.Idx) : iblk m c 0 t x
    = m ((c : Thread nD τ).loc main_arg0) (ix2 ⟨t.val * 16 + (x 0).val, by have := (x 0).isLt; have := ht t; simp at *; omega⟩ (x 1)) := by
  blk_simp [iblk]
  rw [V_main_arg0]
  blk_ext [idx t]

/-- Its new keys. -/
theorem b1 (c : Dev nD) (t : Fin cfg0.N) (x : S1x256x16.Idx) : iblk m c 1 t x
    = m ((c : Thread nD τ).loc main_arg1) (ix3 ⟨t.val, ht t⟩ (x 1) (x 2)) := by
  blk_simp [iblk]
  rw [V_main_arg1]
  blk_ext [idx t]

/-- Its new values. -/
theorem b2 (c : Dev nD) (t : Fin cfg0.N) (x : S1x256x16.Idx) : iblk m c 2 t x
    = m ((c : Thread nD τ).loc main_arg2) (ix3 ⟨t.val, ht t⟩ (x 1) (x 2)) := by
  blk_simp [iblk]
  rw [V_main_arg2]
  blk_ext [idx t]

/-- Its gate. -/
theorem b3 (c : Dev nD) (t : Fin cfg0.N) (x : S16x1024.Idx) : iblk m c 3 t x
    = m ((c : Thread nD τ).loc main_arg3) (ix2 ⟨t.val * 16 + (x 0).val, by have := (x 0).isLt; have := ht t; simp at *; omega⟩ (x 1)) := by
  blk_simp [iblk]
  rw [V_main_arg3]
  blk_ext [idx t]

/-- Its cached keys, heads and entries first. -/
theorem b4 (c : Dev nD) (t : Fin cfg0.N) (x : S1x256x2048.Idx) : iblk m c 4 t x
    = m ((c : Thread nD τ).loc main_arg4) (ix5 (0 : Fin 1) ⟨t.val, ht t⟩ (x 2) ⟨(x 1).val / 64, by have := (x 1).isLt; simp at *; omega⟩ ⟨(x 1).val % 64, by omega⟩) := by
  blk_simp [iblk]
  entry_read
  pointwise []
  blk_ext [idx t]

/-- Its cached values. -/
theorem b5 (c : Dev nD) (t : Fin cfg0.N) (x : S1x256x2048.Idx) : iblk m c 5 t x
    = m ((c : Thread nD τ).loc main_arg5) (ix5 (0 : Fin 1) ⟨t.val, ht t⟩ (x 2) ⟨(x 1).val / 64, by have := (x 1).isLt; simp at *; omega⟩ ⟨(x 1).val % 64, by omega⟩) := by
  blk_simp [iblk]
  entry_read
  pointwise []
  blk_ext [idx t]

theorem key_old (x : S8x256x16.Idx → EReal) (c : S1x8x2048x4x64.Idx → EReal) (b : Fin 8) (h : Fin 4) (d : Fin 64)
    (j : Fin 2048) : key x c b h d j.val = c (ix5 (0 : Fin 1) b j h d) := by
  unfold key; rw [dif_pos j.isLt]

theorem key_new (x : S8x256x16.Idx → EReal) (c : S1x8x2048x4x64.Idx → EReal) (b : Fin 8) (h : Fin 4) (d : Fin 64)
    (j : Fin 16) : key x c b h d (2048 + j.val) = x (ix3 b ⟨h.val * 64 + d.val, by omega⟩ j) := by
  have e : 2048 + j.val - 2048 = j.val := by omega
  unfold key
  rw [dif_neg (by omega), dif_pos (by rw [e]; exact j.isLt)]
  simp only [e]

open Cert.AttSRefIdeal.Val Cert.AttSRefIdeal.Read in
/-- One kv head's piece is the reference's attention there. -/
theorem piece {x0 : S128x1024.Idx → EReal} {x1 x2 : S8x256x16.Idx → EReal} {x4 x5 : S1x8x2048x4x64.Idx → EReal}
    (x3 : S128x1024.Idx → EReal) (hq : ∀ i, ∃ r : ℝ, x0 i = r) (hx : ∀ i, ∃ r : ℝ, x1 i = r) (hc : ∀ i, ∃ r : ℝ, x4 i = r)
    (b : Fin 8) (h : Fin 4) (q0 q1 q2 q3 : FVec Ideal S16x64 .bf16) (kc : FVec Ideal S1x64x2048 .f32) (kn : FVec Ideal S1x64x16 .f32)
    (vc : FVec Ideal S1x64x2048 .f32) (vn : FVec Ideal S1x64x16 .f32) (gt : FVec Ideal S16x256 .f32)
    (e0 : ∀ (t : Fin 16) (x : Fin 64), q0 (ix2 t x) = x0 (ix2 ⟨b.val * 16 + t.val, by omega⟩ ⟨h.val * 256 + 0 * 64 + x.val, by omega⟩))
    (e1 : ∀ (t : Fin 16) (x : Fin 64), q1 (ix2 t x) = x0 (ix2 ⟨b.val * 16 + t.val, by omega⟩ ⟨h.val * 256 + 1 * 64 + x.val, by omega⟩))
    (e2 : ∀ (t : Fin 16) (x : Fin 64), q2 (ix2 t x) = x0 (ix2 ⟨b.val * 16 + t.val, by omega⟩ ⟨h.val * 256 + 2 * 64 + x.val, by omega⟩))
    (e3 : ∀ (t : Fin 16) (x : Fin 64), q3 (ix2 t x) = x0 (ix2 ⟨b.val * 16 + t.val, by omega⟩ ⟨h.val * 256 + 3 * 64 + x.val, by omega⟩))
    (ekc : ∀ (d : Fin 64) (j : Fin 2048), kc (ix3 (0 : Fin 1) d j) = x4 (ix5 (0 : Fin 1) b j h d))
    (ekn : ∀ (d : Fin 64) (j : Fin 16), kn (ix3 (0 : Fin 1) d j) = x1 (ix3 b ⟨h.val * 64 + d.val, by omega⟩ j))
    (evc : ∀ (d : Fin 64) (j : Fin 2048), vc (ix3 (0 : Fin 1) d j) = x5 (ix5 (0 : Fin 1) b j h d))
    (evn : ∀ (d : Fin 64) (j : Fin 16), vn (ix3 (0 : Fin 1) d j) = x2 (ix3 b ⟨h.val * 64 + d.val, by omega⟩ j))
    (eg : ∀ (t : Fin 16) (l : Fin 256), gt (ix2 t l) = x3 (ix2 ⟨b.val * 16 + t.val, by omega⟩ ⟨h.val * 256 + l.val, by omega⟩))
    (t : Fin 16) (ht : t.val < 4) (l : Fin 256) :
    k0_pay19 (F := Ideal) (k0_pay17 (k0_pay7 k0_pay3 k0_pay4 k0_pay5 k0_pay6) k0_pay8 (k0_pay10 k0_pay9 (FloatOps.ofBits .f32 0#32)) (k0_pay11 k0_pay9) q0 q1 q2 q3 kc kn)
      (k0_pay18 (k0_pay7 k0_pay3 k0_pay4 k0_pay5 k0_pay6) k0_pay8 (k0_pay10 k0_pay9 (FloatOps.ofBits .f32 0#32)) (k0_pay11 k0_pay9) q0 q1 q2 q3 kc kn) vc vn gt (ix2 t l)
      = val_main_v141 (F := Ideal) x0 x1 x2 x3 x4 x5 (ix2 ⟨b.val * 16 + t.val, by omega⟩ ⟨h.val * 256 + l.val, by omega⟩) := by
  rw [res0 x3 hq hx hc _ (by show (b.val * 16 + t.val) % 16 < 4; omega)]
  have n1 : (b.val * 16 + t.val) % 16 = t.val := by omega
  have n2 : (b.val * 16 + t.val) / 16 = b.val := by omega
  have n3 : (h.val * 256 + l.val) / 256 = h.val := by omega
  have n4 : (h.val * 256 + l.val) / 64 % 4 = l.val / 64 := by omega
  have n5 : (h.val * 256 + l.val) % 64 = l.val % 64 := by omega
  simp only [n1, n2, n3, n4, n5]
  have hqs : ∀ r : Fin 64, r.val = l.val / 64 * 16 + t.val → ∀ x : Fin 64, qs q0 q1 q2 q3 r x
      = x0 (ix2 ⟨b.val * 16 + t.val, by omega⟩ ⟨h.val * 256 + (⟨l.val / 64, by omega⟩ : Fin 4).val * 64 + x.val, by show h.val * 256 + l.val / 64 * 64 + x.val < 1024; omega⟩) := by
    intro r hr x
    rw [qs_of q0 q1 q2 q3 (fun g t x => x0 (ix2 ⟨b.val * 16 + t.val, by omega⟩ ⟨h.val * 256 + g.val * 64 + x.val, by omega⟩)) e0 e1 e2 e3]
    have m1 : r.val / 16 = l.val / 64 := by omega
    have m2 : r.val % 16 = t.val := by omega
    simp only [m1, m2]
  rw [head _ _ _ _ q0 q1 q2 q3 kc kn vc vn gt t l
    (sco x0 x1 x4 b ⟨b.val * 16 + t.val, by omega⟩ h ⟨l.val / 64, by omega⟩) (key x2 x5 b h ⟨l.val % 64, by omega⟩)
    ?_ ?_ ?_ ?_ ?_ ?_, eg]
  · intro r hr j; rw [W_eq, hr]
  · intro r hr j; rw [Wn_eq _ (by omega), hr]
  · intro r hr j
    rw [← sco_eq hq hx hc]
    exact Finset.sum_congr rfl fun x _ => by rw [hqs r hr, ekc, key_old]
  · intro r hr j
    rw [← sco_eq hq hx hc]
    exact Finset.sum_congr rfl fun x _ => by rw [hqs r hr, ekn, key_new]
  · intro d hd j
    have : d = ⟨l.val % 64, by omega⟩ := Fin.ext hd
    rw [evc, key_old, this]
  · intro d hd j
    have : d = ⟨l.val % 64, by omega⟩ := Fin.ext hd
    rw [evn, key_new, this]

/-- The offset of the block row. -/
theorem emb6 (t : Fin cfg0.N) (y : S16x1024.Idx) : ((cfg0.win 6).blk t).view.emb y
    = (ix2 ⟨t.val * 16 + (y 0).val, by have := (y 0).isLt; have := ht t; simp at *; omega⟩ (y 1) : S128x1024.Idx) := by
  blk_ext [idx t]

open Cert.AttSRefIdeal.Val Cert.AttSRefIdeal.Read in
set_option maxHeartbeats 2000000 in
/-- The first result, on the rows of the four new tokens. -/
theorem final6 (c : Dev nD) (hq : ∀ i, ∃ r : ℝ, m ((c : Thread nD τ).loc main_arg0) i = (r : EReal))
    (hx : ∀ i, ∃ r : ℝ, m ((c : Thread nD τ).loc main_arg1) i = (r : EReal)) (hc : ∀ i, ∃ r : ℝ, m ((c : Thread nD τ).loc main_arg4) i = (r : EReal))
    (i : S128x1024.Idx) : (i 0).val % 16 < 4 → (dats m 0 c).arrAt 6 cfg0.N i
      = val_main_v141 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) i := by
  refine (dats m 0 c).arrAt_forall_of_covers 6 (fun i v => (i 0).val % 16 < 4 → v
      = val_main_v141 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) i)
    (by decide +kernel) (fun t _ y => ?_) i
  rw [emb6]
  blk_simp; rw [after0_6]
  intro hy
  unfold outsAt0
  frame_out
  canon_tiles x h
  · rw [head3]
    have hx0 : (x 0).val < 4 := by simp at hy h0; omega
    have e : (ix2 (⟨t.val * 16 + (y 0).val, by have := (y 0).isLt; have := ht t; simp at *; omega⟩ : Fin 128) (y 1 : Fin 1024))
        = ix2 (⟨t.val * 16 + (x 0).val, by have := ht t; omega⟩ : Fin 128) (⟨3 * 256 + (x 1).val, by omega⟩ : Fin 1024) := by
      congr 1
      · exact Fin.ext (by show t.val * 16 + (y 0).val = t.val * 16 + (x 0).val; omega)
      · exact Fin.ext (by show (y 1).val = 3 * 256 + (x 1).val; omega)
    refine Eq.trans (congrArg _ (ix2_eta x).symm) (Eq.trans ?_ (congrArg _ e.symm))
    refine piece _ hq hx hc ⟨t.val, ht t⟩ 3 _ _ _ _ _ _ _ _ _ ?_ ?_ ?_ ?_ ?_ ?_ ?_ ?_ ?_ (x 0) hx0 (x 1)
    all_goals intro u v
    · exact (b0 m c t _).trans (congrArg _ (by blk_ext [Rect.idx_unit_val]))
    · exact (b0 m c t _).trans (congrArg _ (by blk_ext [Rect.idx_unit_val]))
    · exact (b0 m c t _).trans (congrArg _ (by blk_ext [Rect.idx_unit_val]))
    · exact (b0 m c t _).trans (congrArg _ (by blk_ext [Rect.idx_unit_val]))
    · exact (b4 m c t _).trans (congrArg _ (by blk_ext [Rect.idx_unit_val]))
    · exact (b1 m c t _).trans (congrArg _ (by blk_ext [Rect.idx_unit_val]))
    · exact (b5 m c t _).trans (congrArg _ (by blk_ext [Rect.idx_unit_val]))
    · exact (b2 m c t _).trans (congrArg _ (by blk_ext [Rect.idx_unit_val]))
    · exact (b3 m c t _).trans (congrArg _ (by blk_ext [Rect.idx_unit_val]))
  · rw [head2]
    have hx0 : (x 0).val < 4 := by simp at hy h0; omega
    have e : (ix2 (⟨t.val * 16 + (y 0).val, by have := (y 0).isLt; have := ht t; simp at *; omega⟩ : Fin 128) (y 1 : Fin 1024))
        = ix2 (⟨t.val * 16 + (x 0).val, by have := ht t; omega⟩ : Fin 128) (⟨2 * 256 + (x 1).val, by omega⟩ : Fin 1024) := by
      congr 1
      · exact Fin.ext (by show t.val * 16 + (y 0).val = t.val * 16 + (x 0).val; omega)
      · exact Fin.ext (by show (y 1).val = 2 * 256 + (x 1).val; omega)
    refine Eq.trans (congrArg _ (ix2_eta x).symm) (Eq.trans ?_ (congrArg _ e.symm))
    refine piece _ hq hx hc ⟨t.val, ht t⟩ 2 _ _ _ _ _ _ _ _ _ ?_ ?_ ?_ ?_ ?_ ?_ ?_ ?_ ?_ (x 0) hx0 (x 1)
    all_goals intro u v
    · exact (b0 m c t _).trans (congrArg _ (by blk_ext [Rect.idx_unit_val]))
    · exact (b0 m c t _).trans (congrArg _ (by blk_ext [Rect.idx_unit_val]))
    · exact (b0 m c t _).trans (congrArg _ (by blk_ext [Rect.idx_unit_val]))
    · exact (b0 m c t _).trans (congrArg _ (by blk_ext [Rect.idx_unit_val]))
    · exact (b4 m c t _).trans (congrArg _ (by blk_ext [Rect.idx_unit_val]))
    · exact (b1 m c t _).trans (congrArg _ (by blk_ext [Rect.idx_unit_val]))
    · exact (b5 m c t _).trans (congrArg _ (by blk_ext [Rect.idx_unit_val]))
    · exact (b2 m c t _).trans (congrArg _ (by blk_ext [Rect.idx_unit_val]))
    · exact (b3 m c t _).trans (congrArg _ (by blk_ext [Rect.idx_unit_val]))
  · rw [head1]
    have hx0 : (x 0).val < 4 := by simp at hy h0; omega
    have e : (ix2 (⟨t.val * 16 + (y 0).val, by have := (y 0).isLt; have := ht t; simp at *; omega⟩ : Fin 128) (y 1 : Fin 1024))
        = ix2 (⟨t.val * 16 + (x 0).val, by have := ht t; omega⟩ : Fin 128) (⟨1 * 256 + (x 1).val, by omega⟩ : Fin 1024) := by
      congr 1
      · exact Fin.ext (by show t.val * 16 + (y 0).val = t.val * 16 + (x 0).val; omega)
      · exact Fin.ext (by show (y 1).val = 1 * 256 + (x 1).val; omega)
    refine Eq.trans (congrArg _ (ix2_eta x).symm) (Eq.trans ?_ (congrArg _ e.symm))
    refine piece _ hq hx hc ⟨t.val, ht t⟩ 1 _ _ _ _ _ _ _ _ _ ?_ ?_ ?_ ?_ ?_ ?_ ?_ ?_ ?_ (x 0) hx0 (x 1)
    all_goals intro u v
    · exact (b0 m c t _).trans (congrArg _ (by blk_ext [Rect.idx_unit_val]))
    · exact (b0 m c t _).trans (congrArg _ (by blk_ext [Rect.idx_unit_val]))
    · exact (b0 m c t _).trans (congrArg _ (by blk_ext [Rect.idx_unit_val]))
    · exact (b0 m c t _).trans (congrArg _ (by blk_ext [Rect.idx_unit_val]))
    · exact (b4 m c t _).trans (congrArg _ (by blk_ext [Rect.idx_unit_val]))
    · exact (b1 m c t _).trans (congrArg _ (by blk_ext [Rect.idx_unit_val]))
    · exact (b5 m c t _).trans (congrArg _ (by blk_ext [Rect.idx_unit_val]))
    · exact (b2 m c t _).trans (congrArg _ (by blk_ext [Rect.idx_unit_val]))
    · exact (b3 m c t _).trans (congrArg _ (by blk_ext [Rect.idx_unit_val]))
  · have hx0 : (x 0).val < 4 := by simp at hy h0; omega
    have e : (ix2 (⟨t.val * 16 + (y 0).val, by have := (y 0).isLt; have := ht t; simp at *; omega⟩ : Fin 128) (y 1 : Fin 1024))
        = ix2 (⟨t.val * 16 + (x 0).val, by have := ht t; omega⟩ : Fin 128) (⟨0 * 256 + (x 1).val, by omega⟩ : Fin 1024) := by
      congr 1
      · exact Fin.ext (by show t.val * 16 + (y 0).val = t.val * 16 + (x 0).val; omega)
      · exact Fin.ext (by show (y 1).val = 0 * 256 + (x 1).val; omega)
    refine Eq.trans (congrArg _ (ix2_eta x).symm) (Eq.trans ?_ (congrArg _ e.symm))
    refine piece _ hq hx hc ⟨t.val, ht t⟩ 0 _ _ _ _ _ _ _ _ _ ?_ ?_ ?_ ?_ ?_ ?_ ?_ ?_ ?_ (x 0) hx0 (x 1)
    all_goals intro u v
    · exact (b0 m c t _).trans (congrArg _ (by blk_ext [Rect.idx_unit_val]))
    · exact (b0 m c t _).trans (congrArg _ (by blk_ext [Rect.idx_unit_val]))
    · exact (b0 m c t _).trans (congrArg _ (by blk_ext [Rect.idx_unit_val]))
    · exact (b0 m c t _).trans (congrArg _ (by blk_ext [Rect.idx_unit_val]))
    · exact (b4 m c t _).trans (congrArg _ (by blk_ext [Rect.idx_unit_val]))
    · exact (b1 m c t _).trans (congrArg _ (by blk_ext [Rect.idx_unit_val]))
    · exact (b5 m c t _).trans (congrArg _ (by blk_ext [Rect.idx_unit_val]))
    · exact (b2 m c t _).trans (congrArg _ (by blk_ext [Rect.idx_unit_val]))
    · exact (b3 m c t _).trans (congrArg _ (by blk_ext [Rect.idx_unit_val]))

open Cert.AttSRefIdeal.Val Cert.AttSRefIdeal.Read in
/-- Result 1: the window moved on by the four new tokens. -/
theorem final7 (c : Dev nD) : (dats m 0 c).arrAt 7 cfg0.N
    = val_main_v144 (F := Ideal) (m ((c : Thread nD τ).loc main_arg1)) (m ((c : Thread nD τ).loc main_arg4)) := by
  refine (dats m 0 c).arrAt_eq_of_covers 7 _ (by decide +kernel) fun t _ y => ?_
  have hemb : ((cfg0.win 7).blk t).view.emb y = (ix3 (⟨t.val, ht t⟩ : Fin 8) (y 1 : Fin 256) (y 2 : Fin 2048) : S8x256x2048.Idx) := by blk_ext [idx t]
  refine Eq.trans ?_ ((congrArg _ hemb).trans (res1 _ _ ⟨t.val, ht t⟩ (y 1) (y 2))).symm
  blk_simp; rw [after0_7]
  unfold outsAt0
  frame_out
  canon_tiles x h using View.cover_of_tiledBy _ ![1, 256, 4] (by sl_kernel_rfl) y
  · have e : 4 + (y 2).val = 2048 + (⟨(x 2).val, by omega⟩ : Fin 16).val := by show 4 + (y 2).val = 2048 + (x 2).val; omega
    rw [e, key_new]
    pointwise [k0_pay48]
    exact (b1 m c t _).trans (congrArg _ (by blk_ext [Rect.idx_unit_val]))
  · have e : 4 + (y 2).val = (⟨4 + (x 2).val, by omega⟩ : Fin 2048).val := by show 4 + (y 2).val = 4 + (x 2).val; omega
    rw [e, key_old]
    pointwise [k0_pay47]
    exact (b4 m c t _).trans (congrArg _ (by blk_ext [Rect.idx_unit_val]))

open Cert.AttSRefIdeal.Val Cert.AttSRefIdeal.Read in
/-- Result 2: the window moved on by the four new tokens. -/
theorem final8 (c : Dev nD) : (dats m 0 c).arrAt 8 cfg0.N
    = val_main_v147 (F := Ideal) (m ((c : Thread nD τ).loc main_arg2)) (m ((c : Thread nD τ).loc main_arg5)) := by
  refine (dats m 0 c).arrAt_eq_of_covers 8 _ (by decide +kernel) fun t _ y => ?_
  have hemb : ((cfg0.win 8).blk t).view.emb y = (ix3 (⟨t.val, ht t⟩ : Fin 8) (y 1 : Fin 256) (y 2 : Fin 2048) : S8x256x2048.Idx) := by blk_ext [idx t]
  refine Eq.trans ?_ ((congrArg _ hemb).trans (res2 _ _ ⟨t.val, ht t⟩ (y 1) (y 2))).symm
  blk_simp; rw [after0_8]
  unfold outsAt0
  frame_out
  canon_tiles x h using View.cover_of_tiledBy _ ![1, 256, 4] (by sl_kernel_rfl) y
  · have e : 4 + (y 2).val = 2048 + (⟨(x 2).val, by omega⟩ : Fin 16).val := by show 4 + (y 2).val = 2048 + (x 2).val; omega
    rw [e, key_new]
    pointwise [k0_pay2]
    exact (b2 m c t _).trans (congrArg _ (by blk_ext [Rect.idx_unit_val]))
  · have e : 4 + (y 2).val = (⟨4 + (x 2).val, by omega⟩ : Fin 2048).val := by show 4 + (y 2).val = 4 + (x 2).val; omega
    rw [e, key_old]
    pointwise [k0_pay1]
    exact (b5 m c t _).trans (congrArg _ (by blk_ext [Rect.idx_unit_val]))

end Cert.AttSIdeal.Val

end
-- ==== Proof.AttPre.lean ====
module

public import proofs.«01_k».proof.Proof.Gen.Pre_att_finite
public import proofs.«01_k».proof.Proof.Gen.On_real_rows
public import Idealize.ShloMosaic.Lib.ReduceAll
public import Idealize.ShloMosaic.Lib.Pipeline.ValueKit

@[expose] public section

set_option maxRecDepth 16384

noncomputable section

open Idealize.ShloMosaic

namespace Cert.Att

/-- A number whose size is below infinity is real. -/
theorem real_of_lt (x : EReal)
    (h : FloatOps.cmpf (F := Ideal) (φ := .f32) .olt (FloatOps.hostAbsf (F := Ideal) (φ := .f32) x) (Ideal.ofBits .f32 0x7F800000#32) = 1#1) :
    ∃ r : ℝ, x = r := by
  have e : Ideal.ofBits .f32 0x7F800000#32 = ⊤ := by simp [Ideal.ofBits, Ideal.ieee]
  rw [e] at h
  induction x with
  | bot => exfalso; revert h; show ¬ (Ideal.cmp .olt (max (⊥ : EReal) (-⊥)) ⊤ = 1#1); simp [Ideal.cmp]
  | top => exfalso; revert h; show ¬ (Ideal.cmp .olt (max (⊤ : EReal) (-⊤)) ⊤ = 1#1); simp [Ideal.cmp]
  | coe r => exact ⟨r, rfl⟩

open Cert.Pre_att_finite Cert.Pre_att_finite.Gen in
theorem pre_real (x0 : FVec Ideal S128x1024 .bf16) (x1 x2 : FVec Ideal S8x256x16 .f32) (x3 : FVec Ideal S128x1024 .f32)
    (x4 x5 : FVec Ideal S1x8x2048x4x64 .f32) (h : Cert.Pre_att_finite.fn (F := Ideal) x0 x1 x2 x3 x4 x5 = fun _ => 1#1) :
    (∀ i, ∃ r : ℝ, x0 i = (r : EReal)) ∧ (∀ i, ∃ r : ℝ, x1 i = (r : EReal)) ∧ ∀ i, ∃ r : ℝ, x4 i = (r : EReal) := by
  have h := congrFun h (fun a => a.elim0)
  obtain ⟨h01, h4⟩ := IntOp.andi_eq_one.1 h
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h4 i)⟩

open Cert.On_real_rows Cert.On_real_rows.Gen in
theorem mask_rows (x0 : FVec Ideal S128x1024 .bf16) (x1 x2 : FVec Ideal S8x256x16 .f32) (x3 : FVec Ideal S128x1024 .f32)
    (x4 x5 : FVec Ideal S1x8x2048x4x64 .f32) (i : S128x1024.Idx)
    (h : (Cert.On_real_rows.fn (F := Ideal) x0 x1 x2 x3 x4 x5).1 i = 1#1) : (i 0).val % 16 < 4 := by
  revert h
  pointwise [fn, fn_remainder, fn_where]
  generalize i 0 = n

  revert n
  decide +kernel

end Cert.Att

end
-- ==== Proof.InPVal.lean ====
module

public import proofs.«01_k».proof.Proof.Gen.InPIdeal.Value
public import proofs.«01_k».proof.Proof.Gen.InPRefIdeal.Run
public import proofs.«01_k».proof.Proof.Gen.InPRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InPIdeal.Val

open Cert.InPIdeal Cert.InPIdeal.Gen

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![t.val % 4, 0] ∧ win0_6.index t = ![t.val % 4, 0] ∧ win0_7.index t = ![t.val % 4, 0]
    ∧ win0_8.index t = ![t.val, 0] ∧ win0_9.index t = ![t.val, 0] ∧ win0_10.index t = ![t.val, 0]
    ∧ win0_11.index t = ![t.val / 4, 0, t.val % 4] ∧ win0_12.index t = ![t.val / 4, 0, t.val % 4]
    ∧ win0_13.index t = ![t.val / 4, 0, t.val % 4] ∧ win0_14.index t = ![t.val / 4, 0, t.val % 4]
    ∧ win0_15.index t = ![t.val / 4, 0, 0] :=
  (by decide +kernel : ∀ t : Fin grid0.N, _)

theorem ht (t : Fin cfg0.N) : t.val < 16 := t.isLt

/-- What the first window holds: 512 rows of the layer's input. -/
theorem b0 (c : Dev nD) (t : Fin cfg0.N) (x : S512x2048.Idx) : iblk m c 0 t x
    = m ((c : Thread nD τ).loc main_arg0) (ix3 ⟨t.val / 4, by have := ht t; omega⟩ ⟨t.val % 4 * 512 + (x 0).val, by have := (x 0).isLt; simp at *; omega⟩ (x 1)) := by
  blk_simp [iblk]
  entry_read
  pointwise []
  blk_ext [idx t]

theorem b1 (c : Dev nD) (t : Fin cfg0.N) (x : S1x2048.Idx) : iblk m c 1 t x = m ((c : Thread nD τ).loc main_arg1) x := by
  blk_simp [iblk]
  rw [V_main_arg1]
  blk_ext [idx t]

theorem b2 (c : Dev nD) (t : Fin cfg0.N) (x : S5136x2048.Idx) : iblk m c 2 t x = m ((c : Thread nD τ).loc main_arg2) x := by
  blk_simp [iblk]
  rw [V_main_arg2]
  blk_ext [idx t]

/-- The sequence a grid point works on. -/
abbrev sq (t : Fin cfg0.N) : Fin 4 := ⟨t.val / 4, by have := ht t; omega⟩
/-- The place in its sequence of a grid point's row. -/
abbrev rw_ (t : Fin cfg0.N) (r : Fin 512) : Fin 2048 := ⟨t.val % 4 * 512 + r.val, by omega⟩

open Cert.InPRefIdeal.Read in
/-- The normed rows of one grid point are the reference's. -/
theorem hn_eq (c : Dev nD) (t : Fin cfg0.N) (r : Fin 512) (k : Fin 2048) :
    k0_pay50 (F := Ideal) (iblk m c 0 t) (iblk m c 1 t) (iblk m c 2 t) (iblk m c 3 t) (iblk m c 4 t) (iblk m c 5 t) (iblk m c 6 t) (iblk m c 7 t) (ix2 r k)
      = val_main_v13 (F := Ideal) (m ((c : Thread nD τ).loc main_arg0)) (m ((c : Thread nD τ).loc main_arg1)) (ix3 (sq t) (rw_ t r) k) := by
  unfold k0_pay50
  pointwise [k0_pay3, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [View.ld, b0, b1]
  blk_point [idx t]

open Cert.InPRefIdeal.Read in
/-- A normed row against a row of the weight is an element of the reference's projection. -/
theorem row_eq (c : Dev nD) (t : Fin cfg0.N) (r : Fin 512) (j : Fin 5136) :
    ∑ x : Fin 2048, k0_pay50 (F := Ideal) (iblk m c 0 t) (iblk m c 1 t) (iblk m c 2 t) (iblk m c 3 t) (iblk m c 4 t) (iblk m c 5 t) (iblk m c 6 t) (iblk m c 7 t) (ix2 r x)
        * iblk m c 2 t (ix2 j x)
      = val_main_v16 (F := Ideal) (m ((c : Thread nD τ).loc main_arg0)) (m ((c : Thread nD τ).loc main_arg1)) (m ((c : Thread nD τ).loc main_arg2)) (ix3 (sq t) (rw_ t r) j) := by
  pointwise [val_main_v16, val_main_v15, val_main_v14]
  exact Finset.sum_congr rfl fun x _ => by rw [hn_eq, b2]

/-- The place of a grid point's row among all rows. -/
abbrev rwg (t : Fin cfg0.N) (r : Fin 512) : Fin 8192 := ⟨t.val * 512 + r.val, by have := ht t; omega⟩

open Cert.InPRefIdeal.Read in
theorem point9 (c : Dev nD) (t : Fin cfg0.N) (r : Fin 512) (j : Fin 1536) :
    out0_9 (F := Ideal) (iblk m c 0 t) (iblk m c 1 t) (iblk m c 2 t) (iblk m c 3 t) (iblk m c 4 t) (iblk m c 5 t) (iblk m c 6 t) (iblk m c 7 t) (ix2 r j)
      = val_main_v89 (F := Ideal) (m ((c : Thread nD τ).loc main_arg0)) (m ((c : Thread nD τ).loc main_arg1)) (m ((c : Thread nD τ).loc main_arg2)) (ix2 (rwg t r) j) := by
  unfold out0_9
  frame_out
  pointwise [k0_pay46, val_main_v89, val_main_v18]
  refine (row_eq m c t r ⟨1024 + j.val, by omega⟩).trans ?_
  blk_point [idx t]

open Cert.InPRefIdeal.Read in
/-- The convolution's input. -/
theorem final9 (c : Dev nD) : (dats m 0 c).arrAt 9 (cfgs 0).N
      = val_main_v89 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  have e : ((cfg0.win 9).blk t).view.emb y = ((ix2 (rwg t (y 0 : Fin 512)) (y 1)) : S8192x1536.Idx) := by blk_ext [idx t]
  blk_simp
  rw [after0_9]
  have e0 : y = (ix2 (y 0) (y 1)) := (ix2_eta y).symm
  refine (congrArg _ e0).trans (Eq.trans ?_ (congrArg _ e.symm))
  exact point9 m c t (y 0) (y 1)

open Cert.InPRefIdeal.Read in
theorem point10 (c : Dev nD) (t : Fin cfg0.N) (r : Fin 512) (j : Fin 128) :
    out0_10 (F := Ideal) (iblk m c 0 t) (iblk m c 1 t) (iblk m c 2 t) (iblk m c 3 t) (iblk m c 4 t) (iblk m c 5 t) (iblk m c 6 t) (iblk m c 7 t) (ix2 r j)
      = val_main_v91 (F := Ideal) (m ((c : Thread nD τ).loc main_arg0)) (m ((c : Thread nD τ).loc main_arg1)) (m ((c : Thread nD τ).loc main_arg2)) (ix2 (rwg t r) j) := by
  unfold out0_10
  frame_out
  pointwise [k0_pay2, val_main_v91, val_main_v90]
  refine (row_eq m c t r ⟨2560 + j.val, by omega⟩).trans ?_
  blk_point [idx t]

open Cert.InPRefIdeal.Read in
/-- The columns of the time steps. -/
theorem final10 (c : Dev nD) : (dats m 0 c).arrAt 10 (cfgs 0).N
      = val_main_v91 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  have e : ((cfg0.win 10).blk t).view.emb y = ((ix2 (rwg t (y 0 : Fin 512)) (y 1)) : S8192x128.Idx) := by blk_ext [idx t]
  blk_simp
  rw [after0_10]
  have e0 : y = (ix2 (y 0) (y 1)) := (ix2_eta y).symm
  refine (congrArg _ e0).trans (Eq.trans ?_ (congrArg _ e.symm))
  exact point10 m c t (y 0) (y 1)

open Cert.InPRefIdeal.Read in
theorem point13 (c : Dev nD) (t : Fin cfg0.N) (j : Fin 256) (r : Fin 512) :
    out0_13 (F := Ideal) (iblk m c 0 t) (iblk m c 1 t) (iblk m c 2 t) (iblk m c 3 t) (iblk m c 4 t) (iblk m c 5 t) (iblk m c 6 t) (iblk m c 7 t) (ix3 0 j r)
      = val_main_v99 (F := Ideal) (m ((c : Thread nD τ).loc main_arg0)) (m ((c : Thread nD τ).loc main_arg1)) (m ((c : Thread nD τ).loc main_arg2)) (ix3 (sq t) j (rw_ t r)) := by
  unfold out0_13
  frame_out
  pointwise [k0_pay48, val_main_v99, val_main_v21]
  refine (row_eq m c t r ⟨3856 + j.val, by omega⟩).trans ?_
  blk_point [idx t]

open Cert.InPRefIdeal.Read in
/-- The values, one column for each place. -/
theorem final13 (c : Dev nD) : (dats m 0 c).arrAt 13 (cfgs 0).N
      = val_main_v99 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  have e : ((cfg0.win 13).blk t).view.emb y = ((ix3 (sq t) (y 1) (rw_ t (y 2 : Fin 512))) : S4x256x2048.Idx) := by blk_ext [idx t]
  blk_simp
  rw [after0_13]
  have e0 : y = (ix3 0 (y 1) (y 2)) := (by funext a; match a with | ⟨0, _⟩ => exact Subsingleton.elim (α := Fin 1) _ _ | ⟨1, _⟩ => rfl | ⟨2, _⟩ => rfl)
  refine (congrArg _ e0).trans (Eq.trans ?_ (congrArg _ e.symm))
  exact point13 m c t (y 1) (y 2)

open Cert.InPRefIdeal.Read in
theorem point15 (c : Dev nD) (t : Fin cfg0.N) (hf : (cfg0.win 15).flush t = true) (r : Fin 8) (j : Fin 1536) :
    out0_15 (F := Ideal) (iblk m c 0 t) (iblk m c 1 t) (iblk m c 2 t) (iblk m c 3 t) (iblk m c 4 t) (iblk m c 5 t) (iblk m c 6 t) (iblk m c 7 t) (ix3 0 r j)
      = val_main_v102 (F := Ideal) (m ((c : Thread nD τ).loc main_arg0)) (m ((c : Thread nD τ).loc main_arg1)) (m ((c : Thread nD τ).loc main_arg2)) (ix3 (sq t) r j) := by
  unfold out0_15
  frame_out
  pointwise [k0_pay47, k0_pay46, val_main_v102, val_main_v18]
  have : t.val % 4 = 3 := by revert hf; revert t; decide +kernel
  refine (row_eq m c t ⟨504 + r.val, by omega⟩ ⟨1024 + j.val, by omega⟩).trans ?_
  blk_point [idx t]

open Cert.InPRefIdeal.Read in
/-- The convolution's last rows. -/
theorem final15 (c : Dev nD) : (dats m 0 c).arrAt 15 (cfgs 0).N
      = val_main_v102 (F := Ideal) (m ((c : Thread nD τ).loc main_arg0)) (m ((c : Thread nD τ).loc main_arg1)) (m ((c : Thread nD τ).loc main_arg2)) := by
  refine (dats m 0 c).arrAt_eq_of_covers 15 _ (by decide +kernel) fun t hf y => ?_
  have e : ((cfg0.win 15).blk t).view.emb y = ((ix3 (sq t) (y 1 : Fin 8) (y 2)) : S4x8x1536.Idx) := by blk_ext [idx t]
  blk_simp
  rw [after0_15]
  have e0 : y = (ix3 0 (y 1) (y 2)) := (by funext a; match a with | ⟨0, _⟩ => exact Subsingleton.elim (α := Fin 1) _ _ | ⟨1, _⟩ => rfl | ⟨2, _⟩ => rfl)
  refine (congrArg _ e0).trans (Eq.trans ?_ (congrArg _ e.symm))
  exact point15 m c t hf (y 1) (y 2)

/-- The logistic function through the hyperbolic tangent of half the argument. -/
theorem silu_eq (x : EReal) (hx : ∃ r : ℝ, x = r) :
    Ideal.ofBits .f32 0x3F000000#32 * x * Ideal.tanh (Ideal.ofBits .f32 0x3F000000#32 * x) + Ideal.ofBits .f32 0x3F000000#32 * x
      = x * Ideal.div 1 (1 + Ideal.exp (-x)) := by
  obtain ⟨r, rfl⟩ := hx
  have h2 : Ideal.ofBits .f32 0x3F000000#32 = ((1 / 2 : ℝ) : EReal) := by
    simp [Ideal.ofBits, Ideal.ieee, -EReal.coe_mul]; norm_num
  have h1 : Ideal.ofBits .f32 0x3F800000#32 = ((1 : ℝ) : EReal) := by
    simp [Ideal.ofBits, Ideal.ieee, -EReal.coe_mul]; norm_num
  have he : Ideal.exp (-(r : EReal)) = (Real.exp (-r) : EReal) := by rw [← EReal.coe_neg]; rfl
  have hp := Real.exp_pos (-r)
  rw [h2, he, ← EReal.coe_one, ← EReal.coe_mul, ← EReal.coe_add]
  show ((1 / 2 * r : ℝ) : EReal) * (Real.tanh (1 / 2 * r) : EReal) + _ = _
  unfold Ideal.div
  rw [if_neg (by exact_mod_cast (by positivity : (1 + Real.exp (-r)) ≠ 0)), ← EReal.coe_inv, ← EReal.coe_mul, ← EReal.coe_mul, ← EReal.coe_mul, ← EReal.coe_add]
  congr 1
  rw [Real.tanh_eq_sinh_div_cosh, Real.sinh_eq, Real.cosh_eq]
  have hb := Real.exp_pos (1 / 2 * r)
  have hc := Real.exp_pos (-(1 / 2 * r))
  have e : Real.exp (-r) = Real.exp (-(1 / 2 * r)) * Real.exp (-(1 / 2 * r)) := by rw [← Real.exp_add]; congr 1; ring
  have f : Real.exp (1 / 2 * r) * Real.exp (-(1 / 2 * r)) = 1 := by rw [← Real.exp_add]; simp
  rw [e]
  generalize Real.exp (1 / 2 * r) = a at *
  generalize Real.exp (-(1 / 2 * r)) = b at *
  have : a = 1 / b := by field_simp; linarith
  subst this
  field_simp
  ring

open Cert.InPRefIdeal.Read in
theorem point8 (c : Dev nD) (hr : ∀ i, ∃ r : ℝ, val_main_v16 (F := Ideal) (m ((c : Thread nD τ).loc main_arg0)) (m ((c : Thread nD τ).loc main_arg1)) (m ((c : Thread nD τ).loc main_arg2)) i = (r : EReal)) (t : Fin cfg0.N) (r : Fin 512) (j : Fin 1024) :
    out0_8 (F := Ideal) (iblk m c 0 t) (iblk m c 1 t) (iblk m c 2 t) (iblk m c 3 t) (iblk m c 4 t) (iblk m c 5 t) (iblk m c 6 t) (iblk m c 7 t) (ix2 r j)
      = val_main_v88 (F := Ideal) (m ((c : Thread nD τ).loc main_arg0)) (m ((c : Thread nD τ).loc main_arg1)) (m ((c : Thread nD τ).loc main_arg2)) (ix2 (rwg t r) j) := by
  unfold out0_8
  frame_out
  pointwise [k0_pay49, val_main_v88, val_main_v87, val_main_v17, val_main_call0_v0, val_main_call0_v1, val_main_call0_v2, val_main_call0_v3, val_main_call0_v4, val_main_call0_v5, val_main_call0_cst, val_main_call0_cst_0]
  refine (congrArg (fun z : EReal => Ideal.ofBits .f32 0x3F000000#32 * z * Ideal.tanh (Ideal.ofBits .f32 0x3F000000#32 * z) + Ideal.ofBits .f32 0x3F000000#32 * z) (row_eq m c t r ⟨j.val, by omega⟩)).trans ?_
  refine (silu_eq _ (hr _)).trans ?_
  blk_point [idx t]

open Cert.InPRefIdeal.Read in
/-- The gate of the recurrence. -/
theorem final8 (c : Dev nD) (hr : ∀ i, ∃ r : ℝ, val_main_v16 (F := Ideal) (m ((c : Thread nD τ).loc main_arg0)) (m ((c : Thread nD τ).loc main_arg1)) (m ((c : Thread nD τ).loc main_arg2)) i = (r : EReal)) : (dats m 0 c).arrAt 8 (cfgs 0).N
      = val_main_v88 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  have e : ((cfg0.win 8).blk t).view.emb y = ((ix2 (rwg t (y 0 : Fin 512)) (y 1)) : S8192x1024.Idx) := by blk_ext [idx t]
  blk_simp
  rw [after0_8]
  have e0 : y = (ix2 (y 0) (y 1)) := (ix2_eta y).symm
  refine (congrArg _ e0).trans (Eq.trans ?_ (congrArg _ e.symm))
  exact point8 m c hr t (y 0) (y 1)

open Cert.InPRefIdeal.Read in
theorem point14 (c : Dev nD) (hr : ∀ i, ∃ r : ℝ, val_main_v16 (F := Ideal) (m ((c : Thread nD τ).loc main_arg0)) (m ((c : Thread nD τ).loc main_arg1)) (m ((c : Thread nD τ).loc main_arg2)) i = (r : EReal)) (t : Fin cfg0.N) (j : Fin 1024) (r : Fin 512) :
    out0_14 (F := Ideal) (iblk m c 0 t) (iblk m c 1 t) (iblk m c 2 t) (iblk m c 3 t) (iblk m c 4 t) (iblk m c 5 t) (iblk m c 6 t) (iblk m c 7 t) (ix3 0 j r)
      = val_main_v101 (F := Ideal) (m ((c : Thread nD τ).loc main_arg0)) (m ((c : Thread nD τ).loc main_arg1)) (m ((c : Thread nD τ).loc main_arg2)) (ix3 (sq t) j (rw_ t r)) := by
  unfold out0_14
  frame_out
  pointwise [k0_pay1, val_main_v101, val_main_v100, val_main_v22, val_main_call1_v0, val_main_call1_v1, val_main_call1_v2, val_main_call1_v3, val_main_call1_v4, val_main_call1_v5, val_main_call1_cst, val_main_call1_cst_0]
  refine (congrArg (fun z : EReal => Ideal.ofBits .f32 0x3F000000#32 * z * Ideal.tanh (Ideal.ofBits .f32 0x3F000000#32 * z) + Ideal.ofBits .f32 0x3F000000#32 * z) (row_eq m c t r ⟨4112 + j.val, by omega⟩)).trans ?_
  refine (silu_eq _ (hr _)).trans ?_
  blk_point [idx t]

open Cert.InPRefIdeal.Read in
/-- The gate of the attention. -/
theorem final14 (c : Dev nD) (hr : ∀ i, ∃ r : ℝ, val_main_v16 (F := Ideal) (m ((c : Thread nD τ).loc main_arg0)) (m ((c : Thread nD τ).loc main_arg1)) (m ((c : Thread nD τ).loc main_arg2)) i = (r : EReal)) : (dats m 0 c).arrAt 14 (cfgs 0).N
      = val_main_v101 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  have e : ((cfg0.win 14).blk t).view.emb y = ((ix3 (sq t) (y 1) (rw_ t (y 2 : Fin 512))) : S4x1024x2048.Idx) := by blk_ext [idx t]
  blk_simp
  rw [after0_14]
  have e0 : y = (ix3 0 (y 1) (y 2)) := (by funext a; match a with | ⟨0, _⟩ => exact Subsingleton.elim (α := Fin 1) _ _ | ⟨1, _⟩ => rfl | ⟨2, _⟩ => rfl)
  refine (congrArg _ e0).trans (Eq.trans ?_ (congrArg _ e.symm))
  exact point14 m c hr t (y 1) (y 2)

end Cert.InPIdeal.Val

end
-- ==== Proof.InPRope.lean ====
module

public import proofs.«01_k».proof.Proof.InPVal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InPIdeal.Val

open Cert.InPIdeal Cert.InPIdeal.Gen

/-- The lanes of the first of the two heads in a group. -/
def lo : IVec S512x128 1 :=
  broadcastTo S512x128 (shapeCast S1x128 (cmpi .slt (iota .tc S1x128 32 [1] iota_S1x128_d1_w32) (broadcast S1x128 64#32)) shapeCasts_S1x128_S1x128) broadcasts_S1x128_S512x128

/-- A sum over the lanes of every row. -/
def rowsum {F : FTy → Type} [FloatOps F] (v : FVec F S512x128 .f32) : FVec F S512x128 .f32 :=
  broadcastTo S512x128 (shapeCast S512x1 (shapeCast S512x1 (multiReduction .add [1] S512 v 0x00000000#32 reduces_S512x128_S512 (.inl rfl) rfl) shapeCasts_S512_S512x1) shapeCasts_S512x1_S512x1) broadcasts_S512x1_S512x128

/-- The norm of two heads of 64 lanes side by side. -/
def nrm {F : FTy → Type} [FloatOps F] (v : FVec F S512x128 .f32) (w : FVec F S1x128 .f32) : FVec F S512x128 .f32 :=
  mulf (mulf v (rsqrt (addf (mulf (select lo (rowsum (select lo (mulf v v) (broadcast S512x128 (Scalar.ofBits .f32 0x00000000#32))))
      (rowsum (select lo (broadcast S512x128 (Scalar.ofBits .f32 0x00000000#32)) (mulf v v))))
    (broadcast S512x128 (Scalar.ofBits .f32 0x3C800000#32))) (broadcast S512x128 (Scalar.ofBits .f32 0x358637BD#32)))))
    (broadcastTo S512x128 (shapeCast S1x128 w shapeCasts_S1x128_S1x128) broadcasts_S1x128_S512x128)

/-- The turn by position of two normed heads, from the three tables. -/
def turn {F : FTy → Type} [FloatOps F] (a b c : FVec F S512x128 .f32) (y : FVec F S512x128 .f32) (κ : F .f32) : FVec F S512x128 .f32 :=
  mulf (addf (addf (mulf y a) (mulf (dynamicRotate 1 8#32 none y rotates_S512x128_d1) b)) (mulf (dynamicRotate 1 120#32 none y rotates_S512x128_d1) c))
    (broadcast S512x128 κ)

/-- What is stored for two query heads. -/
def qtile {F : FTy → Type} [FloatOps F] (a b c : FVec F S512x128 .f32) (v : FVec F S512x128 .f32) (w : FVec F S1x128 .f32) : FVec F S1x128x512 .bf16 :=
  shapeCast S1x128x512 (truncf .bf16 (transpose S128x512 [1, 0] (turn a b c (nrm v w) (Scalar.ofBits .f32 0x3E38AA3B#32)) transposes_S512x128_p1_0_S128x512) bitsLt_bf16_f32) shapeCasts_S128x512_S1x128x512

theorem tiles {F : FTy → Type} [FloatOps F] (x0 : Vec F S512x2048 .f32) (x1 : Vec F S1x2048 .f32) (x2 : Vec F S5136x2048 .bf16) (x3 : Vec F S1x128 .f32) (x4 : Vec F S1x128 .f32) (x5 : Vec F S512x128 .f32) (x6 : Vec F S512x128 .f32) (x7 : Vec F S512x128 .f32) :
    out0_11 x0 x1 x2 x3 x4 x5 x6 x7 = View.canon [
      ⟨r0_12, qtile (k0_pay51 x0 x1 x2 x3 x4 x5 x6 x7) (k0_pay52 x0 x1 x2 x3 x4 x5 x6 x7) (k0_pay53 x0 x1 x2 x3 x4 x5 x6 x7) (extractStridedSlice S512x128 ![0, 896] (k0_pay54 x0 x1 x2 x3 x4 x5 x6 x7) slices_S512x1024_o0_896_S512x128) (View.ld x3 r0_4)⟩,
      ⟨r0_11, qtile (k0_pay51 x0 x1 x2 x3 x4 x5 x6 x7) (k0_pay52 x0 x1 x2 x3 x4 x5 x6 x7) (k0_pay53 x0 x1 x2 x3 x4 x5 x6 x7) (extractStridedSlice S512x128 ![0, 768] (k0_pay54 x0 x1 x2 x3 x4 x5 x6 x7) slices_S512x1024_o0_768_S512x128) (View.ld x3 r0_4)⟩,
      ⟨r0_10, qtile (k0_pay51 x0 x1 x2 x3 x4 x5 x6 x7) (k0_pay52 x0 x1 x2 x3 x4 x5 x6 x7) (k0_pay53 x0 x1 x2 x3 x4 x5 x6 x7) (extractStridedSlice S512x128 ![0, 640] (k0_pay54 x0 x1 x2 x3 x4 x5 x6 x7) slices_S512x1024_o0_640_S512x128) (View.ld x3 r0_4)⟩,
      ⟨r0_9, qtile (k0_pay51 x0 x1 x2 x3 x4 x5 x6 x7) (k0_pay52 x0 x1 x2 x3 x4 x5 x6 x7) (k0_pay53 x0 x1 x2 x3 x4 x5 x6 x7) (extractStridedSlice S512x128 ![0, 512] (k0_pay54 x0 x1 x2 x3 x4 x5 x6 x7) slices_S512x1024_o0_512_S512x128) (View.ld x3 r0_4)⟩,
      ⟨r0_8, qtile (k0_pay51 x0 x1 x2 x3 x4 x5 x6 x7) (k0_pay52 x0 x1 x2 x3 x4 x5 x6 x7) (k0_pay53 x0 x1 x2 x3 x4 x5 x6 x7) (extractStridedSlice S512x128 ![0, 384] (k0_pay54 x0 x1 x2 x3 x4 x5 x6 x7) slices_S512x1024_o0_384_S512x128) (View.ld x3 r0_4)⟩,
      ⟨r0_7, qtile (k0_pay51 x0 x1 x2 x3 x4 x5 x6 x7) (k0_pay52 x0 x1 x2 x3 x4 x5 x6 x7) (k0_pay53 x0 x1 x2 x3 x4 x5 x6 x7) (extractStridedSlice S512x128 ![0, 256] (k0_pay54 x0 x1 x2 x3 x4 x5 x6 x7) slices_S512x1024_o0_256_S512x128) (View.ld x3 r0_4)⟩,
      ⟨r0_6, qtile (k0_pay51 x0 x1 x2 x3 x4 x5 x6 x7) (k0_pay52 x0 x1 x2 x3 x4 x5 x6 x7) (k0_pay53 x0 x1 x2 x3 x4 x5 x6 x7) (extractStridedSlice S512x128 ![0, 128] (k0_pay54 x0 x1 x2 x3 x4 x5 x6 x7) slices_S512x1024_o0_128_S512x128) (View.ld x3 r0_4)⟩,
      ⟨r0_5, qtile (k0_pay51 x0 x1 x2 x3 x4 x5 x6 x7) (k0_pay52 x0 x1 x2 x3 x4 x5 x6 x7) (k0_pay53 x0 x1 x2 x3 x4 x5 x6 x7) (extractStridedSlice S512x128 ![0, 0] (k0_pay54 x0 x1 x2 x3 x4 x5 x6 x7) slices_S512x1024_o0_0_S512x128) (View.ld x3 r0_4)⟩] := rfl

/-- What is stored for the four key heads. -/
def ktile {F : FTy → Type} [FloatOps F] (a b c : FVec F S512x128 .f32) (v : FVec F S512x256 .f32) (w : FVec F S1x128 .f32) : FVec F S1x256x512 .f32 :=
  shapeCast S1x256x512 (transpose S256x512 [1, 0] (concatenate S512x256 1
    [⟨S512x128, turn a b c (nrm (extractStridedSlice S512x128 ![0, 0] v slices_S512x256_o0_0_S512x128) w) (Scalar.ofBits .f32 0x3F800000#32)⟩,
     ⟨S512x128, turn a b c (nrm (extractStridedSlice S512x128 ![0, 128] v slices_S512x256_o0_128_S512x128) w) (Scalar.ofBits .f32 0x3F800000#32)⟩]
    concatenates_S512x128_S512x128_S512x256_d1) transposes_S512x256_p1_0_S256x512) shapeCasts_S256x512_S1x256x512

theorem tilek {F : FTy → Type} [FloatOps F] (x0 : Vec F S512x2048 .f32) (x1 : Vec F S1x2048 .f32) (x2 : Vec F S5136x2048 .bf16) (x3 : Vec F S1x128 .f32) (x4 : Vec F S1x128 .f32) (x5 : Vec F S512x128 .f32) (x6 : Vec F S512x128 .f32) (x7 : Vec F S512x128 .f32) :
    out0_12 x0 x1 x2 x3 x4 x5 x6 x7 = View.canon [
      ⟨r0_14, ktile (k0_pay51 x0 x1 x2 x3 x4 x5 x6 x7) (k0_pay52 x0 x1 x2 x3 x4 x5 x6 x7) (k0_pay53 x0 x1 x2 x3 x4 x5 x6 x7) (k0_pay55 x0 x1 x2 x3 x4 x5 x6 x7) (View.ld x4 r0_4)⟩] := rfl

/-- One normed element of a head. -/
def hd (P : Fin 64 → EReal) (w : Fin 64 → EReal) (d : Fin 64) : EReal :=
  P d * Ideal.rsqrt (Ideal.div (∑ x, P x * P x) (Ideal.ofBits .f32 0x42800000#32) + Ideal.ofBits .f32 0x358637BD#32) * w d

theorem slt_iff (n : ℕ) (h : n < 128) : IntOp.cmpi CmpIPredicate.slt (BitVec.ofNat 32 n) 64#32 = if n < 64 then 1#1 else 0#1 := by
  have : ∀ n : Fin 128, IntOp.cmpi CmpIPredicate.slt (BitVec.ofNat 32 n.val) 64#32 = if n.val < 64 then 1#1 else 0#1 := by decide +kernel
  exact this ⟨n, h⟩

theorem sum_two (f : Fin 128 → EReal) : ∑ x, f x = (∑ x : Fin 64, f ⟨x, by omega⟩) + ∑ x : Fin 64, f ⟨64 + x, by omega⟩ :=
  Fin.sum_univ_add (a := 64) (b := 64) f

theorem div_64 (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2]
  unfold Ideal.div
  rw [if_neg (by norm_num), ← EReal.coe_inv]
  norm_num

theorem nrm_eq (v : FVec Ideal S512x128 .f32) (w : FVec Ideal S1x128 .f32) (r : Fin 512) (h : Fin 2) (d : Fin 64) :
    nrm (F := Ideal) v w (ix2 r ⟨h.val * 64 + d.val, by omega⟩)
      = hd (fun d => v (ix2 r ⟨h.val * 64 + d.val, by omega⟩)) (fun d => w (ix2 0 ⟨h.val * 64 + d.val, by omega⟩)) d := by
  pointwise [nrm, rowsum, lo]
  unfold hd
  rw [div_64]
  congr 4
  rw [slt_iff _ (by omega), sum_two, sum_two]
  have e0 : ∀ x : Fin 64, IntOp.cmpi CmpIPredicate.slt (BitVec.ofNat 32 x.val) 64#32 = 1#1 := fun x => by
    rw [slt_iff _ (by omega), if_pos x.isLt]
  have e1 : ∀ x : Fin 64, IntOp.cmpi CmpIPredicate.slt (BitVec.ofNat 32 (64 + x.val)) 64#32 = 0#1 := fun x => by
    rw [slt_iff _ (by omega), if_neg (by omega)]
  simp only [e0, e1]
  match h with
  | 0 => simp [Scalar.select]
  | 1 => simp [Scalar.select]

/-- The turn of one element of a head by its position. -/
def trn (Y : Fin 64 → EReal) (co si : Fin 8 → EReal) (d : Fin 64) : EReal :=
  if h : d.val < 8 then Y ⟨d.val, by omega⟩ * co ⟨d.val, h⟩ - Y ⟨8 + d.val, by omega⟩ * si ⟨d.val, h⟩
  else if h' : d.val - 8 < 8 then Y ⟨8 + (d.val - 8), by omega⟩ * co ⟨d.val - 8, h'⟩ + Y ⟨d.val - 8, by omega⟩ * si ⟨d.val - 8, h'⟩
  else Y ⟨16 + (d.val - 8 - 8), by omega⟩

theorem turn_eq (a b c y : FVec Ideal S512x128 .f32) (κ : EReal) (r : Fin 512) (h : Fin 2) (d : Fin 64) (co si : Fin 8 → EReal)
    (ha : a (ix2 r ⟨h.val * 64 + d.val, by omega⟩) = if h : d.val < 8 then co ⟨d.val, h⟩ else if h' : d.val - 8 < 8 then co ⟨d.val - 8, h'⟩ else 1)
    (hb : b (ix2 r ⟨h.val * 64 + d.val, by omega⟩) = if h : d.val < 8 then 0 else if h' : d.val - 8 < 8 then si ⟨d.val - 8, h'⟩ else 0)
    (hc : c (ix2 r ⟨h.val * 64 + d.val, by omega⟩) = if h : d.val < 8 then -si ⟨d.val, h⟩ else 0) :
    turn (F := Ideal) a b c y κ (ix2 r ⟨h.val * 64 + d.val, by omega⟩)
      = trn (fun d => y (ix2 r ⟨h.val * 64 + d.val, by omega⟩)) co si d * κ := by
  pointwise [turn]
  rw [ha, hb, hc]
  unfold trn
  refine congrArg (· * κ) ?_
  by_cases h1 : d.val < 8
  · rw [dif_pos h1, dif_pos h1, dif_pos h1, dif_pos h1, mul_zero, add_zero, sub_eq_add_neg, mul_neg]
    congr 5
    simp; omega
  · rw [dif_neg h1, dif_neg h1, dif_neg h1, dif_neg h1, mul_zero, add_zero]
    by_cases h2 : d.val - 8 < 8
    · rw [dif_pos h2, dif_pos h2, dif_pos h2]
      congr 4 <;> (simp; omega)
    · rw [dif_neg h2, dif_neg h2, dif_neg h2, mul_zero, add_zero, mul_one]
      congr 3; simp; omega

end Cert.InPIdeal.Val

end
-- ==== Proof.InPTab.lean ====
module

public import proofs.«01_k».proof.Proof.InPRope

@[expose] public section

set_option maxRecDepth 16384

noncomputable section

open Idealize.ShloMosaic Idealize.ShloMosaic.TcCoe Idealize.SL.Sem
open Idealize.ShloMosaic.Pipeline (Dat)

namespace Cert.InPIdeal.Val

open Cert.InPIdeal Cert.InPIdeal.Gen

variable (m : (ℓ : Loc nD τ sig) → Buf (Elt Ideal) ℓ)

/-- Two copies of a table side by side. -/
def twice (h : FVec Ideal S2048x64 .f32) : FVec Ideal S2048x128 .f32 :=
  concatenate S2048x128 1 [⟨S2048x64, h⟩, ⟨S2048x64, h⟩] concatenates_S2048x64_S2048x64_S2048x128_d1
def z48 : FVec Ideal S2048x48 .f32 := broadcastInDim S2048x48 ![] bcast_S_S2048x48 (constant S_ .f32 0x00000000#32)
def o48 : FVec Ideal S2048x48 .f32 := broadcastInDim S2048x48 ![] bcast_S_S2048x48 (constant S_ .f32 0x3F800000#32)
def z8 : FVec Ideal S2048x8 .f32 := broadcastInDim S2048x8 ![] bcast_S_S2048x8 (constant S_ .f32 0x00000000#32)
def tabA (co : FVec Ideal S2048x8 .f32) : FVec Ideal S2048x64 .f32 :=
  concatenate S2048x64 1 [⟨S2048x8, co⟩, ⟨S2048x8, co⟩, ⟨S2048x48, addf z48 o48⟩] concatenates_S2048x8_S2048x8_S2048x48_S2048x64_d1
def tabB (si : FVec Ideal S2048x8 .f32) : FVec Ideal S2048x64 .f32 :=
  concatenate S2048x64 1 [⟨S2048x8, z8⟩, ⟨S2048x8, si⟩, ⟨S2048x48, z48⟩] concatenates_S2048x8_S2048x8_S2048x48_S2048x64_d1
def tabC (si : FVec Ideal S2048x8 .f32) : FVec Ideal S2048x64 .f32 :=
  concatenate S2048x64 1 [⟨S2048x8, negf si⟩, ⟨S2048x8, z8⟩, ⟨S2048x48, z48⟩] concatenates_S2048x8_S2048x8_S2048x48_S2048x64_d1

theorem VA (c : Dev nD) : V m c main_v8 = twice (tabA (m ((c : Thread nD τ).loc main_arg5))) := by rfl
theorem VB (c : Dev nD) : V m c main_v9 = twice (tabB (m ((c : Thread nD τ).loc main_arg6))) := by rfl
theorem VC (c : Dev nD) : V m c main_v10 = twice (tabC (m ((c : Thread nD τ).loc main_arg6))) := by rfl
theorem VQ (c : Dev nD) : V m c main_v11 = concatenate S1x128 1 [⟨S1x64, m ((c : Thread nD τ).loc main_arg3)⟩, ⟨S1x64, m ((c : Thread nD τ).loc main_arg3)⟩] concatenates_S1x64_S1x64_S1x128_d1 := by rfl
theorem VK (c : Dev nD) : V m c main_v12 = concatenate S1x128 1 [⟨S1x64, m ((c : Thread nD τ).loc main_arg4)⟩, ⟨S1x64, m ((c : Thread nD τ).loc main_arg4)⟩] concatenates_S1x64_S1x64_S1x128_d1 := by rfl

theorem twice_at (T : FVec Ideal S2048x64 .f32) (s : Fin 2048) (h : Fin 2) (d : Fin 64) :
    twice T (ix2 s ⟨h.val * 64 + d.val, by omega⟩) = T (ix2 s d) := by
  pointwise [twice]
  match h with
  | 0 => simp
  | 1 => simp

theorem tabA_at (co : FVec Ideal S2048x8 .f32) (s : Fin 2048) (d : Fin 64) :
    tabA co (ix2 s d) = if h : d.val < 8 then co (ix2 s ⟨d.val, h⟩) else if h' : d.val - 8 < 8 then co (ix2 s ⟨d.val - 8, h'⟩) else 1 := by
  pointwise [tabA, z48, o48]

theorem tabB_at (si : FVec Ideal S2048x8 .f32) (s : Fin 2048) (d : Fin 64) :
    tabB si (ix2 s d) = if h : d.val < 8 then 0 else if h' : d.val - 8 < 8 then si (ix2 s ⟨d.val - 8, h'⟩) else 0 := by
  pointwise [tabB, z48, z8]

theorem tabC_at (si : FVec Ideal S2048x8 .f32) (s : Fin 2048) (d : Fin 64) :
    tabC si (ix2 s d) = if h : d.val < 8 then -si (ix2 s ⟨d.val, h⟩) else 0 := by
  pointwise [tabC, z48, z8]
  split_ifs <;> rfl

theorem b5 (c : Dev nD) (t : Fin cfg0.N) (r : Fin 512) (l : Fin 128) : iblk m c 5 t (ix2 r l) = twice (tabA (m ((c : Thread nD τ).loc main_arg5))) (ix2 (rw_ t r) l) := by
  blk_simp [iblk]
  rw [VA]
  blk_ext [idx t]

theorem b6 (c : Dev nD) (t : Fin cfg0.N) (r : Fin 512) (l : Fin 128) : iblk m c 6 t (ix2 r l) = twice (tabB (m ((c : Thread nD τ).loc main_arg6))) (ix2 (rw_ t r) l) := by
  blk_simp [iblk]
  rw [VB]
  blk_ext [idx t]

theorem b7 (c : Dev nD) (t : Fin cfg0.N) (r : Fin 512) (l : Fin 128) : iblk m c 7 t (ix2 r l) = twice (tabC (m ((c : Thread nD τ).loc main_arg6))) (ix2 (rw_ t r) l) := by
  blk_simp [iblk]
  rw [VC]
  blk_ext [idx t]

theorem b3 (c : Dev nD) (t : Fin cfg0.N) (h : Fin 2) (d : Fin 64) : iblk m c 3 t (ix2 0 ⟨h.val * 64 + d.val, by omega⟩) = m ((c : Thread nD τ).loc main_arg3) (ix2 0 d) := by
  have e : iblk m c 3 t (ix2 0 ⟨h.val * 64 + d.val, by omega⟩) = V m c main_v11 (ix2 0 ⟨h.val * 64 + d.val, by omega⟩) := by
    blk_simp [iblk]
    blk_ext [idx t]
  rw [e, VQ]
  pointwise []
  match h with
  | 0 => simp
  | 1 => simp

theorem b4 (c : Dev nD) (t : Fin cfg0.N) (h : Fin 2) (d : Fin 64) : iblk m c 4 t (ix2 0 ⟨h.val * 64 + d.val, by omega⟩) = m ((c : Thread nD τ).loc main_arg4) (ix2 0 d) := by
  have e : iblk m c 4 t (ix2 0 ⟨h.val * 64 + d.val, by omega⟩) = V m c main_v12 (ix2 0 ⟨h.val * 64 + d.val, by omega⟩) := by
    blk_simp [iblk]
    blk_ext [idx t]
  rw [e, VK]
  pointwise []
  match h with
  | 0 => simp
  | 1 => simp

theorem pay51 (x0 : Vec Ideal S512x2048 .f32) (x1 : Vec Ideal S1x2048 .f32) (x2 : Vec Ideal S5136x2048 .bf16) (x3 : Vec Ideal S1x128 .f32) (x4 : Vec Ideal S1x128 .f32) (x5 : Vec Ideal S512x128 .f32) (x6 : Vec Ideal S512x128 .f32) (x7 : Vec Ideal S512x128 .f32) (r : Fin 512) (l : Fin 128) :
    k0_pay51 (F := Ideal) x0 x1 x2 x3 x4 x5 x6 x7 (ix2 r l) = x5 (ix2 r l) := by
  unfold k0_pay51
  pointwise []
  refine congrArg x5 ?_
  funext a
  match a with
  | ⟨0, _⟩ => exact Fin.ext (by simp [Rect.idx_unit_val])
  | ⟨1, _⟩ => exact Fin.ext (by simp [Rect.idx_unit_val])

theorem pay52 (x0 : Vec Ideal S512x2048 .f32) (x1 : Vec Ideal S1x2048 .f32) (x2 : Vec Ideal S5136x2048 .bf16) (x3 : Vec Ideal S1x128 .f32) (x4 : Vec Ideal S1x128 .f32) (x5 : Vec Ideal S512x128 .f32) (x6 : Vec Ideal S512x128 .f32) (x7 : Vec Ideal S512x128 .f32) (r : Fin 512) (l : Fin 128) :
    k0_pay52 (F := Ideal) x0 x1 x2 x3 x4 x5 x6 x7 (ix2 r l) = x6 (ix2 r l) := by
  unfold k0_pay52
  pointwise []
  refine congrArg x6 ?_
  funext a
  match a with
  | ⟨0, _⟩ => exact Fin.ext (by simp [Rect.idx_unit_val])
  | ⟨1, _⟩ => exact Fin.ext (by simp [Rect.idx_unit_val])

theorem pay53 (x0 : Vec Ideal S512x2048 .f32) (x1 : Vec Ideal S1x2048 .f32) (x2 : Vec Ideal S5136x2048 .bf16) (x3 : Vec Ideal S1x128 .f32) (x4 : Vec Ideal S1x128 .f32) (x5 : Vec Ideal S512x128 .f32) (x6 : Vec Ideal S512x128 .f32) (x7 : Vec Ideal S512x128 .f32) (r : Fin 512) (l : Fin 128) :
    k0_pay53 (F := Ideal) x0 x1 x2 x3 x4 x5 x6 x7 (ix2 r l) = x7 (ix2 r l) := by
  unfold k0_pay53
  pointwise []
  refine congrArg x7 ?_
  funext a
  match a with
  | ⟨0, _⟩ => exact Fin.ext (by simp [Rect.idx_unit_val])
  | ⟨1, _⟩ => exact Fin.ext (by simp [Rect.idx_unit_val])

/-- The cosines of a row. -/
def cosr (c : Dev nD) (t : Fin cfg0.N) (r : Fin 512) (e : Fin 8) : EReal := m ((c : Thread nD τ).loc main_arg5) (ix2 (rw_ t r) e)
/-- The sines of a row. -/
def sinr (c : Dev nD) (t : Fin cfg0.N) (r : Fin 512) (e : Fin 8) : EReal := m ((c : Thread nD τ).loc main_arg6) (ix2 (rw_ t r) e)

theorem a_eq (c : Dev nD) (t : Fin cfg0.N) (r : Fin 512) (h : Fin 2) (d : Fin 64) :
    k0_pay51 (F := Ideal) (iblk m c 0 t) (iblk m c 1 t) (iblk m c 2 t) (iblk m c 3 t) (iblk m c 4 t) (iblk m c 5 t) (iblk m c 6 t) (iblk m c 7 t) (ix2 r ⟨h.val * 64 + d.val, by omega⟩)
      = if h : d.val < 8 then cosr m c t r ⟨d.val, h⟩ else if h' : d.val - 8 < 8 then cosr m c t r ⟨d.val - 8, h'⟩ else 1 :=
  (pay51 (iblk m c 0 t) (iblk m c 1 t) (iblk m c 2 t) (iblk m c 3 t) (iblk m c 4 t) (iblk m c 5 t) (iblk m c 6 t) (iblk m c 7 t) r _).trans ((b5 m c t r _).trans ((twice_at _ _ h d).trans (tabA_at _ _ _)))

theorem b_eq (c : Dev nD) (t : Fin cfg0.N) (r : Fin 512) (h : Fin 2) (d : Fin 64) :
    k0_pay52 (F := Ideal) (iblk m c 0 t) (iblk m c 1 t) (iblk m c 2 t) (iblk m c 3 t) (iblk m c 4 t) (iblk m c 5 t) (iblk m c 6 t) (iblk m c 7 t) (ix2 r ⟨h.val * 64 + d.val, by omega⟩)
      = if h : d.val < 8 then 0 else if h' : d.val - 8 < 8 then sinr m c t r ⟨d.val - 8, h'⟩ else 0 :=
  (pay52 (iblk m c 0 t) (iblk m c 1 t) (iblk m c 2 t) (iblk m c 3 t) (iblk m c 4 t) (iblk m c 5 t) (iblk m c 6 t) (iblk m c 7 t) r _).trans ((b6 m c t r _).trans ((twice_at _ _ h d).trans (tabB_at _ _ _)))

theorem c_eq (c : Dev nD) (t : Fin cfg0.N) (r : Fin 512) (h : Fin 2) (d : Fin 64) :
    k0_pay53 (F := Ideal) (iblk m c 0 t) (iblk m c 1 t) (iblk m c 2 t) (iblk m c 3 t) (iblk m c 4 t) (iblk m c 5 t) (iblk m c 6 t) (iblk m c 7 t) (ix2 r ⟨h.val * 64 + d.val, by omega⟩)
      = if h : d.val < 8 then -sinr m c t r ⟨d.val, h⟩ else 0 :=
  (pay53 (iblk m c 0 t) (iblk m c 1 t) (iblk m c 2 t) (iblk m c 3 t) (iblk m c 4 t) (iblk m c 5 t) (iblk m c 6 t) (iblk m c 7 t) r _).trans ((b7 m c t r _).trans ((twice_at _ _ h d).trans (tabC_at _ _ _)))

end Cert.InPIdeal.Val

end
-- ==== Proof.InPQK.lean ====
module

public import proofs.«01_k».proof.Proof.InPTab
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InPIdeal.Val

open Cert.InPIdeal Cert.InPIdeal.Gen

variable (m : (ℓ : Loc nD τ sig) → Buf (Elt Ideal) ℓ)

/-- An element of a normed and turned head, from its row of the projection. -/
def one (P : Fin 64 → EReal) (w : Fin 64 → EReal) (co si : Fin 8 → EReal) (d : Fin 64) : EReal := trn (hd P w) co si d

section Ref
open Cert.InPRefIdeal Cert.InPRefIdeal.Read

theorem refq_norm (x0 : (⟨S4x2048x2048, .f32⟩ : BufTy).Contents (Elt Ideal)) (x1 : (⟨S1x2048, .f32⟩ : BufTy).Contents (Elt Ideal)) (x2 : (⟨S5136x2048, .bf16⟩ : BufTy).Contents (Elt Ideal)) (x3 : (⟨S1x64, .f32⟩ : BufTy).Contents (Elt Ideal)) (x5 x6 : (⟨S2048x8, .f32⟩ : BufTy).Contents (Elt Ideal)) (b : Fin 4) (s : Fin 2048) (j : Fin 16) (d : Fin 64) :
    val_main_v37 (F := Ideal) x0 x1 x2 x3 (ix4 b s j d)
      = hd (fun d => val_main_v16 (F := Ideal) x0 x1 x2 (ix3 b s ⟨2576 + (j.val * 64 + d.val), by omega⟩)) (fun d => x3 (ix2 0 d)) d := by
  pointwise [val_main_v37, val_main_v36, val_main_v35, val_main_v34, val_main_v33, val_main_v32, val_main_v31, val_main_v30, val_main_v29, val_main_v28, val_main_v27, val_main_v26, val_main_v25, val_main_v24, val_main_v23, val_main_v19, val_main_cst_2, val_main_cst_3, val_main_cst_4]
  unfold hd
  blk_point []

theorem refq (x0 : (⟨S4x2048x2048, .f32⟩ : BufTy).Contents (Elt Ideal)) (x1 : (⟨S1x2048, .f32⟩ : BufTy).Contents (Elt Ideal)) (x2 : (⟨S5136x2048, .bf16⟩ : BufTy).Contents (Elt Ideal)) (x3 : (⟨S1x64, .f32⟩ : BufTy).Contents (Elt Ideal)) (x5 x6 : (⟨S2048x8, .f32⟩ : BufTy).Contents (Elt Ideal)) (b : Fin 4) (s : Fin 2048) (j : Fin 16) (d : Fin 64) :
    val_main_v96 (F := Ideal) x0 x1 x2 x3 x5 x6 (ix3 b ⟨j.val * 64 + d.val, by omega⟩ s)
      = one (fun d => val_main_v16 (F := Ideal) x0 x1 x2 (ix3 b s ⟨2576 + (j.val * 64 + d.val), by omega⟩)) (fun d => x3 (ix2 0 d))
          (fun e => x5 (ix2 s e)) (fun e => x6 (ix2 s e)) d * Ideal.ofBits .f32 0x3E38AA3B#32 := by
  have hk : Ideal.ofBits .f32 0x3E38AA3B#32 = Ideal.ofBits .f32 1040187392#32 * Ideal.ofBits .f32 1069066811#32 := by
    have h1 : Ideal.ofBits .f32 0x3E38AA3B#32 = ((12102203 / 67108864 : ℝ) : EReal) := by
      simp [Ideal.ofBits, Ideal.ieee, -EReal.coe_mul]; norm_num
    have h2 : Ideal.ofBits .f32 1040187392#32 = ((1 / 8 : ℝ) : EReal) := by
      simp [Ideal.ofBits, Ideal.ieee, -EReal.coe_mul]; norm_num
    have h3 : Ideal.ofBits .f32 1069066811#32 = ((12102203 / 8388608 : ℝ) : EReal) := by
      simp [Ideal.ofBits, Ideal.ieee, -EReal.coe_mul]; norm_num
    rw [h1, h2, h3, ← EReal.coe_mul]
    norm_num
  have hw : ∀ d : Fin 64, val_main_v37 (F := Ideal) x0 x1 x2 x3 (ix4 b s j d) = _ := refq_norm x0 x1 x2 x3 x5 x6 b s j
  rw [hk, ← mul_assoc]
  unfold one
  rw [← funext hw]
  pointwise [val_main_v96, val_main_v95, val_main_v94, val_main_v93, val_main_v92, val_main_cst_9, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_cst_5]
  refine congrArg (· * _) (congrArg (· * _) ?_)
  unfold trn
  have hj : (j.val * 64 + d.val) / 64 = j.val := by omega
  have hd' : (j.val * 64 + d.val) % 64 = d.val := by omega
  simp only [hj, hd']

theorem refk_norm (x0 : (⟨S4x2048x2048, .f32⟩ : BufTy).Contents (Elt Ideal)) (x1 : (⟨S1x2048, .f32⟩ : BufTy).Contents (Elt Ideal)) (x2 : (⟨S5136x2048, .bf16⟩ : BufTy).Contents (Elt Ideal)) (x3 : (⟨S1x64, .f32⟩ : BufTy).Contents (Elt Ideal)) (x5 x6 : (⟨S2048x8, .f32⟩ : BufTy).Contents (Elt Ideal)) (b : Fin 4) (s : Fin 2048) (j : Fin 4) (d : Fin 64) :
    val_main_v70 (F := Ideal) x0 x1 x2 x3 (ix4 b s j d)
      = hd (fun d => val_main_v16 (F := Ideal) x0 x1 x2 (ix3 b s ⟨3600 + (j.val * 64 + d.val), by omega⟩)) (fun d => x3 (ix2 0 d)) d := by
  pointwise [val_main_v70, val_main_v69, val_main_v68, val_main_v67, val_main_v66, val_main_v65, val_main_v64, val_main_v63, val_main_v62, val_main_v61, val_main_v60, val_main_v59, val_main_v58, val_main_v57, val_main_v56, val_main_v20, val_main_cst_6, val_main_cst_7, val_main_cst_8]
  unfold hd
  blk_point []

theorem refk (x0 : (⟨S4x2048x2048, .f32⟩ : BufTy).Contents (Elt Ideal)) (x1 : (⟨S1x2048, .f32⟩ : BufTy).Contents (Elt Ideal)) (x2 : (⟨S5136x2048, .bf16⟩ : BufTy).Contents (Elt Ideal)) (x3 : (⟨S1x64, .f32⟩ : BufTy).Contents (Elt Ideal)) (x5 x6 : (⟨S2048x8, .f32⟩ : BufTy).Contents (Elt Ideal)) (b : Fin 4) (s : Fin 2048) (j : Fin 4) (d : Fin 64) :
    val_main_v98 (F := Ideal) x0 x1 x2 x3 x5 x6 (ix3 b ⟨j.val * 64 + d.val, by omega⟩ s)
      = one (fun d => val_main_v16 (F := Ideal) x0 x1 x2 (ix3 b s ⟨3600 + (j.val * 64 + d.val), by omega⟩)) (fun d => x3 (ix2 0 d))
          (fun e => x5 (ix2 s e)) (fun e => x6 (ix2 s e)) d := by
  have hw : ∀ d : Fin 64, val_main_v70 (F := Ideal) x0 x1 x2 x3 (ix4 b s j d) = _ := refk_norm x0 x1 x2 x3 x5 x6 b s j
  unfold one
  rw [← funext hw]
  pointwise [val_main_v98, val_main_v97, val_main_v86, val_main_v85, val_main_v84, val_main_v83, val_main_v82, val_main_v81, val_main_v80, val_main_v79, val_main_v78, val_main_v77, val_main_v76, val_main_v75, val_main_v74, val_main_v73, val_main_v72, val_main_v71]
  unfold trn
  have hj : (j.val * 64 + d.val) / 64 = j.val := by omega
  have hd' : (j.val * 64 + d.val) % 64 = d.val := by omega
  simp only [hj, hd']

end Ref

end Cert.InPIdeal.Val

end
-- ==== Proof.InPEnd.lean ====
module

public import proofs.«01_k».proof.Proof.InPQK
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InPIdeal.Val

open Cert.InPIdeal Cert.InPIdeal.Gen

variable (m : (ℓ : Loc nD τ sig) → Buf (Elt Ideal) ℓ)

/-- Two heads of a group: normed, turned and scaled. -/
theorem two_eq (c : Dev nD) (t : Fin cfg0.N) (v : FVec Ideal S512x128 .f32) (w : FVec Ideal S1x128 .f32) (κ : EReal) (r : Fin 512) (h : Fin 2) (d : Fin 64) :
    turn (F := Ideal) (k0_pay51 (iblk m c 0 t) (iblk m c 1 t) (iblk m c 2 t) (iblk m c 3 t) (iblk m c 4 t) (iblk m c 5 t) (iblk m c 6 t) (iblk m c 7 t)) (k0_pay52 (iblk m c 0 t) (iblk m c 1 t) (iblk m c 2 t) (iblk m c 3 t) (iblk m c 4 t) (iblk m c 5 t) (iblk m c 6 t) (iblk m c 7 t)) (k0_pay53 (iblk m c 0 t) (iblk m c 1 t) (iblk m c 2 t) (iblk m c 3 t) (iblk m c 4 t) (iblk m c 5 t) (iblk m c 6 t) (iblk m c 7 t)) (nrm v w) κ (ix2 r ⟨h.val * 64 + d.val, by omega⟩)
      = one (fun d => v (ix2 r ⟨h.val * 64 + d.val, by omega⟩)) (fun d => w (ix2 0 ⟨h.val * 64 + d.val, by omega⟩)) (cosr m c t r) (sinr m c t r) d * κ := by
  rw [turn_eq _ _ _ _ κ r h d (cosr m c t r) (sinr m c t r) (a_eq m c t r h d) (b_eq m c t r h d) (c_eq m c t r h d)]
  unfold one
  rw [funext (nrm_eq v w r h)]

theorem qtile_at (a b c : FVec Ideal S512x128 .f32) (v : FVec Ideal S512x128 .f32) (w : FVec Ideal S1x128 .f32) (l : Fin 128) (r : Fin 512) :
    qtile (F := Ideal) a b c v w (ix3 0 l r) = turn (F := Ideal) a b c (nrm v w) (Ideal.ofBits .f32 0x3E38AA3B#32) (ix2 r l) := by
  pointwise [qtile]

theorem ktile_at (a b c : FVec Ideal S512x128 .f32) (v : FVec Ideal S512x256 .f32) (w : FVec Ideal S1x128 .f32) (g : Fin 2) (l : Fin 128) (r : Fin 512) :
    ktile (F := Ideal) a b c v w (ix3 0 ⟨g.val * 128 + l.val, by omega⟩ r)
      = turn (F := Ideal) a b c (nrm (fun y => v (ix2 (y 0) ⟨g.val * 128 + (y 1).val, by have := (y 1).isLt; simp at this; omega⟩)) w) (Ideal.ofBits .f32 0x3F800000#32) (ix2 r l) := by
  have e0 : extractStridedSlice S512x128 ![0, 0] v slices_S512x256_o0_0_S512x128 = fun y => v (ix2 (y 0) ⟨0 * 128 + (y 1).val, by have := (y 1).isLt; simp at this; omega⟩) := by
    funext y
    pointwise []
  have e1 : extractStridedSlice S512x128 ![0, 128] v slices_S512x256_o0_128_S512x128 = fun y => v (ix2 (y 0) ⟨1 * 128 + (y 1).val, by have := (y 1).isLt; simp at this; omega⟩) := by
    funext y
    pointwise []
  unfold ktile
  rw [e0, e1]
  pointwise []
  match g with
  | 0 => simp
  | 1 => simp

open Cert.InPRefIdeal.Read in
theorem q_row (c : Dev nD) (t : Fin cfg0.N) (r : Fin 512) (j : Fin 1024) :
    k0_pay54 (F := Ideal) (iblk m c 0 t) (iblk m c 1 t) (iblk m c 2 t) (iblk m c 3 t) (iblk m c 4 t) (iblk m c 5 t) (iblk m c 6 t) (iblk m c 7 t) (ix2 r j) = val_main_v16 (F := Ideal) (m ((c : Thread nD τ).loc main_arg0)) (m ((c : Thread nD τ).loc main_arg1)) (m ((c : Thread nD τ).loc main_arg2)) (ix3 (sq t) (rw_ t r) ⟨2576 + j.val, by omega⟩) := by
  unfold k0_pay54
  pointwise [k0_pay7]
  refine Eq.trans ?_ (row_eq m c t r ⟨2576 + j.val, by omega⟩)
  unfold k0_pay50
  blk_point [idx t]

open Cert.InPRefIdeal.Read in
theorem k_row (c : Dev nD) (t : Fin cfg0.N) (r : Fin 512) (j : Fin 256) :
    k0_pay55 (F := Ideal) (iblk m c 0 t) (iblk m c 1 t) (iblk m c 2 t) (iblk m c 3 t) (iblk m c 4 t) (iblk m c 5 t) (iblk m c 6 t) (iblk m c 7 t) (ix2 r j) = val_main_v16 (F := Ideal) (m ((c : Thread nD τ).loc main_arg0)) (m ((c : Thread nD τ).loc main_arg1)) (m ((c : Thread nD τ).loc main_arg2)) (ix3 (sq t) (rw_ t r) ⟨3600 + j.val, by omega⟩) := by
  unfold k0_pay55
  pointwise [k0_pay38]
  refine Eq.trans ?_ (row_eq m c t r ⟨3600 + j.val, by omega⟩)
  blk_point [idx t]

theorem ld_w (x : Vec Ideal S1x128 .f32) (l : Fin 128) : View.ld x r0_4 (ix2 0 l) = x (ix2 0 l) := by
  pointwise []

open Cert.InPRefIdeal.Read in
/-- One element of one stored group of query heads. -/
theorem q_one (c : Dev nD) (t : Fin cfg0.N) (g : Fin 8) (v : FVec Ideal S512x128 .f32)
    (hv : ∀ (r : Fin 512) (l : Fin 128), v (ix2 r l) = k0_pay54 (F := Ideal) (iblk m c 0 t) (iblk m c 1 t) (iblk m c 2 t) (iblk m c 3 t) (iblk m c 4 t) (iblk m c 5 t) (iblk m c 6 t) (iblk m c 7 t) (ix2 r ⟨g.val * 128 + l.val, by omega⟩)) (l : Fin 128) (r : Fin 512) :
    qtile (F := Ideal) (k0_pay51 (iblk m c 0 t) (iblk m c 1 t) (iblk m c 2 t) (iblk m c 3 t) (iblk m c 4 t) (iblk m c 5 t) (iblk m c 6 t) (iblk m c 7 t)) (k0_pay52 (iblk m c 0 t) (iblk m c 1 t) (iblk m c 2 t) (iblk m c 3 t) (iblk m c 4 t) (iblk m c 5 t) (iblk m c 6 t) (iblk m c 7 t)) (k0_pay53 (iblk m c 0 t) (iblk m c 1 t) (iblk m c 2 t) (iblk m c 3 t) (iblk m c 4 t) (iblk m c 5 t) (iblk m c 6 t) (iblk m c 7 t)) v (View.ld (iblk m c 3 t) r0_4) (ix3 0 l r)
      = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (ix3 (sq t) ⟨g.val * 128 + l.val, by omega⟩ (rw_ t r)) := by
  obtain ⟨h, d, hl⟩ : ∃ (h : Fin 2) (d : Fin 64), l = ⟨h.val * 64 + d.val, by omega⟩ :=
    ⟨⟨l.val / 64, by omega⟩, ⟨l.val % 64, by omega⟩, Fin.ext (by show l.val = l.val / 64 * 64 + l.val % 64; omega)⟩
  subst hl
  refine (qtile_at _ _ _ _ _ _ _).trans ((two_eq m c t v _ _ r h d).trans ?_)
  have e : (⟨g.val * 128 + (h.val * 64 + d.val), by omega⟩ : Fin 1024) = ⟨(⟨g.val * 2 + h.val, by omega⟩ : Fin 16).val * 64 + d.val, by show (g.val * 2 + h.val) * 64 + d.val < 1024; omega⟩ :=
    Fin.ext (by show g.val * 128 + (h.val * 64 + d.val) = (g.val * 2 + h.val) * 64 + d.val; omega)
  refine Eq.trans ?_ (congrArg (fun j => val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (ix3 (sq t) j (rw_ t r))) e).symm
  refine Eq.trans ?_ (refq (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (sq t) (rw_ t r) ⟨g.val * 2 + h.val, by omega⟩ d).symm
  have hP : (fun d : Fin 64 => v (ix2 r ⟨h.val * 64 + d.val, by omega⟩))
      = fun d : Fin 64 => val_main_v16 (F := Ideal) (m ((c : Thread nD τ).loc main_arg0)) (m ((c : Thread nD τ).loc main_arg1)) (m ((c : Thread nD τ).loc main_arg2)) (ix3 (sq t) (rw_ t r) ⟨2576 + ((g.val * 2 + h.val) * 64 + d.val), by omega⟩) := by
    funext d
    rw [hv r ⟨h.val * 64 + d.val, by omega⟩, q_row m c t r ⟨g.val * 128 + (h.val * 64 + d.val), by omega⟩]
    exact congrArg (fun j => val_main_v16 (F := Ideal) (m ((c : Thread nD τ).loc main_arg0)) (m ((c : Thread nD τ).loc main_arg1)) (m ((c : Thread nD τ).loc main_arg2)) (ix3 (sq t) (rw_ t r) j)) (Fin.ext (by show 2576 + (g.val * 128 + (h.val * 64 + d.val)) = 2576 + ((g.val * 2 + h.val) * 64 + d.val); omega))
  have hW : (fun d : Fin 64 => View.ld (iblk m c 3 t) r0_4 (ix2 0 ⟨h.val * 64 + d.val, by omega⟩)) = fun d : Fin 64 => m ((c : Thread nD τ).loc main_arg3) (ix2 0 d) := by
    funext d
    exact (ld_w _ _).trans (b3 m c t h d)
  refine congrArg (· * _) ?_
  refine (congrArg (fun P => one P _ _ _ d) hP).trans ((congrArg (fun W => one _ W _ _ d) hW).trans ?_)
  rfl

open Cert.InPRefIdeal.Read in
/-- One element of the stored key heads. -/
theorem point12 (c : Dev nD) (t : Fin cfg0.N) (j : Fin 256) (r : Fin 512) :
    out0_12 (F := Ideal) (iblk m c 0 t) (iblk m c 1 t) (iblk m c 2 t) (iblk m c 3 t) (iblk m c 4 t) (iblk m c 5 t) (iblk m c 6 t) (iblk m c 7 t) (ix3 0 j r)
      = val_main_v98 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (ix3 (sq t) j (rw_ t r)) := by
  have e00 : out0_12 (F := Ideal) (iblk m c 0 t) (iblk m c 1 t) (iblk m c 2 t) (iblk m c 3 t) (iblk m c 4 t) (iblk m c 5 t) (iblk m c 6 t) (iblk m c 7 t) (ix3 0 j r) = ktile (F := Ideal) (k0_pay51 (iblk m c 0 t) (iblk m c 1 t) (iblk m c 2 t) (iblk m c 3 t) (iblk m c 4 t) (iblk m c 5 t) (iblk m c 6 t) (iblk m c 7 t)) (k0_pay52 (iblk m c 0 t) (iblk m c 1 t) (iblk m c 2 t) (iblk m c 3 t) (iblk m c 4 t) (iblk m c 5 t) (iblk m c 6 t) (iblk m c 7 t)) (k0_pay53 (iblk m c 0 t) (iblk m c 1 t) (iblk m c 2 t) (iblk m c 3 t) (iblk m c 4 t) (iblk m c 5 t) (iblk m c 6 t) (iblk m c 7 t)) (k0_pay55 (iblk m c 0 t) (iblk m c 1 t) (iblk m c 2 t) (iblk m c 3 t) (iblk m c 4 t) (iblk m c 5 t) (iblk m c 6 t) (iblk m c 7 t)) (iblk m c 4 t) (ix3 0 j r) := by
    rw [tilek]
    frame_out
  refine e00.trans ?_
  obtain ⟨g, h, d, hl⟩ : ∃ (g : Fin 2) (h : Fin 2) (d : Fin 64), j = ⟨g.val * 128 + (⟨h.val * 64 + d.val, by omega⟩ : Fin 128).val, by show g.val * 128 + (h.val * 64 + d.val) < 256; omega⟩ :=
    ⟨⟨j.val / 128, by omega⟩, ⟨j.val / 64 % 2, by omega⟩, ⟨j.val % 64, by omega⟩, Fin.ext (by show j.val = j.val / 128 * 128 + (j.val / 64 % 2 * 64 + j.val % 64); omega)⟩
  subst hl
  refine (ktile_at _ _ _ _ _ g ⟨h.val * 64 + d.val, by omega⟩ r).trans ((two_eq m c t _ _ _ r h d).trans ?_)
  have e : (⟨g.val * 128 + (⟨h.val * 64 + d.val, by omega⟩ : Fin 128).val, by show g.val * 128 + (h.val * 64 + d.val) < 256; omega⟩ : Fin 256) = ⟨(⟨g.val * 2 + h.val, by omega⟩ : Fin 4).val * 64 + d.val, by show (g.val * 2 + h.val) * 64 + d.val < 256; omega⟩ :=
    Fin.ext (by show g.val * 128 + (h.val * 64 + d.val) = (g.val * 2 + h.val) * 64 + d.val; omega)
  refine Eq.trans ?_ (congrArg (fun j => val_main_v98 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (ix3 (sq t) j (rw_ t r))) e).symm
  refine Eq.trans ?_ (refk (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (sq t) (rw_ t r) ⟨g.val * 2 + h.val, by omega⟩ d).symm
  have hP : (fun d : Fin 64 => k0_pay55 (F := Ideal) (iblk m c 0 t) (iblk m c 1 t) (iblk m c 2 t) (iblk m c 3 t) (iblk m c 4 t) (iblk m c 5 t) (iblk m c 6 t) (iblk m c 7 t) (ix2 r ⟨g.val * 128 + (h.val * 64 + d.val), by omega⟩))
      = fun d : Fin 64 => val_main_v16 (F := Ideal) (m ((c : Thread nD τ).loc main_arg0)) (m ((c : Thread nD τ).loc main_arg1)) (m ((c : Thread nD τ).loc main_arg2)) (ix3 (sq t) (rw_ t r) ⟨3600 + ((g.val * 2 + h.val) * 64 + d.val), by omega⟩) := by
    funext d
    rw [k_row m c t r ⟨g.val * 128 + (h.val * 64 + d.val), by omega⟩]
    exact congrArg (fun j => val_main_v16 (F := Ideal) (m ((c : Thread nD τ).loc main_arg0)) (m ((c : Thread nD τ).loc main_arg1)) (m ((c : Thread nD τ).loc main_arg2)) (ix3 (sq t) (rw_ t r) j)) (Fin.ext (by show 3600 + (g.val * 128 + (h.val * 64 + d.val)) = 3600 + ((g.val * 2 + h.val) * 64 + d.val); omega))
  have hW : (fun d : Fin 64 => iblk m c 4 t (ix2 0 ⟨h.val * 64 + d.val, by omega⟩)) = fun d : Fin 64 => m ((c : Thread nD τ).loc main_arg4) (ix2 0 d) := by
    funext d
    exact b4 m c t h d
  have h1 : Ideal.ofBits .f32 0x3F800000#32 = 1 := by
    simp [Ideal.ofBits, Ideal.ieee, -EReal.coe_mul]; norm_num
  rw [h1, mul_one]
  refine (congrArg (fun P => one P _ _ _ d) hP).trans ((congrArg (fun W => one _ W _ _ d) hW).trans ?_)
  rfl

open Cert.InPRefIdeal.Read in
/-- The keys. -/
theorem final12 (c : Dev nD) : (dats m 0 c).arrAt 12 (cfgs 0).N
      = val_main_v98 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 12 _ (by decide +kernel) fun t hf y => ?_
  have e : ((cfg0.win 12).blk t).view.emb y = ((ix3 (sq t) (y 1) (rw_ t (y 2 : Fin 512))) : S4x256x2048.Idx) := by blk_ext [idx t]
  blk_simp
  rw [after0_12]
  have e0 : y = (ix3 0 (y 1) (y 2)) := (by funext a; match a with | ⟨0, _⟩ => exact Subsingleton.elim (α := Fin 1) _ _ | ⟨1, _⟩ => rfl | ⟨2, _⟩ => rfl)
  refine (congrArg _ e0).trans (Eq.trans ?_ (congrArg _ e.symm))
  exact point12 m c t (y 1) (y 2)

open Cert.InPRefIdeal.Read in
/-- The queries. -/
theorem final11 (c : Dev nD) : (dats m 0 c).arrAt 11 (cfgs 0).N
      = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (dats m 0 c).arrAt_eq_of_covers 11 _ (by decide +kernel) fun t hf y => ?_
  have e : ((cfg0.win 11).blk t).view.emb y = ((ix3 (sq t) (y 1) (rw_ t (y 2 : Fin 512))) : S4x1024x2048.Idx) := by blk_ext [idx t]
  blk_simp
  rw [after0_11]
  refine Eq.trans ?_ (congrArg _ e.symm)
  rw [tiles]
  canon_tiles x h
  · have ex : x = ix3 0 (x 1) (x 2) := (by funext a; match a with | ⟨0, _⟩ => exact Subsingleton.elim (α := Fin 1) _ _ | ⟨1, _⟩ => rfl | ⟨2, _⟩ => rfl)
    refine (congrArg _ ex).trans ((q_one m c t 7 _ (fun r l => ?_) (x 1) (x 2)).trans ?_)
    · pointwise []
    · refine congrArg _ ?_
      funext a
      match a with
      | ⟨0, _⟩ => rfl
      | ⟨1, _⟩ => exact Fin.ext (by simp at h1; simp [h1])
      | ⟨2, _⟩ => exact Fin.ext (by simp at h2; simp [h2])
  · have ex : x = ix3 0 (x 1) (x 2) := (by funext a; match a with | ⟨0, _⟩ => exact Subsingleton.elim (α := Fin 1) _ _ | ⟨1, _⟩ => rfl | ⟨2, _⟩ => rfl)
    refine (congrArg _ ex).trans ((q_one m c t 6 _ (fun r l => ?_) (x 1) (x 2)).trans ?_)
    · pointwise []
    · refine congrArg _ ?_
      funext a
      match a with
      | ⟨0, _⟩ => rfl
      | ⟨1, _⟩ => exact Fin.ext (by simp at h1; simp [h1])
      | ⟨2, _⟩ => exact Fin.ext (by simp at h2; simp [h2])
  · have ex : x = ix3 0 (x 1) (x 2) := (by funext a; match a with | ⟨0, _⟩ => exact Subsingleton.elim (α := Fin 1) _ _ | ⟨1, _⟩ => rfl | ⟨2, _⟩ => rfl)
    refine (congrArg _ ex).trans ((q_one m c t 5 _ (fun r l => ?_) (x 1) (x 2)).trans ?_)
    · pointwise []
    · refine congrArg _ ?_
      funext a
      match a with
      | ⟨0, _⟩ => rfl
      | ⟨1, _⟩ => exact Fin.ext (by simp at h1; simp [h1])
      | ⟨2, _⟩ => exact Fin.ext (by simp at h2; simp [h2])
  · have ex : x = ix3 0 (x 1) (x 2) := (by funext a; match a with | ⟨0, _⟩ => exact Subsingleton.elim (α := Fin 1) _ _ | ⟨1, _⟩ => rfl | ⟨2, _⟩ => rfl)
    refine (congrArg _ ex).trans ((q_one m c t 4 _ (fun r l => ?_) (x 1) (x 2)).trans ?_)
    · pointwise []
    · refine congrArg _ ?_
      funext a
      match a with
      | ⟨0, _⟩ => rfl
      | ⟨1, _⟩ => exact Fin.ext (by simp at h1; simp [h1])
      | ⟨2, _⟩ => exact Fin.ext (by simp at h2; simp [h2])
  · have ex : x = ix3 0 (x 1) (x 2) := (by funext a; match a with | ⟨0, _⟩ => exact Subsingleton.elim (α := Fin 1) _ _ | ⟨1, _⟩ => rfl | ⟨2, _⟩ => rfl)
    refine (congrArg _ ex).trans ((q_one m c t 3 _ (fun r l => ?_) (x 1) (x 2)).trans ?_)
    · pointwise []
    · refine congrArg _ ?_
      funext a
      match a with
      | ⟨0, _⟩ => rfl
      | ⟨1, _⟩ => exact Fin.ext (by simp at h1; simp [h1])
      | ⟨2, _⟩ => exact Fin.ext (by simp at h2; simp [h2])
  · have ex : x = ix3 0 (x 1) (x 2) := (by funext a; match a with | ⟨0, _⟩ => exact Subsingleton.elim (α := Fin 1) _ _ | ⟨1, _⟩ => rfl | ⟨2, _⟩ => rfl)
    refine (congrArg _ ex).trans ((q_one m c t 2 _ (fun r l => ?_) (x 1) (x 2)).trans ?_)
    · pointwise []
    · refine congrArg _ ?_
      funext a
      match a with
      | ⟨0, _⟩ => rfl
      | ⟨1, _⟩ => exact Fin.ext (by simp at h1; simp [h1])
      | ⟨2, _⟩ => exact Fin.ext (by simp at h2; simp [h2])
  · have ex : x = ix3 0 (x 1) (x 2) := (by funext a; match a with | ⟨0, _⟩ => exact Subsingleton.elim (α := Fin 1) _ _ | ⟨1, _⟩ => rfl | ⟨2, _⟩ => rfl)
    refine (congrArg _ ex).trans ((q_one m c t 1 _ (fun r l => ?_) (x 1) (x 2)).trans ?_)
    · pointwise []
    · refine congrArg _ ?_
      funext a
      match a with
      | ⟨0, _⟩ => rfl
      | ⟨1, _⟩ => exact Fin.ext (by simp at h1; simp [h1])
      | ⟨2, _⟩ => exact Fin.ext (by simp at h2; simp [h2])
  · have ex : x = ix3 0 (x 1) (x 2) := (by funext a; match a with | ⟨0, _⟩ => exact Subsingleton.elim (α := Fin 1) _ _ | ⟨1, _⟩ => rfl | ⟨2, _⟩ => rfl)
    refine (congrArg _ ex).trans ((q_one m c t 0 _ (fun r l => ?_) (x 1) (x 2)).trans ?_)
    · pointwise []
    · refine congrArg _ ?_
      funext a
      match a with
      | ⟨0, _⟩ => rfl
      | ⟨1, _⟩ => exact Fin.ext (by simp at h1; simp [h1])
      | ⟨2, _⟩ => exact Fin.ext (by simp at h2; simp [h2])

end Cert.InPIdeal.Val

end
-- ==== Proof.InPPre.lean ====
module

public import proofs.«01_k».proof.Proof.Gen.Pre_in_finite
public import proofs.«01_k».proof.Proof.AttPre
public import proofs.«01_k».proof.Proof.AttMath
public import proofs.«01_k».proof.Proof.InPVal
public import Idealize.ShloMosaic.Lib.ReduceAll
public import Idealize.ShloMosaic.Lib.Pipeline.ValueKit

@[expose] public section

set_option maxRecDepth 16384

noncomputable section

open Idealize.ShloMosaic

namespace Cert.InPPre

open Cert.Pre_in_finite Cert.Pre_in_finite.Gen in
theorem pre_real (x0 : FVec Ideal S4x2048x2048 .f32) (x1 : FVec Ideal S1x2048 .f32) (x2 : FVec Ideal S5136x2048 .bf16)
    (x3 x4 : FVec Ideal S1x64 .f32) (x5 x6 : FVec Ideal S2048x8 .f32) (h : Cert.Pre_in_finite.fn (F := Ideal) x0 x1 x2 x3 x4 x5 x6 = fun _ => 1#1) :
    (∀ i, ∃ r : ℝ, x0 i = (r : EReal)) ∧ (∀ i, ∃ r : ℝ, x1 i = (r : EReal)) ∧ ∀ i, ∃ r : ℝ, x2 i = (r : EReal) := by
  have h := congrFun h (fun a => a.elim0)
  obtain ⟨h01, h2⟩ := IntOp.andi_eq_one.1 h
  obtain ⟨h0, h1⟩ := IntOp.andi_eq_one.1 h01
  exact ⟨fun i => Cert.Att.real_of_lt _ (Host.reduce_andi_all _ _ _ _ _ h0 i), fun i => Cert.Att.real_of_lt _ (Host.reduce_andi_all _ _ _ _ _ h1 i),
    fun i => Cert.Att.real_of_lt _ (Host.reduce_andi_all _ _ _ _ _ h2 i)⟩

open Cert.InPRefIdeal Cert.InPRefIdeal.Gen Cert.InPRefIdeal.Read

/-- A normed row of real numbers is real. -/
theorem real13 (x0 : FVec Ideal S4x2048x2048 .f32) (x1 : FVec Ideal S1x2048 .f32)
    (h0 : ∀ i, ∃ r : ℝ, x0 i = (r : EReal)) (h1 : ∀ i, ∃ r : ℝ, x1 i = (r : EReal)) (b : Fin 4) (s : Fin 2048) (k : Fin 2048) :
    ∃ r : ℝ, val_main_v13 (F := Ideal) x0 x1 (ix3 b s k) = (r : EReal) := by
  choose f hf using h0
  choose g hg using h1
  have hn : Ideal.ofBits .f32 0x45000000#32 = ((2048 : ℝ) : EReal) := by
    simp [Ideal.ofBits, Ideal.ieee, -EReal.coe_mul]; norm_num
  have he : ∃ ε : ℝ, 0 < ε ∧ Ideal.ofBits .f32 0x358637BD#32 = (ε : EReal) := by
    refine ⟨8796093 / 2 ^ 43, by positivity, ?_⟩
    simp [Ideal.ofBits, Ideal.ieee, -EReal.coe_mul]; norm_num
  obtain ⟨ε, hε, he⟩ := he
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  have hs : (∑ x : Fin 2048, x0 (ix3 b s x) * x0 (ix3 b s x)) = ((∑ x : Fin 2048, f (ix3 b s x) * f (ix3 b s x) : ℝ) : EReal) := by
    rw [Cert.Att.coe_sum]
    exact Finset.sum_congr rfl fun x _ => by rw [hf, ← EReal.coe_mul]
  have hp : 0 ≤ ∑ x : Fin 2048, f (ix3 b s x) * f (ix3 b s x) := Finset.sum_nonneg fun x _ => mul_self_nonneg _
  have hq : 0 < (∑ x : Fin 2048, f (ix3 b s x) * f (ix3 b s x)) * (2048 : ℝ)⁻¹ + ε := by positivity
  rw [hs, hn, he]
  unfold Ideal.div
  rw [if_neg (by norm_num), ← EReal.coe_inv, ← EReal.coe_mul, ← EReal.coe_add, hf, hg]
  have e : Ideal.rsqrt (((∑ x : Fin 2048, f (ix3 b s x) * f (ix3 b s x)) * (2048 : ℝ)⁻¹ + ε : ℝ) : EReal)
      = (((Real.sqrt ((∑ x : Fin 2048, f (ix3 b s x) * f (ix3 b s x)) * (2048 : ℝ)⁻¹ + ε))⁻¹ : ℝ) : EReal) := by
    show (if _ then _ else if _ then _ else _) = _
    rw [if_neg (not_lt.2 hq.le), if_neg hq.ne']
  rw [e, ← EReal.coe_mul, ← EReal.coe_mul]
  exact ⟨_, rfl⟩

/-- The projection of real numbers is real. -/
theorem real16 (x0 : FVec Ideal S4x2048x2048 .f32) (x1 : FVec Ideal S1x2048 .f32) (x2 : FVec Ideal S5136x2048 .bf16)
    (h0 : ∀ i, ∃ r : ℝ, x0 i = (r : EReal)) (h1 : ∀ i, ∃ r : ℝ, x1 i = (r : EReal)) (h2 : ∀ i, ∃ r : ℝ, x2 i = (r : EReal))
    (i : S4x2048x5136.Idx) : ∃ r : ℝ, val_main_v16 (F := Ideal) x0 x1 x2 i = (r : EReal) := by
  have hi : i = ix3 (i 0) (i 1) (i 2) := by funext a; match a with | ⟨0, _⟩ => rfl | ⟨1, _⟩ => rfl | ⟨2, _⟩ => rfl
  choose f hf using real13 x0 x1 h0 h1 (i 0) (i 1)
  choose g hg using h2
  refine ⟨∑ k : Fin 2048, f k * g (ix2 (i 2) k), ?_⟩
  refine (congrArg _ hi).trans ?_
  generalize i 2 = j at *
  rw [Cert.Att.coe_sum]
  pointwise [val_main_v16, val_main_v15, val_main_v14]
  exact Finset.sum_congr rfl fun k _ => by rw [hf, hg, ← EReal.coe_mul]

end Cert.InPPre

end
-- ==== Proof.OutSVal.lean ====
module

public import proofs.«01_k».proof.Proof.Gen.OutS.Frame
public import proofs.«01_k».proof.Proof.Gen.OutSIdeal.Value
public import proofs.«01_k».proof.Proof.Gen.OutSRefIdeal.Run
public import proofs.«01_k».proof.Proof.Gen.OutSRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutSIdeal.Val

open Cert.OutSIdeal Cert.OutSIdeal.Gen

variable (m : (ℓ : Loc nD τ sig) → Buf (Elt Ideal) ℓ)

theorem idx : ∀ t : Fin cfg0.N, win0_0.index t = ![0, 0, 0] ∧ win0_1.index t = ![0, min t.val 1]
    ∧ win0_2.index t = ![0, t.val - 2] ∧ win0_3.index t = ![0, min t.val 1] ∧ win0_4.index t = ![t.val, 0]
    ∧ win0_5.index t = ![t.val, 0] ∧ win0_6.index t = ![0, 0, 0] :=
  (by decide +kernel : ∀ t : Fin grid0.N, _)

theorem ht (t : Fin cfg0.N) : t.val < 4 := t.isLt

theorem b0 (c : Dev nD) (t : Fin cfg0.N) (x : S8x4x2048.Idx) : iblk m c 0 t x = m ((c : Thread nD τ).loc main_arg0) x := by
  blk_simp [iblk]
  rw [V_main_arg0]
  blk_ext [idx t]

theorem b1 (c : Dev nD) (t : Fin cfg0.N) (x : S128x512.Idx) : iblk m c 1 t x
    = m ((c : Thread nD τ).loc main_arg1) (ix2 (x 0) ⟨min t.val 1 * 512 + (x 1).val, by have := (x 1).isLt; have := ht t; simp at *; omega⟩) := by
  blk_simp [iblk]
  rw [V_main_arg1]
  blk_ext [idx t]

theorem b2 (c : Dev nD) (t : Fin cfg0.N) (x : S128x512.Idx) : iblk m c 2 t x
    = m ((c : Thread nD τ).loc main_arg2) (ix2 (x 0) ⟨(t.val - 2) * 512 + (x 1).val, by have := (x 1).isLt; have := ht t; simp at *; omega⟩) := by
  blk_simp [iblk]
  rw [V_main_arg2]
  blk_ext [idx t]

theorem b3 (c : Dev nD) (t : Fin cfg0.N) (x : S1x512.Idx) : iblk m c 3 t x
    = m ((c : Thread nD τ).loc main_arg3) (ix2 0 ⟨min t.val 1 * 512 + (x 1).val, by have := (x 1).isLt; have := ht t; simp at *; omega⟩) := by
  blk_simp [iblk]
  rw [V_main_arg3]
  blk_ext [idx t]

theorem b4 (c : Dev nD) (t : Fin cfg0.N) (x : S512x2048.Idx) : iblk m c 4 t x
    = m ((c : Thread nD τ).loc main_arg4) (ix2 ⟨t.val * 512 + (x 0).val, by have := (x 0).isLt; have := ht t; simp at *; omega⟩ (x 1)) := by
  blk_simp [iblk]
  rw [V_main_arg4]
  blk_ext [idx t]

/-- What one grid point adds. -/
def part (c : Dev nD) (t : Fin cfg0.N) : FVec Ideal S128x2048 .f32 :=
  k0_pay2 (grid0.coords t) (iblk m c 4 t) (iblk m c 1 t) (iblk m c 3 t) (iblk m c 2 t)

theorem yeq (y : S8x4x2048.Idx) (x : S1x4x2048.Idx) (k : Fin 8) (h0 : (y 0).val = k.val + (x 0).val)
    (h1 : (y 1).val = (x 1).val) (h2 : (y 2).val = (x 2).val) : y = ix3 k (x 1) (x 2) := by
  have := (x 0).isLt
  funext a
  match a with
  | ⟨0, _⟩ => exact Fin.ext (by simp at this ⊢; simp [h0, this])
  | ⟨1, _⟩ => exact Fin.ext h1
  | ⟨2, _⟩ => exact Fin.ext h2

/-- A later point adds its part to what the block held. -/
theorem stepB (c : Dev nD) (t : Fin cfg0.N) (h0 : ¬t.val % 4 = 0) (h1 : 1 ≤ t.val) (y : S8x4x2048.Idx) :
    (outsAt0 m c t.val t.isLt).2 y = (outsAt0 m c (t.val - 1) (Nat.lt_of_le_of_lt (Nat.sub_le _ _) t.isLt)).2 y
      + part m c t (ix2 ⟨(y 0).val * 16 + (y 1).val, by have := (y 0).isLt; have := (y 1).isLt; simp at *; omega⟩ (y 2)) := by
  rw [outsAt0_B m c t h0 h1]
  generalize (outsAt0 m c (t.val - 1) (Nat.lt_of_le_of_lt (Nat.sub_le _ _) t.isLt)).2 = P
  frame_out
  canon_tiles x h
  · obtain rfl := yeq y x 7 (by simp at h0 ⊢; omega) h1 h2
    open_payloads
    pointwise [part, k0_pay2, k0_pay1]
  · obtain rfl := yeq y x 6 (by simp at h0 ⊢; omega) h1 h2
    open_payloads
    pointwise [part, k0_pay2, k0_pay1]
  · obtain rfl := yeq y x 5 (by simp at h0 ⊢; omega) h1 h2
    open_payloads
    pointwise [part, k0_pay2, k0_pay1]
  · obtain rfl := yeq y x 4 (by simp at h0 ⊢; omega) h1 h2
    open_payloads
    pointwise [part, k0_pay2, k0_pay1]
  · obtain rfl := yeq y x 3 (by simp at h0 ⊢; omega) h1 h2
    open_payloads
    pointwise [part, k0_pay2, k0_pay1]
  · obtain rfl := yeq y x 2 (by simp at h0 ⊢; omega) h1 h2
    open_payloads
    pointwise [part, k0_pay2, k0_pay1]
  · obtain rfl := yeq y x 1 (by simp at h0 ⊢; omega) h1 h2
    open_payloads
    pointwise [part, k0_pay2, k0_pay1]
  · obtain rfl := yeq y x 0 (by simp at h0 ⊢; omega) h1 h2
    open_payloads
    pointwise [part, k0_pay2, k0_pay1]

/-- The layer's input. -/
def ax (c : Dev nD) : S8x4x2048.Idx → EReal := m ((c : Thread nD τ).loc main_arg0)

/-- The attention's rows. -/
def ay (c : Dev nD) : S128x1024.Idx → EReal := m ((c : Thread nD τ).loc main_arg2)

/-- The weight. -/
def aw (c : Dev nD) : S2048x2048.Idx → EReal := m ((c : Thread nD τ).loc main_arg4)

/-- The first point adds its part to the layer's input. -/
theorem stepA (c : Dev nD) (t : Fin cfg0.N) (h0 : t.val % 4 = 0) (h1 : ¬ 1 ≤ t.val) (y : S8x4x2048.Idx) :
    (outsAt0 m c t.val t.isLt).2 y = ax m c y
      + part m c t (ix2 ⟨(y 0).val * 16 + (y 1).val, by have := (y 0).isLt; have := (y 1).isLt; simp at *; omega⟩ (y 2)) := by
  rw [outsAt0_A m c t h0 h1]
  frame_out
  canon_tiles x h
  · obtain rfl := yeq y x 7 (by simp at h0 ⊢; omega) h1 h2
    open_payloads
    pointwise [part, k0_pay2, k0_pay1]
    exact congrArg (· + _) (b0 m c t _)
  · obtain rfl := yeq y x 6 (by simp at h0 ⊢; omega) h1 h2
    open_payloads
    pointwise [part, k0_pay2, k0_pay1]
    exact congrArg (· + _) (b0 m c t _)
  · obtain rfl := yeq y x 5 (by simp at h0 ⊢; omega) h1 h2
    open_payloads
    pointwise [part, k0_pay2, k0_pay1]
    exact congrArg (· + _) (b0 m c t _)
  · obtain rfl := yeq y x 4 (by simp at h0 ⊢; omega) h1 h2
    open_payloads
    pointwise [part, k0_pay2, k0_pay1]
    exact congrArg (· + _) (b0 m c t _)
  · obtain rfl := yeq y x 3 (by simp at h0 ⊢; omega) h1 h2
    open_payloads
    pointwise [part, k0_pay2, k0_pay1]
    exact congrArg (· + _) (b0 m c t _)
  · obtain rfl := yeq y x 2 (by simp at h0 ⊢; omega) h1 h2
    open_payloads
    pointwise [part, k0_pay2, k0_pay1]
    exact congrArg (· + _) (b0 m c t _)
  · obtain rfl := yeq y x 1 (by simp at h0 ⊢; omega) h1 h2
    open_payloads
    pointwise [part, k0_pay2, k0_pay1]
    exact congrArg (· + _) (b0 m c t _)
  · obtain rfl := yeq y x 0 (by simp at h0 ⊢; omega) h1 h2
    open_payloads
    pointwise [part, k0_pay2, k0_pay1]
    exact congrArg (· + _) (b0 m c t _)

/-- One term of the normalized half. -/
def normT (ys : S128x1024.Idx → EReal) (nw : S1x1024.Idx → EReal) (r : Fin 128) (g : Fin 2) (k : Fin 512) : EReal :=
  ys (ix2 r ⟨g.val * 512 + k.val, by omega⟩)
    * Ideal.rsqrt (Ideal.div (∑ u : Fin 512, ys (ix2 r ⟨g.val * 512 + u.val, by omega⟩) * ys (ix2 r ⟨g.val * 512 + u.val, by omega⟩))
        (Ideal.ofBits FTy.f32 1140850688#32) + Ideal.ofBits FTy.f32 897988541#32)
    * nw (ix2 0 ⟨g.val * 512 + k.val, by omega⟩)

theorem cmp_norm (t : Fin cfg0.N) : Scalar.cmpi CmpIPredicate.slt (BitVec.ofNat 32 ((grid0.coords t) 0).val) 2#32
    = if t.val < 2 then 1#1 else 0#1 :=
  (by decide +kernel : ∀ t : Fin grid0.N, Scalar.cmpi CmpIPredicate.slt (BitVec.ofNat 32 ((grid0.coords t) 0).val) 2#32
    = if t.val < 2 then 1#1 else 0#1) t

theorem part_norm (c : Dev nD) (t : Fin cfg0.N) (h : t.val < 2) (r : Fin 128) (j : Fin 2048) : part m c t (ix2 r j)
    = ∑ k : Fin 512, normT (m ((c : Thread nD τ).loc main_arg1)) (m ((c : Thread nD τ).loc main_arg3)) r ⟨t.val, h⟩ k
        * aw m c (ix2 ⟨t.val * 512 + k.val, by omega⟩ j) := by
  pointwise [part, k0_pay2, k0_pay1]
  have hm : min t.val 1 = t.val := by omega
  rw [cmp_norm, if_pos h]
  simp only [b1, b3, b4, hm]
  rfl

theorem part_att (c : Dev nD) (t : Fin cfg0.N) (h : ¬ t.val < 2) (r : Fin 128) (j : Fin 2048) : part m c t (ix2 r j)
    = ∑ k : Fin 512, ay m c (ix2 r ⟨(t.val - 2) * 512 + k.val, by have := ht t; omega⟩)
        * aw m c (ix2 ⟨t.val * 512 + k.val, by have := ht t; omega⟩ j) := by
  pointwise [part, k0_pay2, k0_pay1]
  rw [cmp_norm, if_neg h]
  simp only [b2, b4]
  rfl

theorem sum_two (f : Fin 1024 → EReal) : ∑ i, f i = (∑ k : Fin 512, f ⟨k.val, by omega⟩) + ∑ k : Fin 512, f ⟨512 + k.val, by omega⟩ :=
  Fin.sum_univ_add (a := 512) (b := 512) f

open Cert.OutSRefIdeal.Read in
theorem ref_pt (x0 : FVec Ideal S8x4x2048 .f32) (x1 : FVec Ideal S128x1024 .f32) (x2 : FVec Ideal S128x1024 .bf16) (x3 : FVec Ideal S1x1024 .f32) (x4 : FVec Ideal S2048x2048 .f32)
    (b : Fin 8) (q : Fin 4) (j : Fin 2048) : val_main_v24 (F := Ideal) x0 x1 x2 x3 x4 (ix3 b q j)
    = x0 (ix3 b q j)
      + (((∑ k : Fin 512, normT x1 x3 ⟨b.val * 16 + q.val, by omega⟩ 0 k * x4 (ix2 ⟨0 * 512 + k.val, by omega⟩ j))
        + ∑ k : Fin 512, normT x1 x3 ⟨b.val * 16 + q.val, by omega⟩ 1 k * x4 (ix2 ⟨1 * 512 + k.val, by omega⟩ j))
      + ((∑ k : Fin 512, x2 (ix2 ⟨b.val * 16 + q.val, by omega⟩ ⟨0 * 512 + k.val, by omega⟩) * x4 (ix2 ⟨2 * 512 + k.val, by omega⟩ j))
        + ∑ k : Fin 512, x2 (ix2 ⟨b.val * 16 + q.val, by omega⟩ ⟨1 * 512 + k.val, by omega⟩) * x4 (ix2 ⟨3 * 512 + k.val, by omega⟩ j))) := by
  pointwise [val_main_v24, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  refine congrArg₂ (· + ·) rfl ?_
  refine congrArg₂ (· + ·) ((sum_two _).trans ?_) ((sum_two _).trans ?_)
  · refine congrArg₂ (· + ·) (Finset.sum_congr rfl fun k _ => ?_) (Finset.sum_congr rfl fun k _ => ?_)
    · have e1 : k.val / 512 = 0 := by omega
      have e2 : k.val % 512 = k.val := by omega
      simp only [normT, e1, e2]
      simp
    · have e1 : (512 + k.val) / 512 = 1 := by omega
      have e2 : (512 + k.val) % 512 = k.val := by omega
      simp only [normT, e1, e2]
      simp
  · refine congrArg₂ (· + ·) (Finset.sum_congr rfl fun k _ => ?_) (Finset.sum_congr rfl fun k _ => ?_)
    · simp
    · have e : 1024 + (512 + k.val) = 3 * 512 + k.val := by omega
      simp only [e]

theorem regroup (x p q r s : EReal) : x + p + q + r + s = x + ((p + q) + (r + s)) := by
  simp only [add_assoc]

open Cert.OutSRefIdeal.Read in
/-- What the block holds after the last point. -/
theorem last_pt (c : Dev nD) (b : Fin 8) (q : Fin 4) (j : Fin 2048) :
    (outsAt0 m c 3 (by decide)).2 (ix3 b q j)
      = val_main_v24 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix3 b q j) := by
  have e3 := stepB m c ⟨3, by decide⟩ (by decide) (by decide) (ix3 b q j)
  have e2 := stepB m c ⟨2, by decide⟩ (by decide) (by decide) (ix3 b q j)
  have e1 := stepB m c ⟨1, by decide⟩ (by decide) (by decide) (ix3 b q j)
  have e0 := stepA m c ⟨0, by decide⟩ (by decide) (by decide) (ix3 b q j)
  have p0 := part_norm m c ⟨0, by decide⟩ (by decide) ⟨b.val * 16 + q.val, by omega⟩ j
  have p1 := part_norm m c ⟨1, by decide⟩ (by decide) ⟨b.val * 16 + q.val, by omega⟩ j
  have p2 := part_att m c ⟨2, by decide⟩ (by decide) ⟨b.val * 16 + q.val, by omega⟩ j
  have p3 := part_att m c ⟨3, by decide⟩ (by decide) ⟨b.val * 16 + q.val, by omega⟩ j
  refine (e3.trans (congrArg₂ (· + ·) (e2.trans (congrArg₂ (· + ·) (e1.trans (congrArg₂ (· + ·)
    (e0.trans (congrArg (ax m c (ix3 b q j) + ·) p0)) p1)) p2)) p3)).trans ?_
  refine Eq.trans ?_ (ref_pt _ _ _ _ _ b q j).symm
  exact regroup _ _ _ _ _

open Cert.OutSRefIdeal.Read in
/-- The layer's output. -/
theorem final6 (c : Dev nD) : (dats m 0 c).arrAt 6 (cfgs 0).N
      = val_main_v24 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_after_last 6 t0_3 (by decide +kernel) _ fun y => ?_
  blk_simp
  rw [after0_6]
  have hy : (y : S8x4x2048.Idx) = ix3 (y 0) (y 1) (y 2) := by
    funext a
    match a with
    | ⟨0, _⟩ => rfl
    | ⟨1, _⟩ => rfl
    | ⟨2, _⟩ => rfl
  rw [hy]
  exact last_pt m c (y 0) (y 1) (y 2)

open Cert.OutSRefIdeal.Read in
/-- The weight after its cast. -/
theorem final5 (c : Dev nD) : (dats m 0 c).arrAt 5 (cfgs 0).N
      = val_main_v23 (F := Ideal) (m ((c : Thread nD τ).loc main_arg4)) := by
  refine (dats m 0 c).arrAt_eq_of_covers 5 _ (by decide +kernel) fun t hf y => ?_
  blk_simp
  rw [after0_5]
  by_cases h0 : t.val = 0
  · rw [outsAt0_A m c t (by omega) (by omega)]
    frame_out
    pointwise [k0_pay1, val_main_v23]
    rw [b4]
    blk_point [idx t]
  · rw [outsAt0_B m c t (by have := ht t; omega) (by omega)]
    frame_out
    pointwise [k0_pay1, val_main_v23]
    rw [b4]
    blk_point [idx t]

end Cert.OutSIdeal.Val

end
-- ==== Proof.SsdSRead.lean ====
module

public import proofs.«01_k».proof.Proof.Gen.SsdSIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SsdSIdeal.Val

open Cert.SsdSIdeal Cert.SsdSIdeal.Gen

variable (m : (ℓ : Loc nD τ sig) → Buf (Elt Ideal) ℓ)

section Reads

variable {sg : RefSig} {κ : Kind} {sp : Space} {s : Shape} {e : EltTy} {Val : EltTy → Type}

/-- A store that a load does not touch is left out, whatever was stored after it. -/
theorem canon_cons_congr [∀ e, Nonempty (Val e)] (p : View.Piece Val s e) (L L' : List (View.Piece Val s e)) (y : s.Idx)
    (h : View.canon L y = View.canon L' y) : View.canon (p :: L) y = View.canon (p :: L') y := by
  by_cases hy : y ∈ p.1.set
  · obtain ⟨r, w⟩ := p
    obtain ⟨x, rfl⟩ : ∃ x, r.emb x = y := r.exists_idx_of_mem hy
    rw [View.canon_cons_emb, View.canon_cons_emb]
  · rw [View.canon_cons_of_not_mem p L hy, View.canon_cons_of_not_mem p L' hy, h]

theorem readCov_congr [∀ e, Nonempty (Val e)] (v : View sg κ sp s e) (p : View.Piece Val s e) (L L' : List (View.Piece Val s e))
    (B : LoadRect s) (h : v.readCov L B = v.readCov L' B) : v.readCov (p :: L) B = v.readCov (p :: L') B := by
  rw [View.readCov_eq_canon', View.readCov_eq_canon'] at h ⊢
  funext j
  exact canon_cons_congr p L L' _ (congrFun h j)

theorem readCov_skip1 [∀ e, Nonempty (Val e)] (v : View sg κ sp s e) (p : View.Piece Val s e) (r : Rect s)
    (w : r.shape.Idx → Val e) (L : List (View.Piece Val s e)) (B : LoadRect s) (h : LoadRect.disj r B = true) :
    v.readCov (p :: ⟨r, w⟩ :: L) B = v.readCov (p :: L) B :=
  readCov_congr v p _ _ B (View.readCov_skip v r w L B h)

theorem readCov_skip2 [∀ e, Nonempty (Val e)] (v : View sg κ sp s e) (p q : View.Piece Val s e) (r : Rect s)
    (w : r.shape.Idx → Val e) (L : List (View.Piece Val s e)) (B : LoadRect s) (h : LoadRect.disj r B = true) :
    v.readCov (p :: q :: ⟨r, w⟩ :: L) B = v.readCov (p :: q :: L) B :=
  readCov_congr v p _ _ B (readCov_skip1 v q r w L B h)

theorem readCov_skip3 [∀ e, Nonempty (Val e)] (v : View sg κ sp s e) (p q o : View.Piece Val s e) (r : Rect s)
    (w : r.shape.Idx → Val e) (L : List (View.Piece Val s e)) (B : LoadRect s) (h : LoadRect.disj r B = true) :
    v.readCov (p :: q :: o :: ⟨r, w⟩ :: L) B = v.readCov (p :: q :: o :: L) B :=
  readCov_congr v p _ _ B (readCov_skip2 v q o r w L B h)

theorem readCov_skip4 [∀ e, Nonempty (Val e)] (v : View sg κ sp s e) (p q o o' : View.Piece Val s e) (r : Rect s)
    (w : r.shape.Idx → Val e) (L : List (View.Piece Val s e)) (B : LoadRect s) (h : LoadRect.disj r B = true) :
    v.readCov (p :: q :: o :: o' :: ⟨r, w⟩ :: L) B = v.readCov (p :: q :: o :: o' :: L) B :=
  readCov_congr v p _ _ B (readCov_skip3 v q o o' r w L B h)

end Reads

theorem mem_unit {s : Shape} {off sz : Fin s.rank → ℕ} (h) (y : s.Idx) (x : (Rect.unit (s := s) off sz h).shape.Idx)
    (hx : ∀ a, (y a : ℕ) = off a + (x a : ℕ)) : (Rect.unit (s := s) off sz h).emb x = y := by
  funext a
  apply Fin.ext
  rw [hx a, Rect.emb_apply]
  simp [Rect.unit]

theorem canon_hit {s : Shape} {e : EltTy} {Val : EltTy → Type} [∀ e, Nonempty (Val e)] (r : Rect s) (w : r.shape.Idx → Val e) (L : List (View.Piece Val s e)) (y : s.Idx)
    (x : r.shape.Idx) (hx : r.emb x = y) : View.canon (⟨r, w⟩ :: L) y = w x := by
  rw [← hx, View.canon_cons_emb]

theorem canon_miss {s : Shape} {e : EltTy} {Val : EltTy → Type} [∀ e, Nonempty (Val e)] {off sz : Fin s.rank → ℕ} (h) (w) (L : List (View.Piece Val s e)) (y : s.Idx)
    (a : Fin s.rank) (hx : (y a : ℕ) < off a ∨ off a + sz a ≤ (y a : ℕ)) :
    View.canon (⟨Rect.unit (s := s) off sz h, w⟩ :: L) y = View.canon L y := by
  apply View.canon_cons_of_not_mem
  intro hm
  obtain ⟨x, hx'⟩ := (Rect.unit (s := s) off sz h).exists_idx_of_mem hm
  have h1 : (y a : ℕ) = off a + (x a : ℕ) := by rw [← hx']; simp [Rect.unit, LoadRect.idx]
  have h2 : (x a : ℕ) < sz a := (x a).isLt
  omega

theorem xe_at (v : View sig .tc .vmem S4x32x1536 .f32) (s c0 : ℕ) (h1) (h2) (h3) (W : FVec Ideal S1x16x1536 .f32)
    (W' : FVec Ideal S1x8x1536 .f32) (hc : c0 + 256 ≤ 1536) (r : Fin 24) (j : Fin 256) :
    v.readCov (Val := Elt Ideal) [⟨Rect.unit (s := S4x32x1536) ![s, 8, 0] ![1, 16, 1536] h1, W⟩,
        ⟨Rect.unit (s := S4x32x1536) ![s, 0, 0] ![1, 8, 1536] h2, W'⟩]
      (Rect.unit (s := S4x32x1536) ![s, 0, c0] ![1, 24, 256] h3).toLoadRect (ix3 0 r j)
    = if h : r.val < 8 then W' (ix3 0 ⟨r.val, h⟩ ⟨c0 + j.val, by omega⟩) else W (ix3 0 ⟨r.val - 8, by omega⟩ ⟨c0 + j.val, by omega⟩) := by
  rw [View.readCov_eq_canon']
  split
  · refine (canon_miss _ _ _ _ 1 (Or.inl ?_)).trans (canon_hit _ _ _ _ _ (mem_unit _ _ _ fun a => ?_))
    · simp [Rect.unit, LoadRect.idx, ix3]; omega
    · fin_cases a <;> simp [Rect.unit, LoadRect.idx, ix3]
  · refine canon_hit _ _ _ _ _ (mem_unit _ _ _ fun a => ?_)
    fin_cases a <;> simp [Rect.unit, LoadRect.idx, ix3]; omega

theorem sq_idx (s a0 n0 : ℕ) (h4) (h5) (hn) (hs) (hp) (hq) (r : Fin 16) (j : Fin n0) (a : Fin 3) :
    (((Rect.unit (s := S4x16x1536) ![s, 0, 0] ![1, 16, 1536] h4).withinL
              ((Rect.unit (s := S16x1536) ![0, a0] ![16, n0] h5).toLoadRect.consLift ![1, 16, 1536] hn hs)
              hp).idx (Shape.reshapeEquiv hq (ix2 r j)) a : ℕ) = (![s, r.val, a0 + j.val] : Fin 3 → ℕ) a := by
  have e := Shape.reshapeEquiv_cons_one (n := 2) (d := ![16, n0]) hq (ix2 r j)
  refine (congrArg (fun q => ((((Rect.unit (s := S4x16x1536) ![s, 0, 0] ![1, 16, 1536] h4).withinL
              ((Rect.unit (s := S16x1536) ![0, a0] ![16, n0] h5).toLoadRect.consLift ![1, 16, 1536] hn hs)
              hp).idx q a : Fin _) : ℕ)) e).trans ?_
  fin_cases a
  · show s + 0 + 1 * 0 = s
    omega
  · show 0 + 0 + 1 * r.val = r.val
    omega
  · show 0 + a0 + 1 * j.val = a0 + j.val
    omega

theorem xs_at (v : View sig .tc .vmem S4x16x1536 .f32) (s : ℕ) (h0) (h1) (h2) (h3) (h4) (hs) (hn) (hp) (h5) (hq) (W0 W1 W2 W3 : FVec Ideal S1x16x256 .f32)
    (r : Fin 16) (j : Fin 1024) :
    (LoadRect.valAlong (s' := S16x1536) (s₀ := ⟨3, ![1, 16, 1536]⟩) (lr := (Rect.unit (s := S16x1536) ![0, 0] ![16, 1024] h5).toLoadRect) hq (v.readCov (Val := Elt Ideal) [⟨Rect.unit (s := S4x16x1536) ![s, 0, 768] ![1, 16, 256] h3, W3⟩,
        ⟨Rect.unit (s := S4x16x1536) ![s, 0, 512] ![1, 16, 256] h2, W2⟩,
        ⟨Rect.unit (s := S4x16x1536) ![s, 0, 256] ![1, 16, 256] h1, W1⟩,
        ⟨Rect.unit (s := S4x16x1536) ![s, 0, 0] ![1, 16, 256] h0, W0⟩]
      ((Rect.unit (s := S4x16x1536) ![s, 0, 0] ![1, 16, 1536] h4).withinL
              ((Rect.unit (s := S16x1536) ![0, 0] ![16, 1024] h5).toLoadRect.consLift ![1, 16, 1536] hn hs)
              hp)) : FVec Ideal S16x1024 .f32) (ix2 r j)
    = (if j.val < 256 then W0 else if j.val < 512 then W1 else if j.val < 768 then W2 else W3) (ix3 0 r ⟨j.val % 256, by omega⟩) := by
  show v.readCov (Val := Elt Ideal) _ _ (Shape.reshapeEquiv _ (ix2 r j)) = _
  rw [View.readCov_eq_canon']
  have hx := sq_idx s 0 1024 h4 h5 hn hs hp hq r j
  obtain ⟨y, hy⟩ : ∃ y : S4x16x1536.Idx, y = ((Rect.unit (s := S4x16x1536) ![s, 0, 0] ![1, 16, 1536] h4).withinL
              ((Rect.unit (s := S16x1536) ![0, 0] ![16, 1024] h5).toLoadRect.consLift ![1, 16, 1536] hn hs)
              hp).idx (Shape.reshapeEquiv hq (ix2 r j)) := ⟨_, rfl⟩
  have y0 : (y 0 : ℕ) = s := by rw [hy]; exact hx 0
  have y1 : (y 1 : ℕ) = r.val := by rw [hy]; exact hx 1
  have y2 : (y 2 : ℕ) = 0 + j.val := by rw [hy]; exact hx 2
  refine (congrArg (View.canon _) hy.symm).trans ?_
  have hit : ∀ (c : ℕ) (h) (W : FVec Ideal S1x16x256 .f32) (L : List (View.Piece (Elt Ideal) S4x16x1536 .f32)), c ≤ j.val → j.val < c + 256 → c % 256 = 0 →
      View.canon (Val := Elt Ideal) (⟨Rect.unit (s := S4x16x1536) ![s, 0, c] ![1, 16, 256] h, W⟩ :: L) y = W (ix3 0 r ⟨j.val % 256, by omega⟩) := by
    intro c h W L h1 h2 h3
    refine canon_hit _ _ _ _ _ (mem_unit _ _ _ fun a => ?_)
    fin_cases a
    · simpa using y0
    · simpa using y1
    · show (y 2 : ℕ) = c + j.val % 256
      omega
  have miss : ∀ (c : ℕ) (h) (W : FVec Ideal S1x16x256 .f32) (L : List (View.Piece (Elt Ideal) S4x16x1536 .f32)), j.val < c ∨ c + 256 ≤ j.val →
      View.canon (Val := Elt Ideal) (⟨Rect.unit (s := S4x16x1536) ![s, 0, c] ![1, 16, 256] h, W⟩ :: L) y = View.canon L y := by
    intro c h W L h1
    refine canon_miss _ _ _ _ 2 ?_
    show (y 2 : ℕ) < c ∨ c + 256 ≤ (y 2 : ℕ)
    omega
  split
  · exact (miss _ _ _ _ (by omega)).trans ((miss _ _ _ _ (by omega)).trans ((miss _ _ _ _ (by omega)).trans (hit _ _ _ _ (by omega) (by omega) (by omega))))
  · split
    · exact (miss _ _ _ _ (by omega)).trans ((miss _ _ _ _ (by omega)).trans (hit _ _ _ _ (by omega) (by omega) (by omega)))
    · split
      · exact (miss _ _ _ _ (by omega)).trans (hit _ _ _ _ (by omega) (by omega) (by omega))
      · exact hit _ _ _ _ (by omega) (by omega) (by omega)

theorem xb_at (v : View sig .tc .vmem S4x16x1536 .f32) (s : ℕ) (h0) (h4) (hs) (hn) (hp) (h5) (hq) (W0 : FVec Ideal S1x16x256 .f32)
    (r : Fin 16) (j : Fin 256) :
    (LoadRect.valAlong (s' := S16x1536) (s₀ := ⟨3, ![1, 16, 1536]⟩) (lr := (Rect.unit (s := S16x1536) ![0, 1024] ![16, 256] h5).toLoadRect) hq (v.readCov (Val := Elt Ideal) [⟨Rect.unit (s := S4x16x1536) ![s, 0, 1024] ![1, 16, 256] h0, W0⟩]
      ((Rect.unit (s := S4x16x1536) ![s, 0, 0] ![1, 16, 1536] h4).withinL
              ((Rect.unit (s := S16x1536) ![0, 1024] ![16, 256] h5).toLoadRect.consLift ![1, 16, 1536] hn hs)
              hp)) : FVec Ideal S16x256 .f32) (ix2 r j)
    = W0 (ix3 0 r j) := by
  show v.readCov (Val := Elt Ideal) _ _ (Shape.reshapeEquiv _ (ix2 r j)) = _
  rw [View.readCov_eq_canon']
  have hx := sq_idx s 1024 256 h4 h5 hn hs hp hq r j
  refine canon_hit _ _ _ _ _ (mem_unit _ _ _ fun a => ?_)
  rw [hx a]
  fin_cases a <;> simp [ix3]

end Cert.SsdSIdeal.Val

end
-- ==== Proof.SsdMath.lean ====
module

public import proofs.«01_k».proof.Proof.AttMath

@[expose] public section

noncomputable section

open Idealize.ShloMosaic

namespace Cert.Ssd

/-- The rounded log2(e) of the kernel. -/
def L2E : ℝ := 12102203 / 8388608

theorem l2e_bits : Ideal.ofBits .f32 0x3FB8AA3B#32 = (L2E : EReal) := by
  simp [Ideal.ofBits, Ideal.ieee, -EReal.coe_mul, L2E]; norm_num

theorem half_bits : Ideal.ofBits .f32 0x3F000000#32 = ((1 / 2 : ℝ) : EReal) := by
  simp [Ideal.ofBits, Ideal.ieee, -EReal.coe_mul]; norm_num

/-- Softplus of a real number. -/
def sp (x : ℝ) : ℝ := max x 0 + Real.log (1 + Real.exp (-|x|))

/-- Silu of a real number. -/
def sil (x : ℝ) : ℝ := x * (1 + Real.exp (-x))⁻¹

theorem coe_max (x y : ℝ) : ((max x y : ℝ) : EReal) = max (x : EReal) y := EReal.coe_strictMono.monotone.map_max

theorem absf_coe (x : ℝ) : (@FloatOps.absf Ideal _ .f32 (x : EReal) : EReal) = ((|x| : ℝ) : EReal) := by
  show max (x : EReal) (-(x : EReal)) = _
  rw [← EReal.coe_neg, ← coe_max]; rfl

theorem sp_of (x : ℝ) : max (x : EReal) 0 + Ideal.log1p (Ideal.exp (0 - (@FloatOps.absf Ideal _ .f32 (x : EReal) : EReal))) = (sp x : EReal) := by
  rw [absf_coe, ← EReal.coe_zero, ← EReal.coe_sub, Ideal.exp_coe, Ideal.log1p, ← EReal.coe_one, ← EReal.coe_add, Ideal.log_coe,
    if_neg (not_le.2 (by positivity)), ← coe_max, ← EReal.coe_add, sp, zero_sub]

theorem sp_neg (x : ℝ) : max (x : EReal) 0 + Ideal.log1p (Ideal.exp (-(@FloatOps.absf Ideal _ .f32 (x : EReal) : EReal))) = (sp x : EReal) := by
  have h := sp_of x
  rwa [zero_sub] at h

theorem sil_half (x : ℝ) : ((1 / 2 : ℝ) : EReal) * x * Ideal.tanh (((1 / 2 : ℝ) : EReal) * x) + ((1 / 2 : ℝ) : EReal) * x = (sil x : EReal) := by
  rw [← EReal.coe_mul, Ideal.tanh_coe, ← EReal.coe_mul, ← EReal.coe_add, EReal.coe_eq_coe_iff, sil, Real.tanh_eq_sinh_div_cosh,
    Real.sinh_eq, Real.cosh_eq]
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have h3 := Real.exp_pos (1 / 2 * x)
  have h4 := Real.exp_pos (-(1 / 2 * x))
  rw [h1]
  generalize Real.exp (1 / 2 * x) = a at *
  generalize Real.exp (-(1 / 2 * x)) = b at *
  have hb : b = a⁻¹ := by field_simp; linarith
  subst hb
  have h5 : (1 + a⁻¹ * a⁻¹) ≠ 0 := by positivity
  have h6 : a + a⁻¹ ≠ 0 := by positivity
  field_simp
  ring

theorem sil_div (x : ℝ) : (x : EReal) * Ideal.div 1 (1 + Ideal.exp (-(x : EReal))) = (sil x : EReal) := by
  rw [← EReal.coe_neg, Ideal.exp_coe, ← EReal.coe_one, ← EReal.coe_add, Ideal.div_coe (by positivity), ← EReal.coe_mul, ← EReal.coe_mul, sil]
  congr 1
  ring

/-- The decay of a row, at one head: its time step times the head's rate. -/
def dta (f : Fin 4 → ℝ) (a : ℝ) (l : Fin 4) : ℝ := sp (f l) * ((-Real.exp a) * L2E)

/-- Its running sum. -/
def cm (f : Fin 4 → ℝ) (a : ℝ) (s : Fin 4) : ℝ := ∑ l : Fin 4, if l.val ≤ s.val then dta f a l else 0

/-- The weight of a row in the state after the four rows. -/
def wt (f : Fin 4 → ℝ) (a : ℝ) (l : Fin 4) : ℝ := Att.ex (cm f a 3 - cm f a l) * sp (f l)

/-- A causal convolution over four rows, and its silu. -/
def cv (w : Fin 4 → ℝ) (x : Fin 4 → ℝ) (b : ℝ) : ℝ := sil (w 0 * x 0 + w 1 * x 1 + w 2 * x 2 + w 3 * x 3 + b)

theorem sub_self_coe (x : ℝ) : (x : EReal) - (x : EReal) = 0 := by
  rw [← EReal.coe_sub, sub_self, EReal.coe_zero]

/-- A sum against a column of zeros but for a one. -/
theorem sum_pick (q : Fin 128) (g : Fin 128 → EReal) : ∑ x : Fin 128, g x * (if x.val = q.val then 1 else 0) = g q := by
  rw [Finset.sum_eq_single q]
  · simp
  · intro x _ hx
    rw [if_neg (fun h => hx (Fin.ext h)), mul_zero]
  · simp

/-- The sum of sixteen rows of which all but four are zero. -/
theorem sum_four (g : Fin 16 → EReal) (h : ∀ r : Fin 16, 4 ≤ r.val → g r = 0) : ∑ r : Fin 16, g r = ∑ l : Fin 4, g ⟨l.val, by omega⟩ := by
  have e : ∑ r : Fin 16, g r = (∑ i : Fin 4, g (Fin.castAdd 12 i)) + ∑ i : Fin 12, g (Fin.natAdd 4 i) := Fin.sum_univ_add (a := 4) (b := 12) g
  rw [e, Finset.sum_eq_zero (s := (Finset.univ : Finset (Fin 12))) (fun i _ => h _ (by simp)), add_zero]
  rfl

/-- The row that a tap of the convolution reads: one of the last three before the step, or one of the step's. -/
def row (f0 : Fin 128 → Fin 1536 → ℝ) (f3 : Fin 8 → Fin 8 → Fin 1536 → ℝ) (b : Fin 8) (s : Fin 4) (j : Fin 1536) (k : Fin 4) : ℝ :=
  if h : k.val + s.val < 3 then f3 b ⟨5 + (k.val + s.val), by omega⟩ j else f0 ⟨b.val * 16 + (k.val + s.val - 3), by omega⟩ j

/-- The convolution and its silu at one row and one column. -/
def cvv (f0 : Fin 128 → Fin 1536 → ℝ) (f3 : Fin 8 → Fin 8 → Fin 1536 → ℝ) (f5 : Fin 8 → Fin 1536 → ℝ) (f6 : Fin 1536 → ℝ)
    (b : Fin 8) (s : Fin 4) (j : Fin 1536) : ℝ :=
  cv (fun k => f5 ⟨k.val, by omega⟩ j) (row f0 f3 b s j) (f6 j)

/-- The time steps of a sequence at one head, before their softplus. -/
def tm (f1 : Fin 128 → Fin 128 → ℝ) (f7 : Fin 128 → ℝ) (b : Fin 8) (k : Fin 128) (l : Fin 4) : ℝ :=
  f1 ⟨b.val * 16 + l.val, by omega⟩ k + f7 k

/-- The state after the step, from the state before it. -/
def res (f0 : Fin 128 → Fin 1536 → ℝ) (f1 : Fin 128 → Fin 128 → ℝ) (f3 : Fin 8 → Fin 8 → Fin 1536 → ℝ) (f5 : Fin 8 → Fin 1536 → ℝ)
    (f6 : Fin 1536 → ℝ) (f7 f8 : Fin 128 → ℝ) (h0 : EReal) (b : Fin 8) (p : Fin 1024) (n : Fin 128) : EReal :=
  h0 * (Att.ex (cm (tm f1 f7 b ⟨p.val / 64, by omega⟩) (f8 ⟨p.val / 64, by omega⟩) 3) : EReal)
    + ∑ l : Fin 4, (cvv f0 f3 f5 f6 b l ⟨1024 + (p.val / 512 * 128 + n.val), by omega⟩ : EReal)
      * ((cvv f0 f3 f5 f6 b l ⟨p.val, by omega⟩ : EReal) * (wt (tm f1 f7 b ⟨p.val / 64, by omega⟩) (f8 ⟨p.val / 64, by omega⟩) l : EReal))

end Cert.Ssd

end
-- ==== Proof.SsdSPay.lean ====
module

public import proofs.«01_k».proof.Proof.Gen.SsdSIdeal.Value
public import Idealize.ShloMosaic.Lib.Pipeline.ValueKit
public import Idealize.ShloMosaic.Lib.Pipeline.ReadBack
public import proofs.«01_k».proof.Proof.SsdMath

@[expose] public section

set_option maxRecDepth 16384

noncomputable section

open Idealize.ShloMosaic Idealize.ShloMosaic.TcCoe Idealize.SL.Sem
open Idealize.ShloMosaic.Pipeline (Dat)

namespace Cert.SsdSIdeal.Val

open Cert.Ssd Cert.SsdSIdeal Cert.SsdSIdeal.Gen

theorem p22 (v5 : FVec Ideal S1x16x128 .f32) (v7 : FVec Ideal S1x128 .f32) (r : Fin 16) (k : Fin 128) (d b : ℝ)
    (hd : v5 (ix3 0 r k) = (d : EReal)) (hb : v7 (ix2 0 k) = (b : EReal)) :
    k0_pay22 (F := Ideal) v5 v7 (ix2 r k) = if k.val < 16 ∧ r.val < 4 then (sp (d + b) : EReal) else 0 := by
  have hm : Scalar.select (α := EReal) (IntOp.andi (IntOp.cmpi CmpIPredicate.slt (BitVec.ofNat 32 k.val) 16#32)
        (IntOp.cmpi CmpIPredicate.slt (BitVec.ofNat 32 r.val) 4#32)) = fun x y => if k.val < 16 ∧ r.val < 4 then x else y := by
    have h1 : ∀ k : Fin 128, IntOp.cmpi CmpIPredicate.slt (BitVec.ofNat 32 k.val) 16#32 = if k.val < 16 then 1#1 else 0#1 := by decide +kernel
    have h2 : ∀ r : Fin 16, IntOp.cmpi CmpIPredicate.slt (BitVec.ofNat 32 r.val) 4#32 = if r.val < 4 then 1#1 else 0#1 := by decide +kernel
    rw [h1 k, h2 r]
    funext x y
    by_cases h : k.val < 16 <;> by_cases h' : r.val < 4 <;> simp [h, h', Scalar.select, IntOp.andi]
  pointwise [k0_pay22]
  rw [hm]
  simp only [hd, hb, ← EReal.coe_add]
  rw [if_neg (not_not.2 rfl), sp_of]

theorem p23 (v5 : FVec Ideal S1x16x128 .f32) (v7 v8 : FVec Ideal S1x128 .f32) (r : Fin 16) (k : Fin 128) (d b a : ℝ)
    (hd : v5 (ix3 0 r k) = (d : EReal)) (hb : v7 (ix2 0 k) = (b : EReal)) (ha : v8 (ix2 0 k) = (a : EReal)) :
    k0_pay23 (F := Ideal) v5 v7 v8 (ix2 r k) = if k.val < 16 ∧ r.val < 4 then ((sp (d + b) * ((-Real.exp a) * L2E) : ℝ) : EReal) else 0 := by
  pointwise [k0_pay23]
  rw [p22 v5 v7 r k d b hd hb, ha, l2e_bits, Ideal.exp_coe, zero_sub, ← EReal.coe_neg, ← EReal.coe_mul]
  split
  · rw [← EReal.coe_mul]
  · rw [zero_mul]

theorem p25 (v5 : FVec Ideal S16x128 .f32) (r : Fin 16) (k : Fin 128) (f : Fin 16 → ℝ) (hf : ∀ x, v5 (ix2 x k) = (f x : EReal)) :
    k0_pay25 (F := Ideal) v5 (ix2 r k) = ((∑ x : Fin 16, if x.val ≤ r.val then f x else 0 : ℝ) : EReal) := by
  have h1 : ∀ r x : Fin 16, IntOp.cmpi CmpIPredicate.sge (BitVec.ofNat 32 r.val) (BitVec.ofNat 32 x.val) = if x.val ≤ r.val then 1#1 else 0#1 := by
    decide +kernel
  have hs : ∀ (x : Fin 16) (u v : EReal), Scalar.select (if x.val ≤ r.val then 1#1 else 0#1) u v = if x.val ≤ r.val then u else v := by
    intro x u v; by_cases h : x.val ≤ r.val <;> simp [h, Scalar.select]
  pointwise [k0_pay25, k0_pay24]
  simp only [h1, hs, hf, sub_self_coe]
  rw [Att.coe_sum]
  simp only [sub_zero, sub_self, ite_self, Finset.sum_const_zero, add_zero]
  refine Finset.sum_congr (M := EReal) rfl fun x _ => ?_
  split <;> simp

theorem p26 (v5 : FVec Ideal S16x128 .f32) (k : Fin 128) :
    k0_pay26 (F := Ideal) v5 (ix2 0 k) = k0_pay25 (F := Ideal) v5 (ix2 15 k) := by
  pointwise [k0_pay26]

theorem p48 (k : Fin 128) (p : Fin 1024) :
    (k0_pay48 (F := Ideal) (ix2 k p) : EReal) = if k.val = p.val / 64 then 1 else 0 := by
  have hq : ∀ p : Fin 1024, (Scalar.select
          (IntOp.andi
            (IntOp.cmpi CmpIPredicate.ne
              (IntOp.subi (BitVec.setWidth 32 (IntOp.cmpi CmpIPredicate.sgt (BitVec.ofNat 32 ↑p) 0#32))
                (BitVec.setWidth 32 (IntOp.cmpi CmpIPredicate.slt (BitVec.ofNat 32 ↑p) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑p) 64#32) 0#32))
          (IntOp.subi (IntOp.divsi ArithUnit.vector (BitVec.ofNat 32 ↑p) 64#32) 1#32)
          (IntOp.divsi ArithUnit.vector (BitVec.ofNat 32 ↑p) 64#32)) = BitVec.ofNat 32 (p.val / 64) := by decide +kernel
  have hk : ∀ (q : Fin 16) (k : Fin 128), IntOp.cmpi CmpIPredicate.eq (BitVec.ofNat 32 q.val) (BitVec.ofNat 32 k.val)
      = if k.val = q.val then 1#1 else 0#1 := by decide +kernel
  pointwise [k0_pay48]
  rw [hq p, hk ⟨p.val / 64, by omega⟩ k]
  by_cases h : k.val = p.val / 64 <;> simp [h, Scalar.select]

theorem p53 (a b : FVec Ideal S16x128 .f32) (v7 : FVec Ideal S1x128 .f32) (r : Fin 16) (p : Fin 1024) (f g h : Fin 128 → ℝ)
    (hf : ∀ k, v7 (ix2 0 k) = (f k : EReal)) (hg : ∀ k, b (ix2 r k) = (g k : EReal)) (hh : ∀ k, a (ix2 r k) = (h k : EReal)) :
    k0_pay53 (F := Ideal) a b v7 k0_pay48 (ix2 r p) = ((Att.ex (f ⟨p.val / 64, by omega⟩ - g ⟨p.val / 64, by omega⟩) * h ⟨p.val / 64, by omega⟩ : ℝ) : EReal) := by
  have e : ∀ k, (FloatOps.exp2 (F := Ideal) (φ := .f32) (v7 (ix2 0 k) - b (ix2 r k)) : EReal) * a (ix2 r k) = ((Att.ex (f k - g k) * h k : ℝ) : EReal) := by
    intro k
    rw [hf, hg, hh, ← EReal.coe_sub, EReal.coe_mul]
    rfl
  pointwise [k0_pay53]
  simp only [e, sub_self_coe, zero_mul, Finset.sum_const_zero, add_zero, p48]
  exact sum_pick ⟨p.val / 64, by omega⟩ fun k => ((Att.ex (f k - g k) * h k : ℝ) : EReal)

theorem p54 (v7 : FVec Ideal S1x128 .f32) (p : Fin 1024) (f : Fin 128 → ℝ)
    (hf : ∀ k, v7 (ix2 0 k) = (f k : EReal)) :
    k0_pay54 (F := Ideal) v7 k0_pay48 (ix2 0 p) = ((Att.ex (f ⟨p.val / 64, by omega⟩) : ℝ) : EReal) := by
  have e : ∀ k, (FloatOps.exp2 (F := Ideal) (φ := .f32) (v7 (ix2 0 k)) : EReal) = ((Att.ex (f k) : ℝ) : EReal) := by
    intro k
    rw [hf]
    rfl
  pointwise [k0_pay54]
  simp only [e, sub_self_coe, zero_mul, Finset.sum_const_zero, add_zero, p48, sub_zero]
  exact sum_pick ⟨p.val / 64, by omega⟩ fun k => ((Att.ex (f k) : ℝ) : EReal)

theorem p339 (a : FVec Ideal S16x1024 .f32) (b : FVec Ideal S1x1024 .f32) (xs : Vec Ideal S16x1024 .f32) (xb : Vec Ideal S16x256 .f32) (h : FVec Ideal S1x512x128 .f32)
    (h1) (h2) (h3) (u : Fin 512) (n : Fin 128) :
    k0_pay16 (F := Ideal) (k0_pay339 (F := Ideal) a b xs xb (shapeCast S1x1x128x512 (transpose S128x512 [1, 0] (shapeCast S512x128 h h1) h2) h3)) (ix3 0 u n)
      = (h (ix3 0 u n) : EReal) * b (ix2 0 ⟨u.val, by omega⟩) + ∑ x : Fin 16, (xb (ix2 x ⟨n.val, by omega⟩) : EReal) * (xs (ix2 x ⟨u.val, by omega⟩) * a (ix2 x ⟨u.val, by omega⟩)) := by
  pointwise [k0_pay16, k0_pay339, k0_pay338]

theorem p340 (a : FVec Ideal S16x1024 .f32) (b : FVec Ideal S1x1024 .f32) (xs : Vec Ideal S16x1024 .f32) (xb : Vec Ideal S16x256 .f32) (h : FVec Ideal S1x512x128 .f32)
    (h1) (h2) (h3) (u : Fin 512) (n : Fin 128) :
    k0_pay16 (F := Ideal) (k0_pay340 (F := Ideal) a b xs xb (shapeCast S1x1x128x512 (transpose S128x512 [1, 0] (shapeCast S512x128 h h1) h2) h3)) (ix3 0 u n)
      = (h (ix3 0 u n) : EReal) * b (ix2 0 ⟨512 + u.val, by omega⟩) + ∑ x : Fin 16, (xb (ix2 x ⟨128 + n.val, by omega⟩) : EReal) * (xs (ix2 x ⟨512 + u.val, by omega⟩) * a (ix2 x ⟨512 + u.val, by omega⟩)) := by
  pointwise [k0_pay16, k0_pay340, k0_pay338]

theorem p91 (xe : FVec Ideal S1x24x256 .f32) (w3 w1 w2 w0 b : FVec Ideal S1x256 .f32) (r : Fin 16) (j : Fin 256) (x w : Fin 4 → ℝ) (bb : ℝ)
    (hx : ∀ l : Fin 4, xe (ix3 0 ⟨5 + r.val + l.val, by omega⟩ j) = (x l : EReal)) (h0 : w0 (ix2 0 j) = (w 0 : EReal)) (h1 : w1 (ix2 0 j) = (w 1 : EReal))
    (h2 : w2 (ix2 0 j) = (w 2 : EReal)) (h3 : w3 (ix2 0 j) = (w 3 : EReal)) (hb : b (ix2 0 j) = (bb : EReal)) :
    k0_pay91 (F := Ideal) xe w3 w1 w2 w0 b (ix3 0 r j) = (cv w x bb : EReal) := by
  pointwise [k0_pay91]
  have e3 : xe (ix3 0 ⟨8 + r.val, by omega⟩ j) = (x 3 : EReal) := by rw [← hx 3]; congr 2; apply Fin.ext; simp; omega
  have e1 : xe (ix3 0 ⟨(8 + r.val + 24 - 2) % 24, by omega⟩ j) = (x 1 : EReal) := by rw [← hx 1]; congr 2; apply Fin.ext; simp; omega
  have e2 : xe (ix3 0 ⟨(8 + r.val + 24 - 1) % 24, by omega⟩ j) = (x 2 : EReal) := by rw [← hx 2]; congr 2; apply Fin.ext; simp; omega
  have e0 : xe (ix3 0 ⟨((8 + r.val + 24 - 1) % 24 + 24 - 2) % 24, by omega⟩ j) = (x 0 : EReal) := by rw [← hx 0]; congr 2; apply Fin.ext; simp; omega
  rw [e3, e1, e2, e0, h0, h1, h2, h3, hb, half_bits]
  simp only [← EReal.coe_mul, ← EReal.coe_add]
  have := sil_half (w 3 * x 3 + w 1 * x 1 + (w 2 * x 2 + w 0 * x 0) + bb)
  simp only [← EReal.coe_mul] at this
  rw [this, cv]
  congr 2
  ring

end Cert.SsdSIdeal.Val

end
-- ==== Proof.SsdSCore.lean ====
module

public import proofs.«01_k».proof.Proof.SsdSPay

@[expose] public section

set_option maxRecDepth 16384

noncomputable section

open Idealize.ShloMosaic Idealize.ShloMosaic.TcCoe Idealize.SL.Sem
open Idealize.ShloMosaic.Pipeline (Dat)

namespace Cert.SsdSIdeal.Val

open Cert.Ssd Cert.SsdSIdeal Cert.SsdSIdeal.Gen

variable (f0 : Fin 128 → Fin 1536 → ℝ) (f1 : Fin 128 → Fin 128 → ℝ) (f3 : Fin 8 → Fin 8 → Fin 1536 → ℝ) (f5 : Fin 8 → Fin 1536 → ℝ)
  (f6 : Fin 1536 → ℝ) (f7 f8 : Fin 128 → ℝ) (b : Fin 8)

/-- The call's time steps: none past the four rows and the sixteen heads. -/
def dtr (r : Fin 16) (k : Fin 128) : ℝ := if k.val < 16 ∧ r.val < 4 then sp (f1 ⟨b.val * 16 + r.val, by omega⟩ k + f7 k) else 0

/-- The call's decays. -/
def dar (r : Fin 16) (k : Fin 128) : ℝ :=
  if k.val < 16 ∧ r.val < 4 then sp (f1 ⟨b.val * 16 + r.val, by omega⟩ k + f7 k) * ((-Real.exp (f8 k)) * L2E) else 0

/-- Their running sums. -/
def cur (r : Fin 16) (k : Fin 128) : ℝ := ∑ x : Fin 16, if x.val ≤ r.val then dar f1 f7 f8 b x k else 0

theorem sum_four_real (g : Fin 16 → ℝ) (h : ∀ r : Fin 16, 4 ≤ r.val → g r = 0) : ∑ r : Fin 16, g r = ∑ l : Fin 4, g ⟨l.val, by omega⟩ := by
  have e : ∑ r : Fin 16, g r = (∑ i : Fin 4, g (Fin.castAdd 12 i)) + ∑ i : Fin 12, g (Fin.natAdd 4 i) := Fin.sum_univ_add (a := 4) (b := 12) g
  rw [e, Finset.sum_eq_zero (s := (Finset.univ : Finset (Fin 12))) (fun i _ => h _ (by simp)), add_zero]
  rfl

theorem dar_zero (r : Fin 16) (k : Fin 128) (h : 4 ≤ r.val) : dar f1 f7 f8 b r k = 0 := if_neg (by omega)

theorem dtr_zero (r : Fin 16) (k : Fin 128) (h : 4 ≤ r.val) : dtr f1 f7 b r k = 0 := if_neg (by omega)

theorem dar_lt (l : Fin 4) (k : Fin 128) (hk : k.val < 16) : dar f1 f7 f8 b ⟨l.val, by omega⟩ k = dta (tm f1 f7 b k) (f8 k) l :=
  if_pos ⟨hk, l.isLt⟩

theorem dtr_lt (l : Fin 4) (k : Fin 128) (hk : k.val < 16) : dtr f1 f7 b ⟨l.val, by omega⟩ k = sp (tm f1 f7 b k l) :=
  if_pos ⟨hk, l.isLt⟩

theorem cur_lt (l : Fin 4) (k : Fin 128) (hk : k.val < 16) : cur f1 f7 f8 b ⟨l.val, by omega⟩ k = cm (tm f1 f7 b k) (f8 k) l := by
  unfold cur cm
  rw [sum_four_real _ fun r hr => by rw [dar_zero f1 f7 f8 b r k hr]; simp]
  exact Finset.sum_congr rfl fun l' _ => by rw [dar_lt f1 f7 f8 b l' k hk]

theorem cur_last (k : Fin 128) (hk : k.val < 16) : cur f1 f7 f8 b 15 k = cm (tm f1 f7 b k) (f8 k) 3 := by
  unfold cur cm
  rw [sum_four_real _ fun r hr => by rw [dar_zero f1 f7 f8 b r k hr]; simp]
  refine Finset.sum_congr rfl fun l' _ => ?_
  have h1 : l'.val ≤ (15 : Fin 16).val := by show l'.val ≤ 15; omega
  have h2 : l'.val ≤ (3 : Fin 4).val := by show l'.val ≤ 3; omega
  rw [dar_lt f1 f7 f8 b l' k hk, if_pos h1, if_pos h2]

section Final

theorem c22 (D : FVec Ideal S1x16x128 .f32) (B : FVec Ideal S1x128 .f32)
    (hD : ∀ (r : Fin 16) (k : Fin 128), D (ix3 0 r k) = (f1 ⟨b.val * 16 + r.val, by omega⟩ k : EReal))
    (hB : ∀ k : Fin 128, B (ix2 0 k) = (f7 k : EReal)) (r : Fin 16) (k : Fin 128) : k0_pay22 (F := Ideal) D B (ix2 r k) = (dtr f1 f7 b r k : EReal) := by
  rw [p22 D B r k _ _ (hD r k) (hB k), dtr]
  split <;> rfl

theorem c25 (D : FVec Ideal S1x16x128 .f32) (B A : FVec Ideal S1x128 .f32)
    (hD : ∀ (r : Fin 16) (k : Fin 128), D (ix3 0 r k) = (f1 ⟨b.val * 16 + r.val, by omega⟩ k : EReal))
    (hB : ∀ k : Fin 128, B (ix2 0 k) = (f7 k : EReal)) (hA : ∀ k : Fin 128, A (ix2 0 k) = (f8 k : EReal)) (r : Fin 16) (k : Fin 128) : k0_pay25 (F := Ideal) (k0_pay23 (F := Ideal) D B A) (ix2 r k) = (cur f1 f7 f8 b r k : EReal) := by
  refine p25 _ r k (fun x => dar f1 f7 f8 b x k) fun x => ?_
  rw [p23 D B A x k _ _ _ (hD x k) (hB k) (hA k), dar]
  split <;> rfl

theorem c53 (D : FVec Ideal S1x16x128 .f32) (B A : FVec Ideal S1x128 .f32)
    (hD : ∀ (r : Fin 16) (k : Fin 128), D (ix3 0 r k) = (f1 ⟨b.val * 16 + r.val, by omega⟩ k : EReal))
    (hB : ∀ k : Fin 128, B (ix2 0 k) = (f7 k : EReal)) (hA : ∀ k : Fin 128, A (ix2 0 k) = (f8 k : EReal)) (r : Fin 16) (p : Fin 1024) : k0_pay53 (F := Ideal) (k0_pay22 (F := Ideal) D B) (k0_pay25 (F := Ideal) (k0_pay23 (F := Ideal) D B A))
      (k0_pay26 (F := Ideal) (k0_pay23 (F := Ideal) D B A)) k0_pay48 (ix2 r p)
    = ((Att.ex (cur f1 f7 f8 b 15 ⟨p.val / 64, by omega⟩ - cur f1 f7 f8 b r ⟨p.val / 64, by omega⟩) * dtr f1 f7 b r ⟨p.val / 64, by omega⟩ : ℝ) : EReal) :=
  p53 _ _ _ r p (fun k => cur f1 f7 f8 b 15 k) (fun k => cur f1 f7 f8 b r k) (fun k => dtr f1 f7 b r k)
    (fun k => (p26 _ k).trans (c25 f1 f7 f8 b D B A hD hB hA 15 k)) (fun k => c25 f1 f7 f8 b D B A hD hB hA r k) (fun k => c22 f1 f7 b D B hD hB r k)

theorem c54 (D : FVec Ideal S1x16x128 .f32) (B A : FVec Ideal S1x128 .f32)
    (hD : ∀ (r : Fin 16) (k : Fin 128), D (ix3 0 r k) = (f1 ⟨b.val * 16 + r.val, by omega⟩ k : EReal))
    (hB : ∀ k : Fin 128, B (ix2 0 k) = (f7 k : EReal)) (hA : ∀ k : Fin 128, A (ix2 0 k) = (f8 k : EReal)) (p : Fin 1024) : k0_pay54 (F := Ideal) (k0_pay26 (F := Ideal) (k0_pay23 (F := Ideal) D B A)) k0_pay48 (ix2 0 p)
    = ((Att.ex (cur f1 f7 f8 b 15 ⟨p.val / 64, by omega⟩) : ℝ) : EReal) :=
  p54 _ p (fun k => cur f1 f7 f8 b 15 k) (fun k => (p26 _ k).trans (c25 f1 f7 f8 b D B A hD hB hA 15 k))

theorem body (D : FVec Ideal S1x16x128 .f32) (B A : FVec Ideal S1x128 .f32)
    (hD : ∀ (r : Fin 16) (k : Fin 128), D (ix3 0 r k) = (f1 ⟨b.val * 16 + r.val, by omega⟩ k : EReal))
    (hB : ∀ k : Fin 128, B (ix2 0 k) = (f7 k : EReal)) (hA : ∀ k : Fin 128, A (ix2 0 k) = (f8 k : EReal)) (XS : Vec Ideal S16x1024 .f32) (XB : Vec Ideal S16x256 .f32)
    (hS : ∀ (l : Fin 4) (j : Fin 1024), XS (ix2 ⟨l.val, by omega⟩ j) = (cvv f0 f3 f5 f6 b l ⟨j.val, by omega⟩ : EReal))
    (hT : ∀ (l : Fin 4) (j : Fin 256), XB (ix2 ⟨l.val, by omega⟩ j) = (cvv f0 f3 f5 f6 b l ⟨1024 + j.val, by omega⟩ : EReal)) (p : Fin 1024) (n : Fin 128) (q : Fin 256) (hq : q.val = p.val / 512 * 128 + n.val) (h0 : EReal) :
    h0 * (k0_pay54 (F := Ideal) (k0_pay26 (F := Ideal) (k0_pay23 (F := Ideal) D B A)) k0_pay48 (ix2 0 p) : EReal)
      + ∑ x : Fin 16, (XB (ix2 x q) : EReal) * (XS (ix2 x p) * (k0_pay53 (F := Ideal) (k0_pay22 (F := Ideal) D B) (k0_pay25 (F := Ideal) (k0_pay23 (F := Ideal) D B A))
      (k0_pay26 (F := Ideal) (k0_pay23 (F := Ideal) D B A)) k0_pay48 (ix2 x p)))
    = res f0 f1 f3 f5 f6 f7 f8 h0 b p n := by
  have hk : p.val / 64 < 16 := by omega
  rw [c54 f1 f7 f8 b D B A hD hB hA, cur_last f1 f7 f8 b _ hk, res]
  congr 1
  rw [sum_four _ fun r hr => by
    rw [c53 f1 f7 f8 b D B A hD hB hA, dtr_zero f1 f7 b r _ hr, mul_zero, EReal.coe_zero]
    exact (congrArg _ (mul_zero _)).trans (mul_zero _)]
  refine Fin.sum_fin_congr fun l => ?_
  rw [c53 f1 f7 f8 b D B A hD hB hA, hS, hT, cur_last f1 f7 f8 b _ hk, cur_lt f1 f7 f8 b l _ hk, dtr_lt f1 f7 b l _ hk]
  have : (⟨1024 + q.val, by omega⟩ : Fin 1536) = ⟨1024 + (p.val / 512 * 128 + n.val), by omega⟩ := Fin.ext (by show 1024 + q.val = _; rw [hq])
  rw [this]
  rfl

theorem fin0 (D : FVec Ideal S1x16x128 .f32) (B A : FVec Ideal S1x128 .f32)
    (hD : ∀ (r : Fin 16) (k : Fin 128), D (ix3 0 r k) = (f1 ⟨b.val * 16 + r.val, by omega⟩ k : EReal))
    (hB : ∀ k : Fin 128, B (ix2 0 k) = (f7 k : EReal)) (hA : ∀ k : Fin 128, A (ix2 0 k) = (f8 k : EReal)) (XS : Vec Ideal S16x1024 .f32) (XB : Vec Ideal S16x256 .f32) (H : FVec Ideal S1x512x128 .f32)
    (hS : ∀ (l : Fin 4) (j : Fin 1024), XS (ix2 ⟨l.val, by omega⟩ j) = (cvv f0 f3 f5 f6 b l ⟨j.val, by omega⟩ : EReal))
    (hT : ∀ (l : Fin 4) (j : Fin 256), XB (ix2 ⟨l.val, by omega⟩ j) = (cvv f0 f3 f5 f6 b l ⟨1024 + j.val, by omega⟩ : EReal)) (h1) (h2) (h3) (u : Fin 512) (n : Fin 128) :
    k0_pay16 (F := Ideal) (k0_pay339 (F := Ideal) (k0_pay53 (F := Ideal) (k0_pay22 (F := Ideal) D B) (k0_pay25 (F := Ideal) (k0_pay23 (F := Ideal) D B A))
      (k0_pay26 (F := Ideal) (k0_pay23 (F := Ideal) D B A)) k0_pay48) (k0_pay54 (F := Ideal) (k0_pay26 (F := Ideal) (k0_pay23 (F := Ideal) D B A)) k0_pay48) XS XB
      (shapeCast S1x1x128x512 (transpose S128x512 [1, 0] (shapeCast S512x128 H h1) h2) h3)) (ix3 0 u n)
    = res f0 f1 f3 f5 f6 f7 f8 (H (ix3 0 u n)) b ⟨u.val, by omega⟩ n :=
  (p339 _ _ _ _ _ _ _ _ u n).trans (body f0 f1 f3 f5 f6 f7 f8 b D B A hD hB hA XS XB hS hT _ n _ (by show n.val = u.val / 512 * 128 + n.val; omega) _)

theorem fin1 (D : FVec Ideal S1x16x128 .f32) (B A : FVec Ideal S1x128 .f32)
    (hD : ∀ (r : Fin 16) (k : Fin 128), D (ix3 0 r k) = (f1 ⟨b.val * 16 + r.val, by omega⟩ k : EReal))
    (hB : ∀ k : Fin 128, B (ix2 0 k) = (f7 k : EReal)) (hA : ∀ k : Fin 128, A (ix2 0 k) = (f8 k : EReal)) (XS : Vec Ideal S16x1024 .f32) (XB : Vec Ideal S16x256 .f32) (H : FVec Ideal S1x512x128 .f32)
    (hS : ∀ (l : Fin 4) (j : Fin 1024), XS (ix2 ⟨l.val, by omega⟩ j) = (cvv f0 f3 f5 f6 b l ⟨j.val, by omega⟩ : EReal))
    (hT : ∀ (l : Fin 4) (j : Fin 256), XB (ix2 ⟨l.val, by omega⟩ j) = (cvv f0 f3 f5 f6 b l ⟨1024 + j.val, by omega⟩ : EReal)) (h1) (h2) (h3) (u : Fin 512) (n : Fin 128) :
    k0_pay16 (F := Ideal) (k0_pay340 (F := Ideal) (k0_pay53 (F := Ideal) (k0_pay22 (F := Ideal) D B) (k0_pay25 (F := Ideal) (k0_pay23 (F := Ideal) D B A))
      (k0_pay26 (F := Ideal) (k0_pay23 (F := Ideal) D B A)) k0_pay48) (k0_pay54 (F := Ideal) (k0_pay26 (F := Ideal) (k0_pay23 (F := Ideal) D B A)) k0_pay48) XS XB
      (shapeCast S1x1x128x512 (transpose S128x512 [1, 0] (shapeCast S512x128 H h1) h2) h3)) (ix3 0 u n)
    = res f0 f1 f3 f5 f6 f7 f8 (H (ix3 0 u n)) b ⟨512 + u.val, by omega⟩ n :=
  (p340 _ _ _ _ _ _ _ _ u n).trans (body f0 f1 f3 f5 f6 f7 f8 b D B A hD hB hA XS XB hS hT _ n _ (by show 128 + n.val = (512 + u.val) / 512 * 128 + n.val; omega) _)

end Final

/-- One tile of the convolution. -/
theorem tile (xe : FVec Ideal S1x24x256 .f32) (w3 w1 w2 w0 bb : FVec Ideal S1x256 .f32) (c0 : ℕ) (hc : c0 + 256 ≤ 1536)
    (hx : ∀ (r : Fin 24) (j : Fin 256), xe (ix3 0 r j) = if h : r.val < 8 then (f3 b ⟨r.val, h⟩ ⟨c0 + j.val, by omega⟩ : EReal)
      else (f0 ⟨b.val * 16 + (r.val - 8), by omega⟩ ⟨c0 + j.val, by omega⟩ : EReal))
    (h3 : ∀ j : Fin 256, w3 (ix2 0 j) = (f5 3 ⟨c0 + j.val, by omega⟩ : EReal)) (h1 : ∀ j : Fin 256, w1 (ix2 0 j) = (f5 1 ⟨c0 + j.val, by omega⟩ : EReal))
    (h2 : ∀ j : Fin 256, w2 (ix2 0 j) = (f5 2 ⟨c0 + j.val, by omega⟩ : EReal)) (h0 : ∀ j : Fin 256, w0 (ix2 0 j) = (f5 0 ⟨c0 + j.val, by omega⟩ : EReal))
    (hb : ∀ j : Fin 256, bb (ix2 0 j) = (f6 ⟨c0 + j.val, by omega⟩ : EReal)) (l : Fin 4) (j : Fin 256) :
    k0_pay91 (F := Ideal) xe w3 w1 w2 w0 bb (ix3 0 ⟨l.val, by omega⟩ j) = (cvv f0 f3 f5 f6 b l ⟨c0 + j.val, by omega⟩ : EReal) := by
  refine p91 xe w3 w1 w2 w0 bb _ j (row f0 f3 b l ⟨c0 + j.val, by omega⟩) (fun k => f5 ⟨k.val, by omega⟩ ⟨c0 + j.val, by omega⟩) _ (fun k => ?_) (h0 j) (h1 j) (h2 j) (h3 j) (hb j)
  rw [hx]
  unfold row
  by_cases h : k.val + l.val < 3
  · rw [dif_pos (show 5 + l.val + k.val < 8 by omega), dif_pos h]
    congr 2
    apply Fin.ext; show 5 + l.val + k.val = 5 + (k.val + l.val); omega
  · rw [dif_neg (show ¬ 5 + l.val + k.val < 8 by omega), dif_neg h]
    congr 2
    apply Fin.ext; show b.val * 16 + (5 + l.val + k.val - 8) = b.val * 16 + (k.val + l.val - 3); omega

end Cert.SsdSIdeal.Val

end
-- ==== Proof.SsdSBlk.lean ====
module

public import proofs.«01_k».proof.Proof.SsdSRead
public import proofs.«01_k».proof.Proof.SsdSCore

@[expose] public section

set_option maxRecDepth 16384

noncomputable section

open Idealize.ShloMosaic Idealize.ShloMosaic.TcCoe Idealize.SL.Sem
open Idealize.ShloMosaic.Pipeline (Dat)

namespace Cert.SsdSIdeal.Val

open Cert.Ssd Cert.SsdSIdeal Cert.SsdSIdeal.Gen

variable (m : (ℓ : Loc nD τ sig) → Buf (Elt Ideal) ℓ)

theorem idx : ∀ t : Fin cfg0.N, win0_0.index t = ![t.val, 0, 0] ∧ win0_1.index t = ![t.val, 0, 0]
    ∧ win0_3.index t = ![t.val, 0, 0] ∧ win0_4.index t = ![t.val, 0, 0]
    ∧ win0_5.index t = ![0, 0] ∧ win0_6.index t = ![0, 0] ∧ win0_7.index t = ![0, 0]
    ∧ win0_8.index t = ![0, 0] ∧ win0_11.index t = ![t.val, 0, 0] :=
  (by decide +kernel : ∀ t : Fin grid0.N, _)

theorem ht (t : Fin cfg0.N) : t.val < 2 := t.isLt

/-- The sequence of a block's row. -/
abbrev sq (t : Fin cfg0.N) (s : Fin 4) : Fin 8 := ⟨t.val * 4 + s.val, by have := ht t; omega⟩

theorem b0 (c : Dev nD) (t : Fin cfg0.N) (s : Fin 4) (r : Fin 16) (j : Fin 1536) : iblk m c 0 t (ix3 s r j)
    = m ((c : Thread nD τ).loc main_arg0) (ix2 ⟨(sq t s).val * 16 + r.val, by have := (sq t s).isLt; omega⟩ j) := by
  blk_simp [iblk]
  entry_read
  pointwise []
  blk_ext [idx t]

theorem b1 (c : Dev nD) (t : Fin cfg0.N) (s : Fin 4) (r : Fin 16) (j : Fin 128) : iblk m c 1 t (ix3 s r j)
    = m ((c : Thread nD τ).loc main_arg1) (ix2 ⟨(sq t s).val * 16 + r.val, by have := (sq t s).isLt; omega⟩ j) := by
  blk_simp [iblk]
  entry_read
  pointwise []
  blk_ext [idx t]

theorem b3 (c : Dev nD) (t : Fin cfg0.N) (s : Fin 4) (r : Fin 8) (j : Fin 1536) : iblk m c 3 t (ix3 s r j)
    = m ((c : Thread nD τ).loc main_arg3) (ix3 (sq t s) r j) := by
  blk_simp [iblk]
  rw [V_main_arg3]
  blk_ext [idx t]

theorem b4 (c : Dev nD) (t : Fin cfg0.N) (s : Fin 4) (r : Fin 1024) (j : Fin 128) : iblk m c 4 t (ix3 s r j)
    = m ((c : Thread nD τ).loc main_arg4) (ix3 (sq t s) r j) := by
  blk_simp [iblk]
  rw [V_main_arg4]
  blk_ext [idx t]

theorem b5 (c : Dev nD) (t : Fin cfg0.N) (x : S8x1536.Idx) : iblk m c 5 t x = m ((c : Thread nD τ).loc main_arg5) x := by
  blk_simp [iblk]
  rw [V_main_arg5]
  blk_ext [idx t]

theorem b6 (c : Dev nD) (t : Fin cfg0.N) (x : S1x1536.Idx) : iblk m c 6 t x = m ((c : Thread nD τ).loc main_arg6) x := by
  blk_simp [iblk]
  rw [V_main_arg6]
  blk_ext [idx t]

theorem b7 (c : Dev nD) (t : Fin cfg0.N) (x : S1x128.Idx) : iblk m c 7 t x = m ((c : Thread nD τ).loc main_arg7) x := by
  blk_simp [iblk]
  rw [V_main_arg7]
  blk_ext [idx t]

theorem b8 (c : Dev nD) (t : Fin cfg0.N) (x : S1x128.Idx) : iblk m c 8 t x = m ((c : Thread nD τ).loc main_arg8) x := by
  blk_simp [iblk]
  rw [V_main_arg8]
  blk_ext [idx t]

end Cert.SsdSIdeal.Val

end
-- ==== Proof.SsdSSeq.lean ====
module

public import proofs.«01_k».proof.Proof.SsdSBlk

@[expose] public section

set_option maxRecDepth 16384

noncomputable section

open Idealize.ShloMosaic Idealize.ShloMosaic.TcCoe Idealize.SL.Sem
open Idealize.ShloMosaic.Pipeline (Dat)

namespace Cert.SsdSIdeal.Val

open Cert.Ssd Cert.SsdSIdeal Cert.SsdSIdeal.Gen

variable (m : (ℓ : Loc nD τ sig) → Buf (Elt Ideal) ℓ)
variable (f0 : Fin 128 → Fin 1536 → ℝ) (f1 : Fin 128 → Fin 128 → ℝ) (f3 : Fin 8 → Fin 8 → Fin 1536 → ℝ) (f5 : Fin 8 → Fin 1536 → ℝ)
  (f6 : Fin 1536 → ℝ) (f7 f8 : Fin 128 → ℝ)

theorem ld3 {a b d n1 n2 : ℕ} (X : FVec Ideal ⟨3, ![a, b, d]⟩ .f32) (o0 o1 o2 : ℕ) (h) (h0 : o0 < a) (h1 : o1 + n1 ≤ b) (h2 : o2 + n2 ≤ d) (j : Fin n1) (k : Fin n2) :
    (View.ld (Val := Elt Ideal) (e' := .f32) X (Rect.unit (s := ⟨3, ![a, b, d]⟩) ![o0, o1, o2] ![1, n1, n2] h) : FVec Ideal ⟨3, ![1, n1, n2]⟩ .f32) (ix3 0 j k)
      = X (ix3 ⟨o0, h0⟩ ⟨o1 + j.val, by omega⟩ ⟨o2 + k.val, by omega⟩) := by
  refine congrArg X (funext fun e => ?_)
  fin_cases e
  · apply Fin.ext; show o0 + 1 * 0 = o0; omega
  · apply Fin.ext; show o1 + 1 * j.val = o1 + j.val; omega
  · apply Fin.ext; show o2 + 1 * k.val = o2 + k.val; omega

theorem ld2 {a b n1 : ℕ} (X : FVec Ideal ⟨2, ![a, b]⟩ .f32) (o0 o1 : ℕ) (h) (h0 : o0 < a) (h1 : o1 + n1 ≤ b) (k : Fin n1) :
    (View.ld (Val := Elt Ideal) (e' := .f32) X (Rect.unit (s := ⟨2, ![a, b]⟩) ![o0, o1] ![1, n1] h) : FVec Ideal ⟨2, ![1, n1]⟩ .f32) (ix2 0 k)
      = X (ix2 ⟨o0, h0⟩ ⟨o1 + k.val, by omega⟩) := by
  refine congrArg X (funext fun e => ?_)
  fin_cases e
  · apply Fin.ext; show o0 + 1 * 0 = o0; omega
  · apply Fin.ext; show o1 + 1 * k.val = o1 + k.val; omega

theorem cast_new (X : FVec Ideal S1x16x1536 .f32) (r : Fin 16) (j : Fin 1536) : k0_pay90 (F := Ideal) (k0_pay89 (F := Ideal) X) (ix3 0 r j) = X (ix3 0 r j) := by
  pointwise [k0_pay90, k0_pay89]

theorem cast_old (X : FVec Ideal S1x8x1536 .f32) (h1) (h2) (r : Fin 8) (j : Fin 1536) :
    (shapeCast S1x8x1536 (shapeCast S8x1536 X h1) h2 : FVec Ideal S1x8x1536 .f32) (ix3 0 r j) = X (ix3 0 r j) := by
  pointwise []

theorem hcw (c : Dev nD) (t : Fin cfg0.N) (a5 : ∀ i j, m ((c : Thread nD τ).loc main_arg5) (ix2 i j) = (f5 i j : EReal)) (o c0 : ℕ) (ho : o < 8) (hc : c0 + 256 ≤ 1536) (h) (j : Fin 256) :
    (View.ld (Val := Elt Ideal) (e' := .f32) (iblk m c 5 t) (Rect.unit (s := S8x1536) ![o, c0] ![1, 256] h) : FVec Ideal S1x256 .f32) (ix2 0 j) = (f5 ⟨o, ho⟩ ⟨c0 + j.val, by omega⟩ : EReal) :=
  (ld2 (iblk m c 5 t) o c0 h ho hc j).trans ((b5 m c t _).trans (a5 _ _))

theorem hcb (c : Dev nD) (t : Fin cfg0.N) (a6 : ∀ j, m ((c : Thread nD τ).loc main_arg6) (ix2 0 j) = (f6 j : EReal)) (c0 : ℕ) (hc : c0 + 256 ≤ 1536) (h) (j : Fin 256) :
    (View.ld (Val := Elt Ideal) (e' := .f32) (iblk m c 6 t) (Rect.unit (s := S1x1536) ![0, c0] ![1, 256] h) : FVec Ideal S1x256 .f32) (ix2 0 j) = (f6 ⟨c0 + j.val, by omega⟩ : EReal) :=
  (ld2 (iblk m c 6 t) 0 c0 h (by omega) hc j).trans ((b6 m c t _).trans (a6 _))

theorem hdb (c : Dev nD) (t : Fin cfg0.N) (a7 : ∀ j, m ((c : Thread nD τ).loc main_arg7) (ix2 0 j) = (f7 j : EReal)) (k : Fin 128) : (iblk m c 7 t : FVec Ideal S1x128 .f32) (ix2 0 k) = (f7 k : EReal) := (b7 m c t _).trans (a7 k)

theorem hal (c : Dev nD) (t : Fin cfg0.N) (a8 : ∀ j, m ((c : Thread nD τ).loc main_arg8) (ix2 0 j) = (f8 j : EReal)) (k : Fin 128) : (iblk m c 8 t : FVec Ideal S1x128 .f32) (ix2 0 k) = (f8 k : EReal) := (b8 m c t _).trans (a8 k)

section Seq

variable (c : Dev nD) (t : Fin cfg0.N) (s : ℕ) (hs : s < 4)
  (a0 : ∀ i j, m ((c : Thread nD τ).loc main_arg0) (ix2 i j) = (f0 i j : EReal))
  (a1 : ∀ i j, m ((c : Thread nD τ).loc main_arg1) (ix2 i j) = (f1 i j : EReal))
  (a3 : ∀ i j k, m ((c : Thread nD τ).loc main_arg3) (ix3 i j k) = (f3 i j k : EReal))
  (a5 : ∀ i j, m ((c : Thread nD τ).loc main_arg5) (ix2 i j) = (f5 i j : EReal))
  (a6 : ∀ j, m ((c : Thread nD τ).loc main_arg6) (ix2 0 j) = (f6 j : EReal))
  (a7 : ∀ j, m ((c : Thread nD τ).loc main_arg7) (ix2 0 j) = (f7 j : EReal))
  (a8 : ∀ j, m ((c : Thread nD τ).loc main_arg8) (ix2 0 j) = (f8 j : EReal))

include a0 in
theorem hnew (h) (r : Fin 16) (j : Fin 1536) :
    k0_pay90 (F := Ideal) (k0_pay89 (F := Ideal) (View.ld (Val := Elt Ideal) (e' := .f32) (iblk m c 0 t) (Rect.unit (s := S4x16x1536) ![s, 0, 0] ![1, 16, 1536] h))) (ix3 0 r j)
      = (f0 ⟨(sq t ⟨s, hs⟩).val * 16 + r.val, by have := (sq t ⟨s, hs⟩).isLt; omega⟩ j : EReal) := by
  rw [cast_new, ← a0]
  refine (ld3 (iblk m c 0 t) s 0 0 h hs (by omega) (by omega) r j).trans ?_
  refine (b0 m c t ⟨s, hs⟩ ⟨0 + r.val, by omega⟩ ⟨0 + j.val, by omega⟩).trans ?_
  simp only [zero_add]

include a3 in
theorem hold (h) (h1) (h2) (r : Fin 8) (j : Fin 1536) :
    (shapeCast S1x8x1536 (shapeCast S8x1536 (View.ld (Val := Elt Ideal) (e' := .f32) (iblk m c 3 t) (Rect.unit (s := S4x8x1536) ![s, 0, 0] ![1, 8, 1536] h) : FVec Ideal S1x8x1536 .f32) h1) h2 : FVec Ideal S1x8x1536 .f32) (ix3 0 r j)
      = (f3 (sq t ⟨s, hs⟩) r j : EReal) := by
  rw [cast_old, ← a3]
  refine (ld3 (iblk m c 3 t) s 0 0 h hs (by omega) (by omega) r j).trans ?_
  refine (b3 m c t ⟨s, hs⟩ ⟨0 + r.val, by omega⟩ ⟨0 + j.val, by omega⟩).trans ?_
  simp only [zero_add]

include a1 in
theorem hdt (h) (r : Fin 16) (k : Fin 128) :
    (View.ld (Val := Elt Ideal) (e' := .f32) (iblk m c 1 t) (Rect.unit (s := S4x16x128) ![s, 0, 0] ![1, 16, 128] h) : FVec Ideal S1x16x128 .f32) (ix3 0 r k)
      = (f1 ⟨(sq t ⟨s, hs⟩).val * 16 + r.val, by have := (sq t ⟨s, hs⟩).isLt; omega⟩ k : EReal) := by
  rw [← a1]
  refine (ld3 (iblk m c 1 t) s 0 0 h hs (by omega) (by omega) r k).trans ?_
  refine (b1 m c t ⟨s, hs⟩ ⟨0 + r.val, by omega⟩ ⟨0 + k.val, by omega⟩).trans ?_
  simp only [zero_add]

/-- The state before the step, in one half of the heads. -/
theorem hst (o : ℕ) (ho : o + 512 ≤ 1024) (h) (u : Fin 512) (n : Fin 128) :
    (View.ld (Val := Elt Ideal) (e' := .f32) (iblk m c 4 t) (Rect.unit (s := S4x1024x128) ![s, o, 0] ![1, 512, 128] h) : FVec Ideal S1x512x128 .f32) (ix3 0 u n)
      = m ((c : Thread nD τ).loc main_arg4) (ix3 (sq t ⟨s, hs⟩) ⟨o + u.val, by omega⟩ n) := by
  refine (ld3 (iblk m c 4 t) s o 0 h hs (by omega) (by omega) u n).trans ?_
  refine (b4 m c t ⟨s, hs⟩ ⟨o + u.val, by omega⟩ ⟨0 + n.val, by omega⟩).trans ?_
  simp only [zero_add]

include a0 a3 a5 a6 in
/-- A tile of the convolution as the call stores it. -/
theorem tl (v : View sig .tc .vmem S4x32x1536 .f32) (c0 : ℕ) (hc : c0 + 256 ≤ 1536) (h1) (h2) (h3) (h4) (h5) (h6) (h7) (e3) (e1) (e2) (e0) (eb) (l : Fin 4) (j : Fin 256) :
    k0_pay91 (F := Ideal) (v.readCov (Val := Elt Ideal) [⟨Rect.unit (s := S4x32x1536) ![s, 8, 0] ![1, 16, 1536] h1, k0_pay90 (F := Ideal) (k0_pay89 (F := Ideal) (View.ld (Val := Elt Ideal) (e' := .f32) (iblk m c 0 t) (Rect.unit (s := S4x16x1536) ![s, 0, 0] ![1, 16, 1536] h4)))⟩,
        ⟨Rect.unit (s := S4x32x1536) ![s, 0, 0] ![1, 8, 1536] h2, (shapeCast S1x8x1536 (shapeCast S8x1536 (View.ld (Val := Elt Ideal) (e' := .f32) (iblk m c 3 t) (Rect.unit (s := S4x8x1536) ![s, 0, 0] ![1, 8, 1536] h5) : FVec Ideal S1x8x1536 .f32) h6) h7 : FVec Ideal S1x8x1536 .f32)⟩]
      (Rect.unit (s := S4x32x1536) ![s, 0, c0] ![1, 24, 256] h3).toLoadRect)
      (View.ld (Val := Elt Ideal) (e' := .f32) (iblk m c 5 t) (Rect.unit (s := S8x1536) ![3, c0] ![1, 256] e3))
      (View.ld (Val := Elt Ideal) (e' := .f32) (iblk m c 5 t) (Rect.unit (s := S8x1536) ![1, c0] ![1, 256] e1))
      (View.ld (Val := Elt Ideal) (e' := .f32) (iblk m c 5 t) (Rect.unit (s := S8x1536) ![2, c0] ![1, 256] e2))
      (View.ld (Val := Elt Ideal) (e' := .f32) (iblk m c 5 t) (Rect.unit (s := S8x1536) ![0, c0] ![1, 256] e0))
      (View.ld (Val := Elt Ideal) (e' := .f32) (iblk m c 6 t) (Rect.unit (s := S1x1536) ![0, c0] ![1, 256] eb)) (ix3 0 ⟨l.val, by omega⟩ j)
      = (cvv f0 f3 f5 f6 (sq t ⟨s, hs⟩) l ⟨c0 + j.val, by omega⟩ : EReal) := by
  refine tile f0 f3 f5 f6 (sq t ⟨s, hs⟩) _ _ _ _ _ _ c0 hc (fun r j => ?_) (hcw m f5 c t a5 3 c0 (by omega) hc e3) (hcw m f5 c t a5 1 c0 (by omega) hc e1)
    (hcw m f5 c t a5 2 c0 (by omega) hc e2) (hcw m f5 c t a5 0 c0 (by omega) hc e0) (hcb m f6 c t a6 c0 hc eb) l j
  refine (xe_at v s c0 h1 h2 h3 _ _ hc r j).trans ?_
  split
  · exact hold m f3 c t s hs a3 h5 h6 h7 _ _
  · exact hnew m f0 c t s hs a0 h4 _ _

end Seq

/-- The four tiles of x, read as one. -/
theorem xs_all (b : Fin 8) (v : View sig .tc .vmem S4x16x1536 .f32) (s : ℕ) (h0) (h1) (h2) (h3) (h4) (hs) (hn) (hp) (h5) (hq) (W0 W1 W2 W3 : FVec Ideal S1x16x256 .f32)
    (e0 : ∀ (l : Fin 4) (j : Fin 256), W0 (ix3 0 ⟨l.val, by omega⟩ j) = (cvv f0 f3 f5 f6 b l ⟨0 + j.val, by omega⟩ : EReal))
    (e1 : ∀ (l : Fin 4) (j : Fin 256), W1 (ix3 0 ⟨l.val, by omega⟩ j) = (cvv f0 f3 f5 f6 b l ⟨256 + j.val, by omega⟩ : EReal))
    (e2 : ∀ (l : Fin 4) (j : Fin 256), W2 (ix3 0 ⟨l.val, by omega⟩ j) = (cvv f0 f3 f5 f6 b l ⟨512 + j.val, by omega⟩ : EReal))
    (e3 : ∀ (l : Fin 4) (j : Fin 256), W3 (ix3 0 ⟨l.val, by omega⟩ j) = (cvv f0 f3 f5 f6 b l ⟨768 + j.val, by omega⟩ : EReal))
    (l : Fin 4) (j : Fin 1024) :
    (LoadRect.valAlong (s' := S16x1536) (s₀ := ⟨3, ![1, 16, 1536]⟩) (lr := (Rect.unit (s := S16x1536) ![0, 0] ![16, 1024] h5).toLoadRect) hq (v.readCov (Val := Elt Ideal) [⟨Rect.unit (s := S4x16x1536) ![s, 0, 768] ![1, 16, 256] h3, W3⟩,
        ⟨Rect.unit (s := S4x16x1536) ![s, 0, 512] ![1, 16, 256] h2, W2⟩,
        ⟨Rect.unit (s := S4x16x1536) ![s, 0, 256] ![1, 16, 256] h1, W1⟩,
        ⟨Rect.unit (s := S4x16x1536) ![s, 0, 0] ![1, 16, 256] h0, W0⟩]
      ((Rect.unit (s := S4x16x1536) ![s, 0, 0] ![1, 16, 1536] h4).withinL
              ((Rect.unit (s := S16x1536) ![0, 0] ![16, 1024] h5).toLoadRect.consLift ![1, 16, 1536] hn hs)
              hp)) : FVec Ideal S16x1024 .f32) (ix2 ⟨l.val, by omega⟩ j)
    = (cvv f0 f3 f5 f6 b l ⟨j.val, by omega⟩ : EReal) := by
  refine (xs_at v s h0 h1 h2 h3 h4 hs hn hp h5 hq W0 W1 W2 W3 ⟨l.val, by omega⟩ j).trans ?_
  split
  · refine (e0 l _).trans ?_
    congr 2; apply Fin.ext; show 0 + j.val % 256 = j.val; omega
  · split
    · refine (e1 l _).trans ?_
      congr 2; apply Fin.ext; show 256 + j.val % 256 = j.val; omega
    · split
      · refine (e2 l _).trans ?_
        congr 2; apply Fin.ext; show 512 + j.val % 256 = j.val; omega
      · refine (e3 l _).trans ?_
        congr 2; apply Fin.ext; show 768 + j.val % 256 = j.val; omega
end Cert.SsdSIdeal.Val

end
-- ==== Proof.SsdSHalf.lean ====
module

public import proofs.«01_k».proof.Proof.SsdSSeq

@[expose] public section

set_option maxRecDepth 16384

noncomputable section

open Idealize.ShloMosaic Idealize.ShloMosaic.TcCoe Idealize.SL.Sem
open Idealize.ShloMosaic.Pipeline (Dat)

namespace Cert.SsdSIdeal.Val

open Cert.Ssd Cert.SsdSIdeal Cert.SsdSIdeal.Gen

variable (m : (ℓ : Loc nD τ sig) → Buf (Elt Ideal) ℓ)
variable (f0 : Fin 128 → Fin 1536 → ℝ) (f1 : Fin 128 → Fin 128 → ℝ) (f3 : Fin 8 → Fin 8 → Fin 1536 → ℝ) (f5 : Fin 8 → Fin 1536 → ℝ)
  (f6 : Fin 1536 → ℝ) (f7 f8 : Fin 128 → ℝ)

/-- The states before the step. -/
def st (c : Dev nD) : S8x1024x128.Idx → EReal := m ((c : Thread nD τ).loc main_arg4)

section Half

variable (c : Dev nD) (t : Fin cfg0.N) (s : ℕ) (hs : s < 4)
  (a0 : ∀ i j, m ((c : Thread nD τ).loc main_arg0) (ix2 i j) = (f0 i j : EReal))
  (a1 : ∀ i j, m ((c : Thread nD τ).loc main_arg1) (ix2 i j) = (f1 i j : EReal))
  (a3 : ∀ i j k, m ((c : Thread nD τ).loc main_arg3) (ix3 i j k) = (f3 i j k : EReal))
  (a5 : ∀ i j, m ((c : Thread nD τ).loc main_arg5) (ix2 i j) = (f5 i j : EReal))
  (a6 : ∀ j, m ((c : Thread nD τ).loc main_arg6) (ix2 0 j) = (f6 j : EReal))
  (a7 : ∀ j, m ((c : Thread nD τ).loc main_arg7) (ix2 0 j) = (f7 j : EReal))
  (a8 : ∀ j, m ((c : Thread nD τ).loc main_arg8) (ix2 0 j) = (f8 j : EReal))

include a1 a7 a8 in
theorem half0 (XS : Vec Ideal S16x1024 .f32) (XB : Vec Ideal S16x256 .f32)
    (hS : ∀ (l : Fin 4) (j : Fin 1024), XS (ix2 ⟨l.val, by omega⟩ j) = (cvv f0 f3 f5 f6 (sq t ⟨s, hs⟩) l ⟨j.val, by omega⟩ : EReal))
    (hT : ∀ (l : Fin 4) (j : Fin 256), XB (ix2 ⟨l.val, by omega⟩ j) = (cvv f0 f3 f5 f6 (sq t ⟨s, hs⟩) l ⟨1024 + j.val, by omega⟩ : EReal))
    (h) (h') (h1) (h2) (h3) (x : S1x512x128.Idx) (q : Fin 1024) (hq : q.val = (x 1).val) :
    k0_pay16 (F := Ideal) (k0_pay339 (F := Ideal) (k0_pay53 (F := Ideal) (k0_pay22 (F := Ideal) (View.ld (Val := Elt Ideal) (e' := .f32) (iblk m c 1 t) (Rect.unit (s := S4x16x128) ![s, 0, 0] ![1, 16, 128] h)) (iblk m c 7 t)) (k0_pay25 (F := Ideal) (k0_pay23 (F := Ideal) (View.ld (Val := Elt Ideal) (e' := .f32) (iblk m c 1 t) (Rect.unit (s := S4x16x128) ![s, 0, 0] ![1, 16, 128] h)) (iblk m c 7 t) (iblk m c 8 t)))
      (k0_pay26 (F := Ideal) (k0_pay23 (F := Ideal) (View.ld (Val := Elt Ideal) (e' := .f32) (iblk m c 1 t) (Rect.unit (s := S4x16x128) ![s, 0, 0] ![1, 16, 128] h)) (iblk m c 7 t) (iblk m c 8 t))) k0_pay48) (k0_pay54 (F := Ideal) (k0_pay26 (F := Ideal) (k0_pay23 (F := Ideal) (View.ld (Val := Elt Ideal) (e' := .f32) (iblk m c 1 t) (Rect.unit (s := S4x16x128) ![s, 0, 0] ![1, 16, 128] h)) (iblk m c 7 t) (iblk m c 8 t))) k0_pay48) XS XB
      (shapeCast S1x1x128x512 (transpose S128x512 [1, 0] (shapeCast S512x128 (View.ld (Val := Elt Ideal) (e' := .f32) (iblk m c 4 t) (Rect.unit (s := S4x1024x128) ![s, 0, 0] ![1, 512, 128] h') : FVec Ideal S1x512x128 .f32) h1) h2) h3)) x
    = res f0 f1 f3 f5 f6 f7 f8 (st m c (ix3 (sq t ⟨s, hs⟩) q (x 2))) (sq t ⟨s, hs⟩) q (x 2) := by
  have hx : x = ix3 0 (x 1) (x 2) := by
    funext a
    match a with
    | ⟨0, _⟩ => exact Fin.ext (by have := (x 0).isLt; simp at this ⊢)
    | ⟨1, _⟩ => rfl
    | ⟨2, _⟩ => rfl
  obtain ⟨u, hu⟩ : ∃ u : Fin 512, u = x 1 := ⟨_, rfl⟩
  obtain ⟨n, hn⟩ : ∃ n : Fin 128, n = x 2 := ⟨_, rfl⟩
  have hu' : u.val = (x 1).val := congrArg Fin.val hu
  have hq' : q = ⟨u.val, by omega⟩ := Fin.ext (hq.trans (by rw [← hu']))
  rw [hx]
  show _ = res f0 f1 f3 f5 f6 f7 f8 (st m c (ix3 (sq t ⟨s, hs⟩) q (x 2))) (sq t ⟨s, hs⟩) q (x 2)
  rw [← hu, ← hn, hq']
  refine (fin0 f0 f1 f3 f5 f6 f7 f8 (sq t ⟨s, hs⟩) _ _ _ (hdt m f1 c t s hs a1 h) (hdb m f7 c t a7) (hal m f8 c t a8) XS XB _ hS hT h1 h2 h3 u n).trans ?_
  have e := hst m c t s hs 0 (by omega) h' u n
  exact (congrArg (fun z : EReal => res f0 f1 f3 f5 f6 f7 f8 z (sq t ⟨s, hs⟩) ⟨u.val, by omega⟩ n) e).trans (by first | rfl | (congr 3; simp) | congr 3)

include a1 a7 a8 in
theorem half1 (XS : Vec Ideal S16x1024 .f32) (XB : Vec Ideal S16x256 .f32)
    (hS : ∀ (l : Fin 4) (j : Fin 1024), XS (ix2 ⟨l.val, by omega⟩ j) = (cvv f0 f3 f5 f6 (sq t ⟨s, hs⟩) l ⟨j.val, by omega⟩ : EReal))
    (hT : ∀ (l : Fin 4) (j : Fin 256), XB (ix2 ⟨l.val, by omega⟩ j) = (cvv f0 f3 f5 f6 (sq t ⟨s, hs⟩) l ⟨1024 + j.val, by omega⟩ : EReal))
    (h) (h') (h1) (h2) (h3) (x : S1x512x128.Idx) (q : Fin 1024) (hq : q.val = 512 + (x 1).val) :
    k0_pay16 (F := Ideal) (k0_pay340 (F := Ideal) (k0_pay53 (F := Ideal) (k0_pay22 (F := Ideal) (View.ld (Val := Elt Ideal) (e' := .f32) (iblk m c 1 t) (Rect.unit (s := S4x16x128) ![s, 0, 0] ![1, 16, 128] h)) (iblk m c 7 t)) (k0_pay25 (F := Ideal) (k0_pay23 (F := Ideal) (View.ld (Val := Elt Ideal) (e' := .f32) (iblk m c 1 t) (Rect.unit (s := S4x16x128) ![s, 0, 0] ![1, 16, 128] h)) (iblk m c 7 t) (iblk m c 8 t)))
      (k0_pay26 (F := Ideal) (k0_pay23 (F := Ideal) (View.ld (Val := Elt Ideal) (e' := .f32) (iblk m c 1 t) (Rect.unit (s := S4x16x128) ![s, 0, 0] ![1, 16, 128] h)) (iblk m c 7 t) (iblk m c 8 t))) k0_pay48) (k0_pay54 (F := Ideal) (k0_pay26 (F := Ideal) (k0_pay23 (F := Ideal) (View.ld (Val := Elt Ideal) (e' := .f32) (iblk m c 1 t) (Rect.unit (s := S4x16x128) ![s, 0, 0] ![1, 16, 128] h)) (iblk m c 7 t) (iblk m c 8 t))) k0_pay48) XS XB
      (shapeCast S1x1x128x512 (transpose S128x512 [1, 0] (shapeCast S512x128 (View.ld (Val := Elt Ideal) (e' := .f32) (iblk m c 4 t) (Rect.unit (s := S4x1024x128) ![s, 512, 0] ![1, 512, 128] h') : FVec Ideal S1x512x128 .f32) h1) h2) h3)) x
    = res f0 f1 f3 f5 f6 f7 f8 (st m c (ix3 (sq t ⟨s, hs⟩) q (x 2))) (sq t ⟨s, hs⟩) q (x 2) := by
  have hx : x = ix3 0 (x 1) (x 2) := by
    funext a
    match a with
    | ⟨0, _⟩ => exact Fin.ext (by have := (x 0).isLt; simp at this ⊢)
    | ⟨1, _⟩ => rfl
    | ⟨2, _⟩ => rfl
  obtain ⟨u, hu⟩ : ∃ u : Fin 512, u = x 1 := ⟨_, rfl⟩
  obtain ⟨n, hn⟩ : ∃ n : Fin 128, n = x 2 := ⟨_, rfl⟩
  have hu' : u.val = (x 1).val := congrArg Fin.val hu
  have hq' : q = ⟨512 + u.val, by omega⟩ := Fin.ext (hq.trans (by rw [← hu']))
  rw [hx]
  show _ = res f0 f1 f3 f5 f6 f7 f8 (st m c (ix3 (sq t ⟨s, hs⟩) q (x 2))) (sq t ⟨s, hs⟩) q (x 2)
  rw [← hu, ← hn, hq']
  refine (fin1 f0 f1 f3 f5 f6 f7 f8 (sq t ⟨s, hs⟩) _ _ _ (hdt m f1 c t s hs a1 h) (hdb m f7 c t a7) (hal m f8 c t a8) XS XB _ hS hT h1 h2 h3 u n).trans ?_
  have e := hst m c t s hs 512 (by omega) h' u n
  exact (congrArg (fun z : EReal => res f0 f1 f3 f5 f6 f7 f8 z (sq t ⟨s, hs⟩) ⟨512 + u.val, by omega⟩ n) e).trans (by first | rfl | (congr 3; simp) | congr 3)

end Half

end Cert.SsdSIdeal.Val

end
-- ==== Proof.SsdSVal.lean ====
module

public import proofs.«01_k».proof.Proof.SsdSHalf

@[expose] public section

set_option maxRecDepth 16384

noncomputable section

open Idealize.ShloMosaic Idealize.ShloMosaic.TcCoe Idealize.SL.Sem
open Idealize.ShloMosaic.Pipeline (Dat)

namespace Cert.SsdSIdeal.Val

open Cert.Ssd Cert.SsdSIdeal Cert.SsdSIdeal.Gen

variable (m : (ℓ : Loc nD τ sig) → Buf (Elt Ideal) ℓ)
variable (f0 : Fin 128 → Fin 1536 → ℝ) (f1 : Fin 128 → Fin 128 → ℝ) (f3 : Fin 8 → Fin 8 → Fin 1536 → ℝ) (f5 : Fin 8 → Fin 1536 → ℝ)
  (f6 : Fin 1536 → ℝ) (f7 f8 : Fin 128 → ℝ)

theorem yq (y : S4x1024x128.Idx) (x : S1x512x128.Idx) (s : Fin 4) (q : Fin 1024) (h0 : (y 0).val = s.val) (h1 : (y 1).val = q.val)
    (h2 : (y 2).val = (x 2).val) : y = ix3 s q (x 2) := by
  funext a
  match a with
  | ⟨0, _⟩ => exact Fin.ext h0
  | ⟨1, _⟩ => exact Fin.ext h1
  | ⟨2, _⟩ => exact Fin.ext h2

section Out

variable (c : Dev nD) (t : Fin cfg0.N)
  (a0 : ∀ i j, m ((c : Thread nD τ).loc main_arg0) (ix2 i j) = (f0 i j : EReal))
  (a1 : ∀ i j, m ((c : Thread nD τ).loc main_arg1) (ix2 i j) = (f1 i j : EReal))
  (a3 : ∀ i j k, m ((c : Thread nD τ).loc main_arg3) (ix3 i j k) = (f3 i j k : EReal))
  (a5 : ∀ i j, m ((c : Thread nD τ).loc main_arg5) (ix2 i j) = (f5 i j : EReal))
  (a6 : ∀ j, m ((c : Thread nD τ).loc main_arg6) (ix2 0 j) = (f6 j : EReal))
  (a7 : ∀ j, m ((c : Thread nD τ).loc main_arg7) (ix2 0 j) = (f7 j : EReal))
  (a8 : ∀ j, m ((c : Thread nD τ).loc main_arg8) (ix2 0 j) = (f8 j : EReal))

include a0 a1 a3 a5 a6 a7 a8 in
/-- The states after the step, at one grid point. -/
theorem out11 (y : S4x1024x128.Idx) : (outsAt0 m c t).2 y
    = res f0 f1 f3 f5 f6 f7 f8 (st m c (ix3 (sq t (y 0)) (y 1) (y 2))) (sq t (y 0)) (y 1) (y 2) := by
  rw [outsAt0]
  frame_open
  simp (disch := decide) only [↓ View.readCov_skip, ↓ View.readCov_cons_toLoadRect, ↓ readCov_skip1, ↓ readCov_skip2, ↓ readCov_skip3, ↓ readCov_skip4]
  frame_out
  canon_tiles x h
  · obtain ⟨q, hq⟩ : ∃ q : Fin 1024, q.val = 512 + (x 1).val := ⟨⟨512 + (x 1).val, by have := (x 1).isLt; simp at this; omega⟩, rfl⟩
    obtain rfl := yq y x 3 q (by have := (x 0).isLt; simp at this h0 ⊢; omega) (by simp at h1 ⊢; omega) (by simpa using h2)
    refine half1 m f0 f1 f3 f5 f6 f7 f8 c t 3 (by omega) a1 a7 a8 _ _ (fun l j => ?_) (fun l j => ?_) _ _ _ _ _ x q hq
    · refine xs_all f0 f3 f5 f6 _ _ 3 _ _ _ _ _ _ _ _ _ _ _ _ _ _ (fun l j => ?_) (fun l j => ?_) (fun l j => ?_) (fun l j => ?_) l j
      · exact tl m f0 f3 f5 f6 c t 3 (by omega) a0 a3 a5 a6 _ 0 (by omega) _ _ _ _ _ _ _ _ _ _ _ _ l j
      · exact tl m f0 f3 f5 f6 c t 3 (by omega) a0 a3 a5 a6 _ 256 (by omega) _ _ _ _ _ _ _ _ _ _ _ _ l j
      · exact tl m f0 f3 f5 f6 c t 3 (by omega) a0 a3 a5 a6 _ 512 (by omega) _ _ _ _ _ _ _ _ _ _ _ _ l j
      · exact tl m f0 f3 f5 f6 c t 3 (by omega) a0 a3 a5 a6 _ 768 (by omega) _ _ _ _ _ _ _ _ _ _ _ _ l j
    · refine (xb_at _ 3 _ _ _ _ _ _ _ _ _ _).trans ?_
      exact tl m f0 f3 f5 f6 c t 3 (by omega) a0 a3 a5 a6 _ 1024 (by omega) _ _ _ _ _ _ _ _ _ _ _ _ l j
  · obtain ⟨q, hq⟩ : ∃ q : Fin 1024, q.val = (x 1).val := ⟨⟨(x 1).val, by have := (x 1).isLt; simp at this; omega⟩, rfl⟩
    obtain rfl := yq y x 3 q (by have := (x 0).isLt; simp at this h0 ⊢; omega) (by simp at h1 ⊢; omega) (by simpa using h2)
    refine half0 m f0 f1 f3 f5 f6 f7 f8 c t 3 (by omega) a1 a7 a8 _ _ (fun l j => ?_) (fun l j => ?_) _ _ _ _ _ x q hq
    · refine xs_all f0 f3 f5 f6 _ _ 3 _ _ _ _ _ _ _ _ _ _ _ _ _ _ (fun l j => ?_) (fun l j => ?_) (fun l j => ?_) (fun l j => ?_) l j
      · exact tl m f0 f3 f5 f6 c t 3 (by omega) a0 a3 a5 a6 _ 0 (by omega) _ _ _ _ _ _ _ _ _ _ _ _ l j
      · exact tl m f0 f3 f5 f6 c t 3 (by omega) a0 a3 a5 a6 _ 256 (by omega) _ _ _ _ _ _ _ _ _ _ _ _ l j
      · exact tl m f0 f3 f5 f6 c t 3 (by omega) a0 a3 a5 a6 _ 512 (by omega) _ _ _ _ _ _ _ _ _ _ _ _ l j
      · exact tl m f0 f3 f5 f6 c t 3 (by omega) a0 a3 a5 a6 _ 768 (by omega) _ _ _ _ _ _ _ _ _ _ _ _ l j
    · refine (xb_at _ 3 _ _ _ _ _ _ _ _ _ _).trans ?_
      exact tl m f0 f3 f5 f6 c t 3 (by omega) a0 a3 a5 a6 _ 1024 (by omega) _ _ _ _ _ _ _ _ _ _ _ _ l j
  · obtain ⟨q, hq⟩ : ∃ q : Fin 1024, q.val = 512 + (x 1).val := ⟨⟨512 + (x 1).val, by have := (x 1).isLt; simp at this; omega⟩, rfl⟩
    obtain rfl := yq y x 2 q (by have := (x 0).isLt; simp at this h0 ⊢; omega) (by simp at h1 ⊢; omega) (by simpa using h2)
    refine half1 m f0 f1 f3 f5 f6 f7 f8 c t 2 (by omega) a1 a7 a8 _ _ (fun l j => ?_) (fun l j => ?_) _ _ _ _ _ x q hq
    · refine xs_all f0 f3 f5 f6 _ _ 2 _ _ _ _ _ _ _ _ _ _ _ _ _ _ (fun l j => ?_) (fun l j => ?_) (fun l j => ?_) (fun l j => ?_) l j
      · exact tl m f0 f3 f5 f6 c t 2 (by omega) a0 a3 a5 a6 _ 0 (by omega) _ _ _ _ _ _ _ _ _ _ _ _ l j
      · exact tl m f0 f3 f5 f6 c t 2 (by omega) a0 a3 a5 a6 _ 256 (by omega) _ _ _ _ _ _ _ _ _ _ _ _ l j
      · exact tl m f0 f3 f5 f6 c t 2 (by omega) a0 a3 a5 a6 _ 512 (by omega) _ _ _ _ _ _ _ _ _ _ _ _ l j
      · exact tl m f0 f3 f5 f6 c t 2 (by omega) a0 a3 a5 a6 _ 768 (by omega) _ _ _ _ _ _ _ _ _ _ _ _ l j
    · refine (xb_at _ 2 _ _ _ _ _ _ _ _ _ _).trans ?_
      exact tl m f0 f3 f5 f6 c t 2 (by omega) a0 a3 a5 a6 _ 1024 (by omega) _ _ _ _ _ _ _ _ _ _ _ _ l j
  · obtain ⟨q, hq⟩ : ∃ q : Fin 1024, q.val = (x 1).val := ⟨⟨(x 1).val, by have := (x 1).isLt; simp at this; omega⟩, rfl⟩
    obtain rfl := yq y x 2 q (by have := (x 0).isLt; simp at this h0 ⊢; omega) (by simp at h1 ⊢; omega) (by simpa using h2)
    refine half0 m f0 f1 f3 f5 f6 f7 f8 c t 2 (by omega) a1 a7 a8 _ _ (fun l j => ?_) (fun l j => ?_) _ _ _ _ _ x q hq
    · refine xs_all f0 f3 f5 f6 _ _ 2 _ _ _ _ _ _ _ _ _ _ _ _ _ _ (fun l j => ?_) (fun l j => ?_) (fun l j => ?_) (fun l j => ?_) l j
      · exact tl m f0 f3 f5 f6 c t 2 (by omega) a0 a3 a5 a6 _ 0 (by omega) _ _ _ _ _ _ _ _ _ _ _ _ l j
      · exact tl m f0 f3 f5 f6 c t 2 (by omega) a0 a3 a5 a6 _ 256 (by omega) _ _ _ _ _ _ _ _ _ _ _ _ l j
      · exact tl m f0 f3 f5 f6 c t 2 (by omega) a0 a3 a5 a6 _ 512 (by omega) _ _ _ _ _ _ _ _ _ _ _ _ l j
      · exact tl m f0 f3 f5 f6 c t 2 (by omega) a0 a3 a5 a6 _ 768 (by omega) _ _ _ _ _ _ _ _ _ _ _ _ l j
    · refine (xb_at _ 2 _ _ _ _ _ _ _ _ _ _).trans ?_
      exact tl m f0 f3 f5 f6 c t 2 (by omega) a0 a3 a5 a6 _ 1024 (by omega) _ _ _ _ _ _ _ _ _ _ _ _ l j
  · obtain ⟨q, hq⟩ : ∃ q : Fin 1024, q.val = 512 + (x 1).val := ⟨⟨512 + (x 1).val, by have := (x 1).isLt; simp at this; omega⟩, rfl⟩
    obtain rfl := yq y x 1 q (by have := (x 0).isLt; simp at this h0 ⊢; omega) (by simp at h1 ⊢; omega) (by simpa using h2)
    refine half1 m f0 f1 f3 f5 f6 f7 f8 c t 1 (by omega) a1 a7 a8 _ _ (fun l j => ?_) (fun l j => ?_) _ _ _ _ _ x q hq
    · refine xs_all f0 f3 f5 f6 _ _ 1 _ _ _ _ _ _ _ _ _ _ _ _ _ _ (fun l j => ?_) (fun l j => ?_) (fun l j => ?_) (fun l j => ?_) l j
      · exact tl m f0 f3 f5 f6 c t 1 (by omega) a0 a3 a5 a6 _ 0 (by omega) _ _ _ _ _ _ _ _ _ _ _ _ l j
      · exact tl m f0 f3 f5 f6 c t 1 (by omega) a0 a3 a5 a6 _ 256 (by omega) _ _ _ _ _ _ _ _ _ _ _ _ l j
      · exact tl m f0 f3 f5 f6 c t 1 (by omega) a0 a3 a5 a6 _ 512 (by omega) _ _ _ _ _ _ _ _ _ _ _ _ l j
      · exact tl m f0 f3 f5 f6 c t 1 (by omega) a0 a3 a5 a6 _ 768 (by omega) _ _ _ _ _ _ _ _ _ _ _ _ l j
    · refine (xb_at _ 1 _ _ _ _ _ _ _ _ _ _).trans ?_
      exact tl m f0 f3 f5 f6 c t 1 (by omega) a0 a3 a5 a6 _ 1024 (by omega) _ _ _ _ _ _ _ _ _ _ _ _ l j
  · obtain ⟨q, hq⟩ : ∃ q : Fin 1024, q.val = (x 1).val := ⟨⟨(x 1).val, by have := (x 1).isLt; simp at this; omega⟩, rfl⟩
    obtain rfl := yq y x 1 q (by have := (x 0).isLt; simp at this h0 ⊢; omega) (by simp at h1 ⊢; omega) (by simpa using h2)
    refine half0 m f0 f1 f3 f5 f6 f7 f8 c t 1 (by omega) a1 a7 a8 _ _ (fun l j => ?_) (fun l j => ?_) _ _ _ _ _ x q hq
    · refine xs_all f0 f3 f5 f6 _ _ 1 _ _ _ _ _ _ _ _ _ _ _ _ _ _ (fun l j => ?_) (fun l j => ?_) (fun l j => ?_) (fun l j => ?_) l j
      · exact tl m f0 f3 f5 f6 c t 1 (by omega) a0 a3 a5 a6 _ 0 (by omega) _ _ _ _ _ _ _ _ _ _ _ _ l j
      · exact tl m f0 f3 f5 f6 c t 1 (by omega) a0 a3 a5 a6 _ 256 (by omega) _ _ _ _ _ _ _ _ _ _ _ _ l j
      · exact tl m f0 f3 f5 f6 c t 1 (by omega) a0 a3 a5 a6 _ 512 (by omega) _ _ _ _ _ _ _ _ _ _ _ _ l j
      · exact tl m f0 f3 f5 f6 c t 1 (by omega) a0 a3 a5 a6 _ 768 (by omega) _ _ _ _ _ _ _ _ _ _ _ _ l j
    · refine (xb_at _ 1 _ _ _ _ _ _ _ _ _ _).trans ?_
      exact tl m f0 f3 f5 f6 c t 1 (by omega) a0 a3 a5 a6 _ 1024 (by omega) _ _ _ _ _ _ _ _ _ _ _ _ l j
  · obtain ⟨q, hq⟩ : ∃ q : Fin 1024, q.val = 512 + (x 1).val := ⟨⟨512 + (x 1).val, by have := (x 1).isLt; simp at this; omega⟩, rfl⟩
    obtain rfl := yq y x 0 q (by have := (x 0).isLt; simp at this h0 ⊢; omega) (by simp at h1 ⊢; omega) (by simpa using h2)
    refine half1 m f0 f1 f3 f5 f6 f7 f8 c t 0 (by omega) a1 a7 a8 _ _ (fun l j => ?_) (fun l j => ?_) _ _ _ _ _ x q hq
    · refine xs_all f0 f3 f5 f6 _ _ 0 _ _ _ _ _ _ _ _ _ _ _ _ _ _ (fun l j => ?_) (fun l j => ?_) (fun l j => ?_) (fun l j => ?_) l j
      · exact tl m f0 f3 f5 f6 c t 0 (by omega) a0 a3 a5 a6 _ 0 (by omega) _ _ _ _ _ _ _ _ _ _ _ _ l j
      · exact tl m f0 f3 f5 f6 c t 0 (by omega) a0 a3 a5 a6 _ 256 (by omega) _ _ _ _ _ _ _ _ _ _ _ _ l j
      · exact tl m f0 f3 f5 f6 c t 0 (by omega) a0 a3 a5 a6 _ 512 (by omega) _ _ _ _ _ _ _ _ _ _ _ _ l j
      · exact tl m f0 f3 f5 f6 c t 0 (by omega) a0 a3 a5 a6 _ 768 (by omega) _ _ _ _ _ _ _ _ _ _ _ _ l j
    · refine (xb_at _ 0 _ _ _ _ _ _ _ _ _ _).trans ?_
      exact tl m f0 f3 f5 f6 c t 0 (by omega) a0 a3 a5 a6 _ 1024 (by omega) _ _ _ _ _ _ _ _ _ _ _ _ l j
  · obtain ⟨q, hq⟩ : ∃ q : Fin 1024, q.val = (x 1).val := ⟨⟨(x 1).val, by have := (x 1).isLt; simp at this; omega⟩, rfl⟩
    obtain rfl := yq y x 0 q (by have := (x 0).isLt; simp at this h0 ⊢; omega) (by simp at h1 ⊢; omega) (by simpa using h2)
    refine half0 m f0 f1 f3 f5 f6 f7 f8 c t 0 (by omega) a1 a7 a8 _ _ (fun l j => ?_) (fun l j => ?_) _ _ _ _ _ x q hq
    · refine xs_all f0 f3 f5 f6 _ _ 0 _ _ _ _ _ _ _ _ _ _ _ _ _ _ (fun l j => ?_) (fun l j => ?_) (fun l j => ?_) (fun l j => ?_) l j
      · exact tl m f0 f3 f5 f6 c t 0 (by omega) a0 a3 a5 a6 _ 0 (by omega) _ _ _ _ _ _ _ _ _ _ _ _ l j
      · exact tl m f0 f3 f5 f6 c t 0 (by omega) a0 a3 a5 a6 _ 256 (by omega) _ _ _ _ _ _ _ _ _ _ _ _ l j
      · exact tl m f0 f3 f5 f6 c t 0 (by omega) a0 a3 a5 a6 _ 512 (by omega) _ _ _ _ _ _ _ _ _ _ _ _ l j
      · exact tl m f0 f3 f5 f6 c t 0 (by omega) a0 a3 a5 a6 _ 768 (by omega) _ _ _ _ _ _ _ _ _ _ _ _ l j
    · refine (xb_at _ 0 _ _ _ _ _ _ _ _ _ _).trans ?_
      exact tl m f0 f3 f5 f6 c t 0 (by omega) a0 a3 a5 a6 _ 1024 (by omega) _ _ _ _ _ _ _ _ _ _ _ _ l j

end Out

end Cert.SsdSIdeal.Val

end
-- ==== Proof.SsdSRefVal.lean ====
module

public import proofs.«01_k».proof.Proof.Gen.SsdSRefIdeal.Run
public import proofs.«01_k».proof.Proof.Gen.SsdSRefIdeal.Read
public import Idealize.ShloMosaic.Lib.Pipeline.ValueKit
public import proofs.«01_k».proof.Proof.SsdMath

@[expose] public section

set_option maxRecDepth 16384

noncomputable section

open Idealize.ShloMosaic Idealize.ShloMosaic.TcCoe Idealize.SL.Sem

namespace Cert.SsdSRefIdeal.Val

open Cert.Ssd Cert.SsdSRefIdeal Cert.SsdSRefIdeal.Gen Cert.SsdSRefIdeal.Read

/-- The running sum over the four rows, read at a row. -/
theorem cumsum_at (x : FVec Ideal S8x4x16 .f32) (z : FVec Ideal S_ .f32) (h) (hu) (hz : z (Shape.Idx.first hu) = 0) (b : Fin 8) (s : Fin 4) (k : Fin 16) :
    Host.reduceWindowAdd ![1, 4, 1] ![1, 1, 1] ![0, 3, 0] ![0, 0, 0] x z h hu (ix3 b s k)
      = ∑ l : Fin 4, if l.val ≤ s.val then x (ix3 b l k) else 0 := by
  have hrow : ∀ n : Fin (⟨3, ![1, 4, 1]⟩ : Shape).numel, (((⟨3, ![1, 4, 1]⟩ : Shape).rowMajor.symm n) 0).val = 0
      ∧ (((⟨3, ![1, 4, 1]⟩ : Shape).rowMajor.symm n) 1).val = n.val ∧ (((⟨3, ![1, 4, 1]⟩ : Shape).rowMajor.symm n) 2).val = 0 := by decide
  have key : ∀ (n : Fin (⟨3, ![1, 4, 1]⟩ : Shape).numel),
      (if hin : ∀ a : Fin 3, (![0, 3, 0] : Fin 3 → ℕ) a ≤ ((ix3 b s k : S8x4x16.Idx) a).val * (![1, 1, 1] : Fin 3 → ℕ) a + (((⟨3, ![1, 4, 1]⟩ : Shape).rowMajor.symm n) a).val
          ∧ ((ix3 b s k : S8x4x16.Idx) a).val * (![1, 1, 1] : Fin 3 → ℕ) a + (((⟨3, ![1, 4, 1]⟩ : Shape).rowMajor.symm n) a).val - (![0, 3, 0] : Fin 3 → ℕ) a < S8x4x16.size a
        then x (fun a => ⟨_, (hin a).2⟩) else (0 : EReal))
      = if hq : 3 ≤ s.val + n.val then x (ix3 b ⟨s.val + n.val - 3, by have : n.val < 4 := n.isLt; omega⟩ k) else 0 := by
    intro n
    obtain ⟨r0, r1, r2⟩ := hrow n
    have hn : n.val < 4 := n.isLt
    split
    · next hin =>
      have h1 := hin 1
      simp [ix3] at h1
      rw [r1] at h1
      rw [dif_pos (by omega)]
      congr 1
      funext a
      fin_cases a <;> apply Fin.ext <;> simp [ix3, r0, r1, r2]
    · next hin =>
      rw [dif_neg]
      intro hq
      apply hin
      intro a
      fin_cases a <;> simp [ix3, r0, r1, r2] <;> omega
  show Host.reduceWindow (· + ·) ![1, 4, 1] ![1, 1, 1] ![0, 3, 0] ![0, 0, 0] (s := S8x4x16) (t := S8x4x16) x (fun _ : (⟨0, ![]⟩ : Shape).Idx => z (Shape.Idx.first hu)) h (by decide) (ix3 b s k) = _
  rw [hz]
  unfold Host.reduceWindow
  have hl : List.finRange (⟨3, ![1, 4, 1]⟩ : Shape).numel = [⟨0, by decide⟩, ⟨1, by decide⟩, ⟨2, by decide⟩, ⟨3, by decide⟩] := by decide
  refine (congrArg (fun L => List.foldl _ _ L) hl).trans ?_
  simp only [List.foldl_cons, List.foldl_nil]
  refine (congrArg₂ (· + ·) (congrArg₂ (· + ·) (congrArg₂ (· + ·) (congrArg (0 + ·) (key ⟨0, by decide⟩)) (key ⟨1, by decide⟩))
    (key ⟨2, by decide⟩)) (key ⟨3, by decide⟩)).trans ?_
  fin_cases s <;> simp [Fin.sum_univ_four]

variable (x0 : FVec Ideal S128x1536 .f32) (x1 : FVec Ideal S128x128 .f32) (x3 : FVec Ideal S8x8x1536 .f32) (x4 : FVec Ideal S8x1024x128 .f32)
  (x5 : FVec Ideal S8x1536 .f32) (x6 : FVec Ideal S1x1536 .f32) (x7 x8 : FVec Ideal S1x128 .f32)
  (f0 : Fin 128 → Fin 1536 → ℝ) (f1 : Fin 128 → Fin 128 → ℝ) (f3 : Fin 8 → Fin 8 → Fin 1536 → ℝ) (f5 : Fin 8 → Fin 1536 → ℝ)
  (f6 : Fin 1536 → ℝ) (f7 f8 : Fin 128 → ℝ)

/-- The convolution. -/
theorem r39 (h0 : ∀ i j, x0 (ix2 i j) = (f0 i j : EReal)) (h3 : ∀ i j k, x3 (ix3 i j k) = (f3 i j k : EReal))
    (h5 : ∀ i j, x5 (ix2 i j) = (f5 i j : EReal)) (h6 : ∀ j, x6 (ix2 0 j) = (f6 j : EReal))
    (b : Fin 8) (s : Fin 4) (j : Fin 1536) : val_main_v39 (F := Ideal) x0 x3 x5 x6 (ix3 b s j) = (cvv f0 f3 f5 f6 b s j : EReal) := by
  have e : val_main_v38 (F := Ideal) x0 x3 x5 x6 (ix3 b s j) = ((f5 0 j * row f0 f3 b s j 0 + f5 1 j * row f0 f3 b s j 1 + f5 2 j * row f0 f3 b s j 2
      + f5 3 j * row f0 f3 b s j 3 + f6 j : ℝ) : EReal) := by
    have hr : ∀ (k : Fin 4) (h : k.val + s.val < 3), row f0 f3 b s j k = f3 b ⟨5 + (k.val + s.val), by omega⟩ j := fun k h => dif_pos h
    have hr' : ∀ (k : Fin 4) (h : ¬ k.val + s.val < 3), row f0 f3 b s j k = f0 ⟨b.val * 16 + (k.val + s.val - 3), by omega⟩ j := fun k h => dif_neg h
    pointwise [val_main_v0, val_main_v1, val_main_v2, val_main_v3, val_main_v4, val_main_v5, val_main_v6, val_main_v7, val_main_v8, val_main_v9, val_main_v10, val_main_v11, val_main_cst, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_call0_cst, val_main_call0_cst_0, val_main_call1_cst, val_main_cst_0, val_main_call2_call0_cst, val_main_cst_1]
    simp only [h0, h3, h5, h6, EReal.coe_add, EReal.coe_mul]
    congr 1
    congr 1
    · congr 1
      · congr 1
        · congr 1
          split
          · next h => rw [hr 0 (by simpa using h)]; simp
          · next h => rw [hr' 0 (by simpa using h)]; simp
        · congr 1
          split
          · next h => rw [hr 1 h]; rfl
          · next h => rw [hr' 1 h]; rfl
      · congr 1
        split
        · next h => rw [hr 2 h]; rfl
        · next h => rw [hr' 2 h]; rfl
    · rw [hr' 3 (by show ¬ 3 + s.val < 3; omega)]
      congr 3
      apply Fin.ext; show b.val * 16 + s.val = b.val * 16 + (3 + s.val - 3); omega
  pointwise [val_main_cst, val_main_call0_v0, val_main_call0_v1, val_main_call0_cst, val_main_call0_v2, val_main_call0_v3, val_main_call0_cst_0, val_main_call0_v4, val_main_call0_v5, val_main_v39, val_main_call1_cst, val_main_cst_0, val_main_call2_call0_cst, val_main_call2_call0_v0, val_main_cst_1]
  rw [e, sil_div]
  rfl

/-- The time steps after their softplus. -/
theorem r50 (h1 : ∀ i j, x1 (ix2 i j) = (f1 i j : EReal)) (h7 : ∀ j, x7 (ix2 0 j) = (f7 j : EReal))
    (b : Fin 8) (s : Fin 4) (j : Fin 16) : val_main_v50 (F := Ideal) x1 x7 (ix3 b s j) = (sp (tm f1 f7 b ⟨j.val, by omega⟩ s) : EReal) := by
  pointwise [val_main_cst, val_main_call0_cst, val_main_call0_cst_0, val_main_v44, val_main_v45, val_main_v46, val_main_v47, val_main_v48, val_main_v49, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v50, val_main_cst_0, val_main_call2_call0_cst, val_main_cst_1, val_main_v2, val_main_v3]
  rw [if_neg (not_not.2 rfl), h1, h7, ← EReal.coe_add, sp_neg]
  rfl

theorem r59 (h1 : ∀ i j, x1 (ix2 i j) = (f1 i j : EReal)) (h7 : ∀ j, x7 (ix2 0 j) = (f7 j : EReal)) (h8 : ∀ j, x8 (ix2 0 j) = (f8 j : EReal))
    (b : Fin 8) (s : Fin 4) (j : Fin 16) : val_main_v59 (F := Ideal) x1 x7 x8 (ix3 b s j) = (dta (tm f1 f7 b ⟨j.val, by omega⟩) (f8 ⟨j.val, by omega⟩) s : EReal) := by
  pointwise [val_main_cst, val_main_call0_cst, val_main_call0_cst_0, val_main_call1_cst, val_main_v51, val_main_v52, val_main_v53, val_main_v54, val_main_cst_0, val_main_v55, val_main_v56, val_main_v57, val_main_v58, val_main_v59, val_main_call2_call0_cst, val_main_cst_1]
  rw [r50 x1 x7 f1 f7 h1 h7, h8, l2e_bits, Ideal.exp_coe, ← EReal.coe_neg, ← EReal.coe_mul, ← EReal.coe_mul]
  rfl

/-- The running sum of the decays. -/
theorem r64 (h1 : ∀ i j, x1 (ix2 i j) = (f1 i j : EReal)) (h7 : ∀ j, x7 (ix2 0 j) = (f7 j : EReal)) (h8 : ∀ j, x8 (ix2 0 j) = (f8 j : EReal))
    (b : Fin 8) (s : Fin 4) (j : Fin 16) : val_main_v64 (F := Ideal) x1 x7 x8 (ix3 b s j)
      = ((cm (tm f1 f7 b ⟨j.val, by omega⟩) (f8 ⟨j.val, by omega⟩) s * Real.log 2 : ℝ) : EReal) := by
  have e : val_main_v60 (F := Ideal) x1 x7 x8 (ix3 b s j) = (cm (tm f1 f7 b ⟨j.val, by omega⟩) (f8 ⟨j.val, by omega⟩) s : EReal) := by
    refine (cumsum_at _ _ _ _ ?_ b s j).trans ?_
    · pointwise [val_main_call2_call0_v0, val_main_call2_call0_cst]
    · rw [cm, Att.coe_sum]
      refine Fin.sum_fin_congr fun l => ?_
      rw [r59 x1 x7 x8 f1 f7 f8 h1 h7 h8]
      split <;> rfl
  have h2 : Ideal.ofBits .f32 0x40000000#32 = ((2 : ℝ) : EReal) := by
    simp [Ideal.ofBits, Ideal.ieee, -EReal.coe_mul]; norm_num
  have el : val_main_v63 (F := Ideal) (ix3 b s j) = ((Real.log 2 : ℝ) : EReal) := by
    pointwise [val_main_v63]
    show Ideal.log (Ideal.ofBits .f32 0x40000000#32) = _
    rw [h2, Ideal.log_coe, if_neg (by norm_num)]
  rw [val_main_v64_apply, e, el, EReal.coe_mul]
  rfl

/-- The state after the step. -/
theorem r84 (h0 : ∀ i j, x0 (ix2 i j) = (f0 i j : EReal)) (h1 : ∀ i j, x1 (ix2 i j) = (f1 i j : EReal)) (h3 : ∀ i j k, x3 (ix3 i j k) = (f3 i j k : EReal))
    (h5 : ∀ i j, x5 (ix2 i j) = (f5 i j : EReal)) (h6 : ∀ j, x6 (ix2 0 j) = (f6 j : EReal)) (h7 : ∀ j, x7 (ix2 0 j) = (f7 j : EReal))
    (h8 : ∀ j, x8 (ix2 0 j) = (f8 j : EReal)) (b : Fin 8) (p : Fin 1024) (n : Fin 128) :
    val_main_v84 (F := Ideal) x0 x1 x3 x4 x5 x6 x7 x8 (ix3 b p n) = res f0 f1 f3 f5 f6 f7 f8 (x4 (ix3 b p n)) b p n := by
  have hk : ∀ h, (⟨p.val / 512 * 8 + p.val / 64 % 8, h⟩ : Fin 128) = ⟨p.val / 64, by omega⟩ := fun h => Fin.ext (by show p.val / 512 * 8 + p.val / 64 % 8 = p.val / 64; omega)
  pointwise [val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v40, val_main_v41, val_main_v42, val_main_v43]
  simp only [r64 x1 x7 x8 f1 f7 f8 h1 h7 h8, r50 x1 x7 f1 f7 h1 h7, r39 x0 x3 x5 x6 f0 f3 f5 f6 h0 h3 h5 h6, ← EReal.coe_sub, ← sub_mul, Ideal.exp_coe,
    Att.exp_log2, hk, res, wt]
  congr 1
  refine Fin.sum_fin_congr fun l => ?_
  rw [EReal.coe_mul, mul_comm]

end Cert.SsdSRefIdeal.Val

end
-- ==== Proof.SsdSEnd.lean ====
module

public import proofs.«01_k».proof.Proof.SsdSVal
public import proofs.«01_k».proof.Proof.SsdSRefVal

@[expose] public section

set_option maxRecDepth 16384

noncomputable section

open Idealize.ShloMosaic Idealize.ShloMosaic.TcCoe Idealize.SL.Sem
open Idealize.ShloMosaic.Pipeline (Dat)

namespace Cert.SsdSIdeal.Val

open Cert.Ssd Cert.SsdSIdeal Cert.SsdSIdeal.Gen

open Cert.SsdSRefIdeal.Read in
/-- The states after the step. -/
theorem final11 (m : (ℓ : Loc nD τ sig) → Buf (Elt Ideal) ℓ) (c : Dev nD)
    (r0 : ∀ i, ∃ r : ℝ, (m ((c : Thread nD τ).loc main_arg0) : S128x1536.Idx → EReal) i = (r : EReal))
    (r1 : ∀ i, ∃ r : ℝ, (m ((c : Thread nD τ).loc main_arg1) : S128x128.Idx → EReal) i = (r : EReal))
    (r3 : ∀ i, ∃ r : ℝ, (m ((c : Thread nD τ).loc main_arg3) : S8x8x1536.Idx → EReal) i = (r : EReal))
    (r5 : ∀ i, ∃ r : ℝ, (m ((c : Thread nD τ).loc main_arg5) : S8x1536.Idx → EReal) i = (r : EReal))
    (r6 : ∀ i, ∃ r : ℝ, (m ((c : Thread nD τ).loc main_arg6) : S1x1536.Idx → EReal) i = (r : EReal))
    (r7 : ∀ i, ∃ r : ℝ, (m ((c : Thread nD τ).loc main_arg7) : S1x128.Idx → EReal) i = (r : EReal))
    (r8 : ∀ i, ∃ r : ℝ, (m ((c : Thread nD τ).loc main_arg8) : S1x128.Idx → EReal) i = (r : EReal)) :
    (dats m 0 c).arrAt 11 (cfgs 0).N
      = val_main_v84 (F := Ideal) (m ((c : Thread nD τ).loc main_arg0)) (m ((c : Thread nD τ).loc main_arg1))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  choose f0 h0 using r0
  choose f1 h1 using r1
  choose f3 h3 using r3
  choose f5 h5 using r5
  choose f6 h6 using r6
  choose f7 h7 using r7
  choose f8 h8 using r8
  refine (dats m 0 c).arrAt_eq_of_covers 11 _ (by decide +kernel) fun t hf y => ?_
  have hk := out11 m (fun i j => f0 (ix2 i j)) (fun i j => f1 (ix2 i j)) (fun i j k => f3 (ix3 i j k)) (fun i j => f5 (ix2 i j))
    (fun j => f6 (ix2 0 j)) (fun j => f7 (ix2 0 j)) (fun j => f8 (ix2 0 j)) c t (fun i j => h0 _) (fun i j => h1 _) (fun i j k => h3 _)
    (fun i j => h5 _) (fun j => h6 _) (fun j => h7 _) (fun j => h8 _) y
  have hr := Cert.SsdSRefIdeal.Val.r84 (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (fun i j => f0 (ix2 i j)) (fun i j => f1 (ix2 i j)) (fun i j k => f3 (ix3 i j k)) (fun i j => f5 (ix2 i j))
    (fun j => f6 (ix2 0 j)) (fun j => f7 (ix2 0 j)) (fun j => f8 (ix2 0 j)) (fun i j => h0 _) (fun i j => h1 _) (fun i j k => h3 _)
    (fun i j => h5 _) (fun j => h6 _) (fun j => h7 _) (fun j => h8 _) (sq t (y 0)) (y 1) (y 2)
  have hq := hk.trans hr.symm
  blk_simp
  rw [after0_11]
  refine hq.trans ?_
  refine congrArg _ ?_
  blk_ext [idx t]

end Cert.SsdSIdeal.Val

end
-- ==== Proof.SsdSPre.lean ====
module

public import proofs.«01_k».proof.Proof.Gen.Pre_ssd_finite
public import proofs.«01_k».proof.Proof.AttPre
public import proofs.«01_k».proof.Proof.AttMath
public import Idealize.ShloMosaic.Lib.ReduceAll
public import Idealize.ShloMosaic.Lib.Pipeline.ValueKit

@[expose] public section

set_option maxRecDepth 16384

noncomputable section

open Idealize.ShloMosaic

namespace Cert.SsdSPre

open Cert.Pre_ssd_finite Cert.Pre_ssd_finite.Gen in
/-- Under the precondition every entry of the seven arrays is a real number. -/
theorem pre_real (x0 : FVec Ideal S128x1536 .f32) (x1 : FVec Ideal S128x128 .f32) (x2 : FVec Ideal S128x1024 .f32)
    (x3 : FVec Ideal S8x8x1536 .f32) (x4 : FVec Ideal S8x1024x128 .f32) (x5 : FVec Ideal S8x1536 .f32) (x6 : FVec Ideal S1x1536 .f32)
    (x7 x8 : FVec Ideal S1x128 .f32) (x9 : FVec Ideal S1x1024 .f32)
    (h : Cert.Pre_ssd_finite.fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x3 i = (r : EReal))
      ∧ (∀ i, ∃ r : ℝ, x5 i = (r : EReal)) ∧ (∀ i, ∃ r : ℝ, x6 i = (r : EReal)) ∧ (∀ i, ∃ r : ℝ, x7 i = (r : EReal))
      ∧ ∀ i, ∃ r : ℝ, x8 i = (r : EReal) := by
  have h := congrFun h (fun a => a.elim0)
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h3⟩ := IntOp.andi_eq_one.1 h
  obtain ⟨h0, h1⟩ := IntOp.andi_eq_one.1 h
  exact ⟨fun i => Cert.Att.real_of_lt _ (Host.reduce_andi_all _ _ _ _ _ h0 i), fun i => Cert.Att.real_of_lt _ (Host.reduce_andi_all _ _ _ _ _ h1 i),
    fun i => Cert.Att.real_of_lt _ (Host.reduce_andi_all _ _ _ _ _ h3 i), fun i => Cert.Att.real_of_lt _ (Host.reduce_andi_all _ _ _ _ _ h5 i),
    fun i => Cert.Att.real_of_lt _ (Host.reduce_andi_all _ _ _ _ _ h6 i), fun i => Cert.Att.real_of_lt _ (Host.reduce_andi_all _ _ _ _ _ h7 i),
    fun i => Cert.Att.real_of_lt _ (Host.reduce_andi_all _ _ _ _ _ h8 i)⟩

end Cert.SsdSPre

end
-- ==== Proof.lean ====
module

public import proofs.«01_k».proof.Defs
public import proofs.«01_k».proof.Proof.Gen.AttS.Frame
public import proofs.«01_k».proof.Proof.Gen.AttSIdeal.Frame
public import proofs.«01_k».proof.Proof.Gen.AttSIdeal.Value
public import proofs.«01_k».proof.Proof.Gen.AttSRefIdeal.Run
public import proofs.«01_k».proof.Proof.Gen.AttSRefIdeal.Read
public import proofs.«01_k».proof.Proof.Gen.OutP.Frame
public import proofs.«01_k».proof.Proof.Gen.OutPIdeal.Frame
public import proofs.«01_k».proof.Proof.Gen.OutPIdeal.Value
public import proofs.«01_k».proof.Proof.Gen.OutPRefIdeal.Run
public import proofs.«01_k».proof.Proof.Gen.OutPRefIdeal.Read
public import proofs.«01_k».proof.Proof.Gen.InP.Frame
public import proofs.«01_k».proof.Proof.Gen.InPIdeal.Frame
public import proofs.«01_k».proof.Proof.Gen.InPIdeal.Value
public import proofs.«01_k».proof.Proof.Gen.InPRefIdeal.Run
public import proofs.«01_k».proof.Proof.Gen.InPRefIdeal.Read
public import proofs.«01_k».proof.Proof.Gen.OutS.Frame
public import proofs.«01_k».proof.Proof.Gen.OutSIdeal.Frame
public import proofs.«01_k».proof.Proof.Gen.OutSIdeal.Value
public import proofs.«01_k».proof.Proof.Gen.OutSRefIdeal.Run
public import proofs.«01_k».proof.Proof.Gen.OutSRefIdeal.Read
public import proofs.«01_k».proof.Proof.Gen.SsdSRefIdeal.Run
public import proofs.«01_k».proof.Proof.Gen.SsdSRefIdeal.Read
public import proofs.«01_k».proof.Proof.Gen.SsdS.Frame
public import proofs.«01_k».proof.Proof.Gen.SsdSIdeal.Value
public import proofs.«01_k».proof.Proof.OutPVal
public import proofs.«01_k».proof.Proof.AttSVal
public import proofs.«01_k».proof.Proof.AttPre
public import proofs.«01_k».proof.Proof.InPEnd
public import proofs.«01_k».proof.Proof.InPPre
public import proofs.«01_k».proof.Proof.OutSVal
public import proofs.«01_k».proof.Proof.Gen.SsdSIdeal.Frame
public import proofs.«01_k».proof.Proof.SsdSEnd
public import proofs.«01_k».proof.Proof.SsdSPre
public import Idealize.ShloMosaic.Adequacy
public import Idealize.ShloMosaic.Init

@[expose] public section

noncomputable section

namespace Cert.Proof

open Idealize.ShloMosaic Idealize.ShloMosaic.TcCoe Idealize.SL.Sem

section

attribute [local instance] Cert.AttSIdeal.Gen.facts Cert.AttSRefIdeal.Gen.facts Cert.OutPIdeal.Gen.facts Cert.OutPRefIdeal.Gen.facts
  Cert.InPIdeal.Gen.facts Cert.InPRefIdeal.Gen.facts Cert.OutSIdeal.Gen.facts Cert.OutSRefIdeal.Gen.facts Cert.Pre_att_finite.Gen.facts Cert.Pre_in_finite.Gen.facts Cert.On_real_rows.Gen.facts

/-- The sample attention and the two moved windows. -/
theorem att : Cert.algebraic_AttSIdeal_AttSRefIdeal_on_real_rows_pre_att_finite := by
  intro m g m' g' hpre hagree
  have hr := fun c => Cert.Att.pre_real _ _ _ _ _ _ (hpre c)
  refine ⟨fun c => Cert.AttSRefIdeal.Read.val_main_v141 (F := Ideal) (m ((c : Thread Cert.AttSIdeal.nD Cert.AttSIdeal.τ).loc Cert.AttSIdeal.main_arg0)) (m ((c : Thread Cert.AttSIdeal.nD Cert.AttSIdeal.τ).loc Cert.AttSIdeal.main_arg1)) (m ((c : Thread Cert.AttSIdeal.nD Cert.AttSIdeal.τ).loc Cert.AttSIdeal.main_arg2)) (m ((c : Thread Cert.AttSIdeal.nD Cert.AttSIdeal.τ).loc Cert.AttSIdeal.main_arg3)) (m ((c : Thread Cert.AttSIdeal.nD Cert.AttSIdeal.τ).loc Cert.AttSIdeal.main_arg4)) (m ((c : Thread Cert.AttSIdeal.nD Cert.AttSIdeal.τ).loc Cert.AttSIdeal.main_arg5)), fun c => Cert.AttSRefIdeal.Read.val_main_v144 (F := Ideal) (m ((c : Thread Cert.AttSIdeal.nD Cert.AttSIdeal.τ).loc Cert.AttSIdeal.main_arg1)) (m ((c : Thread Cert.AttSIdeal.nD Cert.AttSIdeal.τ).loc Cert.AttSIdeal.main_arg4)),
    fun c => Cert.AttSRefIdeal.Read.val_main_v147 (F := Ideal) (m ((c : Thread Cert.AttSIdeal.nD Cert.AttSIdeal.τ).loc Cert.AttSIdeal.main_arg2)) (m ((c : Thread Cert.AttSIdeal.nD Cert.AttSIdeal.τ).loc Cert.AttSIdeal.main_arg5)),
    (θ_run _ _ _).mono (fun r h c => ⟨fun i hi => ?_, fun i _ => ?_, fun i _ => ?_, (h c).2.2.2⟩) (Cert.AttSIdeal.Value.run_blocks m g),
    (θ_run _ _ _).mono (fun r h c => ⟨fun i _ => ?_, fun i _ => ?_, fun i _ => ?_, (h c).2.2.2⟩) (Cert.AttSRefIdeal.Value.run m' g')⟩
  · exact (congrFun (h c).1 i).trans (Cert.AttSIdeal.Val.final6 m c (hr c).1 (hr c).2.1 (hr c).2.2 i (Cert.Att.mask_rows _ _ _ _ _ _ i hi))
  · exact (congrFun (h c).2.1 i).trans (congrFun (Cert.AttSIdeal.Val.final7 m c) i)
  · exact (congrFun (h c).2.2.1 i).trans (congrFun (Cert.AttSIdeal.Val.final8 m c) i)
  · obtain ⟨h0, h1, h2, h3, h4, h5⟩ := hagree c
    exact congrFun ((h c).1.trans ((Cert.AttSRefIdeal.Read.val_main_v141_eq _).trans (by
      show Cert.AttSRefIdeal.Read.val_main_v141 (F := Ideal) (m' ((c : Thread Cert.AttSRefIdeal.nD Cert.AttSRefIdeal.τ).loc Cert.AttSRefIdeal.main_arg0)) (m' ((c : Thread Cert.AttSRefIdeal.nD Cert.AttSRefIdeal.τ).loc Cert.AttSRefIdeal.main_arg1)) (m' ((c : Thread Cert.AttSRefIdeal.nD Cert.AttSRefIdeal.τ).loc Cert.AttSRefIdeal.main_arg2)) (m' ((c : Thread Cert.AttSRefIdeal.nD Cert.AttSRefIdeal.τ).loc Cert.AttSRefIdeal.main_arg3)) (m' ((c : Thread Cert.AttSRefIdeal.nD Cert.AttSRefIdeal.τ).loc Cert.AttSRefIdeal.main_arg4)) (m' ((c : Thread Cert.AttSRefIdeal.nD Cert.AttSRefIdeal.τ).loc Cert.AttSRefIdeal.main_arg5)) = _
      rw [h0, h1, h2, h3, h4, h5]))) i
  · obtain ⟨h0, h1, h2, h3, h4, h5⟩ := hagree c
    exact congrFun ((h c).2.1.trans ((Cert.AttSRefIdeal.Read.val_main_v144_eq _).trans (by
      show Cert.AttSRefIdeal.Read.val_main_v144 (F := Ideal) (m' ((c : Thread Cert.AttSRefIdeal.nD Cert.AttSRefIdeal.τ).loc Cert.AttSRefIdeal.main_arg1)) (m' ((c : Thread Cert.AttSRefIdeal.nD Cert.AttSRefIdeal.τ).loc Cert.AttSRefIdeal.main_arg4)) = _
      rw [h1, h4]))) i
  · obtain ⟨h0, h1, h2, h3, h4, h5⟩ := hagree c
    exact congrFun ((h c).2.2.1.trans ((Cert.AttSRefIdeal.Read.val_main_v147_eq _).trans (by
      show Cert.AttSRefIdeal.Read.val_main_v147 (F := Ideal) (m' ((c : Thread Cert.AttSRefIdeal.nD Cert.AttSRefIdeal.τ).loc Cert.AttSRefIdeal.main_arg2)) (m' ((c : Thread Cert.AttSRefIdeal.nD Cert.AttSRefIdeal.τ).loc Cert.AttSRefIdeal.main_arg5)) = _
      rw [h2, h5]))) i

/-- The prompt's output projection. -/
theorem out : Cert.algebraic_OutPIdeal_OutPRefIdeal := by
  pair_intro
  · run_from Cert.OutPIdeal.Gen.run_main m g
  · refine (θ_run _ _ _).mono (fun r h c => ⟨(h c).1.trans ((Cert.OutPRefIdeal.Read.val_main_v22_eq _ _ _ _ _).trans ?_), (h c).2⟩)
      (Cert.OutPRefIdeal.Value.run m' g')
    obtain ⟨h0, h1, h2, h3, h4⟩ := hagree c
    rw [h0, h1, h2, h3, h4]
    exact (Cert.OutPIdeal.Val.final m c).symm

/-- The prompt's input projection with its norms, turns and gates. -/
theorem inp : Cert.algebraic_InPIdeal_InPRefIdeal_pre_in_finite := by
  intro m g m' g' hpre hagree
  have hr := fun c => Cert.InPPre.pre_real _ _ _ _ _ _ _ (hpre c)
  refine ⟨fun c => Cert.InPRefIdeal.Read.val_main_v88 (F := Ideal) (m ((c : Thread Cert.InPIdeal.nD Cert.InPIdeal.τ).loc Cert.InPIdeal.main_arg0)) (m ((c : Thread Cert.InPIdeal.nD Cert.InPIdeal.τ).loc Cert.InPIdeal.main_arg1)) (m ((c : Thread Cert.InPIdeal.nD Cert.InPIdeal.τ).loc Cert.InPIdeal.main_arg2)),
    fun c => Cert.InPRefIdeal.Read.val_main_v89 (F := Ideal) (m ((c : Thread Cert.InPIdeal.nD Cert.InPIdeal.τ).loc Cert.InPIdeal.main_arg0)) (m ((c : Thread Cert.InPIdeal.nD Cert.InPIdeal.τ).loc Cert.InPIdeal.main_arg1)) (m ((c : Thread Cert.InPIdeal.nD Cert.InPIdeal.τ).loc Cert.InPIdeal.main_arg2)),
    fun c => Cert.InPRefIdeal.Read.val_main_v91 (F := Ideal) (m ((c : Thread Cert.InPIdeal.nD Cert.InPIdeal.τ).loc Cert.InPIdeal.main_arg0)) (m ((c : Thread Cert.InPIdeal.nD Cert.InPIdeal.τ).loc Cert.InPIdeal.main_arg1)) (m ((c : Thread Cert.InPIdeal.nD Cert.InPIdeal.τ).loc Cert.InPIdeal.main_arg2)),
    fun c => Cert.InPRefIdeal.Read.val_main_v96 (F := Ideal) (m ((c : Thread Cert.InPIdeal.nD Cert.InPIdeal.τ).loc Cert.InPIdeal.main_arg0)) (m ((c : Thread Cert.InPIdeal.nD Cert.InPIdeal.τ).loc Cert.InPIdeal.main_arg1)) (m ((c : Thread Cert.InPIdeal.nD Cert.InPIdeal.τ).loc Cert.InPIdeal.main_arg2)) (m ((c : Thread Cert.InPIdeal.nD Cert.InPIdeal.τ).loc Cert.InPIdeal.main_arg3)) (m ((c : Thread Cert.InPIdeal.nD Cert.InPIdeal.τ).loc Cert.InPIdeal.main_arg5)) (m ((c : Thread Cert.InPIdeal.nD Cert.InPIdeal.τ).loc Cert.InPIdeal.main_arg6)),
    fun c => Cert.InPRefIdeal.Read.val_main_v98 (F := Ideal) (m ((c : Thread Cert.InPIdeal.nD Cert.InPIdeal.τ).loc Cert.InPIdeal.main_arg0)) (m ((c : Thread Cert.InPIdeal.nD Cert.InPIdeal.τ).loc Cert.InPIdeal.main_arg1)) (m ((c : Thread Cert.InPIdeal.nD Cert.InPIdeal.τ).loc Cert.InPIdeal.main_arg2)) (m ((c : Thread Cert.InPIdeal.nD Cert.InPIdeal.τ).loc Cert.InPIdeal.main_arg4)) (m ((c : Thread Cert.InPIdeal.nD Cert.InPIdeal.τ).loc Cert.InPIdeal.main_arg5)) (m ((c : Thread Cert.InPIdeal.nD Cert.InPIdeal.τ).loc Cert.InPIdeal.main_arg6)),
    fun c => Cert.InPRefIdeal.Read.val_main_v99 (F := Ideal) (m ((c : Thread Cert.InPIdeal.nD Cert.InPIdeal.τ).loc Cert.InPIdeal.main_arg0)) (m ((c : Thread Cert.InPIdeal.nD Cert.InPIdeal.τ).loc Cert.InPIdeal.main_arg1)) (m ((c : Thread Cert.InPIdeal.nD Cert.InPIdeal.τ).loc Cert.InPIdeal.main_arg2)),
    fun c => Cert.InPRefIdeal.Read.val_main_v101 (F := Ideal) (m ((c : Thread Cert.InPIdeal.nD Cert.InPIdeal.τ).loc Cert.InPIdeal.main_arg0)) (m ((c : Thread Cert.InPIdeal.nD Cert.InPIdeal.τ).loc Cert.InPIdeal.main_arg1)) (m ((c : Thread Cert.InPIdeal.nD Cert.InPIdeal.τ).loc Cert.InPIdeal.main_arg2)),
    fun c => Cert.InPRefIdeal.Read.val_main_v102 (F := Ideal) (m ((c : Thread Cert.InPIdeal.nD Cert.InPIdeal.τ).loc Cert.InPIdeal.main_arg0)) (m ((c : Thread Cert.InPIdeal.nD Cert.InPIdeal.τ).loc Cert.InPIdeal.main_arg1)) (m ((c : Thread Cert.InPIdeal.nD Cert.InPIdeal.τ).loc Cert.InPIdeal.main_arg2)),
    (θ_run _ _ _).mono (fun r h c => ⟨?_, ?_, ?_, ?_, ?_, ?_, ?_, ?_, (h c).2.2.2.2.2.2.2.2⟩) (Cert.InPIdeal.Value.run_blocks m g),
    (θ_run _ _ _).mono (fun r h c => ⟨?_, ?_, ?_, ?_, ?_, ?_, ?_, ?_, (h c).2.2.2.2.2.2.2.2⟩) (Cert.InPRefIdeal.Value.run m' g')⟩
  · exact (h c).1.trans (Cert.InPIdeal.Val.final8 m c (Cert.InPPre.real16 _ _ _ (hr c).1 (hr c).2.1 (hr c).2.2))
  · exact (h c).2.1.trans (Cert.InPIdeal.Val.final9 m c)
  · exact (h c).2.2.1.trans (Cert.InPIdeal.Val.final10 m c)
  · exact (h c).2.2.2.1.trans (Cert.InPIdeal.Val.final11 m c)
  · exact (h c).2.2.2.2.1.trans (Cert.InPIdeal.Val.final12 m c)
  · exact (h c).2.2.2.2.2.1.trans (Cert.InPIdeal.Val.final13 m c)
  · exact (h c).2.2.2.2.2.2.1.trans (Cert.InPIdeal.Val.final14 m c (Cert.InPPre.real16 _ _ _ (hr c).1 (hr c).2.1 (hr c).2.2))
  · exact (h c).2.2.2.2.2.2.2.1.trans (Cert.InPIdeal.Val.final15 m c)
  · obtain ⟨h0, h1, h2, h3, h4, h5, h6⟩ := hagree c
    exact (h c).1.trans ((Cert.InPRefIdeal.Read.val_main_v88_eq _ _ _).trans (by
      show Cert.InPRefIdeal.Read.val_main_v88 (F := Ideal) (m' ((c : Thread Cert.InPRefIdeal.nD Cert.InPRefIdeal.τ).loc Cert.InPRefIdeal.main_arg0)) (m' ((c : Thread Cert.InPRefIdeal.nD Cert.InPRefIdeal.τ).loc Cert.InPRefIdeal.main_arg1)) (m' ((c : Thread Cert.InPRefIdeal.nD Cert.InPRefIdeal.τ).loc Cert.InPRefIdeal.main_arg2)) = _
      rw [h0, h1, h2]))
  · obtain ⟨h0, h1, h2, h3, h4, h5, h6⟩ := hagree c
    exact (h c).2.1.trans ((Cert.InPRefIdeal.Read.val_main_v89_eq _ _ _).trans (by
      show Cert.InPRefIdeal.Read.val_main_v89 (F := Ideal) (m' ((c : Thread Cert.InPRefIdeal.nD Cert.InPRefIdeal.τ).loc Cert.InPRefIdeal.main_arg0)) (m' ((c : Thread Cert.InPRefIdeal.nD Cert.InPRefIdeal.τ).loc Cert.InPRefIdeal.main_arg1)) (m' ((c : Thread Cert.InPRefIdeal.nD Cert.InPRefIdeal.τ).loc Cert.InPRefIdeal.main_arg2)) = _
      rw [h0, h1, h2]))
  · obtain ⟨h0, h1, h2, h3, h4, h5, h6⟩ := hagree c
    exact (h c).2.2.1.trans ((Cert.InPRefIdeal.Read.val_main_v91_eq _ _ _).trans (by
      show Cert.InPRefIdeal.Read.val_main_v91 (F := Ideal) (m' ((c : Thread Cert.InPRefIdeal.nD Cert.InPRefIdeal.τ).loc Cert.InPRefIdeal.main_arg0)) (m' ((c : Thread Cert.InPRefIdeal.nD Cert.InPRefIdeal.τ).loc Cert.InPRefIdeal.main_arg1)) (m' ((c : Thread Cert.InPRefIdeal.nD Cert.InPRefIdeal.τ).loc Cert.InPRefIdeal.main_arg2)) = _
      rw [h0, h1, h2]))
  · obtain ⟨h0, h1, h2, h3, h4, h5, h6⟩ := hagree c
    exact (h c).2.2.2.1.trans ((Cert.InPRefIdeal.Read.val_main_v96_eq m' c).trans (by
      show Cert.InPRefIdeal.Read.val_main_v96 (F := Ideal) (m' ((c : Thread Cert.InPRefIdeal.nD Cert.InPRefIdeal.τ).loc Cert.InPRefIdeal.main_arg0)) (m' ((c : Thread Cert.InPRefIdeal.nD Cert.InPRefIdeal.τ).loc Cert.InPRefIdeal.main_arg1)) (m' ((c : Thread Cert.InPRefIdeal.nD Cert.InPRefIdeal.τ).loc Cert.InPRefIdeal.main_arg2)) (m' ((c : Thread Cert.InPRefIdeal.nD Cert.InPRefIdeal.τ).loc Cert.InPRefIdeal.main_arg3)) (m' ((c : Thread Cert.InPRefIdeal.nD Cert.InPRefIdeal.τ).loc Cert.InPRefIdeal.main_arg5)) (m' ((c : Thread Cert.InPRefIdeal.nD Cert.InPRefIdeal.τ).loc Cert.InPRefIdeal.main_arg6)) = _
      rw [h0, h1, h2, h3, h5, h6]))
  · obtain ⟨h0, h1, h2, h3, h4, h5, h6⟩ := hagree c
    exact (h c).2.2.2.2.1.trans ((Cert.InPRefIdeal.Read.val_main_v98_eq m' c).trans (by
      show Cert.InPRefIdeal.Read.val_main_v98 (F := Ideal) (m' ((c : Thread Cert.InPRefIdeal.nD Cert.InPRefIdeal.τ).loc Cert.InPRefIdeal.main_arg0)) (m' ((c : Thread Cert.InPRefIdeal.nD Cert.InPRefIdeal.τ).loc Cert.InPRefIdeal.main_arg1)) (m' ((c : Thread Cert.InPRefIdeal.nD Cert.InPRefIdeal.τ).loc Cert.InPRefIdeal.main_arg2)) (m' ((c : Thread Cert.InPRefIdeal.nD Cert.InPRefIdeal.τ).loc Cert.InPRefIdeal.main_arg4)) (m' ((c : Thread Cert.InPRefIdeal.nD Cert.InPRefIdeal.τ).loc Cert.InPRefIdeal.main_arg5)) (m' ((c : Thread Cert.InPRefIdeal.nD Cert.InPRefIdeal.τ).loc Cert.InPRefIdeal.main_arg6)) = _
      rw [h0, h1, h2, h4, h5, h6]))
  · obtain ⟨h0, h1, h2, h3, h4, h5, h6⟩ := hagree c
    exact (h c).2.2.2.2.2.1.trans ((Cert.InPRefIdeal.Read.val_main_v99_eq _ _ _).trans (by
      show Cert.InPRefIdeal.Read.val_main_v99 (F := Ideal) (m' ((c : Thread Cert.InPRefIdeal.nD Cert.InPRefIdeal.τ).loc Cert.InPRefIdeal.main_arg0)) (m' ((c : Thread Cert.InPRefIdeal.nD Cert.InPRefIdeal.τ).loc Cert.InPRefIdeal.main_arg1)) (m' ((c : Thread Cert.InPRefIdeal.nD Cert.InPRefIdeal.τ).loc Cert.InPRefIdeal.main_arg2)) = _
      rw [h0, h1, h2]))
  · obtain ⟨h0, h1, h2, h3, h4, h5, h6⟩ := hagree c
    exact (h c).2.2.2.2.2.2.1.trans ((Cert.InPRefIdeal.Read.val_main_v101_eq _ _ _).trans (by
      show Cert.InPRefIdeal.Read.val_main_v101 (F := Ideal) (m' ((c : Thread Cert.InPRefIdeal.nD Cert.InPRefIdeal.τ).loc Cert.InPRefIdeal.main_arg0)) (m' ((c : Thread Cert.InPRefIdeal.nD Cert.InPRefIdeal.τ).loc Cert.InPRefIdeal.main_arg1)) (m' ((c : Thread Cert.InPRefIdeal.nD Cert.InPRefIdeal.τ).loc Cert.InPRefIdeal.main_arg2)) = _
      rw [h0, h1, h2]))
  · obtain ⟨h0, h1, h2, h3, h4, h5, h6⟩ := hagree c
    exact (h c).2.2.2.2.2.2.2.1.trans ((Cert.InPRefIdeal.Read.val_main_v102_eq _ _ _).trans (by
      show Cert.InPRefIdeal.Read.val_main_v102 (F := Ideal) (m' ((c : Thread Cert.InPRefIdeal.nD Cert.InPRefIdeal.τ).loc Cert.InPRefIdeal.main_arg0)) (m' ((c : Thread Cert.InPRefIdeal.nD Cert.InPRefIdeal.τ).loc Cert.InPRefIdeal.main_arg1)) (m' ((c : Thread Cert.InPRefIdeal.nD Cert.InPRefIdeal.τ).loc Cert.InPRefIdeal.main_arg2)) = _
      rw [h0, h1, h2]))

/-- The decoding step's output projection and the weight after its cast. -/
theorem outs : Cert.algebraic_OutSIdeal_OutSRefIdeal := by
  intro m g m' g' hpre hagree
  refine ⟨fun c => Cert.OutSRefIdeal.Read.val_main_v23 (F := Ideal) (m ((c : Thread Cert.OutSIdeal.nD Cert.OutSIdeal.τ).loc Cert.OutSIdeal.main_arg4)),
    fun c => Cert.OutSRefIdeal.Read.val_main_v24 (F := Ideal) (m ((c : Thread Cert.OutSIdeal.nD Cert.OutSIdeal.τ).loc Cert.OutSIdeal.main_arg0)) (m ((c : Thread Cert.OutSIdeal.nD Cert.OutSIdeal.τ).loc Cert.OutSIdeal.main_arg1)) (m ((c : Thread Cert.OutSIdeal.nD Cert.OutSIdeal.τ).loc Cert.OutSIdeal.main_arg2)) (m ((c : Thread Cert.OutSIdeal.nD Cert.OutSIdeal.τ).loc Cert.OutSIdeal.main_arg3)) (m ((c : Thread Cert.OutSIdeal.nD Cert.OutSIdeal.τ).loc Cert.OutSIdeal.main_arg4)),
    (θ_run _ _ _).mono (fun r h c => ⟨?_, ?_, (h c).2.2⟩) (Cert.OutSIdeal.Value.run_blocks m g),
    (θ_run _ _ _).mono (fun r h c => ⟨?_, ?_, (h c).2.2⟩) (Cert.OutSRefIdeal.Value.run m' g')⟩
  · exact (h c).1.trans (Cert.OutSIdeal.Val.final5 m c)
  · exact (h c).2.1.trans (Cert.OutSIdeal.Val.final6 m c)
  · obtain ⟨h0, h1, h2, h3, h4⟩ := hagree c
    exact (h c).1.trans ((Cert.OutSRefIdeal.Read.val_main_v23_eq _).trans (by
      show Cert.OutSRefIdeal.Read.val_main_v23 (F := Ideal) (m' ((c : Thread Cert.OutSRefIdeal.nD Cert.OutSRefIdeal.τ).loc Cert.OutSRefIdeal.main_arg4)) = _
      rw [h4]))
  · obtain ⟨h0, h1, h2, h3, h4⟩ := hagree c
    exact (h c).2.1.trans ((Cert.OutSRefIdeal.Read.val_main_v24_eq _ _ _ _ _).trans (by
      show Cert.OutSRefIdeal.Read.val_main_v24 (F := Ideal) (m' ((c : Thread Cert.OutSRefIdeal.nD Cert.OutSRefIdeal.τ).loc Cert.OutSRefIdeal.main_arg0)) (m' ((c : Thread Cert.OutSRefIdeal.nD Cert.OutSRefIdeal.τ).loc Cert.OutSRefIdeal.main_arg1)) (m' ((c : Thread Cert.OutSRefIdeal.nD Cert.OutSRefIdeal.τ).loc Cert.OutSRefIdeal.main_arg2)) (m' ((c : Thread Cert.OutSRefIdeal.nD Cert.OutSRefIdeal.τ).loc Cert.OutSRefIdeal.main_arg3)) (m' ((c : Thread Cert.OutSRefIdeal.nD Cert.OutSRefIdeal.τ).loc Cert.OutSRefIdeal.main_arg4)) = _
      rw [h0, h1, h2, h3, h4]))

end

/-- The states after the decoding step's recurrence. -/
theorem ssd : Cert.algebraic_SsdSIdeal_SsdSRefIdeal_pre_ssd_finite := by
  intro m g m' g' hpre hagree
  have hr := fun c => Cert.SsdSPre.pre_real _ _ _ _ _ _ _ _ _ _ (hpre c)
  refine ⟨fun c => Cert.SsdSRefIdeal.Read.val_main_v84 (F := Ideal) (m ((c : Thread Cert.SsdSIdeal.nD Cert.SsdSIdeal.τ).loc Cert.SsdSIdeal.main_arg0)) (m ((c : Thread Cert.SsdSIdeal.nD Cert.SsdSIdeal.τ).loc Cert.SsdSIdeal.main_arg1)) (m ((c : Thread Cert.SsdSIdeal.nD Cert.SsdSIdeal.τ).loc Cert.SsdSIdeal.main_arg3)) (m ((c : Thread Cert.SsdSIdeal.nD Cert.SsdSIdeal.τ).loc Cert.SsdSIdeal.main_arg4)) (m ((c : Thread Cert.SsdSIdeal.nD Cert.SsdSIdeal.τ).loc Cert.SsdSIdeal.main_arg5)) (m ((c : Thread Cert.SsdSIdeal.nD Cert.SsdSIdeal.τ).loc Cert.SsdSIdeal.main_arg6)) (m ((c : Thread Cert.SsdSIdeal.nD Cert.SsdSIdeal.τ).loc Cert.SsdSIdeal.main_arg7)) (m ((c : Thread Cert.SsdSIdeal.nD Cert.SsdSIdeal.τ).loc Cert.SsdSIdeal.main_arg8)),
    (θ_run _ _ _).mono (fun r h c => ⟨?_, (h c).2.2⟩) (Cert.SsdSIdeal.Value.run_blocks m g),
    (θ_run _ _ _).mono (fun r h c => ⟨?_, (h c).2⟩) (Cert.SsdSRefIdeal.Value.run m' g')⟩
  · obtain ⟨h0, h1, h3, h5, h6, h7, h8⟩ := hr c
    exact (h c).2.1.trans (Cert.SsdSIdeal.Val.final11 m c h0 h1 h3 h5 h6 h7 h8)
  · obtain ⟨h0, h1, h2, h3, h4, h5, h6, h7, h8, h9⟩ := hagree c
    exact (h c).1.trans ((Cert.SsdSRefIdeal.Read.val_main_v84_eq m' c).trans (by
      show Cert.SsdSRefIdeal.Read.val_main_v84 (F := Ideal) (m' ((c : Thread Cert.SsdSRefIdeal.nD Cert.SsdSRefIdeal.τ).loc Cert.SsdSRefIdeal.main_arg0)) (m' ((c : Thread Cert.SsdSRefIdeal.nD Cert.SsdSRefIdeal.τ).loc Cert.SsdSRefIdeal.main_arg1)) (m' ((c : Thread Cert.SsdSRefIdeal.nD Cert.SsdSRefIdeal.τ).loc Cert.SsdSRefIdeal.main_arg3)) (m' ((c : Thread Cert.SsdSRefIdeal.nD Cert.SsdSRefIdeal.τ).loc Cert.SsdSRefIdeal.main_arg4)) (m' ((c : Thread Cert.SsdSRefIdeal.nD Cert.SsdSRefIdeal.τ).loc Cert.SsdSRefIdeal.main_arg5)) (m' ((c : Thread Cert.SsdSRefIdeal.nD Cert.SsdSRefIdeal.τ).loc Cert.SsdSRefIdeal.main_arg6)) (m' ((c : Thread Cert.SsdSRefIdeal.nD Cert.SsdSRefIdeal.τ).loc Cert.SsdSRefIdeal.main_arg7)) (m' ((c : Thread Cert.SsdSRefIdeal.nD Cert.SsdSRefIdeal.τ).loc Cert.SsdSRefIdeal.main_arg8)) = _
      rw [h0, h1, h3, h4, h5, h6, h7, h8]))

theorem claim : Cert.Claim := ⟨Cert.AttS.Gen.facts, Cert.AttSIdeal.Gen.facts, Cert.AttSRefIdeal.Gen.facts, Cert.OutP.Gen.facts, Cert.OutPIdeal.Gen.facts, Cert.OutPRefIdeal.Gen.facts, Cert.InP.Gen.facts, Cert.InPIdeal.Gen.facts, Cert.InPRefIdeal.Gen.facts, Cert.OutS.Gen.facts, Cert.OutSIdeal.Gen.facts, Cert.OutSRefIdeal.Gen.facts, Cert.SsdS.Gen.facts, Cert.SsdSIdeal.Gen.facts, Cert.SsdSRefIdeal.Gen.facts, Cert.Pre_att_finite.Gen.facts, Cert.Pre_in_finite.Gen.facts, Cert.Pre_ssd_finite.Gen.facts, Cert.On_real_rows.Gen.facts, by
  refine ⟨fun m ρ _ => Cert.AttS.Gen.frame m ρ, fun m ρ _ => Cert.AttSIdeal.Gen.frame m ρ, fun m ρ _ => Cert.AttSIdeal.Gen.frame m ρ,
    fun m g _ => (θ_run _ _ _).mono (fun r h => ⟨fun c => (h c).2.2.2, sem_eq_zero_of_no_sems (by decide) _⟩) (Cert.AttSRefIdeal.Value.run m g),
    fun m g _ => (θ_run _ _ _).mono (fun r h => ⟨fun c => (h c).2.2.2, sem_eq_zero_of_no_sems (by decide) _⟩) (Cert.AttSRefIdeal.Value.run m g),
    fun m ρ _ => Cert.OutP.Gen.frame m ρ, fun m ρ _ => Cert.OutPIdeal.Gen.frame m ρ,
    fun m g _ => (θ_run _ _ _).mono (fun r h => ⟨fun c => (h c).2, sem_eq_zero_of_no_sems (by decide) _⟩) (Cert.OutPRefIdeal.Value.run m g),
    fun m ρ _ => Cert.InP.Gen.frame m ρ, fun m ρ _ => Cert.InPIdeal.Gen.frame m ρ, fun m ρ _ => Cert.InPIdeal.Gen.frame m ρ,
    fun m g _ => (θ_run _ _ _).mono (fun r h => ⟨fun c => (h c).2.2.2.2.2.2.2.2, sem_eq_zero_of_no_sems (by decide) _⟩) (Cert.InPRefIdeal.Value.run m g),
    fun m g _ => (θ_run _ _ _).mono (fun r h => ⟨fun c => (h c).2.2.2.2.2.2.2.2, sem_eq_zero_of_no_sems (by decide) _⟩) (Cert.InPRefIdeal.Value.run m g),
    fun m ρ _ => Cert.OutS.Gen.frame m ρ, fun m ρ _ => Cert.OutSIdeal.Gen.frame m ρ,
    fun m g _ => (θ_run _ _ _).mono (fun r h => ⟨fun c => (h c).2.2, sem_eq_zero_of_no_sems (by decide) _⟩) (Cert.OutSRefIdeal.Value.run m g),
    fun m ρ _ => Cert.SsdS.Gen.frame m ρ, fun m ρ _ => Cert.SsdSIdeal.Gen.frame m ρ, fun m ρ _ => Cert.SsdSIdeal.Gen.frame m ρ,
    fun m g _ => (θ_run _ _ _).mono (fun r h => ⟨fun c => (h c).2, sem_eq_zero_of_no_sems (by decide) _⟩) (Cert.SsdSRefIdeal.Value.run m g),
    fun m g _ => (θ_run _ _ _).mono (fun r h => ⟨fun c => (h c).2, sem_eq_zero_of_no_sems (by decide) _⟩) (Cert.SsdSRefIdeal.Value.run m g),
    trivial, att, trivial, out, trivial, inp, trivial, outs, trivial, ssd⟩⟩

end Cert.Proof

end
